-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_both [hPre_finite_both : Cert.Pre_finite_both.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_both.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_both [hPre_finite_both : Cert.Pre_finite_both.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_both.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite_both [hKernel8Ideal : Cert.Kernel8Ideal.Facts] [hPre_finite_both : Cert.Pre_finite_both.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_both m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite_both [hReference8Ideal : Cert.Reference8Ideal.Facts] [hPre_finite_both : Cert.Pre_finite_both.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_both m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v35)) (v1 : (c : Dev Cert.Kernel2Ideal.nD) → Buf (Elt Ideal) ((c.tc : Thread Cert.Kernel2Ideal.nD Cert.Kernel2Ideal.τ).loc Cert.Kernel2Ideal.main_v37)) (v2 : (c : Dev Cert.Kernel2Ideal.nD) → Buf (Elt Ideal) ((c.tc : Thread Cert.Kernel2Ideal.nD Cert.Kernel2Ideal.τ).loc Cert.Kernel2Ideal.main_v39)) (v3 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35) = v0 c
          ∧ r.2.mem ((c.tc : Thread Cert.Kernel2Ideal.nD Cert.Kernel2Ideal.τ).loc Cert.Kernel2Ideal.main_v37) = v1 c
          ∧ r.2.mem ((c.tc : Thread Cert.Kernel2Ideal.nD Cert.Kernel2Ideal.τ).loc Cert.Kernel2Ideal.main_v39) = v2 c
          ∧ r.2.mem ((c.tc : Thread Cert.Kernel2Ideal.nD Cert.Kernel2Ideal.τ).loc Cert.Kernel2Ideal.main_v42) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v88) = v2 c
          ∧ r.2.mem ((c.tc : Thread Cert.Reference2Ideal.nD Cert.Reference2Ideal.τ).loc Cert.Reference2Ideal.main_v90) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v47)) (v1 : (c : Dev Cert.Kernel7Ideal.nD) → Buf (Elt Ideal) ((c.tc : Thread Cert.Kernel7Ideal.nD Cert.Kernel7Ideal.τ).loc Cert.Kernel7Ideal.main_v51)) (v2 : (c : Dev Cert.Kernel7Ideal.nD) → Buf (Elt Ideal) ((c.tc : Thread Cert.Kernel7Ideal.nD Cert.Kernel7Ideal.τ).loc Cert.Kernel7Ideal.main_v55)) (v3 : (c : Dev Cert.Kernel7Ideal.nD) → Buf (Elt Ideal) ((c.tc : Thread Cert.Kernel7Ideal.nD Cert.Kernel7Ideal.τ).loc Cert.Kernel7Ideal.main_v45)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47) = v0 c
          ∧ r.2.mem ((c.tc : Thread Cert.Kernel7Ideal.nD Cert.Kernel7Ideal.τ).loc Cert.Kernel7Ideal.main_v51) = v1 c
          ∧ r.2.mem ((c.tc : Thread Cert.Kernel7Ideal.nD Cert.Kernel7Ideal.τ).loc Cert.Kernel7Ideal.main_v55) = v2 c
          ∧ r.2.mem ((c.tc : Thread Cert.Kernel7Ideal.nD Cert.Kernel7Ideal.τ).loc Cert.Kernel7Ideal.main_v45) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v89) = v1 c
          ∧ r.2.mem ((c.tc : Thread Cert.Reference7Ideal.nD Cert.Reference7Ideal.τ).loc Cert.Reference7Ideal.main_v90) = v2 c
          ∧ r.2.mem ((c.tc : Thread Cert.Reference7Ideal.nD Cert.Reference7Ideal.τ).loc Cert.Reference7Ideal.main_v91) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite_both [hKernel8Ideal : Cert.Kernel8Ideal.Facts] [hReference8Ideal : Cert.Reference8Ideal.Facts] [hPre_finite_both : Cert.Pre_finite_both.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_both m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_in_range : Cert.Pre_in_range.Facts) (hPre_finite : Cert.Pre_finite.Facts) (hPre_finite_both : Cert.Pre_finite_both.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ quiescent_Kernel8 (hKernel8 := hKernel8)
    ∧ quiescent_Kernel8Ideal (hKernel8Ideal := hKernel8Ideal)
    ∧ quiescent_Kernel8Ideal_pre_finite_both (hKernel8Ideal := hKernel8Ideal) (hPre_finite_both := hPre_finite_both)
    ∧ quiescent_Reference8Ideal (hReference8Ideal := hReference8Ideal)
    ∧ quiescent_Reference8Ideal_pre_finite_both (hReference8Ideal := hReference8Ideal) (hPre_finite_both := hPre_finite_both)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
    ∧ preserves_Kernel8_Kernel8Ideal
    ∧ algebraic_Kernel8Ideal_Reference8Ideal_pre_finite_both (hKernel8Ideal := hKernel8Ideal) (hReference8Ideal := hReference8Ideal) (hPre_finite_both := hPre_finite_both)
    ∧ preserves_Kernel9_Kernel9Ideal
    ∧ algebraic_Kernel9Ideal_Reference9Ideal (hKernel9Ideal := hKernel9Ideal) (hReference9Ideal := hReference9Ideal)
-- ==== Pre_finite.lean ====
abbrev S32x4x4096 : Shape := ⟨3, ![32, 4, 4096]⟩
abbrev S1x4096 : Shape := ⟨2, ![1, 4096]⟩
abbrev S1x4096x13360 : Shape := ⟨3, ![1, 4096, 13360]⟩
abbrev S1x128 : Shape := ⟨2, ![1, 128]⟩
abbrev S1x32x512x4x2x128 : Shape := ⟨6, ![1, 32, 512, 4, 2, 128]⟩
abbrev S1x4096x13312 : Shape := ⟨3, ![1, 4096, 13312]⟩
abbrev S4096x13312 : Shape := ⟨2, ![4096, 13312]⟩
abbrev S_ : Shape := ⟨0, ![]⟩

class Facts : Prop where
  slices_S1x4096x13360_S1x4096x13312_0_0_0 : S1x4096x13360.Slices ![0, 0, 0] S1x4096x13312
  shapeCasts_S1x4096x13312_S4096x13312 : S1x4096x13312.ShapeCasts S4096x13312
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x13312 : S_.BroadcastsInDim S4096x13312 (![] : Fin 0 → Fin S4096x13312.rank)
  reducesTo_S4096x13312_S_d0_1 : S4096x13312.ReducesTo [0, 1] S_

variable [Facts]

def fn {F : FTy → Type} [FloatOps F] (main_arg0 : FVec F S32x4x4096 .f32) (main_arg1 : FVec F S1x4096 .f32) (main_arg2 : FVec F S1x4096x13360 .f32) (main_arg3 : FVec F S1x128 .f32) (main_arg4 : FVec F S1x128 .f32) (main_arg5 : FVec F S1x128 .f32) (main_arg6 : FVec F S1x32x512x4x2x128 .f32) : IVec S_ 1 :=
  let main_v0 : FVec F S1x4096x13312 .f32 := (extractStridedSlice S1x4096x13312 ![0, 0, 0] · slices_S1x4096x13360_S1x4096x13312_0_0_0) main_arg2
  let main_v1 : FVec F S4096x13312 .f32 := shapeCast S4096x13312 main_v0 shapeCasts_S1x4096x13312_S4096x13312
  let main_v2 : FVec F S1x4096 .f32 := subf main_arg1 main_arg1
  let main_cst : FVec F S_ .f32 := constant S_ .f32 0x00000000#32
  let main_v3 : FVec F S1x4096 .f32 := broadcastInDim S1x4096 ![] bcast_S_S1x4096 main_cst
  let main_v4 : IVec S1x4096 1 := cmpf .oeq main_v2 main_v3
  let main_c : IVec S_ 1 := constantI S_ 1 1#1
  let main_v5 : IVec S_ 1 := (fun x v => Host.reduce IntOp.andi x v reducesTo_S1x4096_S_d0_1 h_S_) main_v4 main_c
  let main_v6 : FVec F S4096x13312 .f32 := subf main_v1 main_v1
  let main_cst_0 : FVec F S_ .f32 := constant S_ .f32 0x00000000#32
  let main_v7 : FVec F S4096x13312 .f32 := broadcastInDim S4096x13312 ![] bcast_S_S4096x13312 main_cst_0
  let main_v8 : IVec S4096x13312 1 := cmpf .oeq main_v6 main_v7
  let main_c_1 : IVec S_ 1 := constantI S_ 1 1#1
  let main_v9 : IVec S_ 1 := (fun x v => Host.reduce IntOp.andi x v reducesTo_S4096x13312_S_d0_1 h_S_) main_v8 main_c_1
  let main_v10 : IVec S_ 1 := andi main_v5 main_v9
  main_v10
-- ==== Pre_finite_both.lean ====
abbrev S512x4096 : Shape := ⟨2, ![512, 4096]⟩
abbrev S1x4096x4096 : Shape := ⟨3, ![1, 4096, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_

variable [Facts]

def fn {F : FTy → Type} [FloatOps F] (main_arg0 : FVec F S512x4096 .f32) (main_arg1 : FVec F S1x4096x4096 .f32) : IVec S_ 1 :=
  let main_v0 : FVec F S512x4096 .f32 := subf main_arg0 main_arg0
  let main_cst : FVec F S_ .f32 := constant S_ .f32 0x00000000#32
  let main_v1 : FVec F S512x4096 .f32 := broadcastInDim S512x4096 ![] bcast_S_S512x4096 main_cst
  let main_v2 : IVec S512x4096 1 := cmpf .oeq main_v0 main_v1
  let main_c : IVec S_ 1 := constantI S_ 1 1#1
  let main_v3 : IVec S_ 1 := (fun x v => Host.reduce IntOp.andi x v reducesTo_S512x4096_S_d0_1 h_S_) main_v2 main_c
  let main_v4 : FVec F S1x4096x4096 .f32 := subf main_arg1 main_arg1
  let main_cst_0 : FVec F S_ .f32 := constant S_ .f32 0x00000000#32
  let main_v5 : FVec F S1x4096x4096 .f32 := broadcastInDim S1x4096x4096 ![] bcast_S_S1x4096x4096 main_cst_0
  let main_v6 : IVec S1x4096x4096 1 := cmpf .oeq main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  main_v8
-- ==== Pre_in_range.lean ====
abbrev S25600x4096 : Shape := ⟨2, ![25600, 4096]⟩
abbrev S25600x1 : Shape := ⟨2, ![25600, 1]⟩
abbrev S50 : Shape := ⟨1, ![50]⟩
abbrev S16x4096x1024 : Shape := ⟨3, ![16, 4096, 1024]⟩
abbrev S16x1024x4096 : Shape := ⟨3, ![16, 1024, 4096]⟩
abbrev S_ : Shape := ⟨0, ![]⟩

class Facts : Prop where
  bcast_S_S50 : S_.BroadcastsInDim S50 (![] : Fin 0 → Fin S50.rank)
  reducesTo_S50_S_d0 : S50.ReducesTo [0] S_
  h_S_ : 0 < S_.numel

variable [Facts]

def fn {F : FTy → Type} [FloatOps F] (main_arg0 : FVec F S25600x4096 .bf16) (main_arg1 : FVec F S25600x1 .f32) (main_arg2 : IVec S50 32) (main_arg3 : IVec S50 32) (main_arg4 : FVec F S16x4096x1024 .f32) (main_arg5 : FVec F S16x4096x1024 .f32) (main_arg6 : FVec F S16x1024x4096 .f32) : IVec S_ 1 :=
  let main_c : IVec S_ 32 := constantI S_ 32 0#32
  let main_v0 : IVec S50 32 := broadcastInDim S50 ![] bcast_S_S50 main_c
  let main_v1 : IVec S50 1 := cmpi .sge main_arg2 main_v0
  let main_c_0 : IVec S_ 32 := constantI S_ 32 16#32
  let main_v2 : IVec S50 32 := broadcastInDim S50 ![] bcast_S_S50 main_c_0
  let main_v3 : IVec S50 1 := cmpi .slt main_arg2 main_v2
  let main_v4 : IVec S50 1 := andi main_v1 main_v3
  let main_c_1 : IVec S_ 1 := constantI S_ 1 1#1
  let main_v5 : IVec S_ 1 := (fun x v => Host.reduce IntOp.andi x v reducesTo_S50_S_d0 h_S_) main_v4 main_c_1
  main_v5
-- ==== Kernel.lean ====
abbrev S25600x4096 : Shape := ⟨2, ![25600, 4096]⟩
abbrev S25600x1 : Shape := ⟨2, ![25600, 1]⟩
abbrev S50 : Shape := ⟨1, ![50]⟩
abbrev S16x4096x1024 : Shape := ⟨3, ![16, 4096, 1024]⟩
abbrev S16x1024x4096 : Shape := ⟨3, ![16, 1024, 4096]⟩
abbrev S512x4096 : Shape := ⟨2, ![512, 4096]⟩
abbrev S1x4096x256 : Shape := ⟨3, ![1, 4096, 256]⟩
abbrev S1 : Shape := ⟨1, ![1]⟩
abbrev S1x256x4096 : Shape := ⟨3, ![1, 256, 4096]⟩
abbrev S512x1 : Shape := ⟨2, ![512, 1]⟩
abbrev S4096x256 : Shape := ⟨2, ![4096, 256]⟩
abbrev S512x256 : Shape := ⟨2, ![512, 256]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 6
  | .vmem => 12
  | .smem => 2
  | _ => 0

abbrev bufTy : (tb : Table) → Fin (tcTables nBuf tb) → BufTy
  | .hbm, ⟨0, _⟩ => ⟨S25600x4096, .bf16⟩
  | .hbm, ⟨1, _⟩ => ⟨S25600x1, .f32⟩
  | .hbm, ⟨2, _⟩ => ⟨S16x4096x1024, .f32⟩
  | .hbm, ⟨3, _⟩ => ⟨S16x4096x1024, .f32⟩
  | .hbm, ⟨4, _⟩ => ⟨S16x1024x4096, .f32⟩
  | .hbm, ⟨5, _⟩ => ⟨S25600x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x256x4096, .f32⟩
  | .local _ .vmem, ⟨7, _⟩ => ⟨S1x256x4096, .f32⟩
  | .local _ .vmem, ⟨8, _⟩ => ⟨S512x1, .f32⟩
  | .local _ .vmem, ⟨9, _⟩ => ⟨S512x1, .f32⟩
  | .local _ .vmem, ⟨10, _⟩ => ⟨S512x4096, .f32⟩
  | .local _ .vmem, ⟨11, _⟩ => ⟨S512x4096, .f32⟩
  | .local _ .smem, ⟨0, _⟩ => ⟨S50, .i32⟩
  | .local _ .smem, ⟨1, _⟩ => ⟨S50, .i32⟩
  | _, _ => ⟨S25600x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![50, 4], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_13 : BitVec 32 := 0#32
  let v26 : BitVec 1 := Scalar.cmpi .eq arg1 c0_i32_13
  let v27 : BitVec 32 := Scalar.extui v26
  let c0_i32_14 : BitVec 32 := 0#32
  let v28 : BitVec 1 := Scalar.cmpi .ne v27 c0_i32_14
  v28

def k0_cond3 (i : grid0.Coords) (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S50) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S50) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S50) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S25600x4096 : Shape := ⟨2, ![25600, 4096]⟩
abbrev S25600x1 : Shape := ⟨2, ![25600, 1]⟩
abbrev S50 : Shape := ⟨1, ![50]⟩
abbrev S16x4096x1024 : Shape := ⟨3, ![16, 4096, 1024]⟩
abbrev S16x1024x4096 : Shape := ⟨3, ![16, 1024, 4096]⟩
abbrev S50x1 : Shape := ⟨2, ![50, 1]⟩
abbrev S50x512 : Shape := ⟨2, ![50, 512]⟩
abbrev S25600 : Shape := ⟨1, ![25600]⟩
abbrev S_ : Shape := ⟨0, ![]⟩
abbrev S1x16 : Shape := ⟨2, ![1, 16]⟩
abbrev S25600x16 : Shape := ⟨2, ![25600, 16]⟩
abbrev S25600x16x1024 : Shape := ⟨3, ![25600, 16, 1024]⟩
abbrev S25600x16x1 : Shape := ⟨3, ![25600, 16, 1]⟩

abbrev nBuf : Space → Nat
  | .hbm => 47
  | .vmem => 0
  | .smem => 0
  | _ => 0

abbrev bufTy : (tb : Table) → Fin (tcTables nBuf tb) → BufTy
  | .hbm, ⟨0, _⟩ => ⟨S25600x4096, .bf16⟩
  | .hbm, ⟨1, _⟩ => ⟨S25600x1, .f32⟩
  | .hbm, ⟨2, _⟩ => ⟨S50, .i32⟩
  | .hbm, ⟨3, _⟩ => ⟨S50, .i32⟩
  | .hbm, ⟨4, _⟩ => ⟨S16x4096x1024, .f32⟩
  | .hbm, ⟨5, _⟩ => ⟨S16x4096x1024, .f32⟩
  | .hbm, ⟨6, _⟩ => ⟨S16x1024x4096, .f32⟩
  | .hbm, ⟨7, _⟩ => ⟨S25600x4096, .f32⟩
  | .hbm, ⟨8, _⟩ => ⟨S50x1, .i32⟩
  | .hbm, ⟨9, _⟩ => ⟨S50x512, .i32⟩
  | .hbm, ⟨10, _⟩ => ⟨S25600, .i32⟩
  | .hbm, ⟨11, _⟩ => ⟨S50x1, .i32⟩
  | .hbm, ⟨12, _⟩ => ⟨S50x512, .i32⟩
  | .hbm, ⟨13, _⟩ => ⟨S25600, .i32⟩
  | .hbm, ⟨14, _⟩ => ⟨S25600x1, .i32⟩
  | .hbm, ⟨15, _⟩ => ⟨S_, .i32⟩
  | .hbm, ⟨16, _⟩ => ⟨S25600x1, .i32⟩
  | .hbm, ⟨17, _⟩ => ⟨S25600x1, .i1⟩
  | .hbm, ⟨18, _⟩ => ⟨S25600x1, .i32⟩
  | .hbm, ⟨19, _⟩ => ⟨S1x16, .i32⟩
  | .hbm, ⟨20, _⟩ => ⟨S25600x16, .i32⟩
  | .hbm, ⟨21, _⟩ => ⟨S25600x16, .i32⟩
  | .hbm, ⟨22, _⟩ => ⟨S25600x16, .i1⟩
  | .hbm, ⟨23, _⟩ => ⟨S25600x16, .f32⟩
  | .hbm, ⟨24, _⟩ => ⟨S25600x16, .f32⟩
  | .hbm, ⟨25, _⟩ => ⟨S25600x16, .f32⟩
  | .hbm, ⟨26, _⟩ => ⟨S_, .f32⟩
  | .hbm, ⟨27, _⟩ => ⟨S_, .f32⟩
  | .hbm, ⟨28, _⟩ => ⟨S25600x16, .i1⟩
  | .hbm, ⟨29, _⟩ => ⟨S25600x16, .f32⟩
  | .hbm, ⟨30, _⟩ => ⟨S25600x16, .f32⟩
  | .hbm, ⟨31, _⟩ => ⟨S25600x16x1024, .f32⟩
  | .hbm, ⟨32, _⟩ => ⟨S25600x16x1024, .f32⟩
  | .hbm, ⟨33, _⟩ => ⟨S25600x16x1024, .f32⟩
  | .hbm, ⟨34, _⟩ => ⟨S_, .f32⟩
  | .hbm, ⟨35, _⟩ => ⟨S25600x16x1024, .f32⟩
  | .hbm, ⟨36, _⟩ => ⟨S25600x16x1024, .f32⟩
  | .hbm, ⟨37, _⟩ => ⟨S_, .f32⟩
  | .hbm, ⟨38, _⟩ => ⟨S25600x16x1024, .f32⟩
  | .hbm, ⟨39, _⟩ => ⟨S25600x16x1024, .f32⟩
  | .hbm, ⟨40, _⟩ => ⟨S25600x16x1024, .f32⟩
  | .hbm, ⟨41, _⟩ => ⟨S25600x16x1024, .f32⟩
  | .hbm, ⟨42, _⟩ => ⟨S25600x16x1024, .f32⟩
  | .hbm, ⟨43, _⟩ => ⟨S25600x16x1, .f32⟩
  | .hbm, ⟨44, _⟩ => ⟨S25600x16x1024, .f32⟩
  | .hbm, ⟨45, _⟩ => ⟨S25600x16x1024, .f32⟩
  | .hbm, ⟨46, _⟩ => ⟨S25600x4096, .f32⟩
  | _, _ => ⟨S25600x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v13 : Ref sig .tc := ⟨.hbm, 30, rfl⟩
abbrev main_v14 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩

abbrev nD : Nat := 1
abbrev τ : Topo := Topo.v7x

variable {F : FTy → Type} [FloatOps F]
-- ==== Kernel2.lean ====
abbrev S4x2048x4096 : Shape := ⟨3, ![4, 2048, 4096]⟩
abbrev S1x4096 : Shape := ⟨2, ![1, 4096]⟩
abbrev S1x4096x13360 : Shape := ⟨3, ![1, 4096, 13360]⟩
abbrev S1x128 : Shape := ⟨2, ![1, 128]⟩
abbrev S26 : Shape := ⟨1, ![26]⟩
abbrev S8192x4096 : Shape := ⟨2, ![8192, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S_ : Shape := ⟨0, ![]⟩
abbrev S128 : Shape := ⟨1, ![128]⟩
abbrev S256 : Shape := ⟨1, ![256]⟩
abbrev S1x256 : Shape := ⟨2, ![1, 256]⟩
abbrev S4x256 : Shape := ⟨2, ![4, 256]⟩
abbrev S1024 : Shape := ⟨1, ![1024]⟩
abbrev S8192 : Shape := ⟨1, ![8192]⟩
abbrev S16x128 : Shape := ⟨2, ![16, 128]⟩
abbrev S2048 : Shape := ⟨1, ![2048]⟩
abbrev S13312 : Shape := ⟨1, ![13312]⟩
abbrev S1x13312 : Shape := ⟨2, ![1, 13312]⟩
abbrev S4096x13360 : Shape := ⟨2, ![4096, 13360]⟩
abbrev S8192x13312 : Shape := ⟨2, ![8192, 13312]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1x4096x512 : Shape := ⟨3, ![1, 4096, 512]⟩
abbrev S1 : Shape := ⟨1, ![1]⟩
abbrev S1024x128 : Shape := ⟨2, ![1024, 128]⟩
abbrev S1024x1 : Shape := ⟨2, ![1024, 1]⟩
abbrev S8192x1024 : Shape := ⟨2, ![8192, 1024]⟩
abbrev S1x4x2048x4x2x128 : Shape := ⟨6, ![1, 4, 2048, 4, 2, 128]⟩
abbrev S1x4x512x4x2x128 : Shape := ⟨6, ![1, 4, 512, 4, 2, 128]⟩

abbrev nBuf : Space → Nat
  | .hbm => 56
  | .vmem => 16
  | .smem => 1
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x13360, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S8192x4096, .f32⟩
  | .hbm, ⟨7, _⟩ => ⟨S4096, .f32⟩
  | .hbm, ⟨8, _⟩ => ⟨S1x4096, .f32⟩
  | .hbm, ⟨9, _⟩ => ⟨S8192x4096, .bf16⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S256, .f32⟩
  | .hbm, ⟨16, _⟩ => ⟨S1x256, .f32⟩
  | .hbm, ⟨17, _⟩ => ⟨S4x256, .f32⟩
  | .hbm, ⟨18, _⟩ => ⟨S1024, .f32⟩
  | .hbm, ⟨19, _⟩ => ⟨S_, .f32⟩
  | .hbm, ⟨20, _⟩ => ⟨S8192, .f32⟩
  | .hbm, ⟨21, _⟩ => ⟨S128, .f32⟩
  | .hbm, ⟨22, _⟩ => ⟨S1x128, .f32⟩
  | .hbm, ⟨23, _⟩ => ⟨S16x128, .f32⟩
  | .hbm, ⟨24, _⟩ => ⟨S2048, .f32⟩
  | .hbm, ⟨25, _⟩ => ⟨S_, .f32⟩
  | .hbm, ⟨26, _⟩ => ⟨S1024, .f32⟩
  | .hbm, ⟨27, _⟩ => ⟨S128, .f32⟩
  | .hbm, ⟨28, _⟩ => ⟨S256, .f32⟩
  | .hbm, ⟨29, _⟩ => ⟨S1x256, .f32⟩
  | .hbm, ⟨30, _⟩ => ⟨S4x256, .f32⟩
  | .hbm, ⟨31, _⟩ => ⟨S1024, .f32⟩
  | .hbm, ⟨32, _⟩ => ⟨S128, .f32⟩
  | .hbm, ⟨33, _⟩ => ⟨S256, .f32⟩
  | .hbm, ⟨34, _⟩ => ⟨S1x256, .f32⟩
  | .hbm, ⟨35, _⟩ => ⟨S4x256, .f32⟩
  | .hbm, ⟨36, _⟩ => ⟨S1024, .f32⟩
  | .hbm, ⟨37, _⟩ => ⟨S13312, .f32⟩
  | .hbm, ⟨38, _⟩ => ⟨S1x13312, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S1024, .f32⟩
  | .hbm, ⟨45, _⟩ => ⟨S13312, .f32⟩
  | .hbm, ⟨46, _⟩ => ⟨S1x13312, .f32⟩
  | .hbm, ⟨47, _⟩ => ⟨S4096x13360, .f32⟩
  | .hbm, ⟨48, _⟩ => ⟨S8192x13312, .f32⟩
  | .hbm, ⟨49, _⟩ => ⟨S8192x1024, .f32⟩
  | .hbm, ⟨50, _⟩ => ⟨S1x4x2048x4x2x128, .f32⟩
  | .hbm, ⟨51, _⟩ => ⟨S8192x1024, .f32⟩
  | .hbm, ⟨52, _⟩ => ⟨S1x4x2048x4x2x128, .f32⟩
  | .hbm, ⟨53, _⟩ => ⟨S8192x1024, .f32⟩
  | .hbm, ⟨54, _⟩ => ⟨S1x4x2048x4x2x128, .f32⟩
  | .hbm, ⟨55, _⟩ => ⟨S1x4x512x4x2x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x512, .f32⟩
  | .local _ .vmem, ⟨8, _⟩ => ⟨S4096x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1x4096x512, .bf16⟩
  | .local _ .smem, ⟨0, _⟩ => ⟨S26, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![26, 8], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v8 : Index := Scalar.indexCast arg0
  ![v8.toNat]
def k1_cond2 (v9 : BitVec 32) : BitVec 1 :=
  let c0_i32_5 : BitVec 32 := 0#32
  let v10 : BitVec 1 := Scalar.cmpi .sgt v9 c0_i32_5
  let v11 : BitVec 32 := Scalar.extui v10
  let c0_i32_6 : BitVec 32 := 0#32
  let v12 : BitVec 1 := Scalar.cmpi .ne v11 c0_i32_6
  v12

def k1_cond3 (v9 : BitVec 32) : BitVec 1 :=
  let c0_i32_5 : BitVec 32 := 0#32
  let v10 : BitVec 1 := Scalar.cmpi .sgt v9 c0_i32_5
  let v_true : BitVec 1 := 1#1
  let v13 : BitVec 1 := Scalar.xori v10 v_true
  let v14 : BitVec 32 := Scalar.extui v13
  let c0_i32_7 : BitVec 32 := 0#32
  let v15 : BitVec 1 := Scalar.cmpi .ne v14 c0_i32_7
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference2Ideal.lean ====
abbrev S4x2048x4096 : Shape := ⟨3, ![4, 2048, 4096]⟩
abbrev S1x4096 : Shape := ⟨2, ![1, 4096]⟩
abbrev S1x4096x13360 : Shape := ⟨3, ![1, 4096, 13360]⟩
abbrev S1x128 : Shape := ⟨2, ![1, 128]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x13360 : Shape := ⟨2, ![4096, 13360]⟩
abbrev S4x2048x13360 : Shape := ⟨3, ![4, 2048, 13360]⟩
abbrev S4x2048x8192 : Shape := ⟨3, ![4, 2048, 8192]⟩
abbrev S4x2048x2048 : Shape := ⟨3, ![4, 2048, 2048]⟩
abbrev S4x2048x1024 : Shape := ⟨3, ![4, 2048, 1024]⟩
abbrev S4x2048x48 : Shape := ⟨3, ![4, 2048, 48]⟩
abbrev S4x2048x4x4x128 : Shape := ⟨5, ![4, 2048, 4, 4, 128]⟩
abbrev S128 : Shape := ⟨1, ![128]⟩
abbrev S4x2048x4x4 : Shape := ⟨4, ![4, 2048, 4, 4]⟩
abbrev S4x2048x4x4x1 : Shape := ⟨5, ![4, 2048, 4, 4, 1]⟩
abbrev S1x1x1x1x128 : Shape := ⟨5, ![1, 1, 1, 1, 128]⟩
abbrev S4x2048x4x2x128 : Shape := ⟨5, ![4, 2048, 4, 2, 128]⟩
abbrev S4x2048x4x1x128 : Shape := ⟨5, ![4, 2048, 4, 1, 128]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x2048x13312 : Shape := ⟨3, ![4, 2048, 13312]⟩
abbrev S8192x13312 : Shape := ⟨2, ![8192, 13312]⟩
abbrev S1x4x2048x4x2x128 : Shape := ⟨6, ![1, 4, 2048, 4, 2, 128]⟩
abbrev S4x512x4x2x128 : Shape := ⟨5, ![4, 512, 4, 2, 128]⟩
abbrev S1x4x512x4x2x128 : Shape := ⟨6, ![1, 4, 512, 4, 2, 128]⟩

abbrev nBuf : Space → Nat
  | .hbm => 109
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x13360, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S4096, .f32⟩
  | .hbm, ⟨7, _⟩ => ⟨S4x2048x4096, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S4096x13360, .f32⟩
  | .hbm, ⟨24, _⟩ => ⟨S4x2048x13360, .f32⟩
  | .hbm, ⟨25, _⟩ => ⟨S4x2048x8192, .f32⟩
  | .hbm, ⟨26, _⟩ => ⟨S4x2048x2048, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x48, .f32⟩
  | .hbm, ⟨31, _⟩ => ⟨S4x2048x4x4x128, .f32⟩
  | .hbm, ⟨32, _⟩ => ⟨S128, .f32⟩
  | .hbm, ⟨33, _⟩ => ⟨S4x2048x4x4x128, .f32⟩
  | .hbm, ⟨34, _⟩ => ⟨S_, .f32⟩
  | .hbm, ⟨35, _⟩ => ⟨S4x2048x4x4, .f32⟩
  | .hbm, ⟨36, _⟩ => ⟨S4x2048x4x4x1, .f32⟩
  | .hbm, ⟨37, _⟩ => ⟨S_, .f32⟩
  | .hbm, ⟨38, _⟩ => ⟨S4x2048x4x4x1, .f32⟩
  | .hbm, ⟨39, _⟩ => ⟨S4x2048x4x4x1, .f32⟩
  | .hbm, ⟨40, _⟩ => ⟨S_, .f32⟩
  | .hbm, ⟨41, _⟩ => ⟨S4x2048x4x4x1, .f32⟩
  | .hbm, ⟨42, _⟩ => ⟨S4x2048x4x4x1, .f32⟩
  | .hbm, ⟨43, _⟩ => ⟨S4x2048x4x4x1, .f32⟩
  | .hbm, ⟨44, _⟩ => ⟨S4x2048x4x4x128, .f32⟩
  | .hbm, ⟨45, _⟩ => ⟨S4x2048x4x4x128, .f32⟩
  | .hbm, ⟨46, _⟩ => ⟨S1x1x1x1x128, .f32⟩
  | .hbm, ⟨47, _⟩ => ⟨S4x2048x4x4x128, .f32⟩
  | .hbm, ⟨48, _⟩ => ⟨S4x2048x4x4x128, .f32⟩
  | .hbm, ⟨49, _⟩ => ⟨S4x2048x4x2x128, .f32⟩
  | .hbm, ⟨50, _⟩ => ⟨S4x2048x4x2x128, .f32⟩
  | .hbm, ⟨51, _⟩ => ⟨S128, .f32⟩
  | .hbm, ⟨52, _⟩ => ⟨S4x2048x4x1x128, .f32⟩
  | .hbm, ⟨53, _⟩ => ⟨S4x2048x4x128, .f32⟩
  | .hbm, ⟨54, _⟩ => ⟨S4x2048x4x128, .f32⟩
  | .hbm, ⟨55, _⟩ => ⟨S_, .f32⟩
  | .hbm, ⟨56, _⟩ => ⟨S4x2048x4, .f32⟩
  | .hbm, ⟨57, _⟩ => ⟨S4x2048x4x1, .f32⟩
  | .hbm, ⟨58, _⟩ => ⟨S_, .f32⟩
  | .hbm, ⟨59, _⟩ => ⟨S4x2048x4x1, .f32⟩
  | .hbm, ⟨60, _⟩ => ⟨S4x2048x4x1, .f32⟩
  | .hbm, ⟨61, _⟩ => ⟨S_, .f32⟩
  | .hbm, ⟨62, _⟩ => ⟨S4x2048x4x1, .f32⟩
  | .hbm, ⟨63, _⟩ => ⟨S4x2048x4x1, .f32⟩
  | .hbm, ⟨64, _⟩ => ⟨S4x2048x4x1, .f32⟩
  | .hbm, ⟨65, _⟩ => ⟨S4x2048x4x128, .f32⟩
  | .hbm, ⟨66, _⟩ => ⟨S4x2048x4x128, .f32⟩
  | .hbm, ⟨67, _⟩ => ⟨S1x1x1x128, .f32⟩
  | .hbm, ⟨68, _⟩ => ⟨S4x2048x4x128, .f32⟩
  | .hbm, ⟨69, _⟩ => ⟨S4x2048x4x128, .f32⟩
  | .hbm, ⟨70, _⟩ => ⟨S4x2048x4x1x128, .f32⟩
  | .hbm, ⟨71, _⟩ => ⟨S4x2048x4x128, .f32⟩
  | .hbm, ⟨72, _⟩ => ⟨S4x2048x4x1x128, .f32⟩
  | .hbm, ⟨73, _⟩ => ⟨S4x2048x4x1x128, .f32⟩
  | .hbm, ⟨74, _⟩ => ⟨S4x2048x4x2x128, .f32⟩
  | .hbm, ⟨75, _⟩ => ⟨S4x2048x4x2x128, .f32⟩
  | .hbm, ⟨76, _⟩ => ⟨S128, .f32⟩
  | .hbm, ⟨77, _⟩ => ⟨S4x2048x4x1x128, .f32⟩
  | .hbm, ⟨78, _⟩ => ⟨S4x2048x4x128, .f32⟩
  | .hbm, ⟨79, _⟩ => ⟨S4x2048x4x128, .f32⟩
  | .hbm, ⟨80, _⟩ => ⟨S_, .f32⟩
  | .hbm, ⟨81, _⟩ => ⟨S4x2048x4, .f32⟩
  | .hbm, ⟨82, _⟩ => ⟨S4x2048x4x1, .f32⟩
  | .hbm, ⟨83, _⟩ => ⟨S_, .f32⟩
  | .hbm, ⟨84, _⟩ => ⟨S4x2048x4x1, .f32⟩
  | .hbm, ⟨85, _⟩ => ⟨S4x2048x4x1, .f32⟩
  | .hbm, ⟨86, _⟩ => ⟨S_, .f32⟩
  | .hbm, ⟨87, _⟩ => ⟨S4x2048x4x1, .f32⟩
  | .hbm, ⟨88, _⟩ => ⟨S4x2048x4x1, .f32⟩
  | .hbm, ⟨89, _⟩ => ⟨S4x2048x4x1, .f32⟩
  | .hbm, ⟨90, _⟩ => ⟨S4x2048x4x128, .f32⟩
  | .hbm, ⟨91, _⟩ => ⟨S4x2048x4x128, .f32⟩
  | .hbm, ⟨92, _⟩ => ⟨S1x1x1x128, .f32⟩
  | .hbm, ⟨93, _⟩ => ⟨S4x2048x4x128, .f32⟩
  | .hbm, ⟨94, _⟩ => ⟨S4x2048x4x128, .f32⟩
  | .hbm, ⟨95, _⟩ => ⟨S4x2048x4x1x128, .f32⟩
  | .hbm, ⟨96, _⟩ => ⟨S4x2048x4x128, .f32⟩
  | .hbm, ⟨97, _⟩ => ⟨S4x2048x4x1x128, .f32⟩
  | .hbm, ⟨98, _⟩ => ⟨S4x2048x4x1x128, .f32⟩
  | .hbm, ⟨99, _⟩ => ⟨S4x2048x4x2x128, .f32⟩
  | .hbm, ⟨100, _⟩ => ⟨S4x2048x2048, .f32⟩
  | .hbm, ⟨101, _⟩ => ⟨S4x2048x1024, .f32⟩
  | .hbm, ⟨102, _⟩ => ⟨S4x2048x1024, .f32⟩
  | .hbm, ⟨103, _⟩ => ⟨S4x2048x13312, .f32⟩
  | .hbm, ⟨104, _⟩ => ⟨S8192x13312, .f32⟩
  | .hbm, ⟨105, _⟩ => ⟨S1x4x2048x4x2x128, .f32⟩
  | .hbm, ⟨106, _⟩ => ⟨S1x4x2048x4x2x128, .f32⟩
  | .hbm, ⟨107, _⟩ => ⟨S4x512x4x2x128, .f32⟩
  | .hbm, ⟨108, _⟩ => ⟨S1x4x512x4x2x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩

abbrev nD : Nat := 1
abbrev τ : Topo := Topo.v7x

variable {F : FTy → Type} [FloatOps F]
-- ==== Kernel3.lean ====
abbrev S8192x4096 : Shape := ⟨2, ![8192, 4096]⟩
abbrev S1x4096x4096 : Shape := ⟨3, ![1, 4096, 4096]⟩
abbrev S4096x4096 : Shape := ⟨2, ![4096, 4096]⟩
abbrev S_ : Shape := ⟨0, ![]⟩
abbrev S8 : Shape := ⟨1, ![8]⟩
abbrev S1024x4096 : Shape := ⟨2, ![1024, 4096]⟩
abbrev S4096x512 : Shape := ⟨2, ![4096, 512]⟩
abbrev S1024x512 : Shape := ⟨2, ![1024, 512]⟩
abbrev S1x4096x512 : Shape := ⟨3, ![1, 4096, 512]⟩

abbrev nBuf : Space → Nat
  | .hbm => 5
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4096x4096, .f32⟩
  | .hbm, ⟨3, _⟩ => ⟨S_, .i32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x4096x512, .bf16⟩
  | .local _ .smem, ⟨0, _⟩ => ⟨S8, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8704x4096 : Shape := ⟨2, ![8704, 4096]⟩
abbrev S1x4096x4096 : Shape := ⟨3, ![1, 4096, 4096]⟩
abbrev S4096x4096 : Shape := ⟨2, ![4096, 4096]⟩
abbrev S_ : Shape := ⟨0, ![]⟩
abbrev S8 : Shape := ⟨1, ![8]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩
abbrev S1x4096x512 : Shape := ⟨3, ![1, 4096, 512]⟩
abbrev S4x2048x4096 : Shape := ⟨3, ![4, 2048, 4096]⟩

abbrev nBuf : Space → Nat
  | .hbm => 8
  | .vmem => 11
  | .smem => 1
  | _ => 0

abbrev bufTy : (tb : Table) → Fin (tcTables nBuf tb) → BufTy
  | .hbm, ⟨0, _⟩ => ⟨S8704x4096, .bf16⟩
  | .hbm, ⟨1, _⟩ => ⟨S8704x4096, .f32⟩
  | .hbm, ⟨2, _⟩ => ⟨S8704x4096, .f32⟩
  | .hbm, ⟨3, _⟩ => ⟨S1x4096x4096, .f32⟩
  | .hbm, ⟨4, _⟩ => ⟨S4096x4096, .f32⟩
  | .hbm, ⟨5, _⟩ => ⟨S_, .i32⟩
  | .hbm, ⟨6, _⟩ => ⟨S8192x4096, .f32⟩
  | .hbm, ⟨7, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x4096x512, .bf16⟩
  | .local _ .smem, ⟨0, _⟩ => ⟨S8, .i32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8704x4096 : Shape := ⟨2, ![8704, 4096]⟩
abbrev S1x4096x4096 : Shape := ⟨3, ![1, 4096, 4096]⟩
abbrev S8192x4096 : Shape := ⟨2, ![8192, 4096]⟩
abbrev S4096x4096 : Shape := ⟨2, ![4096, 4096]⟩
abbrev S_ : Shape := ⟨0, ![]⟩
abbrev S4x2048x4096 : Shape := ⟨3, ![4, 2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S8704x4096, .f32⟩
  | .hbm, ⟨2, _⟩ => ⟨S8704x4096, .f32⟩
  | .hbm, ⟨3, _⟩ => ⟨S1x4096x4096, .f32⟩
  | .hbm, ⟨4, _⟩ => ⟨S8192x4096, .bf16⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S4x2048x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8704x4096 : Shape := ⟨2, ![8704, 4096]⟩
abbrev S1x4096x4096 : Shape := ⟨3, ![1, 4096, 4096]⟩
abbrev S4096x4096 : Shape := ⟨2, ![4096, 4096]⟩
abbrev S_ : Shape := ⟨0, ![]⟩
abbrev S8 : Shape := ⟨1, ![8]⟩
abbrev S512x4096 : Shape := ⟨2, ![512, 4096]⟩
abbrev S4096x512 : Shape := ⟨2, ![4096, 512]⟩
abbrev S512x512 : Shape := ⟨2, ![512, 512]⟩
abbrev S1x4096x512 : Shape := ⟨3, ![1, 4096, 512]⟩
abbrev S32x16x4096 : Shape := ⟨3, ![32, 16, 4096]⟩
abbrev S32x4x4096 : Shape := ⟨3, ![32, 4, 4096]⟩

abbrev nBuf : Space → Nat
  | .hbm => 9
  | .vmem => 10
  | .smem => 1
  | _ => 0

abbrev bufTy : (tb : Table) → Fin (tcTables nBuf tb) → BufTy
  | .hbm, ⟨0, _⟩ => ⟨S8704x4096, .bf16⟩
  | .hbm, ⟨1, _⟩ => ⟨S8704x4096, .f32⟩
  | .hbm, ⟨2, _⟩ => ⟨S8704x4096, .f32⟩
  | .hbm, ⟨3, _⟩ => ⟨S1x4096x4096, .f32⟩
  | .hbm, ⟨4, _⟩ => ⟨S4096x4096, .f32⟩
  | .hbm, ⟨5, _⟩ => ⟨S_, .i32⟩
  | .hbm, ⟨6, _⟩ => ⟨S512x4096, .f32⟩
  | .hbm, ⟨7, _⟩ => ⟨S32x16x4096, .f32⟩
  | .hbm, ⟨8, _⟩ => ⟨S32x4x4096, .f32⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x4096x512, .bf16⟩
  | .local _ .smem, ⟨0, _⟩ => ⟨S8, .i32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8704x4096 : Shape := ⟨2, ![8704, 4096]⟩
abbrev S1x4096x4096 : Shape := ⟨3, ![1, 4096, 4096]⟩
abbrev S512x4096 : Shape := ⟨2, ![512, 4096]⟩
abbrev S4096x4096 : Shape := ⟨2, ![4096, 4096]⟩
abbrev S_ : Shape := ⟨0, ![]⟩
abbrev S32x16x4096 : Shape := ⟨3, ![32, 16, 4096]⟩
abbrev S32x4x4096 : Shape := ⟨3, ![32, 4, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S8704x4096, .f32⟩
  | .hbm, ⟨2, _⟩ => ⟨S8704x4096, .f32⟩
  | .hbm, ⟨3, _⟩ => ⟨S1x4096x4096, .f32⟩
  | .hbm, ⟨4, _⟩ => ⟨S512x4096, .bf16⟩
  | .hbm, ⟨5, _⟩ => ⟨S512x4096, .f32⟩
  | .hbm, ⟨6, _⟩ => ⟨S4096x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S512x4096, .f32⟩
  | .hbm, ⟨19, _⟩ => ⟨S512x4096, .f32⟩
  | .hbm, ⟨20, _⟩ => ⟨S32x16x4096, .f32⟩
  | .hbm, ⟨21, _⟩ => ⟨S32x4x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8704x256 : Shape := ⟨2, ![8704, 256]⟩
abbrev S1x256x4096 : Shape := ⟨3, ![1, 256, 4096]⟩
abbrev S1x4096 : Shape := ⟨2, ![1, 4096]⟩
abbrev S256x4096 : Shape := ⟨2, ![256, 4096]⟩
abbrev S4096 : Shape := ⟨1, ![4096]⟩
abbrev S_ : Shape := ⟨0, ![]⟩
abbrev S1 : Shape := ⟨1, ![1]⟩
abbrev S8704x4096 : Shape := ⟨2, ![8704, 4096]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 7
  | .smem => 1
  | _ => 0

abbrev bufTy : (tb : Table) → Fin (tcTables nBuf tb) → BufTy
  | .hbm, ⟨0, _⟩ => ⟨S8704x256, .f32⟩
  | .hbm, ⟨1, _⟩ => ⟨S1x256x4096, .f32⟩
  | .hbm, ⟨2, _⟩ => ⟨S1x4096, .f32⟩
  | .hbm, ⟨3, _⟩ => ⟨S8704x256, .bf16⟩
  | .hbm, ⟨4, _⟩ => ⟨S256x4096, .f32⟩
  | .hbm, ⟨5, _⟩ => ⟨S4096, .f32⟩
  | .hbm, ⟨6, _⟩ => ⟨S1x4096, .f32⟩
  | .hbm, ⟨7, _⟩ => ⟨S_, .i32⟩
  | .hbm, ⟨8, _⟩ => ⟨S8704x4096, .f32⟩
  | .local _ .vmem, ⟨0, _⟩ => ⟨S256x256, .bf16⟩
  | .local _ .vmem, ⟨1, _⟩ => ⟨S256x256, .bf16⟩
  | .local _ .vmem, ⟨2, _⟩ => ⟨S256x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1x256x4096, .bf16⟩
  | .local _ .smem, ⟨0, _⟩ => ⟨S1, .i32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v5 : Ref sig .tc := ⟨.hbm, 8, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 34], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8704x256 : Shape := ⟨2, ![8704, 256]⟩
abbrev S1x256x4096 : Shape := ⟨3, ![1, 256, 4096]⟩
abbrev S1x4096 : Shape := ⟨2, ![1, 4096]⟩
abbrev S256x4096 : Shape := ⟨2, ![256, 4096]⟩
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩

abbrev nBuf : Space → Nat
  | .hbm => 22
  | .vmem => 0
  | .smem => 0
  | _ => 0

abbrev bufTy : (tb : Table) → Fin (tcTables nBuf tb) → BufTy
  | .hbm, ⟨0, _⟩ => ⟨S8704x256, .f32⟩
  | .hbm, ⟨1, _⟩ => ⟨S1x256x4096, .f32⟩
  | .hbm, ⟨2, _⟩ => ⟨S1x4096, .f32⟩
  | .hbm, ⟨3, _⟩ => ⟨S256x4096, .f32⟩
  | .hbm, ⟨4, _⟩ => ⟨S8704x4096, .f32⟩
  | .hbm, ⟨5, _⟩ => ⟨S4096, .f32⟩
  | .hbm, ⟨6, _⟩ => ⟨S8704x4096, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x4096, .f32⟩
  | .hbm, ⟨18, _⟩ => ⟨S8704x4096, .f32⟩
  | .hbm, ⟨19, _⟩ => ⟨S1x4096, .f32⟩
  | .hbm, ⟨20, _⟩ => ⟨S8704x4096, .f32⟩
  | .hbm, ⟨21, _⟩ => ⟨S8704x4096, .f32⟩
  | _, _ => ⟨S8704x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S32x4x4096 : Shape := ⟨3, ![32, 4, 4096]⟩
abbrev S1x4096 : Shape := ⟨2, ![1, 4096]⟩
abbrev S1x4096x13360 : Shape := ⟨3, ![1, 4096, 13360]⟩
abbrev S1x128 : Shape := ⟨2, ![1, 128]⟩
abbrev S1x32x512x4x2x128 : Shape := ⟨6, ![1, 32, 512, 4, 2, 128]⟩
abbrev S26 : Shape := ⟨1, ![26]⟩
abbrev S_ : Shape := ⟨0, ![]⟩
abbrev S32x16x4096 : Shape := ⟨3, ![32, 16, 4096]⟩
abbrev S512x4096 : Shape := ⟨2, ![512, 4096]⟩
abbrev S4096 : Shape := ⟨1, ![4096]⟩
abbrev S512 : Shape := ⟨1, ![512]⟩
abbrev S512x1 : Shape := ⟨2, ![512, 1]⟩
abbrev S128 : Shape := ⟨1, ![128]⟩
abbrev S256 : Shape := ⟨1, ![256]⟩
abbrev S1x256 : Shape := ⟨2, ![1, 256]⟩
abbrev S4x256 : Shape := ⟨2, ![4, 256]⟩
abbrev S1024 : Shape := ⟨1, ![1024]⟩
abbrev S8192 : Shape := ⟨1, ![8192]⟩
abbrev S16x128 : Shape := ⟨2, ![16, 128]⟩
abbrev S2048 : Shape := ⟨1, ![2048]⟩
abbrev S13312 : Shape := ⟨1, ![13312]⟩
abbrev S1x13312 : Shape := ⟨2, ![1, 13312]⟩
abbrev S4096x13360 : Shape := ⟨2, ![4096, 13360]⟩
abbrev S512x13312 : Shape := ⟨2, ![512, 13312]⟩
abbrev S4096x512 : Shape := ⟨2, ![4096, 512]⟩
abbrev S1x512 : Shape := ⟨2, ![1, 512]⟩
abbrev S512x512 : Shape := ⟨2, ![512, 512]⟩
abbrev S2x4096x512 : Shape := ⟨3, ![2, 4096, 512]⟩
abbrev S1x4096x512 : Shape := ⟨3, ![1, 4096, 512]⟩
abbrev S1 : Shape := ⟨1, ![1]⟩
abbrev S512x128 : Shape := ⟨2, ![512, 128]⟩
abbrev S32x512x4x2x128 : Shape := ⟨5, ![32, 512, 4, 2, 128]⟩
abbrev S512x1024 : Shape := ⟨2, ![512, 1024]⟩
abbrev S32x16x4x2x128 : Shape := ⟨5, ![32, 16, 4, 2, 128]⟩
abbrev S32x4x4x2x128 : Shape := ⟨5, ![32, 4, 4, 2, 128]⟩
abbrev S1x32x4x4x2x128 : Shape := ⟨6, ![1, 32, 4, 4, 2, 128]⟩
abbrev S32x516x4x2x128 : Shape := ⟨5, ![32, 516, 4, 2, 128]⟩
abbrev S32x16x13312 : Shape := ⟨3, ![32, 16, 13312]⟩
abbrev S32x4x13312 : Shape := ⟨3, ![32, 4, 13312]⟩

abbrev nBuf : Space → Nat
  | .hbm => 72
  | .vmem => 13
  | .smem => 1
  | _ => 0

abbrev bufTy : (tb : Table) → Fin (tcTables nBuf tb) → BufTy
  | .hbm, ⟨0, _⟩ => ⟨S32x4x4096, .f32⟩
  | .hbm, ⟨1, _⟩ => ⟨S1x4096, .f32⟩
  | .hbm, ⟨2, _⟩ => ⟨S1x4096x13360, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x32x512x4x2x128, .f32⟩
  | .hbm, ⟨7, _⟩ => ⟨S_, .i32⟩
  | .hbm, ⟨8, _⟩ => ⟨S_, .f32⟩
  | .hbm, ⟨9, _⟩ => ⟨S32x16x4096, .f32⟩
  | .hbm, ⟨10, _⟩ => ⟨S512x4096, .f32⟩
  | .hbm, ⟨11, _⟩ => ⟨S4096, .f32⟩
  | .hbm, ⟨12, _⟩ => ⟨S1x4096, .f32⟩
  | .hbm, ⟨13, _⟩ => ⟨S512x4096, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S256, .f32⟩
  | .hbm, ⟨20, _⟩ => ⟨S1x256, .f32⟩
  | .hbm, ⟨21, _⟩ => ⟨S4x256, .f32⟩
  | .hbm, ⟨22, _⟩ => ⟨S1024, .f32⟩
  | .hbm, ⟨23, _⟩ => ⟨S_, .f32⟩
  | .hbm, ⟨24, _⟩ => ⟨S8192, .f32⟩
  | .hbm, ⟨25, _⟩ => ⟨S128, .f32⟩
  | .hbm, ⟨26, _⟩ => ⟨S1x128, .f32⟩
  | .hbm, ⟨27, _⟩ => ⟨S16x128, .f32⟩
  | .hbm, ⟨28, _⟩ => ⟨S2048, .f32⟩
  | .hbm, ⟨29, _⟩ => ⟨S_, .f32⟩
  | .hbm, ⟨30, _⟩ => ⟨S1024, .f32⟩
  | .hbm, ⟨31, _⟩ => ⟨S128, .f32⟩
  | .hbm, ⟨32, _⟩ => ⟨S256, .f32⟩
  | .hbm, ⟨33, _⟩ => ⟨S1x256, .f32⟩
  | .hbm, ⟨34, _⟩ => ⟨S4x256, .f32⟩
  | .hbm, ⟨35, _⟩ => ⟨S1024, .f32⟩
  | .hbm, ⟨36, _⟩ => ⟨S128, .f32⟩
  | .hbm, ⟨37, _⟩ => ⟨S256, .f32⟩
  | .hbm, ⟨38, _⟩ => ⟨S1x256, .f32⟩
  | .hbm, ⟨39, _⟩ => ⟨S4x256, .f32⟩
  | .hbm, ⟨40, _⟩ => ⟨S1024, .f32⟩
  | .hbm, ⟨41, _⟩ => ⟨S13312, .f32⟩
  | .hbm, ⟨42, _⟩ => ⟨S1x13312, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S1024, .f32⟩
  | .hbm, ⟨49, _⟩ => ⟨S13312, .f32⟩
  | .hbm, ⟨50, _⟩ => ⟨S1x13312, .f32⟩
  | .hbm, ⟨51, _⟩ => ⟨S4096x13360, .f32⟩
  | .hbm, ⟨52, _⟩ => ⟨S512x13312, .f32⟩
  | .hbm, ⟨53, _⟩ => ⟨S32x512x4x2x128, .f32⟩
  | .hbm, ⟨54, _⟩ => ⟨S512x1024, .f32⟩
  | .hbm, ⟨55, _⟩ => ⟨S32x16x4x2x128, .f32⟩
  | .hbm, ⟨56, _⟩ => ⟨S32x4x4x2x128, .f32⟩
  | .hbm, ⟨57, _⟩ => ⟨S1x32x4x4x2x128, .f32⟩
  | .hbm, ⟨58, _⟩ => ⟨S32x4x4x2x128, .f32⟩
  | .hbm, ⟨59, _⟩ => ⟨S32x516x4x2x128, .f32⟩
  | .hbm, ⟨60, _⟩ => ⟨S32x512x4x2x128, .f32⟩
  | .hbm, ⟨61, _⟩ => ⟨S1x32x512x4x2x128, .f32⟩
  | .hbm, ⟨62, _⟩ => ⟨S32x16x13312, .f32⟩
  | .hbm, ⟨63, _⟩ => ⟨S32x4x13312, .f32⟩
  | .hbm, ⟨64, _⟩ => ⟨S512x1024, .f32⟩
  | .hbm, ⟨65, _⟩ => ⟨S32x16x4x2x128, .f32⟩
  | .hbm, ⟨66, _⟩ => ⟨S32x4x4x2x128, .f32⟩
  | .hbm, ⟨67, _⟩ => ⟨S1x32x4x4x2x128, .f32⟩
  | .hbm, ⟨68, _⟩ => ⟨S512x1024, .f32⟩
  | .hbm, ⟨69, _⟩ => ⟨S32x16x4x2x128, .f32⟩
  | .hbm, ⟨70, _⟩ => ⟨S32x4x4x2x128, .f32⟩
  | .hbm, ⟨71, _⟩ => ⟨S1x32x4x4x2x128, .f32⟩
  | .local _ .vmem, ⟨0, _⟩ => ⟨S512x4096, .f32⟩
  | .local _ .vmem, ⟨1, _⟩ => ⟨S1x4096, .f32⟩
  | .local _ .vmem, ⟨2, _⟩ => ⟨S512x4096, .f32⟩
  | .local _ .vmem, ⟨3, _⟩ => ⟨S512x4096, .f32⟩
  | .local _ .vmem, ⟨4, _⟩ => ⟨S4096x512, .f32⟩
  | .local _ .vmem, ⟨5, _⟩ => ⟨S4096x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S2x4096x512, .bf16⟩
  | .local _ .smem, ⟨0, _⟩ => ⟨S26, .i32⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c_0 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![26, 1], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v20 : Index := Scalar.indexCast arg0
  ![v20.toNat]
def k1_cond2 (v21 : BitVec 32) : BitVec 1 :=
  let c0_i32_12 : BitVec 32 := 0#32
  let v22 : BitVec 1 := Scalar.cmpi .sgt v21 c0_i32_12
  let v23 : BitVec 32 := Scalar.extui v22
  let c0_i32_13 : BitVec 32 := 0#32
  let v24 : BitVec 1 := Scalar.cmpi .ne v23 c0_i32_13
  v24

def k1_cond3 (v21 : BitVec 32) : BitVec 1 :=
  let c0_i32_12 : BitVec 32 := 0#32
  let v22 : BitVec 1 := Scalar.cmpi .sgt v21 c0_i32_12
  let v_true : BitVec 1 := 1#1
  let v25 : BitVec 1 := Scalar.xori v22 v_true
  let v26 : BitVec 32 := Scalar.extui v25
  let c0_i32_14 : BitVec 32 := 0#32
  let v27 : BitVec 1 := Scalar.cmpi .ne v26 c0_i32_14
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S512x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference7Ideal.lean ====
abbrev S32x4x4096 : Shape := ⟨3, ![32, 4, 4096]⟩
abbrev S1x4096 : Shape := ⟨2, ![1, 4096]⟩
abbrev S1x4096x13360 : Shape := ⟨3, ![1, 4096, 13360]⟩
abbrev S1x128 : Shape := ⟨2, ![1, 128]⟩
abbrev S1x32x512x4x2x128 : Shape := ⟨6, ![1, 32, 512, 4, 2, 128]⟩
abbrev S4096 : Shape := ⟨1, ![4096]⟩
abbrev S_ : Shape := ⟨0, ![]⟩
abbrev S32x4 : Shape := ⟨2, ![32, 4]⟩
abbrev S32x4x1 : Shape := ⟨3, ![32, 4, 1]⟩
abbrev S1x1x4096 : Shape := ⟨3, ![1, 1, 4096]⟩
abbrev S4096x13360 : Shape := ⟨2, ![4096, 13360]⟩
abbrev S32x4x13360 : Shape := ⟨3, ![32, 4, 13360]⟩
abbrev S32x4x8192 : Shape := ⟨3, ![32, 4, 8192]⟩
abbrev S32x4x2048 : Shape := ⟨3, ![32, 4, 2048]⟩
abbrev S32x4x1024 : Shape := ⟨3, ![32, 4, 1024]⟩
abbrev S32x4x48 : Shape := ⟨3, ![32, 4, 48]⟩
abbrev S32x4x4x4x128 : Shape := ⟨5, ![32, 4, 4, 4, 128]⟩
abbrev S128 : Shape := ⟨1, ![128]⟩
abbrev S32x4x4x4 : Shape := ⟨4, ![32, 4, 4, 4]⟩
abbrev S32x4x4x4x1 : Shape := ⟨5, ![32, 4, 4, 4, 1]⟩
abbrev S1x1x1x1x128 : Shape := ⟨5, ![1, 1, 1, 1, 128]⟩
abbrev S32x4x4x2x128 : Shape := ⟨5, ![32, 4, 4, 2, 128]⟩
abbrev S32x4x4x1x128 : Shape := ⟨5, ![32, 4, 4, 1, 128]⟩
abbrev S32x4x4x128 : Shape := ⟨4, ![32, 4, 4, 128]⟩
abbrev S32x4x4 : Shape := ⟨3, ![32, 4, 4]⟩
abbrev S32x4x4x1 : Shape := ⟨4, ![32, 4, 4, 1]⟩
abbrev S1x1x1x128 : Shape := ⟨4, ![1, 1, 1, 128]⟩
abbrev S32x4x13312 : Shape := ⟨3, ![32, 4, 13312]⟩
abbrev S32x512x4x2x128 : Shape := ⟨5, ![32, 512, 4, 2, 128]⟩
abbrev S32x516x4x2x128 : Shape := ⟨5, ![32, 516, 4, 2, 128]⟩
abbrev S1x32x4x4x2x128 : Shape := ⟨6, ![1, 32, 4, 4, 2, 128]⟩

abbrev nBuf : Space → Nat
  | .hbm => 111
  | .vmem => 0
  | .smem => 0
  | _ => 0

abbrev bufTy : (tb : Table) → Fin (tcTables nBuf tb) → BufTy
  | .hbm, ⟨0, _⟩ => ⟨S32x4x4096, .f32⟩
  | .hbm, ⟨1, _⟩ => ⟨S1x4096, .f32⟩
  | .hbm, ⟨2, _⟩ => ⟨S1x4096x13360, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x32x512x4x2x128, .f32⟩
  | .hbm, ⟨7, _⟩ => ⟨S4096, .f32⟩
  | .hbm, ⟨8, _⟩ => ⟨S32x4x4096, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x4096, .f32⟩
  | .hbm, ⟨20, _⟩ => ⟨S32x4x4096, .f32⟩
  | .hbm, ⟨21, _⟩ => ⟨S1x1x4096, .f32⟩
  | .hbm, ⟨22, _⟩ => ⟨S32x4x4096, .f32⟩
  | .hbm, ⟨23, _⟩ => ⟨S32x4x4096, .f32⟩
  | .hbm, ⟨24, _⟩ => ⟨S4096x13360, .f32⟩
  | .hbm, ⟨25, _⟩ => ⟨S32x4x13360, .f32⟩
  | .hbm, ⟨26, _⟩ => ⟨S32x4x8192, .f32⟩
  | .hbm, ⟨27, _⟩ => ⟨S32x4x2048, .f32⟩
  | .hbm, ⟨28, _⟩ => ⟨S32x4x1024, .f32⟩
  | .hbm, ⟨29, _⟩ => ⟨S32x4x1024, .f32⟩
  | .hbm, ⟨30, _⟩ => ⟨S32x4x1024, .f32⟩
  | .hbm, ⟨31, _⟩ => ⟨S32x4x48, .f32⟩
  | .hbm, ⟨32, _⟩ => ⟨S32x4x4x4x128, .f32⟩
  | .hbm, ⟨33, _⟩ => ⟨S128, .f32⟩
  | .hbm, ⟨34, _⟩ => ⟨S32x4x4x4x128, .f32⟩
  | .hbm, ⟨35, _⟩ => ⟨S_, .f32⟩
  | .hbm, ⟨36, _⟩ => ⟨S32x4x4x4, .f32⟩
  | .hbm, ⟨37, _⟩ => ⟨S32x4x4x4x1, .f32⟩
  | .hbm, ⟨38, _⟩ => ⟨S_, .f32⟩
  | .hbm, ⟨39, _⟩ => ⟨S32x4x4x4x1, .f32⟩
  | .hbm, ⟨40, _⟩ => ⟨S32x4x4x4x1, .f32⟩
  | .hbm, ⟨41, _⟩ => ⟨S_, .f32⟩
  | .hbm, ⟨42, _⟩ => ⟨S32x4x4x4x1, .f32⟩
  | .hbm, ⟨43, _⟩ => ⟨S32x4x4x4x1, .f32⟩
  | .hbm, ⟨44, _⟩ => ⟨S32x4x4x4x1, .f32⟩
  | .hbm, ⟨45, _⟩ => ⟨S32x4x4x4x128, .f32⟩
  | .hbm, ⟨46, _⟩ => ⟨S32x4x4x4x128, .f32⟩
  | .hbm, ⟨47, _⟩ => ⟨S1x1x1x1x128, .f32⟩
  | .hbm, ⟨48, _⟩ => ⟨S32x4x4x4x128, .f32⟩
  | .hbm, ⟨49, _⟩ => ⟨S32x4x4x4x128, .f32⟩
  | .hbm, ⟨50, _⟩ => ⟨S32x4x4x2x128, .f32⟩
  | .hbm, ⟨51, _⟩ => ⟨S32x4x4x2x128, .f32⟩
  | .hbm, ⟨52, _⟩ => ⟨S128, .f32⟩
  | .hbm, ⟨53, _⟩ => ⟨S32x4x4x1x128, .f32⟩
  | .hbm, ⟨54, _⟩ => ⟨S32x4x4x128, .f32⟩
  | .hbm, ⟨55, _⟩ => ⟨S32x4x4x128, .f32⟩
  | .hbm, ⟨56, _⟩ => ⟨S_, .f32⟩
  | .hbm, ⟨57, _⟩ => ⟨S32x4x4, .f32⟩
  | .hbm, ⟨58, _⟩ => ⟨S32x4x4x1, .f32⟩
  | .hbm, ⟨59, _⟩ => ⟨S_, .f32⟩
  | .hbm, ⟨60, _⟩ => ⟨S32x4x4x1, .f32⟩
  | .hbm, ⟨61, _⟩ => ⟨S32x4x4x1, .f32⟩
  | .hbm, ⟨62, _⟩ => ⟨S_, .f32⟩
  | .hbm, ⟨63, _⟩ => ⟨S32x4x4x1, .f32⟩
  | .hbm, ⟨64, _⟩ => ⟨S32x4x4x1, .f32⟩
  | .hbm, ⟨65, _⟩ => ⟨S32x4x4x1, .f32⟩
  | .hbm, ⟨66, _⟩ => ⟨S32x4x4x128, .f32⟩
  | .hbm, ⟨67, _⟩ => ⟨S32x4x4x128, .f32⟩
  | .hbm, ⟨68, _⟩ => ⟨S1x1x1x128, .f32⟩
  | .hbm, ⟨69, _⟩ => ⟨S32x4x4x128, .f32⟩
  | .hbm, ⟨70, _⟩ => ⟨S32x4x4x128, .f32⟩
  | .hbm, ⟨71, _⟩ => ⟨S32x4x4x1x128, .f32⟩
  | .hbm, ⟨72, _⟩ => ⟨S32x4x4x128, .f32⟩
  | .hbm, ⟨73, _⟩ => ⟨S32x4x4x1x128, .f32⟩
  | .hbm, ⟨74, _⟩ => ⟨S32x4x4x1x128, .f32⟩
  | .hbm, ⟨75, _⟩ => ⟨S32x4x4x2x128, .f32⟩
  | .hbm, ⟨76, _⟩ => ⟨S32x4x4x2x128, .f32⟩
  | .hbm, ⟨77, _⟩ => ⟨S128, .f32⟩
  | .hbm, ⟨78, _⟩ => ⟨S32x4x4x1x128, .f32⟩
  | .hbm, ⟨79, _⟩ => ⟨S32x4x4x128, .f32⟩
  | .hbm, ⟨80, _⟩ => ⟨S32x4x4x128, .f32⟩
  | .hbm, ⟨81, _⟩ => ⟨S_, .f32⟩
  | .hbm, ⟨82, _⟩ => ⟨S32x4x4, .f32⟩
  | .hbm, ⟨83, _⟩ => ⟨S32x4x4x1, .f32⟩
  | .hbm, ⟨84, _⟩ => ⟨S_, .f32⟩
  | .hbm, ⟨85, _⟩ => ⟨S32x4x4x1, .f32⟩
  | .hbm, ⟨86, _⟩ => ⟨S32x4x4x1, .f32⟩
  | .hbm, ⟨87, _⟩ => ⟨S_, .f32⟩
  | .hbm, ⟨88, _⟩ => ⟨S32x4x4x1, .f32⟩
  | .hbm, ⟨89, _⟩ => ⟨S32x4x4x1, .f32⟩
  | .hbm, ⟨90, _⟩ => ⟨S32x4x4x1, .f32⟩
  | .hbm, ⟨91, _⟩ => ⟨S32x4x4x128, .f32⟩
  | .hbm, ⟨92, _⟩ => ⟨S32x4x4x128, .f32⟩
  | .hbm, ⟨93, _⟩ => ⟨S1x1x1x128, .f32⟩
  | .hbm, ⟨94, _⟩ => ⟨S32x4x4x128, .f32⟩
  | .hbm, ⟨95, _⟩ => ⟨S32x4x4x128, .f32⟩
  | .hbm, ⟨96, _⟩ => ⟨S32x4x4x1x128, .f32⟩
  | .hbm, ⟨97, _⟩ => ⟨S32x4x4x128, .f32⟩
  | .hbm, ⟨98, _⟩ => ⟨S32x4x4x1x128, .f32⟩
  | .hbm, ⟨99, _⟩ => ⟨S32x4x4x1x128, .f32⟩
  | .hbm, ⟨100, _⟩ => ⟨S32x4x4x2x128, .f32⟩
  | .hbm, ⟨101, _⟩ => ⟨S32x4x2048, .f32⟩
  | .hbm, ⟨102, _⟩ => ⟨S32x4x1024, .f32⟩
  | .hbm, ⟨103, _⟩ => ⟨S32x4x1024, .f32⟩
  | .hbm, ⟨104, _⟩ => ⟨S32x4x13312, .f32⟩
  | .hbm, ⟨105, _⟩ => ⟨S32x512x4x2x128, .f32⟩
  | .hbm, ⟨106, _⟩ => ⟨S32x516x4x2x128, .f32⟩
  | .hbm, ⟨107, _⟩ => ⟨S32x512x4x2x128, .f32⟩
  | .hbm, ⟨108, _⟩ => ⟨S1x32x4x4x2x128, .f32⟩
  | .hbm, ⟨109, _⟩ => ⟨S1x32x4x4x2x128, .f32⟩
  | .hbm, ⟨110, _⟩ => ⟨S1x32x512x4x2x128, .f32⟩
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩

abbrev nD : Nat := 1
abbrev τ : Topo := Topo.v7x

variable {F : FTy → Type} [FloatOps F]
-- ==== Kernel8.lean ====
abbrev S512x4096 : Shape := ⟨2, ![512, 4096]⟩
abbrev S1x4096x4096 : Shape := ⟨3, ![1, 4096, 4096]⟩
abbrev S4096x4096 : Shape := ⟨2, ![4096, 4096]⟩
abbrev S_ : Shape := ⟨0, ![]⟩
abbrev S8 : Shape := ⟨1, ![8]⟩
abbrev S4096x512 : Shape := ⟨2, ![4096, 512]⟩
abbrev S512x512 : Shape := ⟨2, ![512, 512]⟩
abbrev S2x4096x512 : Shape := ⟨3, ![2, 4096, 512]⟩
abbrev S1x4096x512 : Shape := ⟨3, ![1, 4096, 512]⟩

abbrev nBuf : Space → Nat
  | .hbm => 5
  | .vmem => 6
  | .smem => 1
  | _ => 0

abbrev bufTy : (tb : Table) → Fin (tcTables nBuf tb) → BufTy
  | .hbm, ⟨0, _⟩ => ⟨S512x4096, .f32⟩
  | .hbm, ⟨1, _⟩ => ⟨S1x4096x4096, .f32⟩
  | .hbm, ⟨2, _⟩ => ⟨S4096x4096, .f32⟩
  | .hbm, ⟨3, _⟩ => ⟨S_, .i32⟩
  | .hbm, ⟨4, _⟩ => ⟨S512x4096, .f32⟩
  | .local _ .vmem, ⟨0, _⟩ => ⟨S512x4096, .f32⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S2x4096x512, .bf16⟩
  | .local _ .smem, ⟨0, _⟩ => ⟨S8, .i32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S512x4096 : Shape := ⟨2, ![512, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096x4096, .f32⟩
  | .hbm, ⟨2, _⟩ => ⟨S4096x4096, .f32⟩
  | .hbm, ⟨3, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x4096 : Shape := ⟨2, ![8192, 4096]⟩
abbrev S1x4096x13360 : Shape := ⟨3, ![1, 4096, 13360]⟩
abbrev S4096x13360 : Shape := ⟨2, ![4096, 13360]⟩
abbrev S4096x48 : Shape := ⟨2, ![4096, 48]⟩
abbrev S_ : Shape := ⟨0, ![]⟩
abbrev S4096x128 : Shape := ⟨2, ![4096, 128]⟩
abbrev S1 : Shape := ⟨1, ![1]⟩
abbrev S8192x128 : Shape := ⟨2, ![8192, 128]⟩
abbrev S1024x4096 : Shape := ⟨2, ![1024, 4096]⟩
abbrev S1024x128 : Shape := ⟨2, ![1024, 128]⟩
abbrev S1x4096x128 : Shape := ⟨3, ![1, 4096, 128]⟩
abbrev S8192x48 : Shape := ⟨2, ![8192, 48]⟩

abbrev nBuf : Space → Nat
  | .hbm => 10
  | .vmem => 6
  | .smem => 1
  | _ => 0

abbrev bufTy : (tb : Table) → Fin (tcTables nBuf tb) → BufTy
  | .hbm, ⟨0, _⟩ => ⟨S8192x4096, .bf16⟩
  | .hbm, ⟨1, _⟩ => ⟨S1x4096x13360, .f32⟩
  | .hbm, ⟨2, _⟩ => ⟨S4096x13360, .f32⟩
  | .hbm, ⟨3, _⟩ => ⟨S4096x48, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S8192x128, .f32⟩
  | .hbm, ⟨9, _⟩ => ⟨S8192x48, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S1024x128, .f32⟩
  | .local _ .vmem, ⟨4, _⟩ => ⟨S1024x128, .f32⟩
  | .local _ .vmem, ⟨5, _⟩ => ⟨S1x4096x128, .bf16⟩
  | .local _ .smem, ⟨0, _⟩ => ⟨S1, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x4096 : Shape := ⟨2, ![8192, 4096]⟩
abbrev S1x4096x13360 : Shape := ⟨3, ![1, 4096, 13360]⟩
abbrev S4096x13360 : Shape := ⟨2, ![4096, 13360]⟩
abbrev S4096x48 : Shape := ⟨2, ![4096, 48]⟩
abbrev S8192x48 : Shape := ⟨2, ![8192, 48]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x13360, .f32⟩
  | .hbm, ⟨2, _⟩ => ⟨S8192x4096, .f32⟩
  | .hbm, ⟨3, _⟩ => ⟨S4096x13360, .f32⟩
  | .hbm, ⟨4, _⟩ => ⟨S4096x48, .f32⟩
  | .hbm, ⟨5, _⟩ => ⟨S8192x48, .f32⟩
  | .hbm, ⟨6, _⟩ => ⟨S8192x48, .f32⟩
  | .hbm, ⟨7, _⟩ => ⟨S8192x48, .f32⟩
  | .hbm, ⟨8, _⟩ => ⟨S_, .f32⟩
  | .hbm, ⟨9, _⟩ => ⟨S8192x48, .f32⟩
  | .hbm, ⟨10, _⟩ => ⟨S8192x48, .f32⟩
  | .hbm, ⟨11, _⟩ => ⟨S_, .f32⟩
  | .hbm, ⟨12, _⟩ => ⟨S8192x48, .f32⟩
  | .hbm, ⟨13, _⟩ => ⟨S8192x48, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Experts.Range.lean ====
/- The precondition, read: every entry of the table of experts is one of the sixteen. -/
module

public import proofs.«01_k».proof.Proof.Gen.Pre_in_range
public import Idealize.ShloMosaic.Lib.ReduceAll
public import Idealize.ShloMosaic.Lib.WordCmp

@[expose] public section

noncomputable section

namespace Cert.Experts

open Idealize.ShloMosaic Cert.Pre_in_range Cert.Pre_in_range.Gen

/-- A word that is at least 0 and below 16 as a signed number is below 16 as an unsigned one. -/
theorem toNat_lt_of_signed (w : BitVec 32)
    (h : IntOp.andi (IntOp.cmpi .sge w 0#32) (IntOp.cmpi .slt w 16#32) = 1#1) : w.toNat < 16 := by
  have h0 : (0#32 : BitVec 32).toInt = 0 := by decide
  have h16 : (16#32 : BitVec 32).toInt = 16 := by decide
  have h1 : (0#32 : BitVec 32).toInt ≤ w.toInt := by
    by_contra hc
    have : IntOp.cmpi .sge w 0#32 = 0#1 := by
      simp only [IntOp.cmpi, BitVec.sle_eq_decide, decide_eq_false hc]; rfl
    rw [this] at h
    exact absurd h (by simp [IntOp.andi])
  have h2 : w.toInt < (16#32 : BitVec 32).toInt := by
    by_contra hc
    have : IntOp.cmpi .slt w 16#32 = 0#1 := by
      simp only [IntOp.cmpi, BitVec.slt_eq_decide, decide_eq_false hc]; rfl
    rw [this] at h
    exact absurd h (by simp [IntOp.andi])
  rw [h0] at h1
  rw [h16] at h2
  have hw := w.isLt
  rw [BitVec.toInt_eq_toNat_cond] at h1 h2
  split at h1 <;> rename_i hc <;> simp only [hc, if_true, if_false] at h2 <;> omega

/-- So the precondition says it of every entry. -/
theorem toNat_lt_of_pre {F : FTy → Type} [FloatOps F] (x : FVec F S25600x4096 .bf16) (rw : FVec F S25600x1 .f32)
    (te tl : IVec S50 32) (wg wu : FVec F S16x4096x1024 .f32) (wd : FVec F S16x1024x4096 .f32)
    (h : fn (F := F) x rw te tl wg wu wd = fun _ => 1#1) (k : S50.Idx) : (te k).toNat < 16 := by
  haveI : Subsingleton S_.Idx := ⟨fun a b => funext fun z => z.elim0⟩
  refine toNat_lt_of_signed _ ?_
  exact Host.reduce_andi_all _ _ reducesTo_S50_S_d0 h_S_ (fun z => z.elim0) (congrFun h _) k

end Cert.Experts

end
-- ==== Proof.Experts.KernelIdeal.Setup.lean ====
/- The experts call as the pipeline sees it: the state it starts from, its two tables, its input blocks, and when its output is written back. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state the call starts from -/

/-- A core's buffers when the call starts: as launched, the call being the whole of @main. -/
abbrev V (c : Dev nD) (b : Ref sig .tc) : Buf (Elt F) ((c : Thread nD τ).loc b) := m ((c : Thread nD τ).loc b)

/-- @main is the call and nothing else. -/
theorem main_is_call (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The two tables -/

/-- What the two tables hold when the call starts: row tile `i`'s expert, and whether the tile holds any row. -/
def tbl : pre0.Contents (Elt F) := fun j => V m (0 : Dev nD) (pre0.ref j)

/-- There is one device, so every device's tables hold that. -/
theorem V_pre (c : Dev nD) (j : Fin 2) : V m c (pre0.ref j) = tbl m j := by
  obtain rfl : c = 0 := Subsingleton.elim _ _; rfl

/-- Every weight block the tables name lies inside its array. -/
abbrev Ok : Prop := ok0 (F := F) (tbl m)

/-- The tables' contents together with that fact, and the pipeline that runs at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tabE : Memref sig .tc .smem S50 .i32 := Memref.whole main_arg2
abbrev htabE : tabE.IsWhole := Memref.isWhole_whole _
abbrev tabL : Memref sig .tc .smem S50 .i32 := Memref.whole main_arg3
abbrev htabL : tabL.IsWhole := Memref.isWhole_whole _

/-- A table's buffer type, and the half of it the body holds while it runs (the pipeline keeps the other half). -/
abbrev TabBuf (c : Dev nD) (M : Memref sig .tc .smem S50 .i32) : Type := Buf (Elt F) (M.view.loc (c : Thread nD τ))
abbrev tabPt (c : Dev nD) (M : Memref sig .tc .smem S50 .i32) (f : TabBuf (F := F) c M) : sProp 𝕄 :=
  M.view.loc (c : Thread nD τ) ↦{fullShare.right} f

/-- The tables' halves, one by one. -/
theorem tables_split (c : Dev nD) :
    (Pipeline.ΦT pre0 (tbl m) c : sProp 𝕄) = iprop(tabPt c tabE (tbl m 0) ∗ tabPt c tabL (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word of the second table the body reads at a point: positive when the point's row tile holds any row. -/
abbrev liveWord (c : Dev nD) (i : grid0.Coords) (x : TabBuf (F := F) c tabL) : BitVec 32 :=
  View.readAt (Elt F) tabL.view (Rect.unit (s := S50) (k0_off1 i) S1.size (k0_off1_inb i)).toLoadRect x
    (Shape.Idx.first (numel1_S1.symm ▸ Nat.one_pos))

/-- The entry of a table a point reads: its row tile's. -/
def tileIx (i : grid0.Coords) : S50.Idx
  | 0 => ⟨k0_off1 i 0, k0_off1_inb i 0⟩

/-- The word is the second table's entry there. -/
theorem liveWord_eq (c : Dev nD) (i : grid0.Coords) (x : TabBuf (F := F) c tabL) : liveWord c i x = x (tileIx i) :=
  congrArg x (funext fun | (0 : Fin 1) => Fin.ext (show k0_off1 i 0 + 1 * 0 = k0_off1 i 0 from rfl))

/-- The pipeline reads the same entry. -/
theorem liveWord_atD (c : Dev nD) (i : grid0.Coords) (pf : pre0.Contents (Elt F)) :
    pf.atD 1 (k0_off1 i) = liveWord c i (pf 1) := by
  refine Eq.trans ?_ (liveWord_eq c i (pf 1)).symm
  refine (dif_pos (fun | (0 : Fin 1) => k0_off1_inb i 0)).trans ?_
  exact congrArg (pf 1) (funext fun | (0 : Fin 1) => rfl)

/-! ## The input blocks -/

/-- Window `w`'s block at point `t`, read off its array as the call found it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Input 0's staging buffer holds its block at every point, for proof data that leaves it there. -/
theorem before_0_of (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input 1's staging buffer holds its block at every point, for proof data that leaves it there. -/
theorem before_1_of (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input 2's staging buffer holds its block at every point, for proof data that leaves it there. -/
theorem before_2_of (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input 3's staging buffer holds its block at every point, for proof data that leaves it there. -/
theorem before_3_of (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input 4's staging buffer holds its block at every point, for proof data that leaves it there. -/
theorem before_4_of (hO : Ok m) {c : Dev nD} (dat : Dat τ (Elt F) Unit ℕ (UR sig nD τ) ℕ (cfgM m hO) c)
    (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## When the output is written back, and the body's conditions -/

/-- The output tile is written back at the last of its four points. -/
theorem flush_out (a : (pcfg0 (F := F)).Adm) : ∀ t : Fin (cfg0 a).N, ((cfg0 a).win 5).flush t = true ↔ t.val % 4 = 3 :=
  (fun t => Pipeline.Window.flushOf_reads cc0_transform_5 reads0_5 hreads0_5 0 (by decide) (by decide)
      (Pipeline.Window.sep_of_coord cc0_transform_5 0 0 (fun _ => rfl) (by decide)) (P := 4) (m := 3) (by decide) rfl t :
    ∀ t : Fin grid0.N, Pipeline.Window.flushOf grid0 true cc0_transform_5 t = true ↔ t.val % 4 = 3)

/-- The accumulator is cleared at the first of a tile's four points. -/
theorem first_iff : ∀ t : Fin grid0.N, k0_cond2 (grid0.coords t) = 1#1 ↔ t.val % 4 = 0 := fun t => by
  have ht : t.val < 200 := Nat.lt_of_lt_of_eq t.isLt N_0
  have e1 : (grid0.coords t 1).val = t.val / 1 % 4 := Pipeline.Grid.coords_val t 1 (by decide) rfl
  simp only [k0_cond2, e1]
  word_cmp

/-- The condition on a tile with no rows: its word is not positive, and the point is the tile's first. -/
theorem dead_iff (t : Fin grid0.N) (w : BitVec 32) :
    k0_cond3 (grid0.coords t) w = 1#1 ↔ ¬ k0_cond1 w = 1#1 ∧ t.val % 4 = 0 := by
  rw [← first_iff t]
  unfold k0_cond3 k0_cond1 k0_cond2
  dsimp only
  rcases (show ∀ b : BitVec 1, b = 0#1 ∨ b = 1#1 by decide) (Scalar.cmpi .sgt w 0#32) with h | h <;>
  rcases (show ∀ b : BitVec 1, b = 0#1 ∨ b = 1#1 by decide) (Scalar.cmpi .eq (BitVec.ofNat 32 (grid0.coords t 1).val) 0#32) with h' | h' <;>
  rw [h, h'] <;> decide

/-- One staging buffer of the output, through which its contents are spelled. -/
abbrev outView : View sig .tc .vmem S512x4096 .f32 := (Memref.whole cc0_stg5_0 : Memref sig .tc .vmem S512x4096 .f32).view

/-- Each window's current staging buffer at a point. -/
abbrev st_0 (hO : Ok m) (t : Fin (cfgM m hO).N) : Memref sig .tc .vmem S512x4096 .bf16 := spec0_0.stage ((cfgM m hO).slots t 0)
abbrev hst_0 (hO : Ok m) (t : Fin (cfgM m hO).N) : (st_0 m hO t).IsWhole := hstage0_0 (((cfgM m hO).slots t 0).cast nbuf0_0)
abbrev st_1 (hO : Ok m) (t : Fin (cfgM m hO).N) : Memref sig .tc .vmem S1x4096x256 .f32 := spec0_1.stage ((cfgM m hO).slots t 1)
abbrev hst_1 (hO : Ok m) (t : Fin (cfgM m hO).N) : (st_1 m hO t).IsWhole := hstage0_1 (((cfgM m hO).slots t 1).cast nbuf0_1)
abbrev st_2 (hO : Ok m) (t : Fin (cfgM m hO).N) : Memref sig .tc .vmem S1x4096x256 .f32 := spec0_2.stage ((cfgM m hO).slots t 2)
abbrev hst_2 (hO : Ok m) (t : Fin (cfgM m hO).N) : (st_2 m hO t).IsWhole := hstage0_2 (((cfgM m hO).slots t 2).cast nbuf0_2)
abbrev st_3 (hO : Ok m) (t : Fin (cfgM m hO).N) : Memref sig .tc .vmem S1x256x4096 .f32 := spec0_3.stage ((cfgM m hO).slots t 3)
abbrev hst_3 (hO : Ok m) (t : Fin (cfgM m hO).N) : (st_3 m hO t).IsWhole := hstage0_3 (((cfgM m hO).slots t 3).cast nbuf0_3)
abbrev st_4 (hO : Ok m) (t : Fin (cfgM m hO).N) : Memref sig .tc .vmem S512x1 .f32 := spec0_4.stage ((cfgM m hO).slots t 4)
abbrev hst_4 (hO : Ok m) (t : Fin (cfgM m hO).N) : (st_4 m hO t).IsWhole := hstage0_4 (((cfgM m hO).slots t 4).cast nbuf0_4)
abbrev st_5 (hO : Ok m) (t : Fin (cfgM m hO).N) : Memref sig .tc .vmem S512x4096 .f32 := spec0_5.stage ((cfgM m hO).slots t 5)
abbrev hst_5 (hO : Ok m) (t : Fin (cfgM m hO).N) : (st_5 m hO t).IsWhole := hstage0_5 (((cfgM m hO).slots t 5).cast nbuf0_5)

/-- The body at point `t`, on what the pipeline passes it. -/
abbrev bodyAt (hO : Ok m) (t : Fin (cfgM m hO).N) : Prog (TpuEff nD τ sig (Elt F) Λ₀ .tc) PUnit :=
  cc0_moe_experts (grid0.coords t) tabE htabE tabL htabL (st_0 m hO t) (hst_0 m hO t) (st_1 m hO t) (hst_1 m hO t) (st_2 m hO t) (hst_2 m hO t) (st_3 m hO t) (hst_3 m hO t) (st_4 m hO t) (hst_4 m hO t) (st_5 m hO t) (hst_5 m hO t)

end Cert.KernelIdeal.Experts

end
-- ==== Proof.Experts.KernelIdeal.RunFirst.lean ====
/- The body at the first point of a tile that holds rows. -/
module

public import proofs.«01_k».proof.Proof.Experts.KernelIdeal.Setup

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores of the body at the FIRST point of a tile that holds rows, last first, with the proof that the body, run on whole staging buffers, makes exactly those: the tile is cleared, then each of its four column slabs gets its product added. -/
noncomputable def runFirst (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL)
    (hl : k0_cond1 (liveWord c i xL) = 1#1) (hz : k0_cond2 i = 1#1) (hd : ¬ k0_cond3 i (liveWord c i xL) = 1#1) :
    { L : List (View.Piece (Elt F) S512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ tabPt c tabE xE ∗ tabPt c tabL xL
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
                ∗ (∃ f, a5.view.loc (c : Thread nD τ) ↦[a5.view.set]{fullShare} a5.view.writes (Elt F) f L)
                ∗ tabPt c tabE xE ∗ tabPt c tabL xL) -∗ K ⟨⟩))
          ⊢ wp frame (wpE (defs₀ (F := F)) Variants.none c none) E (cc0_moe_experts i tabE htabE tabL htabL a0 ha0 a1 ha1 a2 ha2 a3 ha3 a4 ha4 a5 ha5) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HE, HL, Hk⟩
    obtain rfl := ha0.eq_unread hf0; obtain rfl := ha1.eq_unread hf1; obtain rfl := ha2.eq_unread hf2
    obtain rfl := ha3.eq_unread hf3; obtain rfl := ha4.eq_unread hf4
    sl_exec (disch := first | sl_exact hl | sl_exact hz | sl_exact hd)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]; · iexists _; iexact H5
    isplitl [HE]; · iexact HE
    iexact HL

end Cert.KernelIdeal.Experts

end
-- ==== Proof.Experts.KernelIdeal.RunLater.lean ====
/- The body at a later point of a tile that holds rows. -/
module

public import proofs.«01_k».proof.Proof.Experts.KernelIdeal.RunFirst

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The same at a LATER point of a tile that holds rows: nothing is cleared, and each slab is added to what the point before left (`xo`). -/
noncomputable def runLater (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL) (xo : Vec F S512x4096 .f32)
    (hl : k0_cond1 (liveWord c i xL) = 1#1) (hz : ¬ k0_cond2 i = 1#1) (hd : ¬ k0_cond3 i (liveWord c i xL) = 1#1) :
    { L : List (View.Piece (Elt F) S512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xo ∗ tabPt c tabE xE ∗ tabPt c tabL xL
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
                ∗ (∃ f, a5.view.loc (c : Thread nD τ) ↦[a5.view.set]{fullShare} a5.view.writes (Elt F) f L)
                ∗ tabPt c tabE xE ∗ tabPt c tabL xL) -∗ K ⟨⟩))
          ⊢ wp frame (wpE (defs₀ (F := F)) Variants.none c none) E (cc0_moe_experts i tabE htabE tabL htabL a0 ha0 a1 ha1 a2 ha2 a3 ha3 a4 ha4 a5 ha5) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, HE, HL, Hk⟩
    obtain rfl := ha0.eq_unread hf0; obtain rfl := ha1.eq_unread hf1; obtain rfl := ha2.eq_unread hf2
    obtain rfl := ha3.eq_unread hf3; obtain rfl := ha4.eq_unread hf4; obtain rfl := ha5.eq_unread hf5
    sl_exec (disch := first | sl_exact hl | sl_exact hz | sl_exact hd)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]; · iexists _; iexact H5
    isplitl [HE]; · iexact HE
    iexact HL

end Cert.KernelIdeal.Experts

end
-- ==== Proof.Experts.KernelIdeal.RunDead.lean ====
/- The body on a tile that holds no rows. -/
module

public import proofs.«01_k».proof.Proof.Experts.KernelIdeal.RunLater

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The same at the first point of a tile that holds NO rows: the tile is cleared. -/
noncomputable def runDead (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL)
    (hl : ¬ k0_cond1 (liveWord c i xL) = 1#1) (hd : k0_cond3 i (liveWord c i xL) = 1#1) :
    { L : List (View.Piece (Elt F) S512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ tabPt c tabE xE ∗ tabPt c tabL xL
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
                ∗ (∃ f, a5.view.loc (c : Thread nD τ) ↦[a5.view.set]{fullShare} a5.view.writes (Elt F) f L)
                ∗ tabPt c tabE xE ∗ tabPt c tabL xL) -∗ K ⟨⟩))
          ⊢ wp frame (wpE (defs₀ (F := F)) Variants.none c none) E (cc0_moe_experts i tabE htabE tabL htabL a0 ha0 a1 ha1 a2 ha2 a3 ha3 a4 ha4 a5 ha5) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HE, HL, Hk⟩
    obtain rfl := ha0.eq_unread hf0; obtain rfl := ha1.eq_unread hf1; obtain rfl := ha2.eq_unread hf2
    obtain rfl := ha3.eq_unread hf3; obtain rfl := ha4.eq_unread hf4
    sl_exec (disch := first | sl_exact hl | sl_exact hd)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]; · iexists _; iexact H5
    isplitl [HE]; · iexact HE
    iexact HL

set_option maxHeartbeats 1000000 in
/-- At a later point of a tile that holds no rows the body stores nothing. -/
theorem runIdle (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL) (xo : Vec F S512x4096 .f32)
    (hl : ¬ k0_cond1 (liveWord c i xL) = 1#1) (hd : ¬ k0_cond3 i (liveWord c i xL) = 1#1) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xo ∗ tabPt c tabE xE ∗ tabPt c tabL xL
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare xo
            ∗ tabPt c tabE xE ∗ tabPt c tabL xL) -∗ K ⟨⟩))
      ⊢ wp frame (wpE (defs₀ (F := F)) Variants.none c none) E (cc0_moe_experts i tabE htabE tabL htabL a0 ha0 a1 ha1 a2 ha2 a3 ha3 a4 ha4 a5 ha5) K := by
  simp only [cc0_moe_experts_eq_skeleton]; unfold cc0_moe_experts_skel
  iintro ⟨H0, H1, H2, H3, H4, H5, HE, HL, Hk⟩
  sl_exec (disch := first | sl_exact hl | sl_exact hd)
  sl_step
  iapply Hk
  isplitl [H0]; · iexact H0
  isplitl [H1]; · iexact H1
  isplitl [H2]; · iexact H2
  isplitl [H3]; · iexact H3
  isplitl [H4]; · iexact H4
  isplitl [H5]; · iexact H5
  isplitl [HE]; · iexact HE
  iexact HL

end Cert.KernelIdeal.Experts

end
-- ==== Proof.Experts.KernelIdeal.Tile.lean ====
/- What the body leaves in the output tile at each point, and the proof data made of it. -/
module

public import proofs.«01_k».proof.Proof.Experts.KernelIdeal.RunDead
public import Idealize.ShloMosaic.Lib.Pipeline.TableIdle

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Those stores cover the tile. -/
theorem outFirst_cover (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL)
    (hl : k0_cond1 (liveWord c i xL) = 1#1) (hz : k0_cond2 i = 1#1) (hd : ¬ k0_cond3 i (liveWord c i xL) = 1#1) (y : S512x4096.Idx) :
    ∃ pc ∈ (runFirst c i a0 ha0 a1 ha1 a2 ha2 a3 ha3 a4 ha4 a5 ha5 x0 x1 x2 x3 x4 xE xL hl hz hd).1, y ∈ pc.1.set :=
  View.cover_of_tiledBy (runFirst c i a0 ha0 a1 ha1 a2 ha2 a3 ha3 a4 ha4 a5 ha5 x0 x1 x2 x3 x4 xE xL hl hz hd).1 ![512, 1024] (by sl_kernel_rfl) y

/-- What they leave in the tile. -/
def outFirst (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL)
    (hl : k0_cond1 (liveWord c i xL) = 1#1) (hz : k0_cond2 i = 1#1) (hd : ¬ k0_cond3 i (liveWord c i xL) = 1#1) : Vec F S512x4096 .f32 :=
  outView.read (Elt F) (outView.writes (Elt F) outView.junk (runFirst c i a0 ha0 a1 ha1 a2 ha2 a3 ha3 a4 ha4 a5 ha5 x0 x1 x2 x3 x4 xE xL hl hz hd).1)

/-- Those stores cover the tile. -/
theorem outLater_cover (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL) (xo : Vec F S512x4096 .f32)
    (hl : k0_cond1 (liveWord c i xL) = 1#1) (hz : ¬ k0_cond2 i = 1#1) (hd : ¬ k0_cond3 i (liveWord c i xL) = 1#1) (y : S512x4096.Idx) :
    ∃ pc ∈ (runLater c i a0 ha0 a1 ha1 a2 ha2 a3 ha3 a4 ha4 a5 ha5 x0 x1 x2 x3 x4 xE xL xo hl hz hd).1, y ∈ pc.1.set :=
  View.cover_of_tiledL (runLater c i a0 ha0 a1 ha1 a2 ha2 a3 ha3 a4 ha4 a5 ha5 x0 x1 x2 x3 x4 xE xL xo hl hz hd).1 S512x1024.size (by sl_kernel_rfl) y

/-- What they leave in the tile. -/
def outLater (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL) (xo : Vec F S512x4096 .f32)
    (hl : k0_cond1 (liveWord c i xL) = 1#1) (hz : ¬ k0_cond2 i = 1#1) (hd : ¬ k0_cond3 i (liveWord c i xL) = 1#1) : Vec F S512x4096 .f32 :=
  outView.read (Elt F) (outView.writes (Elt F) outView.junk (runLater c i a0 ha0 a1 ha1 a2 ha2 a3 ha3 a4 ha4 a5 ha5 x0 x1 x2 x3 x4 xE xL xo hl hz hd).1)

/-- Those stores cover the tile. -/
theorem outDead_cover (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL)
    (hl : ¬ k0_cond1 (liveWord c i xL) = 1#1) (hd : k0_cond3 i (liveWord c i xL) = 1#1) (y : S512x4096.Idx) :
    ∃ pc ∈ (runDead c i a0 ha0 a1 ha1 a2 ha2 a3 ha3 a4 ha4 a5 ha5 x0 x1 x2 x3 x4 xE xL hl hd).1, y ∈ pc.1.set :=
  View.cover_of_tiledL (runDead c i a0 ha0 a1 ha1 a2 ha2 a3 ha3 a4 ha4 a5 ha5 x0 x1 x2 x3 x4 xE xL hl hd).1 S512x4096.size (by sl_kernel_rfl) y

/-- What they leave in the tile. -/
def outDead (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec F S512x4096 .bf16) (x1 : Vec F S1x4096x256 .f32) (x2 : Vec F S1x4096x256 .f32) (x3 : Vec F S1x256x4096 .f32) (x4 : Vec F S512x1 .f32) (xE : TabBuf (F := F) c tabE) (xL : TabBuf (F := F) c tabL)
    (hl : ¬ k0_cond1 (liveWord c i xL) = 1#1) (hd : k0_cond3 i (liveWord c i xL) = 1#1) : Vec F S512x4096 .f32 :=
  outView.read (Elt F) (outView.writes (Elt F) outView.junk (runDead c i a0 ha0 a1 ha1 a2 ha2 a3 ha3 a4 ha4 a5 ha5 x0 x1 x2 x3 x4 xE xL hl hd).1)

/-! ## The tile after each point -/

/-- A point's tile holds rows: the second table's word there is positive. -/
abbrev Live (c : Dev nD) (i : grid0.Coords) : Prop := k0_cond1 (liveWord c i (tbl m 1)) = 1#1

open Classical in
/-- What a point leaves in the output's staging buffer, from what it found there (`prev`). -/
def step (hO : Ok m) (c : Dev nD) (t : Fin (cfgM m hO).N) (prev : Vec F S512x4096 .f32) : Vec F S512x4096 .f32 :=
  if hl : Live m c (grid0.coords t) then
    if hz : t.val % 4 = 0 then
      outFirst c (grid0.coords t) (st_0 m hO t) (hst_0 m hO t) (st_1 m hO t) (hst_1 m hO t) (st_2 m hO t) (hst_2 m hO t) (st_3 m hO t) (hst_3 m hO t) (st_4 m hO t) (hst_4 m hO t) (st_5 m hO t) (hst_5 m hO t) (iblk m hO c 0 t) (iblk m hO c 1 t) (iblk m hO c 2 t) (iblk m hO c 3 t) (iblk m hO c 4 t) (tbl m 0) (tbl m 1) hl ((first_iff t).mpr hz) (fun h => ((dead_iff t _).mp h).1 hl)
    else
      outLater c (grid0.coords t) (st_0 m hO t) (hst_0 m hO t) (st_1 m hO t) (hst_1 m hO t) (st_2 m hO t) (hst_2 m hO t) (st_3 m hO t) (hst_3 m hO t) (st_4 m hO t) (hst_4 m hO t) (st_5 m hO t) (hst_5 m hO t) (iblk m hO c 0 t) (iblk m hO c 1 t) (iblk m hO c 2 t) (iblk m hO c 3 t) (iblk m hO c 4 t) (tbl m 0) (tbl m 1) prev hl (fun h => hz ((first_iff t).mp h)) (fun h => ((dead_iff t _).mp h).1 hl)
  else
    if hz : t.val % 4 = 0 then
      outDead c (grid0.coords t) (st_0 m hO t) (hst_0 m hO t) (st_1 m hO t) (hst_1 m hO t) (st_2 m hO t) (hst_2 m hO t) (st_3 m hO t) (hst_3 m hO t) (st_4 m hO t) (hst_4 m hO t) (st_5 m hO t) (hst_5 m hO t) (iblk m hO c 0 t) (iblk m hO c 1 t) (iblk m hO c 2 t) (iblk m hO c 3 t) (iblk m hO c 4 t) (tbl m 0) (tbl m 1) hl ((dead_iff t _).mpr ⟨hl, hz⟩)
    else prev

/-- The output's staging buffer after point `n`. The first point reads nothing of it, so any contents may stand
    before it. -/
def outAt (hO : Ok m) (c : Dev nD) : (n : ℕ) → n < (cfgM m hO).N → Vec F S512x4096 .f32
  | 0, hn => step m hO c ⟨0, hn⟩ (outView.read (Elt F) outView.junk)
  | n + 1, hn => step m hO c ⟨n + 1, hn⟩ (outAt hO c n (Nat.lt_of_succ_lt hn))

/-- After a tile's first point the buffer holds what that point computes, whatever stood there. -/
theorem outAt_first (hO : Ok m) (c : Dev nD) (t : Fin (cfgM m hO).N) (hz : t.val % 4 = 0) (prev : Vec F S512x4096 .f32) :
    outAt m hO c t.val t.isLt = step m hO c t prev := by
  have key : ∀ p q : Vec F S512x4096 .f32, step m hO c t p = step m hO c t q := fun p q => by
    unfold step; simp only [dif_pos hz]
  obtain ⟨n, hn⟩ := t
  cases n with
  | zero => exact key _ _
  | succ n => exact key _ _

/-- After a later point it holds what that point computes from what the point before left. -/
theorem outAt_later (hO : Ok m) (c : Dev nD) (t : Fin (cfgM m hO).N) (hz : ¬ t.val % 4 = 0) :
    outAt m hO c t.val t.isLt = step m hO c t (outAt m hO c (t.val - 1) (Nat.lt_of_le_of_lt (Nat.sub_le _ _) t.isLt)) := by
  obtain ⟨n, hn⟩ := t
  cases n with
  | zero => exact absurd (Nat.zero_mod _) hz
  | succ n => rfl

/-! ## The pipeline's proof data -/

/-- Every input stays at its block, the output goes through `outAt`, and the tables and the rest stay as they were. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) :
    (dats m hO 0 c).A w = V m c (Pipeline.arrRef spec0 w) := by dsimp only [dats]

theorem after_0 (hO : Ok m) (c : Dev nD) (t : Fin (cfgM m hO).N) :
    (dats m hO 0 c).after 0 t = iblk m hO c 0 t := by dsimp only [dats]; try rfl
theorem after_1 (hO : Ok m) (c : Dev nD) (t : Fin (cfgM m hO).N) :
    (dats m hO 0 c).after 1 t = iblk m hO c 1 t := by dsimp only [dats]; try rfl
theorem after_2 (hO : Ok m) (c : Dev nD) (t : Fin (cfgM m hO).N) :
    (dats m hO 0 c).after 2 t = iblk m hO c 2 t := by dsimp only [dats]; try rfl
theorem after_3 (hO : Ok m) (c : Dev nD) (t : Fin (cfgM m hO).N) :
    (dats m hO 0 c).after 3 t = iblk m hO c 3 t := by dsimp only [dats]; try rfl
theorem after_4 (hO : Ok m) (c : Dev nD) (t : Fin (cfgM m hO).N) :
    (dats m hO 0 c).after 4 t = iblk m hO c 4 t := by dsimp only [dats]; try rfl
theorem after_5 (hO : Ok m) (c : Dev nD) (t : Fin (cfgM m hO).N) :
    (dats m hO 0 c).after 5 t = outAt m hO c t.val t.isLt := by dsimp only [dats]; try rfl

theorem before_0 (hO : Ok m) (c : Dev nD) (t : Fin (cfgM m hO).N) (d) :
    (dats m hO 0 c).before 0 t d = iblk m hO c 0 t :=
  before_0_of m hO (dats m hO 0 c) (A_eq m hO c 0) (after_0 m hO c) t d
theorem before_1 (hO : Ok m) (c : Dev nD) (t : Fin (cfgM m hO).N) (d) :
    (dats m hO 0 c).before 1 t d = iblk m hO c 1 t :=
  before_1_of m hO (dats m hO 0 c) (A_eq m hO c 1) (after_1 m hO c) t d
theorem before_2 (hO : Ok m) (c : Dev nD) (t : Fin (cfgM m hO).N) (d) :
    (dats m hO 0 c).before 2 t d = iblk m hO c 2 t :=
  before_2_of m hO (dats m hO 0 c) (A_eq m hO c 2) (after_2 m hO c) t d
theorem before_3 (hO : Ok m) (c : Dev nD) (t : Fin (cfgM m hO).N) (d) :
    (dats m hO 0 c).before 3 t d = iblk m hO c 3 t :=
  before_3_of m hO (dats m hO 0 c) (A_eq m hO c 3) (after_3 m hO c) t d
theorem before_4 (hO : Ok m) (c : Dev nD) (t : Fin (cfgM m hO).N) (d) :
    (dats m hO 0 c).before 4 t d = iblk m hO c 4 t :=
  before_4_of m hO (dats m hO 0 c) (A_eq m hO c 4) (after_4 m hO c) t d

/-- The pipeline calls the output idle at a point exactly where the body stores nothing into it: the tile holds no
    rows and the point is not its first. -/
theorem idle_out (hO : Ok m) (c : Dev nD) (t : Fin (cfgM m hO).N)
    (h : (cfgM m hO).idle 5 ((cfgM m hO).grid.coords t) = true) :
    ¬ Live m c (grid0.coords t) ∧ ¬ t.val % 4 = 0 := by
  obtain rfl : c = 0 := Subsingleton.elim _ _
  have e : (tbl m).atD 1 (k0_off1 (grid0.coords t)) = liveWord (0 : Dev nD) (grid0.coords t) (tbl m 1) :=
    liveWord_atD 0 _ (tbl m)
  replace h : (!(k0_cond1 ((tbl m).atD 1 (k0_off1 (grid0.coords t))) == 1#1 && k0_cond2 (grid0.coords t) == 1#1)
      && !(k0_cond1 ((tbl m).atD 1 (k0_off1 (grid0.coords t))) == 1#1)
      && !(k0_cond3 (grid0.coords t) ((tbl m).atD 1 (k0_off1 (grid0.coords t))) == 1#1)) = true := h
  rw [e] at h
  simp only [Bool.and_eq_true, Bool.not_eq_true', beq_eq_false_iff_ne, ne_eq] at h
  exact ⟨h.1.2, fun hz => h.2 ((dead_iff t _).mpr ⟨h.1.2, hz⟩)⟩

/-- Between a tile's first point and its last the buffer holds something the body stored. -/
theorem not_fresh (hO : Ok m) : ∀ n, n < (cfgM m hO).N → ¬ n % 4 = 0 → (cfgM m hO).fresh 5 n = false
  | 0, _, h => absurd (Nat.zero_mod _) h
  | n + 1, hn, h => by
    rw [Pipeline.Cfg.fresh_succ _ 5 n (Nat.lt_of_succ_lt hn)]
    have hf : ((cfgM m hO).win 5).flush ⟨n, Nat.lt_of_succ_lt hn⟩ = false :=
      Bool.eq_false_iff.mpr fun hh => by have := (flush_out (adm m hO) _).mp hh; dsimp only at this; omega
    rw [hf, Bool.false_or]
    by_cases hz : n % 4 = 0
    · rw [Bool.eq_false_iff.mpr fun hh => (idle_out m hO 0 ⟨n, Nat.lt_of_succ_lt hn⟩ hh).2 hz, Bool.false_and]
    · rw [not_fresh hO n (Nat.lt_of_succ_lt hn) hz, Bool.and_false]

/-- At an idle point the buffer keeps what the point before left. -/
theorem outAt_idle (hO : Ok m) (c : Dev nD) (t : Fin (cfgM m hO).N)
    (h : (cfgM m hO).idle 5 ((cfgM m hO).grid.coords t) = true) :
    outAt m hO c t.val t.isLt = outAt m hO c (t.val - 1) (Nat.lt_of_le_of_lt (Nat.sub_le _ _) t.isLt) := by
  obtain ⟨hl, hz⟩ := idle_out m hO c t h
  rw [outAt_later m hO c t hz]
  conv_lhs => unfold step
  rw [dif_neg hl, dif_neg hz]

/-- At a later point of a tile the output's buffer holds what the point before left: it was not written back between. -/
theorem before_5_later (hO : Ok m) (c : Dev nD) (t : Fin (cfgM m hO).N) (hz : ¬ t.val % 4 = 0) (d) :
    (dats m hO 0 c).before 5 t d = outAt m hO c (t.val - 1) (Nat.lt_of_le_of_lt (Nat.sub_le _ _) t.isLt) := by
  rw [(dats m hO 0 c).before_out_traj 5 rfl (fun _ _ => rfl)
    (fun t ht hi _ => by rw [after_5, after_5]; exact outAt_idle m hO c t hi) t.val t rfl d,
    not_fresh m hO t.val t.isLt hz]
  exact after_5 m hO c _

end Cert.KernelIdeal.Experts

end
-- ==== Proof.Experts.KernelIdeal.Frame.lean ====
/- The body at every point by its four cases, and the whole call run. -/
module

public import proofs.«01_k».proof.Proof.Experts.KernelIdeal.Tile

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at every point -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d))
    ∗ (∃ d, owns (c : Thread nD τ) (st_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t)
    ∗ owns (c : Thread nD τ) (st_4 m hO t) fullShare ((dats m hO 0 c).after 4 t)
    ∗ owns (c : Thread nD τ) (st_5 m hO t) fullShare ((dats m hO 0 c).after 5 t))

set_option maxHeartbeats 1600000 in
/-- The body at any point, by the four cases: does the tile hold rows, and is this its first point. -/
theorem body_ok (hO : Ok m) (c : Dev nD) (t : Fin (cfgM m hO).N) :
    bodyPre m hO c t ⊢ wp frame (wpE (defs₀ (F := F)) Variants.none c none) Set.univ (bodyAt m hO t)
      (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  rw [show (dats m hO 0 c).Φ t.castSucc = iprop(Pipeline.ΦA spec0 c ∗ Pipeline.ΦT pre0 (tbl m) c) from rfl, tables_split]
  by_cases hl : Live m c (grid0.coords t) <;> by_cases hz : t.val % 4 = 0
  · rw [outAt_first m hO c t hz (outView.read (Elt F) outView.junk)]
    unfold step; rw [dif_pos hl, dif_pos hz]
    unfold outFirst
    iintro ⟨⟨HΦ, ⟨HE, HL⟩⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ (iblk m hO c 0 t) (iblk m hO c 1 t) (iblk m hO c 2 t) (iblk m hO c 3 t) (iblk m hO c 4 t) (tbl m 0) (tbl m 1) hl ((first_iff t).mpr hz) (fun h => ((dead_iff t _).mp h).1 hl)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HE]; · iexact HE
    isplitl [HL]; · iexact HL
    iintro ⟨H0, H1, H2, H3, H4, ⟨%e5, H5⟩, HE, HL⟩
    isplitl [HΦ HE HL]
    · isplitl [HΦ]; · iexact HΦ
      isplitl [HE]; · iexact HE
      iexact HL
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outFirst_cover c _ _ _ _ _ _ _ _ _ _ _ _ _ _ _ _ _ _ _ _ hl ((first_iff t).mpr hz) (fun h => ((dead_iff t _).mp h).1 hl))
  · rw [outAt_later m hO c t hz]
    simp only [before_5_later m hO c t hz]
    unfold step; rw [dif_pos hl, dif_neg hz]
    unfold outLater
    iintro ⟨⟨HΦ, ⟨HE, HL⟩⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (iblk m hO c 0 t) (iblk m hO c 1 t) (iblk m hO c 2 t) (iblk m hO c 3 t) (iblk m hO c 4 t) (tbl m 0) (tbl m 1) _ hl (fun h => hz ((first_iff t).mp h)) (fun h => ((dead_iff t _).mp h).1 hl)).2 Set.univ _)
    isplitl [H0]; · iexact H0
    isplitl [H1]; · iexact H1
    isplitl [H2]; · iexact H2
    isplitl [H3]; · iexact H3
    isplitl [H4]; · iexact H4
    isplitl [H5]; · iexact H5
    isplitl [HE]; · iexact HE
    isplitl [HL]; · iexact HL
    iintro ⟨H0, H1, H2, H3, H4, ⟨%e5, H5⟩, HE, HL⟩
    isplitl [HΦ HE HL]
    · isplitl [HΦ]; · iexact HΦ
      isplitl [HE]; · iexact HE
      iexact HL
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outLater_cover c _ _ _ _ _ _ _ _ _ _ _ _ _ _ _ _ _ _ _ _ _ hl (fun h => hz ((first_iff t).mp h)) (fun h => ((dead_iff t _).mp h).1 hl))
  · rw [outAt_first m hO c t hz (outView.read (Elt F) outView.junk)]
    unfold step; rw [dif_neg hl, dif_pos hz]
    unfold outDead
    iintro ⟨⟨HΦ, ⟨HE, HL⟩⟩, Ho, ⟨%d0, H0⟩, ⟨%d1, H1⟩, ⟨%d2, H2⟩, ⟨%d3, H3⟩, ⟨%d4, H4⟩, ⟨%d5, H5⟩⟩
    iapply ((runDead c (grid0.coords t) _ _ _ _ _ _ _ _ _ _ _ _ (iblk m hO c 0 t) (iblk m hO c 1 t) (iblk m hO c 2 t) (iblk m hO c 3 t) (iblk m hO c 4 t) (tbl m 0) (tbl m 1) hl ((dead_iff t _).mpr ⟨hl, hz⟩)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HE]; · iexact HE
    isplitl [HL]; · iexact HL
    iintro ⟨H0, H1, H2, H3, H4, ⟨%e5, H5⟩, HE, HL⟩
    isplitl [HΦ HE HL]
    · isplitl [HΦ]; · iexact HΦ
      isplitl [HE]; · iexact HE
      iexact HL
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (outDead_cover c _ _ _ _ _ _ _ _ _ _ _ _ _ _ _ _ _ _ _ _ hl ((dead_iff t _).mpr ⟨hl, hz⟩))
  · rw [outAt_later m hO c t hz]
    simp only [before_5_later m hO c t hz]
    unfold step; rw [dif_neg hl, dif_neg hz]
    iintro ⟨⟨HΦ, ⟨HE, HL⟩⟩, Ho, ⟨%d0, H0⟩, ⟨%d1, H1⟩, ⟨%d2, H2⟩, ⟨%d3, H3⟩, ⟨%d4, H4⟩, ⟨%d5, H5⟩⟩
    iapply ((runIdle c (grid0.coords t) _ _ _ _ _ _ _ _ _ _ _ _ (iblk m hO c 0 t) (iblk m hO c 1 t) (iblk m hO c 2 t) (iblk m hO c 3 t) (iblk m hO c 4 t) (tbl m 0) (tbl m 1) _ hl (fun h => hz ((dead_iff t _).mp h).2)) Set.univ _)
    isplitl [H0]; · iexact H0
    isplitl [H1]; · iexact H1
    isplitl [H2]; · iexact H2
    isplitl [H3]; · iexact H3
    isplitl [H4]; · iexact H4
    isplitl [H5]; · iexact H5
    isplitl [HE]; · iexact HE
    isplitl [HL]; · iexact HL
    iintro ⟨H0, H1, H2, H3, H4, H5, HE, HL⟩
    isplitl [HΦ HE HL]
    · isplitl [HΦ]; · iexact HΦ
      isplitl [HE]; · iexact HE
      iexact HL
    isplitl [Ho]; · iexact Ho
    isplitl [H0]; · iexact H0
    isplitl [H1]; · iexact H1
    isplitl [H2]; · iexact H2
    isplitl [H3]; · iexact H3
    isplitl [H4]; · iexact H4
    iexact H5

/-- The body as the pipeline's table of bodies gives it. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the body leaves in the output is what the launch theorem asks for, at an idle point too. -/
theorem out_left (hO : Ok m) (c : Dev nD) (t : Fin (cfgM m hO).N) :
    (owns (c : Thread nD τ) (st_5 m hO t) fullShare ((dats m hO 0 c).after 5 t) : sProp 𝕄)
      ⊢ match (cfgM m hO).idle 5 ((cfgM m hO).grid.coords t) with
        | true =>
          match ((cfgM m hO).win 5).flush t with
          | false => iprop(∃ d, owns (c : Thread nD τ) (st_5 m hO t) fullShare ((dats m hO 0 c).before 5 t d))
          | true => owns (c : Thread nD τ) (st_5 m hO t) fullShare ((dats m hO 0 c).after 5 t)
        | false => owns (c : Thread nD τ) (st_5 m hO t) fullShare ((dats m hO 0 c).after 5 t) := by
  cases hi : (cfgM m hO).idle 5 ((cfgM m hO).grid.coords t)
  · exact .rfl
  · cases ((cfgM m hO).win 5).flush t
    · have hz := (idle_out m hO c t hi).2
      rw [after_5, outAt_idle m hO c t hi]
      simp only [before_5_later m hO c t hz]
      iintro H
      iexists (outView.read (Elt F) outView.junk)
      iexact H
    · exact .rfl

/-- What the launch theorem asks of the body. -/
theorem body_obligation (hO : Ok m) (c : Dev nD) :
    BodyObligation (dats (F := F) m hO 0 c) (defs₀ (F := F)) Variants.none () Set.univ := fun t => by
  rw [bigSep_W0, bigSep_W0, body_row m hO]
  exact triple_restated (body_ok m hO c t) rfl .rfl fun _ =>
    sep_mono .rfl (sep_mono .rfl (sep_mono .rfl (sep_mono .rfl (sep_mono .rfl (sep_mono .rfl (sep_mono .rfl
      (out_left m hO c t)))))))

/-! ## The run -/

set_option backward.isDefEq.respectTransparency.types false in
/-- From any memory with zero counters whose tables name blocks inside the arrays, the call ends, each window's array
    at what the proof data says, every other buffer as it was, every counter at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_is_call m Variants.none) (hA := A_eq m hO) (hpf := V_pre m)
    (hΦ := fun _ _ => rfl)

/-- The result array's final contents. -/
abbrev result (hO : Ok m) (c : Dev nD) : Buf (Elt F) ((c : Thread nD τ).loc main_v0) := (dats m hO 0 c).arrAt 5 (cfgM m hO).N

/-- So the call ends with its result at `result`, its arguments as they were and every counter at zero. -/
theorem run_result (hO : Ok m) : θ_run defs (onTc (τ := τ) (main (F := F))) ⟨m, fun _ => 0, ρ⟩ (fun r => (∀ c : Dev nD,
      r.2.mem ((c.tc : Thread nD τ).loc main_v0) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).1 0).trans (((dats m hO 0 c).arrAt_in 0 rfl _).trans (A_eq m hO c 0)),
      ((h.1 c).1 4).trans (((dats m hO 0 c).arrAt_in 4 rfl _).trans (A_eq m hO c 4)),
      (h.1 c).2 main_arg2 (by decide : main_arg2 ∈ Pipeline.restRefs sig spec0),
      (h.1 c).2 main_arg3 (by decide : main_arg3 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO)

end Cert.KernelIdeal.Experts

end
-- ==== Proof.Experts.KernelIdeal.Ok.lean ====
/- The blocks the tables name are inside the arrays when every expert is one of the sixteen. -/
module

public import proofs.«01_k».proof.Proof.Experts.KernelIdeal.Setup

@[expose] public section

set_option maxRecDepth 16384

noncomputable section

namespace Cert.KernelIdeal.Experts

open Idealize.ShloMosaic Idealize.ShloMosaic.TcCoe Idealize.SL Idealize.SL.Sem
open Cert.KernelIdeal.Gen

variable {F : FTy → Type} [FloatOps F]

variable (m : (ℓ : Loc nD τ sig) → Buf (Elt F) ℓ)

/-- Every expert the first table names is one of the sixteen. -/
abbrev Range : Prop := ∀ k : S50.Idx, (tbl m 0 k : BitVec 32).toNat < 16

/-- The column step of a point is one of four. -/
theorem col_lt (i : grid0.Coords) : (BitVec.ofNat 32 (i 1).val).toNat < 4 := by
  have h : (i 1).val < 4 := (i 1).isLt
  rw [BitVec.toNat_ofNat, Nat.mod_eq_of_lt (by omega)]; exact h

/-- The word the index maps read of the first table is its entry for the point's tile. -/
theorem expertWord (i : grid0.Coords) (h : ∀ a, (k0_off1 i) a + S1.size a ≤ S50.size a) :
    (tbl m).at 0 (Rect.unit (s := S50) (k0_off1 i) S1.size h) numel1_S1 = tbl m 0 (tileIx i) :=
  congrArg (tbl m 0) (funext fun | (0 : Fin 1) => rfl)

/-- Each window's block is then inside its array. -/
theorem ok_of_range (h : Range m) : Ok m := by
  have he : ∀ i : grid0.Coords, (tbl m 0 (tileIx i) : BitVec 32).toNat < 16 := fun i => h _
  refine ⟨fun i => ⟨fun a => ?_, .inl rfl⟩, fun i => ⟨fun a => ?_, .inl rfl⟩, fun i => ⟨fun a => ?_, .inl rfl⟩⟩
  · match a with
    | ⟨0, _⟩ => show (((tbl m).at 0 (Rect.unit (s := S50) (k0_off1 i) S1.size (k0_off1_inb i)) numel1_S1 : BitVec 32).toNat + 1) * 1 ≤ 16
                rw [expertWord]; have := he i; omega
    | ⟨1, _⟩ => show (0 + 1) * 4096 ≤ 4096
                decide
    | ⟨2, _⟩ => show ((BitVec.ofNat 32 (i 1).val).toNat + 1) * 256 ≤ 1024
                have := col_lt i; omega
  · match a with
    | ⟨0, _⟩ => show (((tbl m).at 0 (Rect.unit (s := S50) (k0_off1 i) S1.size (k0_off1_inb i)) numel1_S1 : BitVec 32).toNat + 1) * 1 ≤ 16
                rw [expertWord]; have := he i; omega
    | ⟨1, _⟩ => show (0 + 1) * 4096 ≤ 4096
                decide
    | ⟨2, _⟩ => show ((BitVec.ofNat 32 (i 1).val).toNat + 1) * 256 ≤ 1024
                have := col_lt i; omega
  · match a with
    | ⟨0, _⟩ => show (((tbl m).at 0 (Rect.unit (s := S50) (k0_off1 i) S1.size (k0_off1_inb i)) numel1_S1 : BitVec 32).toNat + 1) * 1 ≤ 16
                rw [expertWord]; have := he i; omega
    | ⟨1, _⟩ => show ((BitVec.ofNat 32 (i 1).val).toNat + 1) * 256 ≤ 1024
                have := col_lt i; omega
    | ⟨2, _⟩ => show (0 + 1) * 4096 ≤ 4096
                decide

end Cert.KernelIdeal.Experts

end
-- ==== Proof.Experts.Frame.lean ====
/- The experts' kernel runs on bits as its idealization does: the two programs are the same operations, and what is proved of
   the one's running is proved whatever the arithmetic. -/
module

public import proofs.«01_k».proof.Defs
public import proofs.«01_k».proof.Proof.Gen.Kernel
public import proofs.«01_k».proof.Proof.Experts.Range
public import proofs.«01_k».proof.Proof.Experts.KernelIdeal.Frame
public import proofs.«01_k».proof.Proof.Experts.KernelIdeal.Ok

@[expose] public section

noncomputable section

namespace Cert.KernelIdeal.Experts

open Idealize.ShloMosaic Idealize.ShloMosaic.TcCoe Idealize.ShloMosaic.Tactic Idealize.SL Idealize.SL.Sem
open Cert.KernelIdeal Cert.KernelIdeal.Gen

/-- From every memory of words whose table of experts is in range the program ends with its arguments unchanged and its semaphores at zero. -/
def Runs : Prop :=
  ∀ (m : (ℓ : Loc nD τ sig) → Buf (Elt Bits) ℓ) (g : Dev nD → PrngReg),
    (∀ c : Dev nD, Cert.Pre_in_range.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0)

theorem runs : Runs := fun m ρ h =>
  (θ_run defs _ _).mono (fun _ hr => ⟨fun c => (hr.1 c).2, hr.2⟩)
    (run_result m ρ (ok_of_range m fun k => Cert.Experts.toNat_lt_of_pre _ _ _ _ _ _ _ (h 0) k))

/-- The two statements are one. -/
theorem same : Runs = Cert.quiescent_Kernel (hKernel := Cert.Kernel.Gen.facts) (hPre_in_range := Cert.Pre_in_range.Gen.facts) := by
  sl_kernel_rfl

theorem frame_bits : Cert.quiescent_Kernel (hKernel := Cert.Kernel.Gen.facts) (hPre_in_range := Cert.Pre_in_range.Gen.facts) :=
  Eq.mp same runs

end Cert.KernelIdeal.Experts

end
-- ==== Proof.Experts.Reference.lean ====
/- The reference's result, element by element: the sum over all sixteen experts of their hidden columns, each weighted by
   the row's weight where the expert is the row's tile's and by zero elsewhere, leaves the one expert's sum. -/
module

public import proofs.«01_k».proof.Proof.Gen.ReferenceIdeal.Run
public import Idealize.ShloMosaic.Lib.Pointwise

@[expose] public section

set_option maxRecDepth 16384

noncomputable section

namespace Cert.ReferenceIdeal.Experts

open Idealize.ShloMosaic Idealize.ShloMosaic.TcCoe Idealize.ShloMosaic.Tactic
open Idealize.SL Idealize.SL.Sem
open Cert.ReferenceIdeal.Gen

/-- A projection of every row by every expert. -/
def proj (x : FVec Ideal S25600x4096 .bf16) (w : FVec Ideal S16x4096x1024 .f32) : FVec Ideal S25600x16x1024 .f32 :=
  Host.dotGeneral dot_S25600x4096_S16x4096x1024_S25600x16x1024_1_1_0_02_n_n none (extf .f32 x bitsLt_bf16_f32) w

/-- A table's word for every row: its tile's. -/
def perRow (t : IVec S50 32) : IVec S25600x1 32 :=
  broadcastInDim S25600x1 ![0] bcast_S25600_S25600x1_0 (shapeCast S25600 (broadcastInDim S50x512 ![0, 1] bcast_S50x1_S50x512_0_1 (broadcastInDim S50x1 ![0] bcast_S50_S50x1_0 t)) shapeCasts_S50x512_S25600)

/-- The weight of each expert on each row. -/
def comb (rw : FVec Ideal S25600x1 .f32) (te tl : IVec S50 32) : FVec Ideal S25600x16 .f32 :=
  select (broadcastInDim S25600x16 ![0, 1] bcast_S25600x1_S25600x16_0_1
      (cmpi .sgt (perRow tl) (broadcastInDim S25600x1 ![] bcast_S_S25600x1 (constantI S_ 32 0#32))))
    (mulf (uitofp .f32 (cmpi .eq (broadcastInDim S25600x16 ![0, 1] bcast_S25600x1_S25600x16_0_1 (perRow te))
        (broadcastInDim S25600x16 ![0, 1] bcast_S1x16_S25600x16_0_1 (iotaInDim S1x16 32 1))))
      (broadcastInDim S25600x16 ![0, 1] bcast_S25600x1_S25600x16_0_1 rw))
    (broadcastInDim S25600x16 ![] bcast_S_S25600x16 (id (constant (F := Ideal) S_ .f32 0x00000000#32)))

/-- Each expert's gated value of each row: the gate times its logistic, times the other projection. -/
def act (x : FVec Ideal S25600x4096 .bf16) (wg wu : FVec Ideal S16x4096x1024 .f32) : FVec Ideal S25600x16x1024 .f32 :=
  mulf (mulf (proj x wg) (Host.divf (broadcastInDim S25600x16x1024 ![] bcast_S_S25600x16x1024 (constant S_ .f32 0x3F800000#32))
    (addf (broadcastInDim S25600x16x1024 ![] bcast_S_S25600x16x1024 (constant S_ .f32 0x3F800000#32)) (Host.exp (Host.negf (proj x wg))))))
    (proj x wu)

/-- The reference's result. -/
def out (x : FVec Ideal S25600x4096 .bf16) (rw : FVec Ideal S25600x1 .f32) (te tl : IVec S50 32)
    (wg wu : FVec Ideal S16x4096x1024 .f32) (wd : FVec Ideal S16x1024x4096 .f32) : FVec Ideal S25600x4096 .f32 :=
  Host.dotGeneral dot_S25600x16x1024_S16x1024x4096_S25600x4096_12_01_0_2_n_n none
    (mulf (act x wg wu) (broadcastInDim S25600x16x1024 ![0, 1, 2] bcast_S25600x16x1_S25600x16x1024_0_1_2
      (broadcastInDim S25600x16x1 ![0, 1] bcast_S25600x16_S25600x16x1_0_1 (comb rw te tl)))) wd

/-- A projection at row `n`, expert `e` and hidden column `k`. -/
theorem proj_apply (x : FVec Ideal S25600x4096 .bf16) (w : FVec Ideal S16x4096x1024 .f32) (n : Fin 25600) (e : Fin 16) (k : Fin 1024) :
    proj x w (ValueIdx.ix3 n e k) = ∑ d : Fin 4096, x (ValueIdx.ix2 n d) * w (ValueIdx.ix3 e d k) := by
  pointwise [proj]
  rfl

/-- Row `n`'s tile is `n / 512`. -/
theorem perRow_apply (t : IVec S50 32) (n : Fin 25600) :
    perRow t (ValueIdx.ix2 n 0) = t (ValueIdx.ix1 ⟨n.val / 512, by omega⟩) := by
  pointwise [perRow]
  rfl

/-- Which is the row's weight for its tile's expert when the tile holds rows, and zero otherwise. -/
theorem comb_apply (rw : FVec Ideal S25600x1 .f32) (te tl : IVec S50 32) (n : Fin 25600) (e : Fin 16) :
    comb rw te tl (ValueIdx.ix2 n e)
      = if IntOp.cmpi .sgt (tl (ValueIdx.ix1 ⟨n.val / 512, by omega⟩)) 0#32 = 1#1 then
          if (te (ValueIdx.ix1 ⟨n.val / 512, by omega⟩)).toNat = e.val then rw (ValueIdx.ix2 n 0) else 0
        else 0 := by
  have key : comb rw te tl (ValueIdx.ix2 n e) = Scalar.select (IntOp.cmpi .sgt (perRow tl (ValueIdx.ix2 n 0)) 0#32)
      (FloatOps.uitofp (F := Ideal) .f32 (IntOp.cmpi .eq (perRow te (ValueIdx.ix2 n 0)) (BitVec.ofNat 32 e.val)) * rw (ValueIdx.ix2 n 0))
      0 := by
    pointwise [comb]
    rw [show id (constant (F := Ideal) S_ .f32 0x00000000#32) ix0 = 0 from Ideal.ofBits_zero_f32]
    rfl
  rw [key, perRow_apply, perRow_apply]
  generalize tl (ValueIdx.ix1 ⟨n.val / 512, by omega⟩) = l
  generalize te (ValueIdx.ix1 ⟨n.val / 512, by omega⟩) = t
  generalize rw (ValueIdx.ix2 n 0) = w
  show (if IntOp.cmpi .sgt l 0#32 = 1#1 then (((IntOp.cmpi .eq t (BitVec.ofNat 32 e.val)).toNat : ℝ) : EReal) * w else 0) = _
  congr 1
  have he : e.val < 2 ^ 32 := by omega
  by_cases ht : t.toNat = e.val
  · have e1 : t = BitVec.ofNat 32 e.val := BitVec.eq_of_toNat_eq (by rw [BitVec.toNat_ofNat, Nat.mod_eq_of_lt he, ht])
    rw [if_pos ht, ← e1, show IntOp.cmpi .eq t t = 1#1 from by simp [IntOp.cmpi]]
    show (((1 : ℕ) : ℝ) : EReal) * w = w
    rw [Nat.cast_one, EReal.coe_one, one_mul]
  · have e1 : t ≠ BitVec.ofNat 32 e.val := fun h => ht (by rw [h, BitVec.toNat_ofNat, Nat.mod_eq_of_lt he])
    rw [if_neg ht, show IntOp.cmpi .eq t (BitVec.ofNat 32 e.val) = 0#1 from
      congrArg BitVec.ofBool (beq_eq_false_iff_ne.mpr e1)]
    show (((0 : ℕ) : ℝ) : EReal) * w = 0
    rw [Nat.cast_zero, EReal.coe_zero, zero_mul]

/-- The gated value. -/
theorem act_apply (x : FVec Ideal S25600x4096 .bf16) (wg wu : FVec Ideal S16x4096x1024 .f32) (n : Fin 25600) (e : Fin 16) (k : Fin 1024) :
    act x wg wu (ValueIdx.ix3 n e k) = proj x wg (ValueIdx.ix3 n e k) * Ideal.logistic (proj x wg (ValueIdx.ix3 n e k)) * proj x wu (ValueIdx.ix3 n e k) := by
  pointwise [act, Ideal.ofBits_one_f32]
  rfl

/-- The result as a sum over the experts and their hidden columns. -/
theorem out_apply (x : FVec Ideal S25600x4096 .bf16) (rw : FVec Ideal S25600x1 .f32) (te tl : IVec S50 32)
    (wg wu : FVec Ideal S16x4096x1024 .f32) (wd : FVec Ideal S16x1024x4096 .f32) (n : Fin 25600) (d : Fin 4096) :
    out x rw te tl wg wu wd (ValueIdx.ix2 n d)
      = ∑ e : Fin 16, ∑ k : Fin 1024, act x wg wu (ValueIdx.ix3 n e k) * comb rw te tl (ValueIdx.ix2 n e) * wd (ValueIdx.ix3 e k d) := by
  pointwise [out]
  rfl

/-- The experts other than the tile's add nothing. -/
theorem out_eq (x : FVec Ideal S25600x4096 .bf16) (rw : FVec Ideal S25600x1 .f32) (te tl : IVec S50 32)
    (wg wu : FVec Ideal S16x4096x1024 .f32) (wd : FVec Ideal S16x1024x4096 .f32) (n : Fin 25600) (d : Fin 4096) (e : Fin 16)
    (he : (te (ValueIdx.ix1 ⟨n.val / 512, by omega⟩)).toNat = e.val) :
    out x rw te tl wg wu wd (ValueIdx.ix2 n d)
      = if IntOp.cmpi .sgt (tl (ValueIdx.ix1 ⟨n.val / 512, by omega⟩)) 0#32 = 1#1 then
          ∑ k : Fin 1024, act x wg wu (ValueIdx.ix3 n e k) * rw (ValueIdx.ix2 n 0) * wd (ValueIdx.ix3 e k d)
        else 0 := by
  rw [out_apply]
  simp only [comb_apply, he]
  by_cases hl : IntOp.cmpi .sgt (tl (ValueIdx.ix1 ⟨n.val / 512, by omega⟩)) 0#32 = 1#1
  · simp only [if_pos hl]
    rw [Finset.sum_eq_single e]
    · simp only [if_true]
    · intro e' _ hne
      have : e.val ≠ e'.val := fun h => hne (Fin.ext h.symm)
      simp only [if_neg this, mul_zero, zero_mul, Finset.sum_const_zero]
    · exact fun h => absurd (Finset.mem_univ e) h
  · simp only [if_neg hl, mul_zero, zero_mul, Finset.sum_const_zero]

end Cert.ReferenceIdeal.Experts

end
-- ==== Proof.Experts.KernelIdeal.Stores.lean ====
/- The stores of one point, read as values: four slabs of 1024 columns, each slab of the tile added to its share of the
   point's product. -/
module

public import proofs.«01_k».proof.Proof.Experts.KernelIdeal.Tile
public import Idealize.ShloMosaic.Lib.Pipeline.Value
public import Idealize.ShloMosaic.Lib.Pipeline.CanonAppend
public import Idealize.ShloMosaic.Lib.Pointwise

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

/-- The zero offsets, at two and at three axes. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A slab of the tile: 1024 columns from column `o`. -/
abbrev slab (o : ℕ) (h : ∀ a, (![0, o] : Fin 2 → ℕ) a + (![512, 1024] : Fin 2 → ℕ) a ≤ S512x4096.size a) : Rect S512x4096 :=
  Rect.unit ![0, o] ![512, 1024] h

/-- A load of one slab does not see a store to another. -/
theorem load_skip {o o' : ℕ} {h h'} (hd : o + 1024 ≤ o' ∨ o' + 1024 ≤ o) (w : (slab o' h').shape.Idx → Elt Ideal .f32)
    (L : List (View.Piece (Elt Ideal) S512x4096 .f32)) (j : (slab o h).shape.Idx) :
    View.canon (⟨slab o' h', w⟩ :: L) ((slab o h).toLoadRect.idx j) = View.canon L ((slab o h).toLoadRect.idx j) := by
  refine View.canon_cons_of_not_mem _ _ ?_
  rw [Rect.mem_set_unit]
  intro hm
  have h1 := hm 1
  have hj : (j 1 : ℕ) < 1024 := (j 1).isLt
  have e : ((slab o h).toLoadRect.idx j 1 : ℕ) = o + 1 * (j 1 : ℕ) := rfl
  rw [e] at h1
  have h1' : o' ≤ o + 1 * (j 1 : ℕ) ∧ o + 1 * (j 1 : ℕ) < o' + 1024 := h1
  omega

/-- A load of a slab after one store to the whole tile reads that store. -/
theorem load_whole {o : ℕ} {h} (Z : Vec Ideal S512x4096 .f32) (j : (slab o h).shape.Idx) :
    View.canon (Val := Elt Ideal) (e := .f32) [⟨Rect.unit ![0, 0] ![512, 4096] inb_S512x4096_S512x4096_0_0, Z⟩] ((slab o h).toLoadRect.idx j)
      = Z ((slab o h).toLoadRect.idx j) :=
  congrFun (View.canon_unit_zero (S := S512x4096) zero2 inb_S512x4096_S512x4096_0_0 Z) _

/-- The four stores of a point whose tile holds `xo` before them. -/
def stores (x0 : Vec Ideal S512x4096 .bf16) (x1 x2 : Vec Ideal S1x4096x256 .f32) (x3 : Vec Ideal S1x256x4096 .f32)
    (x4 : Vec Ideal S512x1 .f32) (xo : Vec Ideal S512x4096 .f32) : List (View.Piece (Elt Ideal) S512x4096 .f32) :=
  [⟨Rect.unit ![0, 3072] ![512, 1024] inb_S512x4096_S512x1024_0_3072,
      k0_pay3 (k0_pay5 x0 x1 x2 x4) (View.ld xo (Rect.unit ![0, 3072] ![512, 1024] inb_S512x4096_S512x1024_0_3072))
        (View.ld x3 (Rect.unit ![0, 0, 3072] ![1, 256, 1024] inb_S1x256x4096_S1x256x1024_0_0_3072))⟩,
   ⟨Rect.unit ![0, 2048] ![512, 1024] inb_S512x4096_S512x1024_0_2048,
      k0_pay2 (k0_pay5 x0 x1 x2 x4) (View.ld xo (Rect.unit ![0, 2048] ![512, 1024] inb_S512x4096_S512x1024_0_2048))
        (View.ld x3 (Rect.unit ![0, 0, 2048] ![1, 256, 1024] inb_S1x256x4096_S1x256x1024_0_0_2048))⟩,
   ⟨Rect.unit ![0, 1024] ![512, 1024] inb_S512x4096_S512x1024_0_1024,
      k0_pay1 (k0_pay5 x0 x1 x2 x4) (k0_pay8 (View.ld xo (Rect.unit ![0, 1024] ![512, 1024] inb_S512x4096_S512x1024_0_1024)))
        (k0_pay9 (View.ld x3 (Rect.unit ![0, 0, 1024] ![1, 256, 1024] inb_S1x256x4096_S1x256x1024_0_0_1024)))⟩,
   ⟨Rect.unit ![0, 0] ![512, 1024] inb_S512x4096_S512x1024_0_0,
      k0_pay7 x0 x1 x2 x4 (View.ld xo (Rect.unit ![0, 0] ![512, 1024] inb_S512x4096_S512x1024_0_0))
        (View.ld x3 (Rect.unit ![0, 0, 0] ![1, 256, 1024] inb_S1x256x4096_S1x256x1024_0_0_0))⟩]

/-- A later point's stores are these over what it found. -/
theorem outLater_stores (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec Ideal S512x4096 .bf16) (x1 : Vec Ideal S1x4096x256 .f32) (x2 : Vec Ideal S1x4096x256 .f32) (x3 : Vec Ideal S1x256x4096 .f32) (x4 : Vec Ideal S512x1 .f32) (xE : TabBuf (F := Ideal) c tabE) (xL : TabBuf (F := Ideal) c tabL) (xo : Vec Ideal S512x4096 .f32)
    (hl : k0_cond1 (liveWord c i xL) = 1#1) (hz : ¬ k0_cond2 i = 1#1) (hd : ¬ k0_cond3 i (liveWord c i xL) = 1#1) :
    outLater c i a0 ha0 a1 ha1 a2 ha2 a3 ha3 a4 ha4 a5 ha5 x0 x1 x2 x3 x4 xE xL xo hl hz hd = View.canon (stores x0 x1 x2 x3 x4 xo) := by
  unfold outLater
  rw [View.read_writes_junk_eq_canon]
  unfold runLater
  dsimp only
  sl_unfold_words
  unfold stores
  simp only [View.readAt_eq_ld, ha0.read_unread, ha1.read_unread, ha2.read_unread, ha3.read_unread, ha4.read_unread, ha5.read_unread,
    View.ld_unit_zero (S := S512x4096) zero2, View.ld_unit_zero (S := S512x1) zero2, View.ld_unit_zero (S := S1x4096x256) zero3]

/-- A first point's are these over the zero tile it has just stored. -/
theorem outFirst_stores (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec Ideal S512x4096 .bf16) (x1 : Vec Ideal S1x4096x256 .f32) (x2 : Vec Ideal S1x4096x256 .f32) (x3 : Vec Ideal S1x256x4096 .f32) (x4 : Vec Ideal S512x1 .f32) (xE : TabBuf (F := Ideal) c tabE) (xL : TabBuf (F := Ideal) c tabL)
    (hl : k0_cond1 (liveWord c i xL) = 1#1) (hz : k0_cond2 i = 1#1) (hd : ¬ k0_cond3 i (liveWord c i xL) = 1#1) :
    outFirst c i a0 ha0 a1 ha1 a2 ha2 a3 ha3 a4 ha4 a5 ha5 x0 x1 x2 x3 x4 xE xL hl hz hd
      = View.canon (stores x0 x1 x2 x3 x4 (k0_pay6 (F := Ideal)) ++ [⟨Rect.unit ![0, 0] ![512, 4096] inb_S512x4096_S512x4096_0_0, k0_pay6 (F := Ideal)⟩]) := by
  unfold outFirst
  rw [View.read_writes_junk_eq_canon]
  unfold runFirst
  dsimp only
  sl_unfold_words
  unfold stores
  simp only [View.readAt_eq_ld, ha0.read_unread, ha1.read_unread, ha2.read_unread, ha3.read_unread, ha4.read_unread,
    View.ld_unit_zero (S := S512x4096) zero2, View.ld_unit_zero (S := S512x1) zero2, View.ld_unit_zero (S := S1x4096x256) zero3,
    View.readCov_eq_canon']
  simp (disch := decide) only [load_skip, load_whole]
  rfl

/-- A dead tile's first point stores the zero tile. -/
theorem outDead_zero (c : Dev nD) (i : grid0.Coords) (a0 : Memref sig .tc .vmem S512x4096 .bf16) (ha0 : a0.IsWhole) (a1 : Memref sig .tc .vmem S1x4096x256 .f32) (ha1 : a1.IsWhole) (a2 : Memref sig .tc .vmem S1x4096x256 .f32) (ha2 : a2.IsWhole) (a3 : Memref sig .tc .vmem S1x256x4096 .f32) (ha3 : a3.IsWhole) (a4 : Memref sig .tc .vmem S512x1 .f32) (ha4 : a4.IsWhole) (a5 : Memref sig .tc .vmem S512x4096 .f32) (ha5 : a5.IsWhole)
    (x0 : Vec Ideal S512x4096 .bf16) (x1 : Vec Ideal S1x4096x256 .f32) (x2 : Vec Ideal S1x4096x256 .f32) (x3 : Vec Ideal S1x256x4096 .f32) (x4 : Vec Ideal S512x1 .f32) (xE : TabBuf (F := Ideal) c tabE) (xL : TabBuf (F := Ideal) c tabL)
    (hl : ¬ k0_cond1 (liveWord c i xL) = 1#1) (hd : k0_cond3 i (liveWord c i xL) = 1#1) :
    outDead c i a0 ha0 a1 ha1 a2 ha2 a3 ha3 a4 ha4 a5 ha5 x0 x1 x2 x3 x4 xE xL hl hd = fun _ => 0 := by
  unfold outDead
  rw [View.read_writes_junk_eq_canon]
  unfold runDead
  dsimp only
  rw [View.canon_unit_zero zero2]
  funext j
  pointwise [k0_pay4, k0_pay6]

end Cert.KernelIdeal.Experts

end
-- ==== Proof.Experts.KernelIdeal.Product.lean ====
/- The arithmetic of one point at the extended reals: the gated hidden values of a tile's rows, and the tile after their
   product with the point's rows of the down weights is added to it. -/
module

public import proofs.«01_k».proof.Proof.Experts.KernelIdeal.Stores

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

/-- A gated value: the gate `g` times its logistic, times `u`, times the row's weight `w`. -/
def gated (g u w : EReal) : EReal := g * Ideal.logistic g * u * w

/-- The hidden value of row `r` at column `f` of the point's block. -/
theorem pay5_apply (x0 : Vec Ideal S512x4096 .bf16) (x1 x2 : Vec Ideal S1x4096x256 .f32) (x4 : Vec Ideal S512x1 .f32)
    (r : Fin 512) (f : Fin 256) :
    k0_pay5 x0 x1 x2 x4 (ValueIdx.ix2 r f) = gated (∑ d : Fin 4096, x0 (ValueIdx.ix2 r d) * x1 (ValueIdx.ix3 0 d f))
      (∑ d : Fin 4096, x0 (ValueIdx.ix2 r d) * x2 (ValueIdx.ix3 0 d f)) (x4 (ValueIdx.ix2 r 0)) := by
  pointwise [k0_pay5]
  rfl

/-- The tile `xo` with the product of hidden values `h` and weights `w` added. -/
def addTile (h : FVec Ideal S512x256 .bf16) (w : Vec Ideal S1x256x4096 .f32) (xo : Vec Ideal S512x4096 .f32) : Vec Ideal S512x4096 .f32 :=
  fun j => xo j + ∑ f : Fin 256, h (ValueIdx.ix2 (j 0) f) * w (ValueIdx.ix3 0 f (j 1))

/-- Where the slab puts its element, -/
theorem slab_emb (o : Nat) (h) (ho : o + 1024 ≤ 4096) (x : S512x1024.Idx) :
    (slab o h).emb x = (ValueIdx.ix2 (x 0) ⟨o + (x 1).val, by have : (x 1).val < 1024 := (x 1).isLt; omega⟩ : S512x4096.Idx) := by
  funext a
  apply Fin.ext
  match a with
  | ⟨0, _⟩ => show 0 + 1 * (x 0).val = (x 0).val; omega
  | ⟨1, _⟩ => show o + 1 * (x 1).val = o + (x 1).val; omega

/-- and the elements it holds. -/
theorem mem_slab (o : Nat) (h) (j : S512x4096.Idx) : j ∈ (slab o h).set ↔ o ≤ (j 1).val ∧ (j 1).val < o + 1024 := by
  have h0 : (j 0).val < 512 := (j 0).isLt
  rw [Rect.mem_set_unit, show (∀ a : Fin S512x4096.rank, (![0, o] : Fin 2 → Nat) a ≤ (j a).val ∧ (j a).val < (![0, o] : Fin 2 → Nat) a + (![512, 1024] : Fin 2 → Nat) a)
    ↔ _ from Fin.forall_fin_two]
  show (0 ≤ (j 0).val ∧ (j 0).val < 0 + 512) ∧ (o ≤ (j 1).val ∧ (j 1).val < o + 1024) ↔ _
  omega

/-- Every store of a point writes the tile's elements with the product added, -/
theorem stores_apply (x0 : Vec Ideal S512x4096 .bf16) (x1 x2 : Vec Ideal S1x4096x256 .f32) (x3 : Vec Ideal S1x256x4096 .f32)
    (x4 : Vec Ideal S512x1 .f32) (xo : Vec Ideal S512x4096 .f32) :
    ∀ p ∈ stores x0 x1 x2 x3 x4 xo, ∀ x : p.1.shape.Idx, p.2 x = addTile (k0_pay5 x0 x1 x2 x4) x3 xo (p.1.emb x) := by
  unfold stores
  simp only [List.forall_mem_cons, List.not_mem_nil, false_imp_iff, implies_true, and_true]
  refine ⟨fun x => ?_, fun x => ?_, fun x => ?_, fun x => ?_⟩
  · rw [slab_emb 3072 _ (by decide)]
    generalize k0_pay5 x0 x1 x2 x4 = h
    pointwise [k0_pay3, addTile]
    rfl
  · rw [slab_emb 2048 _ (by decide)]
    generalize k0_pay5 x0 x1 x2 x4 = h
    pointwise [k0_pay2, addTile]
    rfl
  · rw [slab_emb 1024 _ (by decide)]
    generalize k0_pay5 x0 x1 x2 x4 = h
    pointwise [k0_pay1, k0_pay8, k0_pay9, addTile]
    rfl
  · rw [slab_emb 0 _ (by decide)]
    unfold k0_pay7
    generalize k0_pay5 x0 x1 x2 x4 = h
    pointwise [addTile]
    rfl

/-- and they write every element of the tile. -/
theorem stores_cover (x0 : Vec Ideal S512x4096 .bf16) (x1 x2 : Vec Ideal S1x4096x256 .f32) (x3 : Vec Ideal S1x256x4096 .f32)
    (x4 : Vec Ideal S512x1 .f32) (xo : Vec Ideal S512x4096 .f32) (j : S512x4096.Idx) :
    ∃ p ∈ stores x0 x1 x2 x3 x4 xo, j ∈ p.1.set := by
  have h0 : (j 0).val < 512 := (j 0).isLt
  have h1 : (j 1).val < 4096 := (j 1).isLt
  rcases (by omega : 3072 ≤ (j 1).val ∨ (2048 ≤ (j 1).val ∧ (j 1).val < 3072) ∨ (1024 ≤ (j 1).val ∧ (j 1).val < 2048) ∨ (j 1).val < 1024)
    with h | h | h | h
  · exact ⟨_, List.mem_cons_self .., (mem_slab 3072 inb_S512x4096_S512x1024_0_3072 j).mpr ⟨by omega, by omega⟩⟩
  · exact ⟨_, List.mem_cons_of_mem _ (List.mem_cons_self ..), (mem_slab 2048 inb_S512x4096_S512x1024_0_2048 j).mpr ⟨by omega, by omega⟩⟩
  · exact ⟨_, List.mem_cons_of_mem _ (List.mem_cons_of_mem _ (List.mem_cons_self ..)), (mem_slab 1024 inb_S512x4096_S512x1024_0_1024 j).mpr ⟨by omega, by omega⟩⟩
  · exact ⟨_, List.mem_cons_of_mem _ (List.mem_cons_of_mem _ (List.mem_cons_of_mem _ (List.mem_cons_self ..))), (mem_slab 0 inb_S512x4096_S512x1024_0_0 j).mpr ⟨by omega, by omega⟩⟩

/-- So a later point leaves the tile it found with the product added, -/
theorem canon_stores (x0 : Vec Ideal S512x4096 .bf16) (x1 x2 : Vec Ideal S1x4096x256 .f32) (x3 : Vec Ideal S1x256x4096 .f32)
    (x4 : Vec Ideal S512x1 .f32) (xo : Vec Ideal S512x4096 .f32) :
    View.canon (stores x0 x1 x2 x3 x4 xo) = addTile (k0_pay5 x0 x1 x2 x4) x3 xo :=
  funext fun j => View.canon_apply_of_pieces _ _ (stores_apply x0 x1 x2 x3 x4 xo) j (stores_cover x0 x1 x2 x3 x4 xo j)

/-- whatever was stored before. -/
theorem canon_stores_append (x0 : Vec Ideal S512x4096 .bf16) (x1 x2 : Vec Ideal S1x4096x256 .f32) (x3 : Vec Ideal S1x256x4096 .f32)
    (x4 : Vec Ideal S512x1 .f32) (xo : Vec Ideal S512x4096 .f32) (L : List (View.Piece (Elt Ideal) S512x4096 .f32)) :
    View.canon (stores x0 x1 x2 x3 x4 xo ++ L) = addTile (k0_pay5 x0 x1 x2 x4) x3 xo :=
  funext fun j => View.canon_append_of_pieces _ L _ (stores_apply x0 x1 x2 x3 x4 xo) j (stores_cover x0 x1 x2 x3 x4 xo j)

/-- The block a first point starts from holds zeros. -/
theorem pay6_zero : (k0_pay6 (F := Ideal)) = fun _ => 0 := by
  funext j
  pointwise [k0_pay6, Ideal.ofBits_zero_f32]

end Cert.KernelIdeal.Experts

end
-- ==== Proof.Experts.KernelIdeal.Accumulate.lean ====
/- A tile after its four points: the sum of the four points' products when the tile holds rows, and zeros when it
   does not. -/
module

public import proofs.«01_k».proof.Proof.Experts.KernelIdeal.Product

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ)

/-- The grid point of tile `i` and column step `s`. -/
def pt (i : Fin 50) (s : Fin 4) : Fin grid0.N := ⟨4 * i.val + s.val, by rw [N_0]; omega⟩

theorem pt_val (i : Fin 50) (s : Fin 4) : (pt i s).val = 4 * i.val + s.val := rfl

/-- Its coordinates. -/
theorem coords_pt (i : Fin 50) (s : Fin 4) : (grid0.coords (pt i s) 0).val = i.val ∧ (grid0.coords (pt i s) 1).val = s.val := by
  have e0 : (grid0.coords (pt i s) 0).val = (pt i s).val / 4 % 50 := Pipeline.Grid.coords_val (pt i s) 0 (by decide) rfl
  have e1 : (grid0.coords (pt i s) 1).val = (pt i s).val / 1 % 4 := Pipeline.Grid.coords_val (pt i s) 1 (by decide) rfl
  rw [pt_val] at e0 e1
  omega

/-- The tables' entry for its tile. -/
theorem tileIx_pt (i : Fin 50) (s : Fin 4) : tileIx (grid0.coords (pt i s)) = ValueIdx.ix1 i :=
  funext fun | (0 : Fin 1) => Fin.ext (by
    show k0_off1 (grid0.coords (pt i s)) 0 = i.val
    have e : k0_off1 (grid0.coords (pt i s)) 0 = (BitVec.ofNat 32 (grid0.coords (pt i s) 0).val).toNat := rfl
    rw [e, (coords_pt i s).1, BitVec.toNat_ofNat, Nat.mod_eq_of_lt (by omega)])

/-- Tile `i` holds rows. -/
abbrev Rows (i : Fin 50) : Prop := k0_cond1 (tbl m 1 (ValueIdx.ix1 i)) = 1#1

theorem live_pt (c : Dev nD) (i : Fin 50) (s : Fin 4) : Live m c (grid0.coords (pt i s)) ↔ Rows m i := by
  have e : liveWord c (grid0.coords (pt i s)) (tbl m 1) = tbl m 1 (ValueIdx.ix1 i) :=
    (liveWord_eq c _ _).trans (congrArg (tbl m 1) (tileIx_pt i s))
  exact iff_of_eq (congrArg (fun w => k0_cond1 w = 1#1) e)

/-- The blocks a point reads: the tile's rows, -/
abbrev xs (hO : Ok m) (c : Dev nD) (t : Fin (cfgM m hO).N) : Vec Ideal S512x4096 .bf16 := iblk m hO c 0 t
/-- its columns of the expert's gate weights -/
abbrev wg (hO : Ok m) (c : Dev nD) (t : Fin (cfgM m hO).N) : Vec Ideal S1x4096x256 .f32 := iblk m hO c 1 t
/-- and of its up weights, -/
abbrev wu (hO : Ok m) (c : Dev nD) (t : Fin (cfgM m hO).N) : Vec Ideal S1x4096x256 .f32 := iblk m hO c 2 t
/-- its rows of the expert's down weights, -/
abbrev wd (hO : Ok m) (c : Dev nD) (t : Fin (cfgM m hO).N) : Vec Ideal S1x256x4096 .f32 := iblk m hO c 3 t
/-- and the rows' weights. -/
abbrev rowW (hO : Ok m) (c : Dev nD) (t : Fin (cfgM m hO).N) : Vec Ideal S512x1 .f32 := iblk m hO c 4 t

/-- What a point's product adds to element `j` of its tile. -/
def share (hO : Ok m) (c : Dev nD) (t : Fin (cfgM m hO).N) (j : S512x4096.Idx) : EReal :=
  ∑ f : Fin 256, k0_pay5 (F := Ideal) (xs m hO c t) (wg m hO c t) (wu m hO c t) (rowW m hO c t) (ValueIdx.ix2 (j 0) f)
    * wd m hO c t (ValueIdx.ix3 0 f (j 1))

theorem step_first (hO : Ok m) (c : Dev nD) (i : Fin 50) (h : Rows m i) (prev : Vec Ideal S512x4096 .f32) (j : S512x4096.Idx) :
    step m hO c (pt i 0) prev j = share m hO c (pt i 0) j := by
  unfold step
  rw [dif_pos ((live_pt m c i 0).mpr h), dif_pos (by rw [pt_val]; show (4 * i.val + 0) % 4 = 0; omega)]
  refine (congrFun (outFirst_stores c _ _ _ _ _ _ _ _ _ _ _ _ _ (xs m hO c (pt i 0)) (wg m hO c (pt i 0)) (wu m hO c (pt i 0))
    (wd m hO c (pt i 0)) (rowW m hO c (pt i 0)) _ _ _ _ _) j).trans ?_
  refine (congrFun (canon_stores_append (xs m hO c (pt i 0)) (wg m hO c (pt i 0)) (wu m hO c (pt i 0)) (wd m hO c (pt i 0))
    (rowW m hO c (pt i 0)) (k0_pay6 (F := Ideal)) _) j).trans ?_
  rw [pay6_zero]
  exact zero_add _

theorem step_later (hO : Ok m) (c : Dev nD) (i : Fin 50) (s : Fin 4) (hs : s ≠ 0) (h : Rows m i) (prev : Vec Ideal S512x4096 .f32)
    (j : S512x4096.Idx) : step m hO c (pt i s) prev j = prev j + share m hO c (pt i s) j := by
  have hs' : s.val ≠ 0 := fun e => hs (Fin.ext e)
  unfold step
  rw [dif_pos ((live_pt m c i s).mpr h), dif_neg (by rw [pt_val]; omega)]
  refine (congrFun (outLater_stores c _ _ _ _ _ _ _ _ _ _ _ _ _ (xs m hO c (pt i s)) (wg m hO c (pt i s)) (wu m hO c (pt i s))
    (wd m hO c (pt i s)) (rowW m hO c (pt i s)) _ _ prev _ _ _) j).trans ?_
  exact congrFun (canon_stores (xs m hO c (pt i s)) (wg m hO c (pt i s)) (wu m hO c (pt i s)) (wd m hO c (pt i s))
    (rowW m hO c (pt i s)) prev) j

theorem step_dead (hO : Ok m) (c : Dev nD) (i : Fin 50) (s : Fin 4) (h : ¬ Rows m i) (prev : Vec Ideal S512x4096 .f32) :
    step m hO c (pt i s) prev = if s = 0 then fun _ => 0 else prev := by
  unfold step
  rw [dif_neg (fun h' => h ((live_pt m c i s).mp h'))]
  by_cases hs : s = 0
  · subst hs
    rw [dif_pos (by rw [pt_val]; show (4 * i.val + 0) % 4 = 0; omega), if_pos rfl]
    exact outDead_zero c _ _ _ _ _ _ _ _ _ _ _ _ _ (xs m hO c (pt i 0)) (wg m hO c (pt i 0)) (wu m hO c (pt i 0))
      (wd m hO c (pt i 0)) (rowW m hO c (pt i 0)) _ _ _ _
  · have hs' : s.val ≠ 0 := fun e => hs (Fin.ext e)
    rw [dif_neg (by rw [pt_val]; omega), if_neg hs]

/-- The tile after a point depends on the point's number alone. -/
theorem outAt_congr (hO : Ok m) (c : Dev nD) {n n' : ℕ} (e : n = n') (h : n < (cfgM m hO).N) (h' : n' < (cfgM m hO).N) :
    outAt m hO c n h = outAt m hO c n' h' := by
  subst e; rfl

/-- The tile after a later column step, from the one before. -/
theorem outAt_pt (hO : Ok m) (c : Dev nD) (i : Fin 50) (s s' : Fin 4) (h : s'.val = s.val + 1) :
    outAt m hO c (pt i s').val (pt i s').isLt = step m hO c (pt i s') (outAt m hO c (pt i s).val (pt i s).isLt) := by
  rw [outAt_later m hO c (pt i s') (by rw [pt_val]; omega)]
  have e : (pt i s').val - 1 = (pt i s).val := by rw [pt_val, pt_val]; omega
  exact congrArg (step m hO c (pt i s')) (outAt_congr m hO c e _ _)

/-- A tile that holds rows ends at the sum of its four points' products, -/
theorem outAt_rows (hO : Ok m) (c : Dev nD) (i : Fin 50) (h : Rows m i) (j : S512x4096.Idx) :
    outAt m hO c (pt i 3).val (pt i 3).isLt j = ∑ s : Fin 4, share m hO c (pt i s) j := by
  rw [outAt_pt m hO c i 2 3 rfl, step_later m hO c i 3 (by decide) h, outAt_pt m hO c i 1 2 rfl,
    step_later m hO c i 2 (by decide) h, outAt_pt m hO c i 0 1 rfl, step_later m hO c i 1 (by decide) h,
    outAt_first m hO c (pt i 0) (by rw [pt_val]; show (4 * i.val + 0) % 4 = 0; omega) (fun _ => 0), step_first m hO c i h,
    Fin.sum_univ_four]

/-- one that does not at zeros. -/
theorem outAt_none (hO : Ok m) (c : Dev nD) (i : Fin 50) (h : ¬ Rows m i) :
    outAt m hO c (pt i 3).val (pt i 3).isLt = fun _ => 0 := by
  rw [outAt_pt m hO c i 2 3 rfl, step_dead m hO c i 3 h, if_neg (by decide), outAt_pt m hO c i 1 2 rfl,
    step_dead m hO c i 2 h, if_neg (by decide), outAt_pt m hO c i 0 1 rfl, step_dead m hO c i 1 h, if_neg (by decide),
    outAt_first m hO c (pt i 0) (by rw [pt_val]; show (4 * i.val + 0) % 4 = 0; omega) (fun _ => 0),
    step_dead m hO c i 0 h, if_pos rfl]

end Cert.KernelIdeal.Experts

end
-- ==== Proof.Experts.KernelIdeal.Blocks.lean ====
/- The blocks a point reads, as elements of the arguments: a tile's 512 rows, and of its expert's weights the 256 hidden
   columns of the point's step. -/
module

public import proofs.«01_k».proof.Proof.Experts.KernelIdeal.Accumulate
public import proofs.«01_k».proof.Proof.Experts.KernelIdeal.Ok

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ)

/-- Row `r` of tile `i`. -/
def row (i : Fin 50) (r : Fin 512) : Fin 25600 := ⟨512 * i.val + r.val, by omega⟩

/-- Hidden column `f` of step `s`. -/
def col (s : Fin 4) (f : Fin 256) : Fin 1024 := ⟨256 * s.val + f.val, by omega⟩

/-- The tile's expert. -/
def expert (h : Range m) (i : Fin 50) : Fin 16 := ⟨(tbl m 0 (ValueIdx.ix1 i) : BitVec 32).toNat, h (ValueIdx.ix1 i)⟩

/-- The point's word of the first coordinate and of the second. -/
theorem word0 (i : Fin 50) (s : Fin 4) : (BitVec.ofNat 32 (grid0.coords (pt i s) 0).val).toNat = i.val := by
  rw [(coords_pt i s).1, BitVec.toNat_ofNat, Nat.mod_eq_of_lt (by omega)]
theorem word1 (i : Fin 50) (s : Fin 4) : (BitVec.ofNat 32 (grid0.coords (pt i s) 1).val).toNat = s.val := by
  rw [(coords_pt i s).2, BitVec.toNat_ofNat, Nat.mod_eq_of_lt (by omega)]

theorem xs_apply (hO : Ok m) (c : Dev nD) (i : Fin 50) (s : Fin 4) (r : Fin 512) (d : Fin 4096) :
    xs m hO c (pt i s) (ValueIdx.ix2 r d) = m ((c.tc : Thread nD τ).loc main_arg0) (ValueIdx.ix2 (row i r) d : S25600x4096.Idx) := by
  refine (View.read_apply ..).trans (congrArg (m ((c.tc : Thread nD τ).loc main_arg0)) (funext fun a => Fin.ext ?_))
  match a with
  | ⟨0, _⟩ => show (BitVec.ofNat 32 (grid0.coords (pt i s) 0).val).toNat * 512 + 1 * r.val = 512 * i.val + r.val
              rw [word0]; omega
  | ⟨1, _⟩ => show 0 * 4096 + 1 * d.val = d.val
              omega

theorem rowW_apply (hO : Ok m) (c : Dev nD) (i : Fin 50) (s : Fin 4) (r : Fin 512) :
    rowW m hO c (pt i s) (ValueIdx.ix2 r 0) = m ((c.tc : Thread nD τ).loc main_arg1) (ValueIdx.ix2 (row i r) 0 : S25600x1.Idx) := by
  refine (View.read_apply ..).trans (congrArg (m ((c.tc : Thread nD τ).loc main_arg1)) (funext fun a => Fin.ext ?_))
  match a with
  | ⟨0, _⟩ => show (BitVec.ofNat 32 (grid0.coords (pt i s) 0).val).toNat * 512 + 1 * r.val = 512 * i.val + r.val
              rw [word0]; omega
  | ⟨1, _⟩ => show 0 * 1 + 1 * 0 = 0
              omega

/-- The first table's word at a point is its tile's. -/
theorem expertWord_pt (i : Fin 50) (s : Fin 4) (h : ∀ a, (k0_off1 (grid0.coords (pt i s))) a + S1.size a ≤ S50.size a) :
    (tbl m).at 0 (Rect.unit (s := S50) (k0_off1 (grid0.coords (pt i s))) S1.size h) numel1_S1 = tbl m 0 (ValueIdx.ix1 i) :=
  (expertWord m _ h).trans (congrArg (tbl m 0) (tileIx_pt i s))

theorem wg_apply (hR : Range m) (hO : Ok m) (c : Dev nD) (i : Fin 50) (s : Fin 4) (d : Fin 4096) (f : Fin 256) :
    wg m hO c (pt i s) (ValueIdx.ix3 0 d f)
      = m ((c.tc : Thread nD τ).loc main_arg4) (ValueIdx.ix3 (expert m hR i) d (col s f) : S16x4096x1024.Idx) := by
  refine (View.read_apply ..).trans (congrArg (m ((c.tc : Thread nD τ).loc main_arg4)) (funext fun a => Fin.ext ?_))
  match a with
  | ⟨0, _⟩ => show ((tbl m).at 0 (Rect.unit (s := S50) (k0_off1 (grid0.coords (pt i s))) S1.size (k0_off1_inb _)) numel1_S1 : BitVec 32).toNat * 1 + 1 * 0
                = (tbl m 0 (ValueIdx.ix1 i) : BitVec 32).toNat
              rw [expertWord_pt]; omega
  | ⟨1, _⟩ => show 0 * 4096 + 1 * d.val = d.val
              omega
  | ⟨2, _⟩ => show (BitVec.ofNat 32 (grid0.coords (pt i s) 1).val).toNat * 256 + 1 * f.val = 256 * s.val + f.val
              rw [word1]; omega

theorem wu_apply (hR : Range m) (hO : Ok m) (c : Dev nD) (i : Fin 50) (s : Fin 4) (d : Fin 4096) (f : Fin 256) :
    wu m hO c (pt i s) (ValueIdx.ix3 0 d f)
      = m ((c.tc : Thread nD τ).loc main_arg5) (ValueIdx.ix3 (expert m hR i) d (col s f) : S16x4096x1024.Idx) := by
  refine (View.read_apply ..).trans (congrArg (m ((c.tc : Thread nD τ).loc main_arg5)) (funext fun a => Fin.ext ?_))
  match a with
  | ⟨0, _⟩ => show ((tbl m).at 0 (Rect.unit (s := S50) (k0_off1 (grid0.coords (pt i s))) S1.size (k0_off1_inb _)) numel1_S1 : BitVec 32).toNat * 1 + 1 * 0
                = (tbl m 0 (ValueIdx.ix1 i) : BitVec 32).toNat
              rw [expertWord_pt]; omega
  | ⟨1, _⟩ => show 0 * 4096 + 1 * d.val = d.val
              omega
  | ⟨2, _⟩ => show (BitVec.ofNat 32 (grid0.coords (pt i s) 1).val).toNat * 256 + 1 * f.val = 256 * s.val + f.val
              rw [word1]; omega

theorem wd_apply (hR : Range m) (hO : Ok m) (c : Dev nD) (i : Fin 50) (s : Fin 4) (f : Fin 256) (d : Fin 4096) :
    wd m hO c (pt i s) (ValueIdx.ix3 0 f d)
      = m ((c.tc : Thread nD τ).loc main_arg6) (ValueIdx.ix3 (expert m hR i) (col s f) d : S16x1024x4096.Idx) := by
  refine (View.read_apply ..).trans (congrArg (m ((c.tc : Thread nD τ).loc main_arg6)) (funext fun a => Fin.ext ?_))
  match a with
  | ⟨0, _⟩ => show ((tbl m).at 0 (Rect.unit (s := S50) (k0_off1 (grid0.coords (pt i s))) S1.size (k0_off1_inb _)) numel1_S1 : BitVec 32).toNat * 1 + 1 * 0
                = (tbl m 0 (ValueIdx.ix1 i) : BitVec 32).toNat
              rw [expertWord_pt]; omega
  | ⟨1, _⟩ => show (BitVec.ofNat 32 (grid0.coords (pt i s) 1).val).toNat * 256 + 1 * f.val = 256 * s.val + f.val
              rw [word1]; omega
  | ⟨2, _⟩ => show 0 * 4096 + 1 * d.val = d.val
              omega

end Cert.KernelIdeal.Experts

end
-- ==== Proof.Experts.KernelIdeal.Result.lean ====
/- The result array: each tile's rows hold the tile after its four points, so each element is the sum over the hidden
   columns of its tile's expert when the tile holds rows, and zero when it does not. -/
module

public import proofs.«01_k».proof.Proof.Experts.KernelIdeal.Blocks
public import proofs.«01_k».proof.Proof.Experts.KernelIdeal.Frame

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ)

/-- The tile of a row, and the row's place in it. -/
def tileOf (n : Fin 25600) : Fin 50 := ⟨n.val / 512, by omega⟩
def rowIn (n : Fin 25600) : Fin 512 := ⟨n.val % 512, by omega⟩

theorem tileOf_row (i : Fin 50) (r : Fin 512) : tileOf (row i r) = i := Fin.ext (by show (512 * i.val + r.val) / 512 = i.val; omega)
theorem rowIn_row (i : Fin 50) (r : Fin 512) : rowIn (row i r) = r := Fin.ext (by show (512 * i.val + r.val) % 512 = r.val; omega)
theorem row_tileOf (n : Fin 25600) : row (tileOf n) (rowIn n) = n := Fin.ext (by show 512 * (n.val / 512) + n.val % 512 = n.val; omega)

/-- The array the call leaves: each row from its tile after the tile's last point. -/
def whole (hO : Ok m) (c : Dev nD) : Vec Ideal S25600x4096 .f32 := fun y =>
  outAt m hO c (pt (tileOf (y 0)) 3).val (pt (tileOf (y 0)) 3).isLt (ValueIdx.ix2 (rowIn (y 0)) (y 1))

/-- Where a tile's block puts its element in the array. -/
theorem blk_out (hO : Ok m) (c : Dev nD) (i : Fin 50) (s : Fin 4) (j : S512x4096.Idx) (G : Vec Ideal S25600x4096 .f32) :
    (((cfgM m hO).win 5).blk (pt i s)).view.read (Elt Ideal) G j = G (ValueIdx.ix2 (row i (j 0)) (j 1)) := by
  refine (View.read_apply ..).trans (congrArg G (funext fun a => Fin.ext ?_))
  match a with
  | ⟨0, _⟩ => show (BitVec.ofNat 32 (grid0.coords (pt i s) 0).val).toNat * 512 + 1 * (j 0).val = 512 * i.val + (j 0).val
              rw [word0]; omega
  | ⟨1, _⟩ => show 0 * 4096 + 1 * (j 1).val = (j 1).val
              omega

theorem whole_row (hO : Ok m) (c : Dev nD) (i : Fin 50) (r : Fin 512) (d : Fin 4096) :
    whole m hO c (ValueIdx.ix2 (row i r) d) = outAt m hO c (pt i 3).val (pt i 3).isLt (ValueIdx.ix2 r d) := by
  show outAt m hO c (pt (tileOf (row i r)) 3).val (pt (tileOf (row i r)) 3).isLt (ValueIdx.ix2 (rowIn (row i r)) d) = _
  rw [rowIn_row]
  exact congrFun (outAt_congr m hO c (by rw [tileOf_row]) _ _) _

/-- The whole of a tile's block is inside the array. -/
theorem cut_out (hO : Ok m) (c : Dev nD) (i : Fin 50) (j : S512x4096.Idx) :
    ((cfgM m hO).win 5).cut (grid0.coords (pt i 3)) (outAt m hO c (pt i 3).val (pt i 3).isLt) j
      = (((cfgM m hO).win 5).blk (pt i 3)).view.read (Elt Ideal) (whole m hO c) j := by
  refine Eq.trans ?_ ((blk_out m hO c i 3 j (whole m hO c)).trans (whole_row m hO c i (j 0) (j 1))).symm
  refine congrArg (outAt m hO c (pt i 3).val (pt i 3).isLt) (funext fun a => Fin.ext ?_)
  match a with
  | ⟨0, _⟩ => rfl
  | ⟨1, _⟩ => rfl

/-- What a tile's last point writes back is the array's block there, -/
theorem flushed_eq (hO : Ok m) (c : Dev nD) (t : Fin (cfgM m hO).N) (hf : ((cfgM m hO).win 5).flush t = true) :
    (dats m hO 0 c).flushed 5 t = (((cfgM m hO).win 5).blk t).view.read (Elt Ideal) (whole m hO c) := by
  have h3 : t.val % 4 = 3 := (flush_out (adm m hO) t).mp hf
  have ht : t.val < 200 := Nat.lt_of_lt_of_eq t.isLt N_0
  obtain ⟨i, rfl⟩ : ∃ i : Fin 50, t = pt i 3 := ⟨⟨t.val / 4, by omega⟩, Fin.ext (by show t.val = 4 * (t.val / 4) + 3; omega)⟩
  refine Eq.trans (b := ((cfgM m hO).win 5).cut (grid0.coords (pt i 3)) (outAt m hO c (pt i 3).val (pt i 3).isLt)) rfl ?_
  exact funext (cut_out m hO c i)

/-- Every element of the array lies in its tile's block. -/
theorem mem_blk_out (hO : Ok m) (y : S25600x4096.Idx) : y ∈ (((cfgM m hO).win 5).blk (pt (tileOf (y 0)) 3)).view.set := by
  have h0 : (y 0 : Nat) < 25600 := (y 0).isLt
  have e : ((((cfgM m hO).win 5).blk (pt (tileOf (y 0)) 3)).view.emb (ValueIdx.ix2 (rowIn (y 0)) (y 1) : S512x4096.Idx)) = y :=
    funext fun a => Fin.ext (by
      match a with
      | ⟨0, _⟩ => show (BitVec.ofNat 32 (grid0.coords (pt (tileOf (y 0)) 3) 0).val).toNat * 512 + 1 * ((y 0).val % 512) = (y 0).val
                  rw [word0]; show (y 0).val / 512 * 512 + _ = _; omega
      | ⟨1, _⟩ => show 0 * 4096 + 1 * (y 1).val = (y 1).val
                  omega)
  have h := View.emb_mem_set (((cfgM m hO).win 5).blk (pt (tileOf (y 0)) 3)).view (ValueIdx.ix2 (rowIn (y 0)) (y 1) : S512x4096.Idx)
  rw [e] at h
  exact h

/-- and the last points' blocks fill the array. -/
theorem result_eq (hO : Ok m) (c : Dev nD) : result m hO c = whole m hO c :=
  (dats m hO 0 c).arrAt_eq_of_cover 5 (whole m hO c) (flushed_eq m hO c) fun (y : S25600x4096.Idx) =>
    ⟨pt (tileOf (y 0)) 3, (flush_out (adm m hO) _).mpr (by show (4 * (tileOf (y 0)).val + 3) % 4 = 3; omega), mem_blk_out m hO y⟩

/-- The arguments on a device: the rows, their weights, -/
abbrev argX (c : Dev nD) : Vec Ideal S25600x4096 .bf16 := m ((c.tc : Thread nD τ).loc main_arg0)
abbrev argW (c : Dev nD) : Vec Ideal S25600x1 .f32 := m ((c.tc : Thread nD τ).loc main_arg1)
/-- the experts' gate, up and down weights. -/
abbrev argG (c : Dev nD) : Vec Ideal S16x4096x1024 .f32 := m ((c.tc : Thread nD τ).loc main_arg4)
abbrev argU (c : Dev nD) : Vec Ideal S16x4096x1024 .f32 := m ((c.tc : Thread nD τ).loc main_arg5)
abbrev argD (c : Dev nD) : Vec Ideal S16x1024x4096 .f32 := m ((c.tc : Thread nD τ).loc main_arg6)

/-- The gated hidden value of row `n` at hidden column `k` of expert `e`. -/
def hidden (c : Dev nD) (n : Fin 25600) (e : Fin 16) (k : Fin 1024) : EReal :=
  gated (∑ d : Fin 4096, argX m c (ValueIdx.ix2 n d) * argG m c (ValueIdx.ix3 e d k))
    (∑ d : Fin 4096, argX m c (ValueIdx.ix2 n d) * argU m c (ValueIdx.ix3 e d k)) (argW m c (ValueIdx.ix2 n 0))

/-- The 1024 hidden columns are the four steps' 256 each. -/
theorem sum_cols (g : Fin 1024 → EReal) : ∑ s : Fin 4, ∑ f : Fin 256, g (col s f) = ∑ k : Fin 1024, g k := by
  rw [← Fintype.sum_prod_type']
  exact Fintype.sum_equiv (finProdFinEquiv (m := 4) (n := 256)) _ _ fun p => congrArg g (Fin.ext (by
    show 256 * p.1.val + p.2.val = p.2.val + 256 * p.1.val; omega))

/-- Row `n`'s output at column `d`, from the hidden values of its tile's expert. -/
theorem whole_apply (hR : Range m) (hO : Ok m) (c : Dev nD) (n : Fin 25600) (d : Fin 4096) :
    whole m hO c (ValueIdx.ix2 n d) = if Rows m (tileOf n) then
      ∑ k : Fin 1024, hidden m c n (expert m hR (tileOf n)) k
        * argD m c (ValueIdx.ix3 (expert m hR (tileOf n)) k d)
      else 0 := by
  obtain ⟨i, r, rfl⟩ : ∃ i r, n = row i r := ⟨tileOf n, rowIn n, (row_tileOf n).symm⟩
  rw [whole_row, tileOf_row]
  by_cases h : Rows m i
  · rw [outAt_rows m hO c i h, if_pos h, ← sum_cols]
    refine Finset.sum_congr rfl fun s _ => Finset.sum_congr rfl fun f _ => ?_
    show k0_pay5 (F := Ideal) (xs m hO c (pt i s)) (wg m hO c (pt i s)) (wu m hO c (pt i s)) (rowW m hO c (pt i s)) (ValueIdx.ix2 r f)
      * wd m hO c (pt i s) (ValueIdx.ix3 0 f d) = _
    rw [pay5_apply, rowW_apply, wd_apply m hR]
    simp only [xs_apply, wg_apply m hR, wu_apply m hR]
    rfl
  · rw [outAt_none m hO c i h, if_neg h]

end Cert.KernelIdeal.Experts

end
-- ==== Proof.Experts.Equal.lean ====
/- The two programs end at the same array: element by element, each is the sum over the hidden columns of the tile's
   expert where the tile holds rows, and zero where it does not. -/
module

public import proofs.«01_k».proof.Proof.Experts.Reference
public import proofs.«01_k».proof.Proof.Experts.KernelIdeal.Result

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ)

/-- The tables on a device, as arrays of words. -/
abbrev argE (c : Dev nD) : IVec S50 32 := m ((c.tc : Thread nD τ).loc main_arg2)
abbrev argL (c : Dev nD) : IVec S50 32 := m ((c.tc : Thread nD τ).loc main_arg3)

/-- The kernel's test of a tile's word is the reference's. -/
theorem cond_iff (w : BitVec 32) : k0_cond1 w = 1#1 ↔ IntOp.cmpi .sgt w 0#32 = 1#1 := by
  unfold k0_cond1
  dsimp only
  show Scalar.cmpi .ne (Scalar.extui (IntOp.cmpi .sgt w 0#32)) 0#32 = 1#1 ↔ _
  rcases (show ∀ b : BitVec 1, b = 0#1 ∨ b = 1#1 by decide) (IntOp.cmpi .sgt w 0#32) with h | h <;> rw [h] <;> decide

/-- The array the call leaves is the reference's, of the same arguments. -/
theorem whole_eq_reference (hR : Range m) (hO : Ok m) (c : Dev nD) :
    whole m hO c = Cert.ReferenceIdeal.Experts.out (argX m c) (argW m c) (argE m c) (argL m c) (argG m c) (argU m c) (argD m c) := by
  obtain rfl : c = 0 := Subsingleton.elim _ _
  funext y
  obtain ⟨n, d, rfl⟩ : ∃ (n : Fin 25600) (d : Fin 4096), y = ValueIdx.ix2 n d :=
    ⟨y 0, y 1, funext fun a => by match a with | ⟨0, _⟩ => rfl | ⟨1, _⟩ => rfl⟩
  rw [whole_apply m hR]
  refine Eq.trans ?_ (Cert.ReferenceIdeal.Experts.out_eq _ _ _ _ _ _ _ n d (expert m hR (tileOf n)) rfl).symm
  refine if_congr (cond_iff _) (Finset.sum_congr rfl fun k _ => ?_) rfl
  rw [Cert.ReferenceIdeal.Experts.act_apply, Cert.ReferenceIdeal.Experts.proj_apply, Cert.ReferenceIdeal.Experts.proj_apply]
  rfl

end Cert.KernelIdeal.Experts

end
-- ==== Proof.OutProj.SampleBlocks.lean ====
/- The output projection's points for the sample: column tile `j` is point `j`, the one row tile has every row. A point leaves
   three products of the rows with its 512 weight columns, both split into a rounding and the rest of it: where
   no entry leaves a rest over, the one product. -/
module

public import proofs.«01_k».proof.Proof.Gen.Kernel8Ideal.Frame
public import proofs.«01_k».proof.Proof.Gen.Pre_finite_both
public import Idealize.ShloMosaic.Lib.Pointwise
public import Idealize.ShloMosaic.Lib.ReduceAll
public import Idealize.ShloMosaic.Lib.WordCmp

@[expose] public section

set_option maxRecDepth 16384

noncomputable section

namespace Cert.Kernel8Ideal.OutProj

open Idealize.ShloMosaic Idealize.ShloMosaic.TcCoe Idealize.ShloMosaic.Tactic
open Idealize.SL Idealize.SL.Sem
open Cert.Kernel8Ideal.Gen

variable (m : (ℓ : Loc nD τ sig) → Buf (Elt Ideal) ℓ)

theorem zeros2 : (![0, 0] : Fin 2 → ℕ) = fun _ => 0 := by decide

/-- The point of column tile `j`. -/
def pt (j : Fin 8) : Fin grid0.N := ⟨j.val, by rw [N_0]; omega⟩

theorem pt_val (j : Fin 8) : (pt j).val = j.val := rfl

/-- Its coordinates. -/
theorem coords_pt (j : Fin 8) : (grid0.coords (pt j) 0).val = j.val ∧ (grid0.coords (pt j) 1).val = 0 := by
  have e0 : (grid0.coords (pt j) 0).val = (pt j).val / 1 % 8 := Pipeline.Grid.coords_val (pt j) 0 (by decide) rfl
  have e1 : (grid0.coords (pt j) 1).val = (pt j).val / 1 % 1 := Pipeline.Grid.coords_val (pt j) 1 (by decide) rfl
  rw [pt_val] at e0 e1
  omega

theorem word0 (j : Fin 8) : (BitVec.ofNat 32 (grid0.coords (pt j) 0).val).toNat = j.val := by
  rw [(coords_pt j).1, BitVec.toNat_ofNat, Nat.mod_eq_of_lt (by omega)]
theorem word1 (j : Fin 8) : (BitVec.ofNat 32 (grid0.coords (pt j) 1).val).toNat = 0 := by
  rw [(coords_pt j).2]; rfl
theorem wordIn (j : Fin 8) : (Scalar.addi 0#32 (BitVec.ofNat 32 (grid0.coords (pt j) 1).val)).toNat = 0 := by
  rw [(coords_pt j).2]; rfl

/-- Column `k` of column tile `j`. -/
def col (j : Fin 8) (k : Fin 512) : Fin 4096 := ⟨512 * j.val + k.val, by omega⟩

/-- The rows and the weights on a device. -/
abbrev argX (c : Dev nD) : Vec Ideal S512x4096 .f32 := m ((c.tc : Thread nD τ).loc main_arg0)
abbrev argW (c : Dev nD) : Vec Ideal S1x4096x4096 .f32 := m ((c.tc : Thread nD τ).loc main_arg1)

/-- The weights as the call finds them: the argument without its first axis. -/
theorem weights (c : Dev nD) : (V m c main_v0 : Vec Ideal S4096x4096 .f32) = shapeCast _ (argW m c) shapeCasts_S1x4096x4096_S4096x4096 := by
  show StableHlo.after hostOps0 (fun b => m (c, b)) (Proc.devRef .tc main_v0) = _
  after_results <;> rfl

/-- The blocks a point reads. -/
abbrev xs (hO : Ok m) (c : Dev nD) (t : Fin (cfgM m hO).N) : Vec Ideal S512x4096 .f32 := iblk m hO c 0 t
abbrev ws (hO : Ok m) (c : Dev nD) (t : Fin (cfgM m hO).N) : Vec Ideal S4096x512 .f32 := iblk m hO c 1 t

theorem xs_apply (hO : Ok m) (c : Dev nD) (j : Fin 8) (r : Fin 512) (d : Fin 4096) :
    xs m hO c (pt j) (ValueIdx.ix2 r d) = argX m c (ValueIdx.ix2 r d) := by
  refine Eq.trans (b := (V m c main_arg0 : Vec Ideal S512x4096 .f32) (ValueIdx.ix2 r d)) ?_
    (congrFun (V_main_arg0 m c) (ValueIdx.ix2 r d : S512x4096.Idx))
  refine (View.read_apply ..).trans (congrArg (V m c main_arg0) (funext fun a => Fin.ext ?_))
  match a with
  | ⟨0, _⟩ => show (Scalar.addi 0#32 (BitVec.ofNat 32 (grid0.coords (pt j) 1).val)).toNat * 512 + 1 * r.val = r.val
              rw [wordIn]; omega
  | ⟨1, _⟩ => show 0 * 4096 + 1 * d.val = d.val
              omega

theorem ws_apply (hO : Ok m) (c : Dev nD) (j : Fin 8) (d : Fin 4096) (k : Fin 512) :
    ws m hO c (pt j) (ValueIdx.ix2 d k) = argW m c (ValueIdx.ix3 0 d (col j k)) := by
  refine Eq.trans (b := (V m c main_v0 : Vec Ideal S4096x4096 .f32) (ValueIdx.ix2 d (col j k))) ?_
    ((congrFun (weights m c) (ValueIdx.ix2 d (col j k) : S4096x4096.Idx)).trans (by pointwise; rfl))
  refine (View.read_apply ..).trans (congrArg (V m c main_v0) (funext fun a => Fin.ext ?_))
  match a with
  | ⟨0, _⟩ => show 0 * 4096 + 1 * d.val = d.val
              omega
  | ⟨1, _⟩ => show (BitVec.ofNat 32 (grid0.coords (pt j) 0).val).toNat * 512 + 1 * k.val = 512 * j.val + k.val
              rw [word0]; omega

/-! ## The payloads -/

/-- The rounded weights, -/
theorem hi_apply (w : Vec Ideal S4096x512 .f32) (d : Fin 4096) (k : Fin 512) :
    k0_pay3 w (ValueIdx.ix3 0 d k) = w (ValueIdx.ix2 d k) := by
  pointwise [k0_pay3, k0_pay2, k0_pay1]
  rfl

/-- what their rounding leaves over, -/
theorem lo_apply (w : Vec Ideal S4096x512 .f32) (d : Fin 4096) (k : Fin 512) :
    k0_pay4 w (ValueIdx.ix3 0 d k) = w (ValueIdx.ix2 d k) - w (ValueIdx.ix2 d k) := by
  pointwise [k0_pay4, k0_pay2, k0_pay1]
  rfl

/-- and the three products. -/
theorem sums_apply (x : Vec Ideal S512x4096 .f32) (u v : Vec Ideal S1x4096x512 .bf16) (r : Fin 512) (k : Fin 512) :
    k0_pay5 x u v u (ValueIdx.ix2 r k) = (∑ d : Fin 4096, x (ValueIdx.ix2 r d) * u (ValueIdx.ix3 0 d k))
      + ((∑ d : Fin 4096, x (ValueIdx.ix2 r d) * v (ValueIdx.ix3 0 d k))
        + ∑ d : Fin 4096, (x (ValueIdx.ix2 r d) - x (ValueIdx.ix2 r d)) * u (ValueIdx.ix3 0 d k)) := by
  pointwise [k0_pay5]
  rfl

/-- The products, from the two parts of the weights. -/
abbrev acc (x : Vec Ideal S512x4096 .f32) (w : Vec Ideal S4096x512 .f32) : FVec Ideal S512x512 .f32 :=
  k0_pay5 x (k0_pay3 w) (k0_pay4 w) (k0_pay3 w)

/-- Where neither factor has anything left over, the one product. -/
theorem acc_apply (x : Vec Ideal S512x4096 .f32) (w : Vec Ideal S4096x512 .f32) (r : Fin 512) (k : Fin 512)
    (hx : ∀ d : Fin 4096, x (ValueIdx.ix2 r d) - x (ValueIdx.ix2 r d) = 0) (hw : ∀ d : Fin 4096, w (ValueIdx.ix2 d k) - w (ValueIdx.ix2 d k) = 0) :
    acc x w (ValueIdx.ix2 r k) = ∑ d : Fin 4096, x (ValueIdx.ix2 r d) * w (ValueIdx.ix2 d k) := by
  refine (sums_apply x (k0_pay3 w) (k0_pay4 w) r k).trans ?_
  have e1 : (∑ d : Fin 4096, x (ValueIdx.ix2 r d) * k0_pay4 w (ValueIdx.ix3 0 d k)) = 0 :=
    Finset.sum_eq_zero fun d _ => by rw [lo_apply, hw d, mul_zero]
  have e2 : (∑ d : Fin 4096, (x (ValueIdx.ix2 r d) - x (ValueIdx.ix2 r d)) * k0_pay3 w (ValueIdx.ix3 0 d k)) = 0 :=
    Finset.sum_eq_zero fun d _ => by rw [hx d, zero_mul]
  rw [e1, e2, add_zero, add_zero]
  exact Finset.sum_congr rfl fun d _ => by rw [hi_apply]

/-! ## The body -/

/-- The two halves of the scratch buffer, which share no index. -/
abbrev half0 : Rect S2x4096x512 := Rect.unit ![0, 0, 0] ![1, 4096, 512] inb_S2x4096x512_S1x4096x512_0_0_0
abbrev half1 : Rect S2x4096x512 := Rect.unit ![1, 0, 0] ![1, 4096, 512] inb_S2x4096x512_S1x4096x512_1_0_0

theorem halves_apart (j : half0.shape.Idx) : half0.emb j ∉ half1.set := by
  intro h
  obtain ⟨x, hx⟩ := half1.exists_idx_of_mem h
  have h0 : 1 + 1 * (x 0).val = 0 + 1 * (j 0).val := congrArg Fin.val (congrFun hx (0 : Fin 3))
  have hj : (j 0).val < 1 := (j 0).isLt
  omega

/-- A load of the first half reads what was stored there, and one of the second half likewise. -/
theorem read_half0 (v : View sig .tc .vmem S2x4096x512 .bf16) (a b : Vec Ideal S1x4096x512 .bf16) :
    View.readCov (Val := Elt Ideal) v [⟨half1, a⟩, ⟨half0, b⟩] half0.toLoadRect = b :=
  (View.readCov_cons_of_disjoint (Val := Elt Ideal) v ⟨half1, a⟩ [⟨half0, b⟩] half0.toLoadRect
    (Finset.disjoint_right.mpr fun y hy => by
      obtain ⟨j, rfl⟩ := half0.exists_idx_of_mem hy
      exact halves_apart j)).trans
    (View.readCov_cons_toLoadRect (Val := Elt Ideal) (e := .bf16) v half0 b [])
theorem read_half1 (v : View sig .tc .vmem S2x4096x512 .bf16) (a b : Vec Ideal S1x4096x512 .bf16) :
    View.readCov (Val := Elt Ideal) v [⟨half1, a⟩, ⟨half0, b⟩] half1.toLoadRect = a :=
  View.readCov_cons_toLoadRect (Val := Elt Ideal) (e := .bf16) v half1 a [⟨half0, b⟩]

/-- What a point leaves in the output block. -/
theorem out_eq (c : Dev nD) (i : grid0.Coords) (a3 : Memref sig .tc .vmem S512x4096 .f32) (h3 : a3.IsWhole) (a4 : Memref sig .tc .vmem S4096x512 .f32) (h4 : a4.IsWhole)
    (a5 : Memref sig .tc .vmem S512x512 .f32) (h5 : a5.IsWhole) (a6 : Memref sig .tc .vmem S2x4096x512 .bf16) (h6 : a6.IsWhole) (hc : cond0_0 i)
    (x0 : Vec Ideal S512x4096 .f32) (x1 : Vec Ideal S4096x512 .f32) (xt : TbBuf0 (F := Ideal) c tbM0_0) :
    out0_A_2 c i a3 h3 a4 h4 a5 h5 a6 h6 hc x0 x1 xt = acc x0 x1 := by
  unfold out0_A_2
  rw [View.read_writes_junk_eq_canon]
  unfold kernelRun0_A
  dsimp only
  sl_unfold_words
  simp only [View.readAt_eq_ld, h3.read_unread, h4.read_unread, View.ld_unit_zero (S := S512x4096) zeros2, View.ld_unit_zero (S := S4096x512) zeros2]
  have e0 := read_half0 a6.view (k0_pay4 x1) (k0_pay3 x1)
  have e1 := read_half1 a6.view (k0_pay4 x1) (k0_pay3 x1)
  refine (View.canon_unit_zero (S := S512x512) zeros2 _ _).trans ?_
  refine congr (congr (congrArg (k0_pay5 x0) e0) e1) e0

def outAt (hO : Ok m) (c : Dev nD) (t : Fin (cfgM m hO).N) : Vec Ideal S512x512 .f32 := outsAt0 m hO c t

theorem outAt_eq (hO : Ok m) (c : Dev nD) (t : Fin (cfgM m hO).N) : outAt m hO c t = acc (xs m hO c t) (ws m hO c t) :=
  out_eq c (grid0.coords t) (ms0_0 m hO t) (hs0_0 m hO t) (ms0_1 m hO t) (hs0_1 m hO t) (ms0_2 m hO t) (hs0_2 m hO t)
    scM0_0 (Memref.isWhole_whole _) (hcond0_0 t) (iblk m hO c 0 t) (iblk m hO c 1 t) (tbl m 0)

/-! ## The precondition -/

/-- No entry has anything left over, less itself. -/
def Clean (x : FVec Ideal S512x4096 .f32) (w : FVec Ideal S1x4096x4096 .f32) : Prop :=
  (∀ (r : Fin 512) (d : Fin 4096), x (ValueIdx.ix2 r d) - x (ValueIdx.ix2 r d) = 0)
    ∧ ∀ d k : Fin 4096, w (ValueIdx.ix3 0 d k) - w (ValueIdx.ix3 0 d k) = 0

/-- Both of a pair of bits are set where their conjunction is. -/
theorem both (a b : BitVec 1) (h : IntOp.andi a b = 1#1) : a = 1#1 ∧ b = 1#1 := by
  revert a b
  decide

/-- A comparison for equality that says yes. -/
theorem eq_of_oeq (a b : EReal) (h : FloatOps.cmpf (F := Ideal) (φ := .f32) .oeq a b = 1#1) : a = b := by
  by_contra hc
  have e : FloatOps.cmpf (F := Ideal) (φ := .f32) .oeq a b = 0#1 := by
    show BitVec.ofBool (decide (a = b)) = 0#1
    rw [decide_eq_false hc]
    rfl
  rw [e] at h
  exact absurd h (by decide)

open Cert.Pre_finite_both Cert.Pre_finite_both.Gen in
theorem clean_of_pre (x : FVec Ideal Cert.Kernel8Ideal.S512x4096 .f32) (w : FVec Ideal Cert.Kernel8Ideal.S1x4096x4096 .f32)
    (h : fn (F := Ideal) x w = fun _ => 1#1) : Clean x w := by
  haveI : Subsingleton Cert.Pre_finite_both.S_.Idx := ⟨fun a b => funext fun z => z.elim0⟩
  obtain ⟨h1, h2⟩ := both _ _ (congrFun h (fun z => z.elim0))
  constructor
  · intro r d
    refine (eq_of_oeq _ _ (Host.reduce_andi_all _ _ Cert.Pre_finite_both.Facts.reducesTo_S512x4096_S_d0_1 Cert.Pre_finite_both.Facts.h_S_ (fun z => z.elim0) h1 (ValueIdx.ix2 r d))).trans ?_
    exact Ideal.ofBits_zero_f32
  · intro d k
    refine (eq_of_oeq _ _ (Host.reduce_andi_all _ _ Cert.Pre_finite_both.Facts.reducesTo_S1x4096x4096_S_d0_1_2 Cert.Pre_finite_both.Facts.h_S_ (fun z => z.elim0) h2 (ValueIdx.ix3 0 d k))).trans ?_
    exact Ideal.ofBits_zero_f32

/-! ## A point's block -/

/-- The product at every row and column. -/
def whole (c : Dev nD) : Vec Ideal S512x4096 .f32 := fun y =>
  ∑ d : Fin 4096, argX m c (ValueIdx.ix2 (y 0) d) * argW m c (ValueIdx.ix3 0 d (y 1))

theorem outAt_apply (hO : Ok m) (c : Dev nD) (hC : Clean (argX m c) (argW m c)) (j : Fin 8) (r : Fin 512) (k : Fin 512) :
    outAt m hO c (pt j) (ValueIdx.ix2 r k) = whole m c (ValueIdx.ix2 r (col j k)) := by
  rw [outAt_eq, acc_apply _ _ r k (fun d => by rw [xs_apply]; exact hC.1 r d) (fun d => by rw [ws_apply]; exact hC.2 d (col j k))]
  refine Finset.sum_congr rfl fun d _ => ?_
  rw [xs_apply, ws_apply]

end Cert.Kernel8Ideal.OutProj

end
-- ==== Proof.OutProj.SampleResult.lean ====
/- The output projection's result for the sample: every block is written once, so the array holds the product at every row and
   column, which is what the reference computes. -/
module

public import proofs.«01_k».proof.Proof.OutProj.SampleBlocks
public import proofs.«01_k».proof.Proof.Gen.Reference8Ideal.Run

@[expose] public section

set_option maxRecDepth 16384

noncomputable section

namespace Cert.Kernel8Ideal.OutProj

open Idealize.ShloMosaic Idealize.ShloMosaic.TcCoe Idealize.ShloMosaic.Tactic
open Idealize.SL Idealize.SL.Sem
open Cert.Kernel8Ideal.Gen

variable (m : (ℓ : Loc nD τ sig) → Buf (Elt Ideal) ℓ) (ρ : Dev nD → PrngReg)

/-- The table is read by no index map. -/
theorem ok : Ok m := trivial

/-- The tile of a column, and its place in it. -/
def colTile (d : Fin 4096) : Fin 8 := ⟨d.val / 512, by omega⟩
def colIn (d : Fin 4096) : Fin 512 := ⟨d.val % 512, by omega⟩

/-- Where a point's block puts its element in the array. -/
theorem blk_out (hO : Ok m) (j : Fin 8) (y : S512x512.Idx) (G : Vec Ideal S512x4096 .f32) :
    (((cfgM m hO).win 2).blk (pt j)).view.read (Elt Ideal) G y = G (ValueIdx.ix2 (y 0) (col j (y 1))) := by
  refine (View.read_apply ..).trans (congrArg G (funext fun a => Fin.ext ?_))
  match a with
  | ⟨0, _⟩ => show (BitVec.ofNat 32 (grid0.coords (pt j) 1).val).toNat * 512 + 1 * (y 0).val = (y 0).val
              rw [word1]; omega
  | ⟨1, _⟩ => show (BitVec.ofNat 32 (grid0.coords (pt j) 0).val).toNat * 512 + 1 * (y 1).val = 512 * j.val + (y 1).val
              rw [word0]; omega

/-- A point's block, cut at no edge, is the product's block there. -/
theorem cut_out (hO : Ok m) (c : Dev nD) (hC : Clean (argX m c) (argW m c)) (j : Fin 8) (y : S512x512.Idx) :
    ((cfgM m hO).win 2).cut (grid0.coords (pt j)) (outAt m hO c (pt j)) y
      = (((cfgM m hO).win 2).blk (pt j)).view.read (Elt Ideal) (whole m c) y := by
  refine Eq.trans ?_ ((blk_out m hO j y (whole m c)).trans (outAt_apply m hO c hC j (y 0) (y 1)).symm).symm
  refine congrArg (outAt m hO c (pt j)) (funext fun a => Fin.ext ?_)
  match a with
  | ⟨0, _⟩ => rfl
  | ⟨1, _⟩ => rfl

theorem flushed_eq (hO : Ok m) (c : Dev nD) (hC : Clean (argX m c) (argW m c)) (t : Fin (cfgM m hO).N) :
    (dats m hO 0 c).flushed 2 t = (((cfgM m hO).win 2).blk t).view.read (Elt Ideal) (whole m c) := by
  have ht : t.val < 8 := Nat.lt_of_lt_of_eq t.isLt N_0
  obtain ⟨j, rfl⟩ : ∃ j : Fin 8, t = pt j := ⟨⟨t.val, ht⟩, rfl⟩
  refine Eq.trans (congrArg (((cfgM m hO).win 2).cut (grid0.coords (pt j))) (after0_2 m hO c (pt j))) ?_
  exact funext (cut_out m hO c hC j)

theorem mem_blk_out (hO : Ok m) (y : S512x4096.Idx) :
    y ∈ (((cfgM m hO).win 2).blk (pt (colTile (y 1)))).view.set := by
  have e : ((((cfgM m hO).win 2).blk (pt (colTile (y 1)))).view.emb (ValueIdx.ix2 (y 0) (colIn (y 1)) : S512x512.Idx)) = y :=
    funext fun a => Fin.ext (by
      match a with
      | ⟨0, _⟩ => show (BitVec.ofNat 32 (grid0.coords (pt (colTile (y 1))) 1).val).toNat * 512 + 1 * (y 0).val = (y 0).val
                  rw [word1]; omega
      | ⟨1, _⟩ => show (BitVec.ofNat 32 (grid0.coords (pt (colTile (y 1))) 0).val).toNat * 512 + 1 * ((y 1).val % 512) = (y 1).val
                  rw [word0]; show (y 1).val / 512 * 512 + _ = _; omega)
  have h := View.emb_mem_set (((cfgM m hO).win 2).blk (pt (colTile (y 1)))).view (ValueIdx.ix2 (y 0) (colIn (y 1)) : S512x512.Idx)
  rw [e] at h
  exact h

/-- The array the call leaves. -/
theorem result_eq (hO : Ok m) (c : Dev nD) (hC : Clean (argX m c) (argW m c)) : (dats m hO 0 c).arrAt 2 (cfgM m hO).N = whole m c :=
  (dats m hO 0 c).arrAt_eq_of_cover 2 (whole m c) (fun t _ => flushed_eq m hO c hC t) fun (y : S512x4096.Idx) =>
    ⟨pt (colTile (y 1)), flush0_2 (adm m hO) _, mem_blk_out m hO y⟩

/-- The kernel ends at the product, its arguments unchanged. -/
theorem run (hC : ∀ c : Dev nD, Clean (argX m c) (argW m c)) :
    θ_run defs (onTc (τ := τ) (main (F := Ideal))) ⟨m, fun _ => 0, ρ⟩ (fun r => ∀ c : Dev nD,
      r.2.mem ((c.tc : Thread nD τ).loc main_v2) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (result_eq m (ok m) c (hC c)), h.2 c⟩)
    (θ_run_and (run_main m ρ (ok m)) (unchanged m ρ (ok m)))

end Cert.Kernel8Ideal.OutProj

namespace Cert.Reference8Ideal.OutProj

open Idealize.ShloMosaic Idealize.ShloMosaic.TcCoe Idealize.ShloMosaic.Tactic
open Cert.Reference8Ideal.Gen

/-- The reference's product. -/
def product (x : FVec Ideal S512x4096 .f32) (w : FVec Ideal S1x4096x4096 .f32) : FVec Ideal S512x4096 .f32 :=
  Host.dotGeneral dot_S512x4096_S4096x4096_S512x4096_1_0_0_1_n_n none x (shapeCast _ w shapeCasts_S1x4096x4096_S4096x4096)

theorem product_apply (x : FVec Ideal S512x4096 .f32) (w : FVec Ideal S1x4096x4096 .f32) (n : Fin 512) (e : Fin 4096) :
    product x w (ValueIdx.ix2 n e) = ∑ d : Fin 4096, x (ValueIdx.ix2 n d) * w (ValueIdx.ix3 0 d e) := by
  unfold product
  pointwise
  rfl

end Cert.Reference8Ideal.OutProj

namespace Cert.Kernel8Ideal.OutProj

open Idealize.ShloMosaic Idealize.ShloMosaic.TcCoe

/-- It is the array the kernel leaves. -/
theorem product_eq (m : (ℓ : Loc nD τ sig) → Buf (Elt Ideal) ℓ) (c : Dev nD) :
    Cert.Reference8Ideal.OutProj.product (argX m c) (argW m c) = whole m c := by
  funext y
  obtain ⟨n, d, rfl⟩ : ∃ (n : Fin 512) (d : Fin 4096), y = ValueIdx.ix2 n d :=
    ⟨y 0, y 1, funext fun a => by match a with | ⟨0, _⟩ => rfl | ⟨1, _⟩ => rfl⟩
  exact Cert.Reference8Ideal.OutProj.product_apply _ _ n d

end Cert.Kernel8Ideal.OutProj

end
-- ==== Proof.GateProj.Blocks.lean ====
/- The gates' points: row tile `i` is point `i`, the one column tile has the 48 gate columns and 80 more of zeros. A point leaves
   the logistic of the product of its 1024 rows with the tile's weight columns, which the first point has put in scratch. -/
module

public import proofs.«01_k».proof.Proof.Gen.Kernel9Ideal.Frame
public import Idealize.ShloMosaic.Lib.Pointwise
public import Idealize.ShloMosaic.Lib.KernelVsHost

@[expose] public section

set_option maxRecDepth 16384

noncomputable section

namespace Cert.Kernel9Ideal.GateProj

open Idealize.ShloMosaic Idealize.ShloMosaic.TcCoe Idealize.ShloMosaic.Tactic
open Idealize.SL Idealize.SL.Sem
open Cert.Kernel9Ideal.Gen

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The point of row tile `i`. -/
def pt (i : Fin 8) : Fin grid0.N := ⟨i.val, by rw [N_0]; omega⟩

theorem pt_val (i : Fin 8) : (pt i).val = i.val := rfl

/-- Its coordinates. -/
theorem coords_pt (i : Fin 8) : (grid0.coords (pt i) 0).val = 0 ∧ (grid0.coords (pt i) 1).val = i.val := by
  have e0 : (grid0.coords (pt i) 0).val = (pt i).val / 8 % 1 := Pipeline.Grid.coords_val (pt i) 0 (by decide) rfl
  have e1 : (grid0.coords (pt i) 1).val = (pt i).val / 1 % 8 := Pipeline.Grid.coords_val (pt i) 1 (by decide) rfl
  rw [pt_val] at e0 e1
  omega

theorem word0 (i : Fin 8) : (BitVec.ofNat 32 (grid0.coords (pt i) 0).val).toNat = 0 := by
  rw [(coords_pt i).1]; rfl
theorem word1 (i : Fin 8) : (BitVec.ofNat 32 (grid0.coords (pt i) 1).val).toNat = i.val := by
  rw [(coords_pt i).2, BitVec.toNat_ofNat, Nat.mod_eq_of_lt (by omega)]
theorem word1' (i : Fin 8) : (Scalar.addi 0#32 (BitVec.ofNat 32 (grid0.coords (pt i) 1).val)).toNat = i.val := by
  rw [show Scalar.addi 0#32 (BitVec.ofNat 32 (grid0.coords (pt i) 1).val) = BitVec.ofNat 32 (grid0.coords (pt i) 1).val from
    BitVec.zero_add _]
  exact word1 i

/-- Row `r` of row tile `i`. -/
def row (i : Fin 8) (r : Fin 1024) : Fin 8192 := ⟨1024 * i.val + r.val, by omega⟩

/-- The rows and the input weight on a device. -/
abbrev argX (c : Dev nD) : Vec Ideal S8192x4096 .bf16 := m ((c.tc : Thread nD τ).loc main_arg0)
abbrev argW (c : Dev nD) : Vec Ideal S1x4096x13360 .f32 := m ((c.tc : Thread nD τ).loc main_arg1)

/-- The gate columns of the weight, filled up to 128. -/
def filled (w : FVec Ideal S1x4096x13360 .f32) : FVec Ideal S4096x128 .f32 :=
  pad S4096x128 ![0, 0] ![0, 80] ![0, 0]
    (extractStridedSlice S4096x48 ![0, 13312] (shapeCast S4096x13360 w shapeCasts_S1x4096x13360_S4096x13360) slices_S4096x13360_S4096x48_0_13312)
    (sitofp .f32 (constantI S_ 32 0#32)) pads_S4096x48_S4096x128_000_0800 h_S_

/-- A gate column in the weight, and in its tile. -/
def gateCol (e : Fin 48) : Fin 13360 := ⟨13312 + e.val, by omega⟩
def tileCol (e : Fin 48) : Fin 128 := ⟨e.val, by omega⟩

theorem filled_apply (w : FVec Ideal S1x4096x13360 .f32) (d : Fin 4096) (e : Fin 48) :
    filled w (ValueIdx.ix2 d (tileCol e)) = w (ValueIdx.ix3 0 d (gateCol e)) := by
  refine (pad_apply_of_inside _ _ _ _ _ _ _ _ (ValueIdx.ix2 d e : S4096x48.Idx) fun a => ?_).trans ?_
  · match a with
    | ⟨0, _⟩ => show d.val = 0 + d.val * (0 + 1); omega
    | ⟨1, _⟩ => show e.val = 0 + e.val * (0 + 1); omega
  · refine Eq.trans (b := shapeCast S4096x13360 w shapeCasts_S1x4096x13360_S4096x13360 (ValueIdx.ix2 d (gateCol e))) ?_ (by pointwise; rfl)
    refine congrArg (shapeCast S4096x13360 w shapeCasts_S1x4096x13360_S4096x13360) (funext fun a => Fin.ext ?_)
    match a with
    | ⟨0, _⟩ => show 0 + d.val = d.val; omega
    | ⟨1, _⟩ => show 13312 + e.val = 13312 + e.val; rfl

/-- They are the weights the call finds. -/
theorem weights (c : Dev nD) : (V m c main_v2 : Vec Ideal S4096x128 .f32) = filled (argW m c) := by
  show StableHlo.after (List.flatten [hostOps0 (F := Ideal), hostOps0_1, hostOps0_2]) (fun b => m (c, b)) (Proc.devRef .tc main_v2) = _
  simp only [List.flatten_cons, List.flatten_nil, List.append_nil, List.cons_append, List.nil_append]
  after_results <;> rfl

/-- The blocks a point reads: its rows and the weight columns. -/
abbrev xs (hO : Ok m) (c : Dev nD) (t : Fin (cfgM m hO).N) : Vec Ideal S1024x4096 .bf16 := iblk m hO c 0 t
abbrev ws (hO : Ok m) (c : Dev nD) (t : Fin (cfgM m hO).N) : Vec Ideal S4096x128 .f32 := iblk m hO c 1 t

theorem xs_apply (hO : Ok m) (c : Dev nD) (i : Fin 8) (r : Fin 1024) (d : Fin 4096) :
    xs m hO c (pt i) (ValueIdx.ix2 r d) = argX m c (ValueIdx.ix2 (row i r) d) := by
  refine Eq.trans (b := (V m c main_arg0 : Vec Ideal S8192x4096 .bf16) (ValueIdx.ix2 (row i r) d)) ?_
    (congrFun (V_main_arg0 m c) (ValueIdx.ix2 (row i r) d : S8192x4096.Idx))
  refine (View.read_apply ..).trans (congrArg (V m c main_arg0) (funext fun a => Fin.ext ?_))
  match a with
  | ⟨0, _⟩ => show (Scalar.addi 0#32 (BitVec.ofNat 32 (grid0.coords (pt i) 1).val)).toNat * 1024 + 1 * r.val = 1024 * i.val + r.val
              rw [word1']; omega
  | ⟨1, _⟩ => show 0 * 4096 + 1 * d.val = d.val
              omega

theorem ws_apply (hO : Ok m) (c : Dev nD) (i : Fin 8) (d : Fin 4096) (k : Fin 128) :
    ws m hO c (pt i) (ValueIdx.ix2 d k) = filled (argW m c) (ValueIdx.ix2 d k) := by
  refine Eq.trans (b := (V m c main_v2 : Vec Ideal S4096x128 .f32) (ValueIdx.ix2 d k)) ?_
    (congrFun (weights m c) (ValueIdx.ix2 d k : S4096x128.Idx))
  refine (View.read_apply ..).trans (congrArg (V m c main_v2) (funext fun a => Fin.ext ?_))
  match a with
  | ⟨0, _⟩ => show 0 * 4096 + 1 * d.val = d.val
              omega
  | ⟨1, _⟩ => show (BitVec.ofNat 32 (grid0.coords (pt i) 0).val).toNat * 128 + 1 * k.val = k.val
              rw [word0]; omega

/-- The scratch a tile's first point stores. -/
theorem pay1_apply (w : Vec Ideal S4096x128 .f32) (d : Fin 4096) (k : Fin 128) :
    k0_pay1 w (ValueIdx.ix3 0 d k) = w (ValueIdx.ix2 d k) := by
  pointwise [k0_pay1]
  rfl

/-- The gates of a block of rows, from the scratch. -/
theorem pay2_apply (x : Vec Ideal S1024x4096 .bf16) (w : Vec Ideal S1x4096x128 .bf16) (r : Fin 1024) (k : Fin 128) :
    k0_pay2 x w (ValueIdx.ix2 r k) = Ideal.logistic (∑ d : Fin 4096, x (ValueIdx.ix2 r d) * w (ValueIdx.ix3 0 d k)) := by
  pointwise [k0_pay2]
  rfl

/-- What a first point leaves in the output block and in the scratch, -/
theorem out_first (c : Dev nD) (i : grid0.Coords) (a3 : Memref sig .tc .vmem S1024x4096 .bf16) (h3 : a3.IsWhole) (a4 : Memref sig .tc .vmem S4096x128 .f32) (h4 : a4.IsWhole)
    (a5 : Memref sig .tc .vmem S1024x128 .f32) (h5 : a5.IsWhole) (a6 : Memref sig .tc .vmem S1x4096x128 .bf16) (h6 : a6.IsWhole) (hc : cond0_0 i)
    (x0 : Vec Ideal S1024x4096 .bf16) (x1 : Vec Ideal S4096x128 .f32) (xt : TbBuf0 (F := Ideal) c tbM0_0) :
    out0_A_2 c i a3 h3 a4 h4 a5 h5 a6 h6 hc x0 x1 xt = k0_pay2 x0 (k0_pay1 x1) := by
  unfold out0_A_2
  rw [View.read_writes_junk_eq_canon]
  unfold kernelRun0_A
  dsimp only
  sl_unfold_words
  simp only [View.readAt_eq_ld, h3.read_unread, h4.read_unread, View.ld_unit_zero (S := S1024x4096) zero2,
    View.ld_unit_zero (S := S4096x128) zero2, View.readCov_eq_canon']
  simp only [View.canon_unit_zero (S := S1024x128) zero2, View.canon_unit_zero (S := S1x4096x128) zero3]
  refine congrArg (k0_pay2 x0) (funext fun y => congrArg (k0_pay1 x1) (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem scratch_first (c : Dev nD) (i : grid0.Coords) (a3 : Memref sig .tc .vmem S1024x4096 .bf16) (h3 : a3.IsWhole) (a4 : Memref sig .tc .vmem S4096x128 .f32) (h4 : a4.IsWhole)
    (a5 : Memref sig .tc .vmem S1024x128 .f32) (h5 : a5.IsWhole) (a6 : Memref sig .tc .vmem S1x4096x128 .bf16) (h6 : a6.IsWhole) (hc : cond0_0 i)
    (x0 : Vec Ideal S1024x4096 .bf16) (x1 : Vec Ideal S4096x128 .f32) (xt : TbBuf0 (F := Ideal) c tbM0_0) :
    sout0_A_0 c i a3 h3 a4 h4 a5 h5 a6 h6 hc x0 x1 xt = k0_pay1 x1 := by
  unfold sout0_A_0
  rw [View.read_writes_junk_eq_canon]
  unfold kernelRun0_A
  dsimp only
  sl_unfold_words
  simp only [View.readAt_eq_ld, h4.read_unread, View.ld_unit_zero (S := S4096x128) zero2,
    View.canon_unit_zero (S := S1x4096x128) zero3]

/-- and a later point in the output block, from the scratch it found. -/
theorem out_later (c : Dev nD) (i : grid0.Coords) (a3 : Memref sig .tc .vmem S1024x4096 .bf16) (h3 : a3.IsWhole) (a4 : Memref sig .tc .vmem S4096x128 .f32) (h4 : a4.IsWhole)
    (a5 : Memref sig .tc .vmem S1024x128 .f32) (h5 : a5.IsWhole) (a6 : Memref sig .tc .vmem S1x4096x128 .bf16) (h6 : a6.IsWhole) (hc : ¬cond0_0 i)
    (x0 : Vec Ideal S1024x4096 .bf16) (x1 : Vec Ideal S4096x128 .f32) (xt : TbBuf0 (F := Ideal) c tbM0_0) (s : Vec Ideal S1x4096x128 .bf16) :
    out0_B_2 c i a3 h3 a4 h4 a5 h5 a6 h6 hc x0 x1 xt s = k0_pay2 x0 s := by
  unfold out0_B_2
  rw [View.read_writes_junk_eq_canon]
  unfold kernelRun0_B
  dsimp only
  sl_unfold_words
  simp only [View.readAt_eq_ld, h3.read_unread, h6.read_unread, View.ld_unit_zero (S := S1024x4096) zero2,
    View.ld_unit_zero (S := S1x4096x128) zero3, View.canon_unit_zero (S := S1024x128) zero2]

end Cert.Kernel9Ideal.GateProj

end
-- ==== Proof.GateProj.Result.lean ====
/- The gates of the prompt: every block is written once, so the array holds the gates of every row, and the host keeps their 48
   columns, which is what the reference computes. -/
module

public import proofs.«01_k».proof.Proof.GateProj.Blocks
public import proofs.«01_k».proof.Proof.Gen.Reference9Ideal.Run

@[expose] public section

set_option maxRecDepth 16384

noncomputable section

namespace Cert.Kernel9Ideal.GateProj

open Idealize.ShloMosaic Idealize.ShloMosaic.TcCoe Idealize.ShloMosaic.Tactic
open Idealize.SL Idealize.SL.Sem
open Cert.Kernel9Ideal.Gen

variable (m : (ℓ : Loc nD τ sig) → Buf (Elt Ideal) ℓ) (ρ : Dev nD → PrngReg)

/-- The table is read by no index map. -/
theorem ok : Ok m := trivial

/-- The scratch and the output block after a point. -/
def scratchAt (hO : Ok m) (c : Dev nD) (n : ℕ) (hn : n < (cfgM m hO).N) : Vec Ideal S1x4096x128 .bf16 := (outsAt0 m hO c n hn).2
def blockAt (hO : Ok m) (c : Dev nD) (n : ℕ) (hn : n < (cfgM m hO).N) : Vec Ideal S1024x128 .f32 := (outsAt0 m hO c n hn).1

theorem scratchAt_congr (hO : Ok m) (c : Dev nD) {n n' : ℕ} (e : n = n') (h : n < (cfgM m hO).N) (h' : n' < (cfgM m hO).N) :
    scratchAt m hO c n h = scratchAt m hO c n' h' := by
  subst e; rfl

theorem scratchAt_first (hO : Ok m) (c : Dev nD) (t : Fin (cfgM m hO).N) (h0 : t.val % 8 = 0) :
    scratchAt m hO c t.val t.isLt = k0_pay1 (ws m hO c t) := by
  have h := congrArg Prod.snd (outsAt0_A m hO c t h0)
  dsimp only at h
  exact h.trans (scratch_first c (grid0.coords t) (ms0_0 m hO t) (hs0_0 m hO t) (ms0_1 m hO t) (hs0_1 m hO t) (ms0_2 m hO t) (hs0_2 m hO t) scM0_0 (Memref.isWhole_whole _)
    ((hcond0_0 t).mpr h0) (iblk m hO c 0 t) (iblk m hO c 1 t) (tbl m 0))

theorem scratchAt_later (hO : Ok m) (c : Dev nD) (t : Fin (cfgM m hO).N) (h0 : ¬ t.val % 8 = 0) :
    scratchAt m hO c t.val t.isLt = scratchAt m hO c (t.val - 1) (Nat.lt_of_le_of_lt (Nat.sub_le _ _) t.isLt) := by
  have h := congrArg Prod.snd (outsAt0_B m hO c t h0)
  dsimp only at h
  exact h

theorem blockAt_first (hO : Ok m) (c : Dev nD) (t : Fin (cfgM m hO).N) (h0 : t.val % 8 = 0) :
    blockAt m hO c t.val t.isLt = k0_pay2 (xs m hO c t) (k0_pay1 (ws m hO c t)) := by
  have h := congrArg Prod.fst (outsAt0_A m hO c t h0)
  dsimp only at h
  exact h.trans (out_first c (grid0.coords t) (ms0_0 m hO t) (hs0_0 m hO t) (ms0_1 m hO t) (hs0_1 m hO t) (ms0_2 m hO t) (hs0_2 m hO t) scM0_0 (Memref.isWhole_whole _)
    ((hcond0_0 t).mpr h0) (iblk m hO c 0 t) (iblk m hO c 1 t) (tbl m 0))

theorem blockAt_later (hO : Ok m) (c : Dev nD) (t : Fin (cfgM m hO).N) (h0 : ¬ t.val % 8 = 0) :
    blockAt m hO c t.val t.isLt = k0_pay2 (xs m hO c t) (scratchAt m hO c (t.val - 1) (Nat.lt_of_le_of_lt (Nat.sub_le _ _) t.isLt)) := by
  have h := congrArg Prod.fst (outsAt0_B m hO c t h0)
  dsimp only at h
  exact h.trans (out_later c (grid0.coords t) (ms0_0 m hO t) (hs0_0 m hO t) (ms0_1 m hO t) (hs0_1 m hO t) (ms0_2 m hO t) (hs0_2 m hO t) scM0_0 (Memref.isWhole_whole _)
    (fun h => h0 ((hcond0_0 t).mp h)) (iblk m hO c 0 t) (iblk m hO c 1 t) (tbl m 0) _)

/-- The scratch after every point holds the weight columns. -/
theorem scratch_apply (hO : Ok m) (c : Dev nD) (d : Fin 4096) (k : Fin 128) : ∀ (n : ℕ) (hn : n < 8),
    scratchAt m hO c (pt ⟨n, hn⟩).val (pt ⟨n, hn⟩).isLt (ValueIdx.ix3 0 d k) = filled (argW m c) (ValueIdx.ix2 d k)
  | 0, hn => by
    rw [scratchAt_first m hO c (pt ⟨0, hn⟩) (by rw [pt_val]; show 0 % 8 = 0; omega), pay1_apply, ws_apply]
  | n + 1, hn => by
    rw [scratchAt_later m hO c (pt ⟨n + 1, hn⟩) (by rw [pt_val]; show ¬ (n + 1) % 8 = 0; omega),
      ← scratch_apply hO c d k n (by omega)]
    exact congrFun (scratchAt_congr m hO c (by rw [pt_val, pt_val]; show n + 1 - 1 = n; omega) _ _) _

/-- The output block after a point. -/
theorem block_apply (hO : Ok m) (c : Dev nD) (i : Fin 8) (r : Fin 1024) (k : Fin 128) :
    blockAt m hO c (pt i).val (pt i).isLt (ValueIdx.ix2 r k)
      = Ideal.logistic (∑ d : Fin 4096, argX m c (ValueIdx.ix2 (row i r) d) * filled (argW m c) (ValueIdx.ix2 d k)) := by
  by_cases h : i.val = 0
  · rw [blockAt_first m hO c (pt i) (by rw [pt_val]; omega), pay2_apply]
    exact congrArg Ideal.logistic (Finset.sum_congr rfl fun d _ => by rw [pay1_apply, ws_apply, xs_apply])
  · rw [blockAt_later m hO c (pt i) (by rw [pt_val]; omega), pay2_apply]
    refine congrArg Ideal.logistic (Finset.sum_congr rfl fun d _ => ?_)
    rw [xs_apply, ← scratch_apply m hO c d k (i.val - 1) (by omega)]
    exact congrArg (argX m c (ValueIdx.ix2 (row i r) d) * ·) (congrFun (scratchAt_congr m hO c
      (by rw [pt_val, pt_val]) _ _) _)

/-- The tile of a row, and its place in it. -/
def rowTile (n : Fin 8192) : Fin 8 := ⟨n.val / 1024, by omega⟩
def rowIn (n : Fin 8192) : Fin 1024 := ⟨n.val % 1024, by omega⟩

/-- The gates of every row, and the columns after them. -/
def whole (c : Dev nD) : Vec Ideal S8192x128 .f32 := fun y =>
  Ideal.logistic (∑ d : Fin 4096, argX m c (ValueIdx.ix2 (y 0) d) * filled (argW m c) (ValueIdx.ix2 d (y 1)))

/-- Where a point's block puts its element in the array. -/
theorem blk_out (hO : Ok m) (i : Fin 8) (y : S1024x128.Idx) (G : Vec Ideal S8192x128 .f32) :
    (((cfgM m hO).win 2).blk (pt i)).view.read (Elt Ideal) G y = G (ValueIdx.ix2 (row i (y 0)) (y 1)) := by
  refine (View.read_apply ..).trans (congrArg G (funext fun a => Fin.ext ?_))
  match a with
  | ⟨0, _⟩ => show (BitVec.ofNat 32 (grid0.coords (pt i) 1).val).toNat * 1024 + 1 * (y 0).val = 1024 * i.val + (y 0).val
              rw [word1]; omega
  | ⟨1, _⟩ => show (BitVec.ofNat 32 (grid0.coords (pt i) 0).val).toNat * 128 + 1 * (y 1).val = (y 1).val
              rw [word0]; omega

/-- A point's block, cut at no edge, is the gates' block there. -/
theorem cut_out (hO : Ok m) (c : Dev nD) (i : Fin 8) (y : S1024x128.Idx) :
    ((cfgM m hO).win 2).cut (grid0.coords (pt i)) (blockAt m hO c (pt i).val (pt i).isLt) y
      = (((cfgM m hO).win 2).blk (pt i)).view.read (Elt Ideal) (whole m c) y := by
  refine Eq.trans ?_ ((blk_out m hO i y (whole m c)).trans (block_apply m hO c i (y 0) (y 1)).symm).symm
  refine congrArg (blockAt m hO c (pt i).val (pt i).isLt) (funext fun a => Fin.ext ?_)
  match a with
  | ⟨0, _⟩ => rfl
  | ⟨1, _⟩ => rfl

theorem flushed_eq (hO : Ok m) (c : Dev nD) (t : Fin (cfgM m hO).N) :
    (dats m hO 0 c).flushed 2 t = (((cfgM m hO).win 2).blk t).view.read (Elt Ideal) (whole m c) := by
  have ht : t.val < 8 := Nat.lt_of_lt_of_eq t.isLt N_0
  obtain ⟨i, rfl⟩ : ∃ i : Fin 8, t = pt i := ⟨⟨t.val, ht⟩, rfl⟩
  refine Eq.trans (b := ((cfgM m hO).win 2).cut (grid0.coords (pt i)) (blockAt m hO c (pt i).val (pt i).isLt)) rfl ?_
  exact funext (cut_out m hO c i)

theorem mem_blk_out (hO : Ok m) (y : S8192x128.Idx) :
    y ∈ (((cfgM m hO).win 2).blk (pt (rowTile (y 0)))).view.set := by
  have e : ((((cfgM m hO).win 2).blk (pt (rowTile (y 0)))).view.emb (ValueIdx.ix2 (rowIn (y 0)) (y 1) : S1024x128.Idx)) = y :=
    funext fun a => Fin.ext (by
      match a with
      | ⟨0, _⟩ => show (BitVec.ofNat 32 (grid0.coords (pt (rowTile (y 0))) 1).val).toNat * 1024 + 1 * ((y 0).val % 1024) = (y 0).val
                  rw [word1]; show (y 0).val / 1024 * 1024 + _ = _; omega
      | ⟨1, _⟩ => show (BitVec.ofNat 32 (grid0.coords (pt (rowTile (y 0))) 0).val).toNat * 128 + 1 * (y 1).val = (y 1).val
                  rw [word0]; omega)
  have h := View.emb_mem_set (((cfgM m hO).win 2).blk (pt (rowTile (y 0)))).view (ValueIdx.ix2 (rowIn (y 0)) (y 1) : S1024x128.Idx)
  rw [e] at h
  exact h

/-- The array the call leaves. -/
theorem result_eq (hO : Ok m) (c : Dev nD) : (dats m hO 0 c).arrAt 2 (cfgM m hO).N = whole m c :=
  (dats m hO 0 c).arrAt_eq_of_cover 2 (whole m c) (fun t _ => flushed_eq m hO c t) fun (y : S8192x128.Idx) =>
    ⟨pt (rowTile (y 0)), flush0_2 (adm m hO) _, mem_blk_out m hO y⟩

/-- The result: the array's gate columns. -/
def gates (c : Dev nD) : FVec Ideal S8192x48 .f32 :=
  extractStridedSlice S8192x48 ![0, 0] (whole m c) slices_S8192x128_S8192x48_0_0

theorem gates_apply (c : Dev nD) (n : Fin 8192) (e : Fin 48) : gates m c (ValueIdx.ix2 n e)
    = Ideal.logistic (∑ d : Fin 4096, argX m c (ValueIdx.ix2 n d) * argW m c (ValueIdx.ix3 0 d (gateCol e))) := by
  have h : ∀ d : Fin 4096, argX m c (ValueIdx.ix2 n d) * filled (argW m c) (ValueIdx.ix2 d (tileCol e))
      = argX m c (ValueIdx.ix2 n d) * argW m c (ValueIdx.ix3 0 d (gateCol e)) := fun d => by rw [filled_apply]
  rw [← Finset.sum_congr rfl fun d _ => h d]
  unfold gates
  generalize hF : whole m c = G
  have hG : G (ValueIdx.ix2 n (tileCol e)) = Ideal.logistic (∑ d : Fin 4096, argX m c (ValueIdx.ix2 n d) * filled (argW m c) (ValueIdx.ix2 d (tileCol e))) := by
    rw [← hF]; rfl
  rw [← hG]
  refine congrArg G (funext fun a => Fin.ext ?_)
  match a with
  | ⟨0, _⟩ => show 0 + n.val = n.val; omega
  | ⟨1, _⟩ => show 0 + e.val = e.val; omega

/-- What the host's operation after the call leaves. -/
theorem tail_eq (hO : Ok m) (c : Dev nD) :
    Pipeline.afterTail pcfgs (fun _ => adm m hO) (dats m hO) 0 (V0 m) [hostOps1] c main_v5 = gates m c := by
  unfold Pipeline.afterTail
  have e : Pipeline.withArrays (Pipeline.pin pcfgs (fun _ => adm m hO) 0).spec c (V0 m c)
      (fun w => (dats m hO 0 c).arrAt w (Pipeline.pin pcfgs (fun _ => adm m hO) 0).N) (Proc.devRef .tc main_v4) = whole m c :=
    (Pipeline.withArrays_arr spec0 winFacts0.arr_inj c (V0 m c) (fun w => (dats m hO 0 c).arrAt w (cfgM m hO).N) 2).trans (result_eq m hO c)
  generalize Pipeline.withArrays (Pipeline.pin pcfgs (fun _ => adm m hO) 0).spec c (V0 m c)
      (fun w => (dats m hO 0 c).arrAt w (Pipeline.pin pcfgs (fun _ => adm m hO) 0).N) = X at e ⊢
  unfold gates
  rw [← e]
  show StableHlo.after (hostOps1 (F := Ideal)) X (Proc.devRef .tc main_v5) = _
  after_results <;> rfl

/-- The kernel ends at the gates, its arguments unchanged. -/
theorem run : θ_run defs (onTc (τ := τ) (main (F := Ideal))) ⟨m, fun _ => 0, ρ⟩ (fun r => ∀ c : Dev nD,
      r.2.mem ((c.tc : Thread nD τ).loc main_v5) = gates m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v5 (by decide : main_v5 ∈ Pipeline.restRefs sig spec0)).trans (tail_eq m (ok m) c), h.2 c⟩)
    (θ_run_and (run_main m ρ (ok m)) (unchanged m ρ (ok m)))

end Cert.Kernel9Ideal.GateProj

namespace Cert.Reference9Ideal.GateProj

open Idealize.ShloMosaic Idealize.ShloMosaic.TcCoe Idealize.ShloMosaic.Tactic
open Cert.Reference9Ideal.Gen

/-- The gate columns of the weight, the reference's products and its gates. -/
def cols (w : FVec Ideal S1x4096x13360 .f32) : FVec Ideal S4096x48 .f32 :=
  extractStridedSlice S4096x48 ![0, 13312] (shapeCast S4096x13360 w shapeCasts_S1x4096x13360_S4096x13360) slices_S4096x13360_S4096x48_0_13312
def product (x : FVec Ideal S8192x4096 .bf16) (w : FVec Ideal S1x4096x13360 .f32) : FVec Ideal S8192x48 .f32 :=
  Host.dotGeneral dot_S8192x4096_S4096x48_S8192x48_1_0_0_1_n_n none (extf .f32 x bitsLt_bf16_f32) (cols w)
def gates (x : FVec Ideal S8192x4096 .bf16) (w : FVec Ideal S1x4096x13360 .f32) : FVec Ideal S8192x48 .f32 :=
  Host.divf (broadcastInDim S8192x48 ![] bcast_S_S8192x48 (constant S_ .f32 0x3F800000#32))
    (addf (broadcastInDim S8192x48 ![] bcast_S_S8192x48 (constant S_ .f32 0x3F800000#32)) (Host.exp (Host.negf (product x w))))

theorem cols_apply (w : FVec Ideal S1x4096x13360 .f32) (d : Fin 4096) (e : Fin 48) :
    cols w (ValueIdx.ix2 d e) = w (ValueIdx.ix3 0 d (Cert.Kernel9Ideal.GateProj.gateCol e)) := by
  refine Eq.trans (b := shapeCast S4096x13360 w shapeCasts_S1x4096x13360_S4096x13360 (ValueIdx.ix2 d (Cert.Kernel9Ideal.GateProj.gateCol e))) ?_ (by pointwise; rfl)
  refine congrArg (shapeCast S4096x13360 w shapeCasts_S1x4096x13360_S4096x13360) (funext fun a => Fin.ext ?_)
  match a with
  | ⟨0, _⟩ => show 0 + d.val = d.val; omega
  | ⟨1, _⟩ => show 13312 + e.val = 13312 + e.val; rfl

theorem product_apply (x : FVec Ideal S8192x4096 .bf16) (w : FVec Ideal S1x4096x13360 .f32) (n : Fin 8192) (e : Fin 48) :
    product x w (ValueIdx.ix2 n e) = ∑ d : Fin 4096, x (ValueIdx.ix2 n d) * w (ValueIdx.ix3 0 d (Cert.Kernel9Ideal.GateProj.gateCol e)) := by
  refine Eq.trans (b := ∑ d : Fin 4096, x (ValueIdx.ix2 n d) * cols w (ValueIdx.ix2 d e)) ?_ (Finset.sum_congr rfl fun d _ => by rw [cols_apply])
  unfold product
  generalize cols w = z
  pointwise
  rfl

theorem gates_apply (x : FVec Ideal S8192x4096 .bf16) (w : FVec Ideal S1x4096x13360 .f32) (n : Fin 8192) (e : Fin 48) :
    gates x w (ValueIdx.ix2 n e)
      = Ideal.logistic (∑ d : Fin 4096, x (ValueIdx.ix2 n d) * w (ValueIdx.ix3 0 d (Cert.Kernel9Ideal.GateProj.gateCol e))) := by
  rw [← product_apply]
  unfold gates
  generalize product x w = s
  pointwise [Ideal.ofBits_one_f32]
  rfl

end Cert.Reference9Ideal.GateProj

namespace Cert.Kernel9Ideal.GateProj

open Idealize.ShloMosaic Idealize.ShloMosaic.TcCoe

/-- They are the gates the kernel leaves. -/
theorem gates_eq (m : (ℓ : Loc nD τ sig) → Buf (Elt Ideal) ℓ) (c : Dev nD) :
    Cert.Reference9Ideal.GateProj.gates (argX m c) (argW m c) = gates m c := by
  funext y
  obtain ⟨n, d, rfl⟩ : ∃ (n : Fin 8192) (d : Fin 48), y = ValueIdx.ix2 n d :=
    ⟨y 0, y 1, funext fun a => by match a with | ⟨0, _⟩ => rfl | ⟨1, _⟩ => rfl⟩
  exact (Cert.Reference9Ideal.GateProj.gates_apply _ _ n d).trans (gates_apply m c n d).symm

end Cert.Kernel9Ideal.GateProj

end
-- ==== Proof.InProj.KernelIdeal.RmsCast.lean ====
/- The first of the two calls: the rows scaled by their root mean square and by the gains, and rounded. -/
module

public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.CanonAppend

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the first call starts -/

/-- The core's buffers at launch, -/
abbrev U0 (c : Dev nD) : Valuation τ sig (Elt F) := fun b => m (c, b)
/-- and after the host's first operations: the flags' table, the rows and the gains reshaped. -/
abbrev U1 (c : Dev nD) : Valuation τ sig (Elt F) := StableHlo.after hostOps0 (U0 m c)

/-! ## The body -/

set_option maxHeartbeats 1000000 in
/-- The body's one store, with the proof that the body, run on whole staging buffers, makes it. -/
def castRun (c : Dev nD) (i : grid0.Coords) (a0 : Memref sig .tc .vmem S512x4096 .f32) (ha0 : a0.IsWhole)
    (a1 : Memref sig .tc .vmem S1x4096 .f32) (ha1 : a1.IsWhole) (a2 : Memref sig .tc .vmem S512x4096 .bf16) (ha2 : a2.IsWhole)
    (x0 : Vec F S512x4096 .f32) (x1 : Vec F S1x4096 .f32) :
    { L : List (View.Piece (Elt F) S512x4096 .bf16) //
      ∀ (E : Set ℕ) (K : PUnit → sProp 𝕄),
        iprop(owns (c : Thread nD τ) a0 fullShare x0 ∗ owns (c : Thread nD τ) a1 fullShare x1 ∗ (∃ d, owns (c : Thread nD τ) a2 fullShare d)
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc0_rms_cast i a0 ha0 a1 ha1 a2 ha2) K } := by
  refine ⟨?_, fun E K => ?run⟩
  case run =>
    simp only [cc0_rms_cast_eq_skeleton]; unfold cc0_rms_cast_skel
    unfold owns
    iintro ⟨⟨%f0, %hf0, H0⟩, ⟨%f1, %hf1, H1⟩, ⟨%d2, %f2, -, H2⟩, Hk⟩
    obtain rfl := ha0.eq_unread hf0; obtain rfl := ha1.eq_unread hf1
    sl_exec
    sl_step
    iapply Hk
    isplitl [H0]
    · iexists _; isplitr; · ipureintro; exact ha0.read_unread _
      iexact H0
    isplitl [H1]
    · iexists _; isplitr; · ipureintro; exact ha1.read_unread _
      iexact H1
    iexists _; iexact H2

theorem zeros2 : (![0, 0] : Fin 2 → ℕ) = fun _ => 0 := by decide

/-- The store is of the rows scaled and rounded, over the whole tile. -/
theorem castRun_stores (c : Dev nD) (i : grid0.Coords) (a0 : Memref sig .tc .vmem S512x4096 .f32) (ha0 : a0.IsWhole)
    (a1 : Memref sig .tc .vmem S1x4096 .f32) (ha1 : a1.IsWhole) (a2 : Memref sig .tc .vmem S512x4096 .bf16) (ha2 : a2.IsWhole)
    (x0 : Vec F S512x4096 .f32) (x1 : Vec F S1x4096 .f32) :
    (castRun c i a0 ha0 a1 ha1 a2 ha2 x0 x1).1 = [⟨Rect.unit ![0, 0] ![512, 4096] inb_S512x4096_S512x4096_0_0, k0_pay1 x0 x1⟩] := by
  unfold castRun
  dsimp only
  sl_unfold_words
  simp only [View.readAt_eq_ld, ha0.read_unread, ha1.read_unread, View.ld_unit_zero (S := S512x4096) zeros2, View.ld_unit_zero (S := S1x4096) zeros2]

/-- Run on whole staging buffers, the body leaves the rows scaled and rounded in its output's. -/
theorem cast_ok (c : Dev nD) (i : grid0.Coords) (a0 : Memref sig .tc .vmem S512x4096 .f32) (ha0 : a0.IsWhole)
    (a1 : Memref sig .tc .vmem S1x4096 .f32) (ha1 : a1.IsWhole) (a2 : Memref sig .tc .vmem S512x4096 .bf16) (ha2 : a2.IsWhole)
    (x0 : Vec F S512x4096 .f32) (x1 : Vec F S1x4096 .f32) (E : Set ℕ) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k0_pay1 x0 x1)) -∗ K ⟨⟩))
      ⊢ wp frame (wpE (defs₀ (F := F)) Variants.none c none) E (cc0_rms_cast i a0 ha0 a1 ha1 a2 ha2) K := by
  iintro ⟨H0, H1, H2, Hk⟩
  iapply ((castRun c i a0 ha0 a1 ha1 a2 ha2 x0 x1).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns
  iexists _
  isplitr
  swap; · iexact H2
  ipureintro
  rw [castRun_stores]
  exact (View.read_writes_eq_canon _ _ _ (View.cover_of_tiledL _ S512x4096.size (by sl_kernel_rfl))).trans (View.canon_unit_zero (S := S512x4096) zeros2 inb_S512x4096_S512x4096_0_0 _)

/-! ## The pipeline's proof data -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (U1 m c (Proc.devRef .tc (Pipeline.arrRef spec0 w)))

/-- The rows and the gains of point `t`. -/
abbrev rows0 (c : Dev nD) (t : Fin cfg0.N) : Vec F S512x4096 .f32 := blk0 m c 0 t
abbrev gain0 (c : Dev nD) (t : Fin cfg0.N) : Vec F S1x4096 .f32 := blk0 m c 1 t

/-- The inputs stay at their blocks, the output holds the scaled rows, and the buffers of the second call ride along. -/
def dat0 (c : Dev nD) : Dat τ (Elt F) Unit ℕ (UR sig nD τ) ℕ cfg0 c where
  A w := U1 m c (Proc.devRef .tc (Pipeline.arrRef spec0 w))
  after w t := match w with
    | ⟨0, _⟩ => blk0 m c 0 t
    | ⟨1, _⟩ => blk0 m c 1 t
    | ⟨2, _⟩ => k0_pay1 (rows0 m c t) (gain0 m c t)
  Φ _ := Pipeline.scopedRest spec0 c
  q _ := fullShare
  owed _ := 0

theorem dat0_A (c : Dev nD) (w : Fin cfg0.W) : (dat0 m c).A w = U1 m c (Proc.devRef .tc (Pipeline.arrRef spec0 w)) := by
  dsimp only [dat0]
theorem after0_0 (c : Dev nD) (t : Fin cfg0.N) : (dat0 m c).after 0 t = blk0 m c 0 t := by dsimp only [dat0]; try rfl
theorem after0_1 (c : Dev nD) (t : Fin cfg0.N) : (dat0 m c).after 1 t = blk0 m c 1 t := by dsimp only [dat0]; try rfl
theorem after0_2 (c : Dev nD) (t : Fin cfg0.N) : (dat0 m c).after 2 t = k0_pay1 (rows0 m c t) (gain0 m c t) := by
  dsimp only [dat0]; try rfl

theorem before0_0 (c : Dev nD) (t : Fin cfg0.N) (d) : (dat0 m c).before 0 t d = blk0 m c 0 t :=
  ((dat0 m c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 m c).before 1 t d = blk0 m c 1 t :=
  ((dat0 m c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)

/-! ## The body at every point -/

/-- What the body is called with at point `t`, window by window, -/
def pre0At (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def post0At (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

theorem body0_ok (c : Dev nD) (t : Fin cfg0.N) :
    pre0At m c t ⊢ wp frame (wpE (defs₀ (F := F)) Variants.none c none) Set.univ (bodyAt0 t) (fun _ => post0At m c t) := by
  unfold pre0At post0At bodyAt0
  simp only [before0_0, before0_1]
  rw [show (dat0 m c).Φ t.succ = (dat0 m c).Φ t.castSucc from rfl,
    show (dat0 m c).owesAt () t.succ = (dat0 m c).owesAt () t.castSucc from rfl, after0_0, after0_1, after0_2]
  iintro ⟨HΦ, Ho, ⟨%d0, H0⟩, ⟨%d1, H1⟩, ⟨%d2, H2⟩⟩
  iapply (cast_ok c (grid0.coords t) _ _ _ _ _ _ (rows0 m c t) (gain0 m c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- What the launch theorem asks of the body. -/
theorem body0_obligation (c : Dev nD) : BodyObligation (dat0 (F := F) m c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body0_ok m c t) rfl .rfl fun _ => .rfl

end Cert.Kernel2Ideal.InProj

end
-- ==== Proof.InProj.KernelIdeal.Stores.lean ====
/- The second call's conditions and what its body stores. -/
module

public import proofs.«01_k».proof.Proof.InProj.KernelIdeal.RmsCast

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The flags' table and the body's conditions -/

/-- The flags' table as the body is handed it, and the scratch buffer. -/
abbrev tabF : Memref sig .tc .smem S26 .i32 := Memref.whole main_c
abbrev htabF : tabF.IsWhole := Memref.isWhole_whole _
abbrev scr : Memref sig .tc .vmem S1x4096x512 .bf16 := Memref.whole cc1_scratch0
abbrev hscr : scr.IsWhole := Memref.isWhole_whole _

/-- The table's buffer type and the whole of it. -/
abbrev FlagBuf (c : Dev nD) : Type := Buf (Elt F) (tabF.view.loc (c : Thread nD τ))
abbrev flagPt (c : Dev nD) (f : FlagBuf (F := F) c) : sProp 𝕄 := tabF.view.loc (c : Thread nD τ) ↦{fullShare} f

/-- The word of the table the body reads at a point: positive when the column tile has heads to normalise. -/
abbrev flagWord (c : Dev nD) (i : grid1.Coords) (x : FlagBuf (F := F) c) : BitVec 32 :=
  View.readAt (Elt F) tabF.view (Rect.unit (s := S26) (k1_off1 i) S1.size (k1_off1_inb i)).toLoadRect x
    (Shape.Idx.first (numel1_S1.symm ▸ Nat.one_pos))

/-- The condition under which the body rounds the weights into the scratch buffer: the first row tile of its column tile. -/
abbrev FirstRows (i : grid1.Coords) : Prop :=
  Scalar.cmpi .ne (Scalar.extui (Scalar.cmpi .eq (BitVec.ofNat 32 (i 1).val) 0#32) : BitVec 32) 0#32 = 1#1

/-- The entry of the table a point reads: its column tile's. -/
def flagIx (i : grid1.Coords) : S26.Idx
  | 0 => ⟨k1_off1 i 0, k1_off1_inb i 0⟩

/-- The word is that entry. -/
theorem flagWord_eq (c : Dev nD) (i : grid1.Coords) (x : FlagBuf (F := F) c) : flagWord c i x = x (flagIx i) :=
  congrArg x (funext fun | (0 : Fin 1) => Fin.ext (show k1_off1 i 0 + 1 * 0 = k1_off1 i 0 from rfl))

/-- The pipeline reads the same entry. -/
theorem flagWord_atD (c : Dev nD) (i : grid1.Coords) (pf : pre1.Contents (Elt F)) :
    pf.atD 0 (k1_off1 i) = flagWord c i (pf 0) := by
  refine Eq.trans ?_ (flagWord_eq c i (pf 0)).symm
  refine (dif_pos (fun | (0 : Fin 1) => k1_off1_inb i 0)).trans ?_
  exact congrArg (pf 0) (funext fun | (0 : Fin 1) => rfl)

/-- The body's two conditions on the word exclude each other, and one of them holds. -/
theorem cond3_iff (w : BitVec 32) : k1_cond3 w = 1#1 ↔ ¬ k1_cond2 w = 1#1 := by
  unfold k1_cond3 k1_cond2
  dsimp only
  rcases (show ∀ b : BitVec 1, b = 0#1 ∨ b = 1#1 by decide) (Scalar.cmpi .sgt w 0#32) with h | h <;> rw [h] <;> decide

/-- The first row tile of a column tile is at every eighth point. -/
theorem firstRows_iff : ∀ t : Fin grid1.N, FirstRows (grid1.coords t) ↔ t.val % 8 = 0 := fun t => by
  have ht : t.val < 208 := Nat.lt_of_lt_of_eq t.isLt N_1
  have e1 : (grid1.coords t 1).val = t.val / 1 % 8 := Pipeline.Grid.coords_val t 1 (by decide) rfl
  unfold FirstRows
  simp only [e1]
  word_cmp

/-! ## The stores -/

theorem zeros3 : (![0, 0, 0] : Fin 3 → ℕ) = fun _ => 0 := by decide

/-- The four column slabs of a tile with heads to normalise, last first, from the products `y`, the gains `g` and the selection `s`. -/
def slabs (y : FVec F S1024x512 .f32) (g s : Vec F S1x512 .f32) : List (View.Piece (Elt F) S1024x512 .f32) :=
  [⟨Rect.unit ![0, 384] ![1024, 128] inb_S1024x512_S1024x128_0_384,
      k1_pay3 (k1_pay11 y) (k1_pay12 (View.ld s (Rect.unit ![0, 384] ![1, 128] inb_S1x512_S1x128_0_384)))
        (k1_pay13 (View.ld g (Rect.unit ![0, 384] ![1, 128] inb_S1x512_S1x128_0_384))) (k1_pay14 y) (k1_pay15 (F := F))⟩,
   ⟨Rect.unit ![0, 256] ![1024, 128] inb_S1024x512_S1024x128_0_256,
      k1_pay10 y (View.ld s (Rect.unit ![0, 256] ![1, 128] inb_S1x512_S1x128_0_256))
        (View.ld g (Rect.unit ![0, 256] ![1, 128] inb_S1x512_S1x128_0_256))⟩,
   ⟨Rect.unit ![0, 128] ![1024, 128] inb_S1024x512_S1024x128_0_128,
      k1_pay9 (k1_pay5 y) (k1_pay6 (View.ld s (Rect.unit ![0, 128] ![1, 128] inb_S1x512_S1x128_0_128))) (k1_pay7 y)
        (k1_pay8 (View.ld g (Rect.unit ![0, 128] ![1, 128] inb_S1x512_S1x128_0_128)))⟩,
   ⟨Rect.unit ![0, 0] ![1024, 128] inb_S1024x512_S1024x128_0_0,
      k1_pay4 y (View.ld s (Rect.unit ![0, 0] ![1, 128] inb_S1x512_S1x128_0_0))
        (View.ld g (Rect.unit ![0, 0] ![1, 128] inb_S1x512_S1x128_0_0))⟩]

/-- The one store of a tile with none: the products. -/
def bare (y : FVec F S1024x512 .f32) : List (View.Piece (Elt F) S1024x512 .f32) :=
  [⟨Rect.unit ![0, 0] ![1024, 512] inb_S1024x512_S1024x512_0_0, y⟩]

/-- The one store into the scratch buffer: the weights rounded. -/
def kept (x1 : Vec F S4096x512 .f32) : List (View.Piece (Elt F) S1x4096x512 .bf16) :=
  [⟨Rect.unit ![0, 0, 0] ![1, 4096, 512] inb_S1x4096x512_S1x4096x512_0_0_0, k1_pay1 x1⟩]

/-- Every index of the scratch buffer is the one the whole rectangle gives it. -/
theorem whole_scr (X : Vec F S1x4096x512 .bf16) :
    (fun j => X ((Rect.unit ![0, 0, 0] ![1, 4096, 512] inb_S1x4096x512_S1x4096x512_0_0_0).idx j)) = X :=
  View.ld_unit_zero (S := S1x4096x512) zeros3 inb_S1x4096x512_S1x4096x512_0_0_0 X

theorem slabs_cover (y : FVec F S1024x512 .f32) (g s : Vec F S1x512 .f32) (j : S1024x512.Idx) : ∃ pc ∈ slabs y g s, j ∈ pc.1.set :=
  View.cover_of_tiledL (slabs y g s) S1024x128.size (by sl_kernel_rfl) j
theorem bare_cover (y : FVec F S1024x512 .f32) (j : S1024x512.Idx) : ∃ pc ∈ bare y, j ∈ pc.1.set :=
  View.cover_of_tiledL (bare y) S1024x512.size (by sl_kernel_rfl) j
theorem kept_cover (x1 : Vec F S4096x512 .f32) (j : S1x4096x512.Idx) : ∃ pc ∈ kept x1, j ∈ pc.1.set :=
  View.cover_of_tiledL (kept x1) S1x4096x512.size (by sl_kernel_rfl) j

end Cert.Kernel2Ideal.InProj

end
-- ==== Proof.InProj.KernelIdeal.RunFirstNormed.lean ====
/- The body at the first point of a column tile with heads to normalise. -/
module

public import proofs.«01_k».proof.Proof.InProj.KernelIdeal.Stores

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Its stores, last first, with the proof that the body, run on whole buffers, makes exactly those. -/
def runFirstNormed (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c)
    (hz : FirstRows i) (hn : k1_cond2 (flagWord c i xT) = 1#1) (hp : ¬ k1_cond3 (flagWord c i xT) = 1#1) :
    { L : List (View.Piece (Elt F) S1024x512 .f32) × List (View.Piece (Elt F) S1x4096x512 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ (∃ d, owns (c : Thread nD τ) scr fullShare d) ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L.1)
                ∗ (∃ f, scr.view.loc (c : Thread nD τ) ↦[scr.view.set]{fullShare} scr.view.writes (Elt F) f L.2) ∗ flagPt c xT) -∗ K ⟨⟩))
          ⊢ wp frame (wpE (defs₀ (F := F)) Variants.none c none) E (cc1_in_proj i tabF htabF b0 hb0 b1 hb1 b2 hb2 b3 hb3 b4 hb4 scr hscr) K } := by
  refine ⟨(?_, ?_), fun E K => ?run⟩
  case run =>
    simp only [cc1_in_proj_eq_skeleton]; unfold cc1_in_proj_skel
    simp only [k1_part1_eq_skeleton, k1_part2_eq_skeleton]; unfold k1_part1_skel k1_part2_skel
    unfold owns
    iintro ⟨⟨%f0, %hf0, H0⟩, ⟨%f1, %hf1, H1⟩, ⟨%f2, %hf2, H2⟩, ⟨%f3, %hf3, H3⟩, ⟨%d4, %f4, -, H4⟩, ⟨%dS, %fS, -, HS⟩, HT, Hk⟩
    obtain rfl := hb0.eq_unread hf0; obtain rfl := hb1.eq_unread hf1
    obtain rfl := hb2.eq_unread hf2; obtain rfl := hb3.eq_unread hf3
    sl_exec (disch := first | sl_exact hz | sl_exact hn | sl_exact hp)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]; · iexists _; iexact HS
    iexact HT

/-- Those stores are four column slabs, and the rounded weights into the scratch buffer. -/
theorem runFirstNormed_stores (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c)
    (hz : FirstRows i) (hn : k1_cond2 (flagWord c i xT) = 1#1) (hp : ¬ k1_cond3 (flagWord c i xT) = 1#1) :
    (runFirstNormed c i b0 hb0 b1 hb1 b2 hb2 b3 hb3 b4 hb4 x0 x1 x2 x3 xT hz hn hp).1 = ((slabs (k1_pay2 x0 (k1_pay1 x1)) x2 x3), kept x1) := by
  unfold runFirstNormed
  dsimp only
  sl_unfold_words
  unfold slabs kept
  simp only [View.readAt_eq_ld, hb0.read_unread, hb1.read_unread, hb2.read_unread, hb3.read_unread, hscr.read_unread,
    View.ld_unit_zero (S := S1024x4096) zeros2, View.ld_unit_zero (S := S4096x512) zeros2, View.ld_unit_zero (S := S1x4096x512) zeros3, View.readCov_eq_canon', View.canon_unit_zero (S := S1x4096x512) zeros3, whole_scr]

/-- So, run on whole buffers, the body leaves them in the output's. -/
theorem runFirstNormed_ok (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c)
    (hz : FirstRows i) (hn : k1_cond2 (flagWord c i xT) = 1#1) (hp : ¬ k1_cond3 (flagWord c i xT) = 1#1) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ (∃ d, owns (c : Thread nD τ) scr fullShare d) ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (View.canon (slabs (k1_pay2 x0 (k1_pay1 x1)) x2 x3))
            ∗ owns (c : Thread nD τ) scr fullShare (k1_pay1 x1) ∗ flagPt c xT) -∗ K ⟨⟩))
      ⊢ wp frame (wpE (defs₀ (F := F)) Variants.none c none) E (cc1_in_proj i tabF htabF b0 hb0 b1 hb1 b2 hb2 b3 hb3 b4 hb4 scr hscr) K := by
  iintro ⟨H0, H1, H2, H3, H4, HS, HT, Hk⟩
  iapply ((runFirstNormed c i b0 hb0 b1 hb1 b2 hb2 b3 hb3 b4 hb4 x0 x1 x2 x3 xT hz hn hp).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, ⟨%eS, HS⟩, HT⟩
  iapply Hk
  isplitl [H0]; · iexact H0
  isplitl [H1]; · iexact H1
  isplitl [H2]; · iexact H2
  isplitl [H3]; · iexact H3
  rw [runFirstNormed_stores]
  isplitl [H4]
  · unfold owns
    iexists _
    isplitr
    swap; · iexact H4
    ipureintro
    exact View.read_writes_eq_canon _ _ _ (slabs_cover (k1_pay2 x0 (k1_pay1 x1)) x2 x3)
  isplitl [HS]
  · unfold owns
    iexists _
    isplitr
    swap; · iexact HS
    ipureintro
    exact (View.read_writes_eq_canon _ _ _ (kept_cover x1)).trans (View.canon_unit_zero (S := S1x4096x512) zeros3 _ _)
  iexact HT

end Cert.Kernel2Ideal.InProj

end
-- ==== Proof.InProj.KernelIdeal.RunFirstBare.lean ====
/- The body at the first point of a column tile without heads to normalise. -/
module

public import proofs.«01_k».proof.Proof.InProj.KernelIdeal.Stores

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Its stores, last first, with the proof that the body, run on whole buffers, makes exactly those. -/
def runFirstBare (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c)
    (hz : FirstRows i) (hn : ¬ k1_cond2 (flagWord c i xT) = 1#1) (hp : k1_cond3 (flagWord c i xT) = 1#1) :
    { L : List (View.Piece (Elt F) S1024x512 .f32) × List (View.Piece (Elt F) S1x4096x512 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ (∃ d, owns (c : Thread nD τ) scr fullShare d) ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L.1)
                ∗ (∃ f, scr.view.loc (c : Thread nD τ) ↦[scr.view.set]{fullShare} scr.view.writes (Elt F) f L.2) ∗ flagPt c xT) -∗ K ⟨⟩))
          ⊢ wp frame (wpE (defs₀ (F := F)) Variants.none c none) E (cc1_in_proj i tabF htabF b0 hb0 b1 hb1 b2 hb2 b3 hb3 b4 hb4 scr hscr) K } := by
  refine ⟨(?_, ?_), fun E K => ?run⟩
  case run =>
    simp only [cc1_in_proj_eq_skeleton]; unfold cc1_in_proj_skel
    unfold owns
    iintro ⟨⟨%f0, %hf0, H0⟩, ⟨%f1, %hf1, H1⟩, ⟨%f2, %hf2, H2⟩, ⟨%f3, %hf3, H3⟩, ⟨%d4, %f4, -, H4⟩, ⟨%dS, %fS, -, HS⟩, HT, Hk⟩
    obtain rfl := hb0.eq_unread hf0; obtain rfl := hb1.eq_unread hf1
    obtain rfl := hb2.eq_unread hf2; obtain rfl := hb3.eq_unread hf3
    sl_exec (disch := first | sl_exact hz | sl_exact hn | sl_exact hp)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]; · iexists _; iexact HS
    iexact HT

/-- Those stores are the products, and the rounded weights into the scratch buffer. -/
theorem runFirstBare_stores (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c)
    (hz : FirstRows i) (hn : ¬ k1_cond2 (flagWord c i xT) = 1#1) (hp : k1_cond3 (flagWord c i xT) = 1#1) :
    (runFirstBare c i b0 hb0 b1 hb1 b2 hb2 b3 hb3 b4 hb4 x0 x1 x2 x3 xT hz hn hp).1 = ((bare (k1_pay2 x0 (k1_pay1 x1))), kept x1) := by
  unfold runFirstBare
  dsimp only
  sl_unfold_words
  unfold bare kept
  simp only [View.readAt_eq_ld, hb0.read_unread, hb1.read_unread, hb2.read_unread, hb3.read_unread, hscr.read_unread,
    View.ld_unit_zero (S := S1024x4096) zeros2, View.ld_unit_zero (S := S4096x512) zeros2, View.ld_unit_zero (S := S1x4096x512) zeros3, View.readCov_eq_canon', View.canon_unit_zero (S := S1x4096x512) zeros3, whole_scr]

/-- So, run on whole buffers, the body leaves them in the output's. -/
theorem runFirstBare_ok (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c)
    (hz : FirstRows i) (hn : ¬ k1_cond2 (flagWord c i xT) = 1#1) (hp : k1_cond3 (flagWord c i xT) = 1#1) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ (∃ d, owns (c : Thread nD τ) scr fullShare d) ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (View.canon (bare (k1_pay2 x0 (k1_pay1 x1))))
            ∗ owns (c : Thread nD τ) scr fullShare (k1_pay1 x1) ∗ flagPt c xT) -∗ K ⟨⟩))
      ⊢ wp frame (wpE (defs₀ (F := F)) Variants.none c none) E (cc1_in_proj i tabF htabF b0 hb0 b1 hb1 b2 hb2 b3 hb3 b4 hb4 scr hscr) K := by
  iintro ⟨H0, H1, H2, H3, H4, HS, HT, Hk⟩
  iapply ((runFirstBare c i b0 hb0 b1 hb1 b2 hb2 b3 hb3 b4 hb4 x0 x1 x2 x3 xT hz hn hp).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, ⟨%eS, HS⟩, HT⟩
  iapply Hk
  isplitl [H0]; · iexact H0
  isplitl [H1]; · iexact H1
  isplitl [H2]; · iexact H2
  isplitl [H3]; · iexact H3
  rw [runFirstBare_stores]
  isplitl [H4]
  · unfold owns
    iexists _
    isplitr
    swap; · iexact H4
    ipureintro
    exact View.read_writes_eq_canon _ _ _ (bare_cover (k1_pay2 x0 (k1_pay1 x1)))
  isplitl [HS]
  · unfold owns
    iexists _
    isplitr
    swap; · iexact HS
    ipureintro
    exact (View.read_writes_eq_canon _ _ _ (kept_cover x1)).trans (View.canon_unit_zero (S := S1x4096x512) zeros3 _ _)
  iexact HT

end Cert.Kernel2Ideal.InProj

end
-- ==== Proof.InProj.KernelIdeal.RunLaterNormed.lean ====
/- The body at a later point of a column tile with heads to normalise. -/
module

public import proofs.«01_k».proof.Proof.InProj.KernelIdeal.Stores

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Its stores, last first, with the proof that the body, run on whole buffers, makes exactly those. -/
def runLaterNormed (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c) (xs : Vec F S1x4096x512 .bf16)
    (hz : ¬ FirstRows i) (hn : k1_cond2 (flagWord c i xT) = 1#1) (hp : ¬ k1_cond3 (flagWord c i xT) = 1#1) :
    { L : List (View.Piece (Elt F) S1024x512 .f32) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ owns (c : Thread nD τ) scr fullShare xs ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L)
                ∗ owns (c : Thread nD τ) scr fullShare xs ∗ flagPt c xT) -∗ K ⟨⟩))
          ⊢ wp frame (wpE (defs₀ (F := F)) Variants.none c none) E (cc1_in_proj i tabF htabF b0 hb0 b1 hb1 b2 hb2 b3 hb3 b4 hb4 scr hscr) K } := by
  refine ⟨?_, fun E K => ?run⟩
  case run =>
    simp only [cc1_in_proj_eq_skeleton]; unfold cc1_in_proj_skel
    simp only [k1_part1_eq_skeleton, k1_part2_eq_skeleton]; unfold k1_part1_skel k1_part2_skel
    unfold owns
    iintro ⟨⟨%f0, %hf0, H0⟩, ⟨%f1, %hf1, H1⟩, ⟨%f2, %hf2, H2⟩, ⟨%f3, %hf3, H3⟩, ⟨%d4, %f4, -, H4⟩, ⟨%fS, %hfS, HS⟩, HT, Hk⟩
    obtain rfl := hb0.eq_unread hf0; obtain rfl := hb1.eq_unread hf1
    obtain rfl := hb2.eq_unread hf2; obtain rfl := hb3.eq_unread hf3
    obtain rfl := hscr.eq_unread hfS
    sl_exec (disch := first | sl_exact hz | sl_exact hn | sl_exact hp)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]
    · iexists _; isplitr; · ipureintro; exact hscr.read_unread _
      iexact HS
    iexact HT

/-- Those stores are four column slabs. -/
theorem runLaterNormed_stores (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c) (xs : Vec F S1x4096x512 .bf16)
    (hz : ¬ FirstRows i) (hn : k1_cond2 (flagWord c i xT) = 1#1) (hp : ¬ k1_cond3 (flagWord c i xT) = 1#1) :
    (runLaterNormed c i b0 hb0 b1 hb1 b2 hb2 b3 hb3 b4 hb4 x0 x1 x2 x3 xT xs hz hn hp).1 = (slabs (k1_pay2 x0 xs) x2 x3) := by
  unfold runLaterNormed
  dsimp only
  sl_unfold_words
  unfold slabs
  simp only [View.readAt_eq_ld, hb0.read_unread, hb1.read_unread, hb2.read_unread, hb3.read_unread, hscr.read_unread,
    View.ld_unit_zero (S := S1024x4096) zeros2, View.ld_unit_zero (S := S4096x512) zeros2, View.ld_unit_zero (S := S1x4096x512) zeros3]

/-- So, run on whole buffers, the body leaves them in the output's. -/
theorem runLaterNormed_ok (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c) (xs : Vec F S1x4096x512 .bf16)
    (hz : ¬ FirstRows i) (hn : k1_cond2 (flagWord c i xT) = 1#1) (hp : ¬ k1_cond3 (flagWord c i xT) = 1#1) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ owns (c : Thread nD τ) scr fullShare xs ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (View.canon (slabs (k1_pay2 x0 xs) x2 x3))
            ∗ owns (c : Thread nD τ) scr fullShare xs ∗ flagPt c xT) -∗ K ⟨⟩))
      ⊢ wp frame (wpE (defs₀ (F := F)) Variants.none c none) E (cc1_in_proj i tabF htabF b0 hb0 b1 hb1 b2 hb2 b3 hb3 b4 hb4 scr hscr) K := by
  iintro ⟨H0, H1, H2, H3, H4, HS, HT, Hk⟩
  iapply ((runLaterNormed c i b0 hb0 b1 hb1 b2 hb2 b3 hb3 b4 hb4 x0 x1 x2 x3 xT xs hz hn hp).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, HS, HT⟩
  iapply Hk
  isplitl [H0]; · iexact H0
  isplitl [H1]; · iexact H1
  isplitl [H2]; · iexact H2
  isplitl [H3]; · iexact H3
  rw [runLaterNormed_stores]
  isplitl [H4]
  · unfold owns
    iexists _
    isplitr
    swap; · iexact H4
    ipureintro
    exact View.read_writes_eq_canon _ _ _ (slabs_cover (k1_pay2 x0 xs) x2 x3)
  isplitl [HS]
  · iexact HS
  iexact HT

end Cert.Kernel2Ideal.InProj

end
-- ==== Proof.InProj.KernelIdeal.RunLaterBare.lean ====
/- The body at a later point of a column tile without heads to normalise. -/
module

public import proofs.«01_k».proof.Proof.InProj.KernelIdeal.Stores

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Its stores, last first, with the proof that the body, run on whole buffers, makes exactly those. -/
def runLaterBare (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c) (xs : Vec F S1x4096x512 .bf16)
    (hz : ¬ FirstRows i) (hn : ¬ k1_cond2 (flagWord c i xT) = 1#1) (hp : k1_cond3 (flagWord c i xT) = 1#1) :
    { L : List (View.Piece (Elt F) S1024x512 .f32) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ owns (c : Thread nD τ) scr fullShare xs ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L)
                ∗ owns (c : Thread nD τ) scr fullShare xs ∗ flagPt c xT) -∗ K ⟨⟩))
          ⊢ wp frame (wpE (defs₀ (F := F)) Variants.none c none) E (cc1_in_proj i tabF htabF b0 hb0 b1 hb1 b2 hb2 b3 hb3 b4 hb4 scr hscr) K } := by
  refine ⟨?_, fun E K => ?run⟩
  case run =>
    simp only [cc1_in_proj_eq_skeleton]; unfold cc1_in_proj_skel
    unfold owns
    iintro ⟨⟨%f0, %hf0, H0⟩, ⟨%f1, %hf1, H1⟩, ⟨%f2, %hf2, H2⟩, ⟨%f3, %hf3, H3⟩, ⟨%d4, %f4, -, H4⟩, ⟨%fS, %hfS, HS⟩, HT, Hk⟩
    obtain rfl := hb0.eq_unread hf0; obtain rfl := hb1.eq_unread hf1
    obtain rfl := hb2.eq_unread hf2; obtain rfl := hb3.eq_unread hf3
    obtain rfl := hscr.eq_unread hfS
    sl_exec (disch := first | sl_exact hz | sl_exact hn | sl_exact hp)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]
    · iexists _; isplitr; · ipureintro; exact hscr.read_unread _
      iexact HS
    iexact HT

/-- Those stores are the products. -/
theorem runLaterBare_stores (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c) (xs : Vec F S1x4096x512 .bf16)
    (hz : ¬ FirstRows i) (hn : ¬ k1_cond2 (flagWord c i xT) = 1#1) (hp : k1_cond3 (flagWord c i xT) = 1#1) :
    (runLaterBare c i b0 hb0 b1 hb1 b2 hb2 b3 hb3 b4 hb4 x0 x1 x2 x3 xT xs hz hn hp).1 = (bare (k1_pay2 x0 xs)) := by
  unfold runLaterBare
  dsimp only
  sl_unfold_words
  unfold bare
  simp only [View.readAt_eq_ld, hb0.read_unread, hb1.read_unread, hb2.read_unread, hb3.read_unread, hscr.read_unread,
    View.ld_unit_zero (S := S1024x4096) zeros2, View.ld_unit_zero (S := S4096x512) zeros2, View.ld_unit_zero (S := S1x4096x512) zeros3]

/-- So, run on whole buffers, the body leaves them in the output's. -/
theorem runLaterBare_ok (c : Dev nD) (i : grid1.Coords) (b0 : Memref sig .tc .vmem S1024x4096 .bf16) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S1024x512 .f32) (hb4 : b4.IsWhole)
    (x0 : Vec F S1024x4096 .bf16) (x1 : Vec F S4096x512 .f32) (x2 : Vec F S1x512 .f32) (x3 : Vec F S1x512 .f32) (xT : FlagBuf (F := F) c) (xs : Vec F S1x4096x512 .bf16)
    (hz : ¬ FirstRows i) (hn : ¬ k1_cond2 (flagWord c i xT) = 1#1) (hp : k1_cond3 (flagWord c i xT) = 1#1) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ owns (c : Thread nD τ) scr fullShare xs ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (View.canon (bare (k1_pay2 x0 xs)))
            ∗ owns (c : Thread nD τ) scr fullShare xs ∗ flagPt c xT) -∗ K ⟨⟩))
      ⊢ wp frame (wpE (defs₀ (F := F)) Variants.none c none) E (cc1_in_proj i tabF htabF b0 hb0 b1 hb1 b2 hb2 b3 hb3 b4 hb4 scr hscr) K := by
  iintro ⟨H0, H1, H2, H3, H4, HS, HT, Hk⟩
  iapply ((runLaterBare c i b0 hb0 b1 hb1 b2 hb2 b3 hb3 b4 hb4 x0 x1 x2 x3 xT xs hz hn hp).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, HS, HT⟩
  iapply Hk
  isplitl [H0]; · iexact H0
  isplitl [H1]; · iexact H1
  isplitl [H2]; · iexact H2
  isplitl [H3]; · iexact H3
  rw [runLaterBare_stores]
  isplitl [H4]
  · unfold owns
    iexists _
    isplitr
    swap; · iexact H4
    ipureintro
    exact View.read_writes_eq_canon _ _ _ (bare_cover (k1_pay2 x0 xs))
  isplitl [HS]
  · iexact HS
  iexact HT

end Cert.Kernel2Ideal.InProj

end
-- ==== Proof.InProj.KernelIdeal.Tiles.lean ====
/- The second of the two calls: the rows with the weights, the heads normalised where a column tile has any. -/
module

public import proofs.«01_k».proof.Proof.InProj.KernelIdeal.RunFirstNormed
public import proofs.«01_k».proof.Proof.InProj.KernelIdeal.RunFirstBare
public import proofs.«01_k».proof.Proof.InProj.KernelIdeal.RunLaterNormed
public import proofs.«01_k».proof.Proof.InProj.KernelIdeal.RunLaterBare
public import Idealize.ShloMosaic.Lib.Pipeline.FrameTail
public import Idealize.ShloMosaic.Lib.Pipeline.ClipFacts

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the second call starts -/

/-- The core's buffers after the first call, -/
abbrev U2 (c : Dev nD) : Valuation τ sig (Elt F) := Pipeline.afterRegion (dat0 m c) (U1 m c)
/-- and after the host's next operations: the weights, the gains and the selection laid out. -/
abbrev U3 (c : Dev nD) : Valuation τ sig (Elt F) := StableHlo.after hostOps1 (U2 m c)

/-- The flags' table, and the pipeline that runs at it. -/
def tblF : pre1.Contents (Elt F) := fun k => U3 m (0 : Dev nD) (Proc.devRef .tc (pre1.ref k))
abbrev adm1 : (pcfg1 (F := F)).Adm := ⟨tblF m, trivial⟩
abbrev cfgN : Pipeline.Cfg sig Λ₀ := cfg1 (adm1 m)

/-! ## The blocks -/

/-- Window `w`'s block at point `t`, read off its array as the call finds it. -/
def blk1 (c : Dev nD) (w : Fin (cfgN m).W) (t : Fin (cfgN m).N) :
    (((cfgN m).win w).xblock ((cfgN m).grid.coords t)).Idx → Elt F ((cfgN m).win w).elt :=
  (((cfgN m).win w).blk t).view.read (Elt F) (U3 m c (Proc.devRef .tc (Pipeline.arrRef spec1 w)))

/-- Every column tile of the weights ends inside the array. -/
theorem tile_inb : ∀ (i : grid1.Coords) (a : Fin 2), (cc1_transform_1 i a + 1) * S4096x512.size a ≤ S4096x13360.size a := by decide +kernel

theorem noClip (t : Fin (cfgN m).N) : ∀ a, ((cfgN m).win 1).clip ((cfgN m).grid.coords t) a = none :=
  fun a => Pipeline.Clip.of_eq_none (tile_inb (grid1.coords t) a)

/-- One staging buffer of the weights, through which their block's contents are spelled. -/
abbrev wtsView : View sig .tc .vmem S4096x512 .f32 := (Memref.whole cc1_stg1_0 : Memref sig .tc .vmem S4096x512 .f32).view

/-- The rows, the weights, the gains and the selection of point `t`. -/
abbrev rows1 (c : Dev nD) (t : Fin (cfgN m).N) : Vec F S1024x4096 .bf16 := blk1 m c 0 t
def wts1 (c : Dev nD) (t : Fin (cfgN m).N) : Vec F S4096x512 .f32 :=
  ((cfgN m).win 1).fill ((cfgN m).grid.coords t) (wtsView.read (Elt F) wtsView.junk) (blk1 m c 1 t)
abbrev gain1 (c : Dev nD) (t : Fin (cfgN m).N) : Vec F S1x512 .f32 := blk1 m c 2 t
abbrev norm1 (c : Dev nD) (t : Fin (cfgN m).N) : Vec F S1x512 .f32 := blk1 m c 3 t

/-- The first point of the column tile point `n` is in. -/
def firstOf (n : ℕ) : Fin (cfgN m).N := ⟨8 * (n / 8) % 208, Nat.lt_of_lt_of_eq (Nat.mod_lt _ (by decide)) N_1.symm⟩

theorem firstOf_self (t : Fin (cfgN m).N) (h : t.val % 8 = 0) : firstOf m t.val = t := by
  have ht : t.val < 208 := Nat.lt_of_lt_of_eq t.isLt N_1
  exact Fin.ext (show 8 * (t.val / 8) % 208 = t.val by omega)

theorem firstOf_succ (n : ℕ) (h : ¬ (n + 1) % 8 = 0) : firstOf m (n + 1) = firstOf m n :=
  Fin.ext (show 8 * ((n + 1) / 8) % 208 = 8 * (n / 8) % 208 by rw [show (n + 1) / 8 = n / 8 by omega])

/-- The products of point `t`: its rows with its column tile's weights, rounded at the tile's first point. -/
abbrev prod1 (c : Dev nD) (t : Fin (cfgN m).N) : FVec F S1024x512 .f32 := k1_pay2 (rows1 m c t) (k1_pay1 (wts1 m c (firstOf m t.val)))

/-- The column tile has heads to normalise. -/
abbrev Normed (c : Dev nD) (i : grid1.Coords) : Prop := k1_cond2 (flagWord c i (tblF m 0)) = 1#1

/-- What point `t` leaves in the output's staging buffer. -/
def out1 (c : Dev nD) (t : Fin (cfgN m).N) : Vec F S1024x512 .f32 :=
  if Normed m c (grid1.coords t) then View.canon (slabs (prod1 m c t) (gain1 m c t) (norm1 m c t)) else View.canon (bare (prod1 m c t))

/-! ## The pipeline's proof data -/

/-- The scratch buffer before point `n`: anything, then the rounded weights of the column tile of the point before. -/
def scrAt (c : Dev nD) : ℕ → sProp 𝕄
  | 0 => iprop(∃ d, owns (c : Thread nD τ) scr fullShare d)
  | n + 1 => owns (c : Thread nD τ) scr fullShare (k1_pay1 (wts1 m c (firstOf m n)))

theorem scrAt_any (c : Dev nD) : ∀ n, scrAt m c n ⊢ (iprop(∃ d, owns (c : Thread nD τ) scr fullShare d) : sProp 𝕄)
  | 0 => .rfl
  | n + 1 => by unfold scrAt; iintro H; iexists _; iexact H

theorem scrAt_later (c : Dev nD) : ∀ n, ¬ n % 8 = 0 →
    scrAt m c n = owns (c : Thread nD τ) scr fullShare (k1_pay1 (wts1 m c (firstOf m n)))
  | 0, h => absurd (Nat.zero_mod _) h
  | n + 1, h => by rw [firstOf_succ m n h]; rfl

/-- The first call's staging buffers, which the second leaves alone. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The inputs stay at their blocks, the output goes through `out1`, the scratch buffer through `scrAt`. -/
def dat1 (c : Dev nD) : Dat τ (Elt F) Unit ℕ (UR sig nD τ) ℕ (cfgN m) c where
  A w := U3 m c (Proc.devRef .tc (Pipeline.arrRef spec1 w))
  after w t := match w with
    | ⟨0, _⟩ => blk1 m c 0 t
    | ⟨1, _⟩ => wts1 m c t
    | ⟨2, _⟩ => blk1 m c 2 t
    | ⟨3, _⟩ => blk1 m c 3 t
    | ⟨4, _⟩ => out1 m c t
  Φ t := iprop(others c ∗ scrAt m c t.val ∗ flagPt c (tblF m 0))
  q _ := fullShare
  owed _ := 0

theorem dat1_A (c : Dev nD) (w : Fin (cfgN m).W) : (dat1 m c).A w = U3 m c (Proc.devRef .tc (Pipeline.arrRef spec1 w)) := by
  dsimp only [dat1]
theorem after1_0 (c : Dev nD) (t : Fin (cfgN m).N) : (dat1 m c).after 0 t = blk1 m c 0 t := by dsimp only [dat1]; try rfl
theorem after1_1 (c : Dev nD) (t : Fin (cfgN m).N) : (dat1 m c).after 1 t = wts1 m c t := by dsimp only [dat1]; try rfl
theorem after1_2 (c : Dev nD) (t : Fin (cfgN m).N) : (dat1 m c).after 2 t = blk1 m c 2 t := by dsimp only [dat1]; try rfl
theorem after1_3 (c : Dev nD) (t : Fin (cfgN m).N) : (dat1 m c).after 3 t = blk1 m c 3 t := by dsimp only [dat1]; try rfl
theorem after1_4 (c : Dev nD) (t : Fin (cfgN m).N) : (dat1 m c).after 4 t = out1 m c t := by dsimp only [dat1]; try rfl

theorem before1_0 (c : Dev nD) (t : Fin (cfgN m).N) (d) : (dat1 m c).before 0 t d = blk1 m c 0 t :=
  ((dat1 m c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin (cfgN m).N) (d) : (dat1 m c).before 1 t d = wts1 m c t :=
  ((dat1 m c).before_in_eq_fetched 1 rfl (fun _ => rfl)
    (fun t t' _ => funext fun a => (noClip m t a).trans (noClip m t' a).symm)
    (fun t => by
      rw [after1_1]; unfold wts1
      refine Eq.trans (((cfgN m).win 1).cut_fill _ _ _) ?_
      unfold Dat.blockOf blk1; rw [dat1_A]; try rfl) t d).trans
    (((dat1 m c).fetched_of_clip_none 1 t (noClip m t) d (wtsView.read (Elt F) wtsView.junk)).trans
      (by unfold Dat.fetched Dat.blockOf wts1 blk1; rw [dat1_A]; try rfl))
theorem before1_2 (c : Dev nD) (t : Fin (cfgN m).N) (d) : (dat1 m c).before 2 t d = blk1 m c 2 t :=
  ((dat1 m c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem before1_3 (c : Dev nD) (t : Fin (cfgN m).N) (d) : (dat1 m c).before 3 t d = blk1 m c 3 t :=
  ((dat1 m c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)

/-! ## The body at every point -/

/-- Each window's current staging buffer at a point. -/
abbrev st1_0 (t : Fin (cfgN m).N) : Memref sig .tc .vmem S1024x4096 .bf16 := spec1_0.stage ((cfgN m).slots t 0)
abbrev hst1_0 (t : Fin (cfgN m).N) : (st1_0 m t).IsWhole := hstage1_0 (((cfgN m).slots t 0).cast nbuf1_0)
abbrev st1_1 (t : Fin (cfgN m).N) : Memref sig .tc .vmem S4096x512 .f32 := spec1_1.stage ((cfgN m).slots t 1)
abbrev hst1_1 (t : Fin (cfgN m).N) : (st1_1 m t).IsWhole := hstage1_1 (((cfgN m).slots t 1).cast nbuf1_1)
abbrev st1_2 (t : Fin (cfgN m).N) : Memref sig .tc .vmem S1x512 .f32 := spec1_2.stage ((cfgN m).slots t 2)
abbrev hst1_2 (t : Fin (cfgN m).N) : (st1_2 m t).IsWhole := hstage1_2 (((cfgN m).slots t 2).cast nbuf1_2)
abbrev st1_3 (t : Fin (cfgN m).N) : Memref sig .tc .vmem S1x512 .f32 := spec1_3.stage ((cfgN m).slots t 3)
abbrev hst1_3 (t : Fin (cfgN m).N) : (st1_3 m t).IsWhole := hstage1_3 (((cfgN m).slots t 3).cast nbuf1_3)
abbrev st1_4 (t : Fin (cfgN m).N) : Memref sig .tc .vmem S1024x512 .f32 := spec1_4.stage ((cfgN m).slots t 4)
abbrev hst1_4 (t : Fin (cfgN m).N) : (st1_4 m t).IsWhole := hstage1_4 (((cfgN m).slots t 4).cast nbuf1_4)

/-- The body at point `t`, on what the pipeline passes it. -/
abbrev bodyAt1 (t : Fin (cfgN m).N) : Prog (TpuEff nD τ sig (Elt F) Λ₀ .tc) PUnit :=
  cc1_in_proj (grid1.coords t) tabF htabF (st1_0 m t) (hst1_0 m t) (st1_1 m t) (hst1_1 m t) (st1_2 m t) (hst1_2 m t) (st1_3 m t) (hst1_3 m t) (st1_4 m t) (hst1_4 m t) scr hscr

/-- What the body is called with at point `t`, window by window, -/
def pre1At (c : Dev nD) (t : Fin (cfgN m).N) : sProp 𝕄 :=
  iprop((dat1 m c).Φ t.castSucc ∗ (dat1 m c).owesAt () t.castSucc
    ∗ (∃ d, owns (c : Thread nD τ) (st1_0 m t) fullShare ((dat1 m c).before 0 t d))
    ∗ (∃ d, owns (c : Thread nD τ) (st1_1 m t) fullShare ((dat1 m c).before 1 t d))
    ∗ (∃ d, owns (c : Thread nD τ) (st1_2 m t) fullShare ((dat1 m c).before 2 t d))
    ∗ (∃ d, owns (c : Thread nD τ) (st1_3 m t) fullShare ((dat1 m c).before 3 t d))
    ∗ (∃ d, owns (c : Thread nD τ) (st1_4 m t) fullShare ((dat1 m c).before 4 t d)))

/-- and what it returns. -/
def post1At (c : Dev nD) (t : Fin (cfgN m).N) : sProp 𝕄 :=
  iprop((dat1 m c).Φ t.succ ∗ (dat1 m c).owesAt () t.succ
    ∗ owns (c : Thread nD τ) (st1_0 m t) fullShare ((dat1 m c).after 0 t)
    ∗ owns (c : Thread nD τ) (st1_1 m t) fullShare ((dat1 m c).after 1 t)
    ∗ owns (c : Thread nD τ) (st1_2 m t) fullShare ((dat1 m c).after 2 t)
    ∗ owns (c : Thread nD τ) (st1_3 m t) fullShare ((dat1 m c).after 3 t)
    ∗ owns (c : Thread nD τ) (st1_4 m t) fullShare ((dat1 m c).after 4 t))

set_option maxHeartbeats 1600000 in
/-- The body at any point, by the four cases: is it the first of its column tile, and has the tile heads to normalise. -/
theorem body1_ok (c : Dev nD) (t : Fin (cfgN m).N) :
    pre1At m c t ⊢ wp frame (wpE (defs₀ (F := F)) Variants.none c none) Set.univ (bodyAt1 m t) (fun _ => post1At m c t) := by
  unfold pre1At post1At bodyAt1
  simp only [before1_0, before1_1, before1_2, before1_3]
  rw [show (dat1 m c).owesAt () t.succ = (dat1 m c).owesAt () t.castSucc from rfl, after1_0, after1_1, after1_2, after1_3, after1_4,
    show (dat1 m c).Φ t.castSucc = iprop(others c ∗ scrAt m c t.val ∗ flagPt c (tblF m 0)) from rfl,
    show (dat1 m c).Φ t.succ = iprop(others c ∗ owns (c : Thread nD τ) scr fullShare (k1_pay1 (wts1 m c (firstOf m t.val))) ∗ flagPt c (tblF m 0)) from rfl]
  by_cases hz : t.val % 8 = 0 <;> by_cases hn : Normed m c (grid1.coords t)
  · rw [show out1 m c t = View.canon (slabs (prod1 m c t) (gain1 m c t) (norm1 m c t)) from if_pos hn]
    unfold prod1
    rw [firstOf_self m t hz]
    iintro ⟨⟨HΦ, HS, HT⟩, Ho, ⟨%d0, H0⟩, ⟨%d1, H1⟩, ⟨%d2, H2⟩, ⟨%d3, H3⟩, ⟨%d4, H4⟩⟩
    iapply (runFirstNormed_ok c (grid1.coords t) _ _ _ _ _ _ _ _ _ _ (rows1 m c t) (wts1 m c t) (gain1 m c t) (norm1 m c t) (tblF m 0) ((firstRows_iff t).mpr hz) hn (fun h => (cond3_iff _).mp h hn) Set.univ _)
    isplitl [H0]; · iexact H0
    isplitl [H1]; · iexact H1
    isplitl [H2]; · iexact H2
    isplitl [H3]; · iexact H3
    isplitl [H4]; · iexists _; iexact H4
    isplitl [HS]; · iapply (scrAt_any m c t.val); iexact HS
    isplitl [HT]; · iexact HT
    iintro ⟨H0, H1, H2, H3, H4, HS, HT⟩
    isplitl [HΦ HS HT]
    · isplitl [HΦ]; · iexact HΦ
      isplitl [HS]; · iexact HS
      iexact HT
    isplitl [Ho]; · iexact Ho
    isplitl [H0]; · iexact H0
    isplitl [H1]; · iexact H1
    isplitl [H2]; · iexact H2
    isplitl [H3]; · iexact H3
    iexact H4
  · rw [show out1 m c t = View.canon (bare (prod1 m c t)) from if_neg hn]
    unfold prod1
    rw [firstOf_self m t hz]
    iintro ⟨⟨HΦ, HS, HT⟩, Ho, ⟨%d0, H0⟩, ⟨%d1, H1⟩, ⟨%d2, H2⟩, ⟨%d3, H3⟩, ⟨%d4, H4⟩⟩
    iapply (runFirstBare_ok c (grid1.coords t) _ _ _ _ _ _ _ _ _ _ (rows1 m c t) (wts1 m c t) (gain1 m c t) (norm1 m c t) (tblF m 0) ((firstRows_iff t).mpr hz) hn ((cond3_iff _).mpr hn) Set.univ _)
    isplitl [H0]; · iexact H0
    isplitl [H1]; · iexact H1
    isplitl [H2]; · iexact H2
    isplitl [H3]; · iexact H3
    isplitl [H4]; · iexists _; iexact H4
    isplitl [HS]; · iapply (scrAt_any m c t.val); iexact HS
    isplitl [HT]; · iexact HT
    iintro ⟨H0, H1, H2, H3, H4, HS, HT⟩
    isplitl [HΦ HS HT]
    · isplitl [HΦ]; · iexact HΦ
      isplitl [HS]; · iexact HS
      iexact HT
    isplitl [Ho]; · iexact Ho
    isplitl [H0]; · iexact H0
    isplitl [H1]; · iexact H1
    isplitl [H2]; · iexact H2
    isplitl [H3]; · iexact H3
    iexact H4
  · rw [show out1 m c t = View.canon (slabs (prod1 m c t) (gain1 m c t) (norm1 m c t)) from if_pos hn]
    unfold prod1
    rw [scrAt_later m c t.val hz]
    iintro ⟨⟨HΦ, HS, HT⟩, Ho, ⟨%d0, H0⟩, ⟨%d1, H1⟩, ⟨%d2, H2⟩, ⟨%d3, H3⟩, ⟨%d4, H4⟩⟩
    iapply (runLaterNormed_ok c (grid1.coords t) _ _ _ _ _ _ _ _ _ _ (rows1 m c t) (wts1 m c t) (gain1 m c t) (norm1 m c t) (tblF m 0) (k1_pay1 (wts1 m c (firstOf m t.val))) (fun h => hz ((firstRows_iff t).mp h)) hn (fun h => (cond3_iff _).mp h hn) Set.univ _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HΦ HS HT]
    · isplitl [HΦ]; · iexact HΦ
      isplitl [HS]; · iexact HS
      iexact HT
    isplitl [Ho]; · iexact Ho
    isplitl [H0]; · iexact H0
    isplitl [H1]; · iexact H1
    isplitl [H2]; · iexact H2
    isplitl [H3]; · iexact H3
    iexact H4
  · rw [show out1 m c t = View.canon (bare (prod1 m c t)) from if_neg hn]
    unfold prod1
    rw [scrAt_later m c t.val hz]
    iintro ⟨⟨HΦ, HS, HT⟩, Ho, ⟨%d0, H0⟩, ⟨%d1, H1⟩, ⟨%d2, H2⟩, ⟨%d3, H3⟩, ⟨%d4, H4⟩⟩
    iapply (runLaterBare_ok c (grid1.coords t) _ _ _ _ _ _ _ _ _ _ (rows1 m c t) (wts1 m c t) (gain1 m c t) (norm1 m c t) (tblF m 0) (k1_pay1 (wts1 m c (firstOf m t.val))) (fun h => hz ((firstRows_iff t).mp h)) hn ((cond3_iff _).mpr hn) Set.univ _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HΦ HS HT]
    · isplitl [HΦ]; · iexact HΦ
      isplitl [HS]; · iexact HS
      iexact HT
    isplitl [Ho]; · iexact Ho
    isplitl [H0]; · iexact H0
    isplitl [H1]; · iexact H1
    isplitl [H2]; · iexact H2
    isplitl [H3]; · iexact H3
    iexact H4

/-- The body as the pipeline's table of bodies gives it. -/
theorem body1_row (t : Fin (cfgN m).N) :
    defs₀ (F := F) .tc (cfgN m).body ((cfgN m).bodyArgs t ((cfgN m).slots t)) = bodyAt1 m t := by
  unfold defs₀; rw [Defs.onTc_tc]

/-- The output is idle at no point: one of the body's two conditions on the flag holds. -/
theorem never_idle (t : Fin (cfgN m).N) : (cfgN m).idle 4 ((cfgN m).grid.coords t) = false := by
  have e : (tblF m).atD 0 (k1_off1 (grid1.coords t)) = flagWord (0 : Dev nD) (grid1.coords t) (tblF m 0) :=
    flagWord_atD 0 _ (tblF m)
  refine Bool.eq_false_iff.mpr fun h => ?_
  replace h : (!(k1_cond2 ((tblF m).atD 0 (k1_off1 (grid1.coords t))) == 1#1)
      && !(k1_cond3 ((tblF m).atD 0 (k1_off1 (grid1.coords t))) == 1#1)) = true := h
  rw [e] at h
  simp only [Bool.and_eq_true, Bool.not_eq_true', beq_eq_false_iff_ne, ne_eq] at h
  exact h.2 ((cond3_iff _).mpr h.1)

/-- What the body leaves in the output is what the launch theorem asks for. -/
theorem out1_left (c : Dev nD) (t : Fin (cfgN m).N) :
    (owns (c : Thread nD τ) (st1_4 m t) fullShare ((dat1 m c).after 4 t) : sProp 𝕄)
      ⊢ match (cfgN m).idle 4 ((cfgN m).grid.coords t) with
        | true =>
          match ((cfgN m).win 4).flush t with
          | false => iprop(∃ d, owns (c : Thread nD τ) (st1_4 m t) fullShare ((dat1 m c).before 4 t d))
          | true => owns (c : Thread nD τ) (st1_4 m t) fullShare ((dat1 m c).after 4 t)
        | false => owns (c : Thread nD τ) (st1_4 m t) fullShare ((dat1 m c).after 4 t) := by
  cases hi : (cfgN m).idle 4 ((cfgN m).grid.coords t)
  · exact .rfl
  · exact absurd ((never_idle m t).symm.trans hi) (by decide)

/-- What the launch theorem asks of the body. -/
theorem body1_obligation (c : Dev nD) : BodyObligation (dat1 (F := F) m c) (defs₀ (F := F)) Variants.none () Set.univ := fun t => by
  rw [bigSep_W1, bigSep_W1, body1_row m]
  exact triple_restated (body1_ok m c t) rfl .rfl fun _ =>
    sep_mono .rfl (sep_mono .rfl (sep_mono .rfl (sep_mono .rfl (sep_mono .rfl (sep_mono .rfl
      (out1_left m c t))))))

end Cert.Kernel2Ideal.InProj

end
-- ==== Proof.InProj.KernelIdeal.Segs.lean ====
/- The two calls and the host operations around them as segments of one program. -/
module

public import proofs.«01_k».proof.Proof.InProj.KernelIdeal.Tiles
public import proofs.«01_k».proof.Proof.Gen.Kernel2Ideal.Regions
public import Idealize.ShloMosaic.Lib.Pipeline.RegionArraysS
public import Idealize.ShloMosaic.Lib.Pipeline.RegionArraysTS

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the two calls end -/

/-- The core's buffers after the second call, -/
abbrev U4 (c : Dev nD) : Valuation τ sig (Elt F) := Pipeline.afterRegion (dat1 m c) (U3 m c)
/-- and after the host's last operations: the heads sliced out. -/
abbrev U5 (c : Dev nD) : Valuation τ sig (Elt F) := StableHlo.after hostOps2 (U4 m c)

/-- A buffer no host operation writes and no call has among its arrays ends as it was. -/
theorem untouched (c : Dev nD) (r : Ref sig .tc) (h0 : r ∉ hostOps0_W) (h1 : r ∉ hostOps1_W) (h2 : r ∉ hostOps2_W)
    (k0 : ∀ w, r ≠ Pipeline.arrRef spec0 w) (k1 : ∀ w, r ≠ Pipeline.arrRef spec1 w) :
    U5 m c (Proc.devRef .tc r) = m ((c : Thread nD τ).loc r) :=
  (StableHlo.after_of_writes_sub hostOps2 _ hostOps2_writes h2).trans <|
    (Pipeline.afterRegion_of_not_arr (dat1 m c) (U3 m c) k1).trans <|
    (StableHlo.after_of_writes_sub hostOps1 _ hostOps1_writes h1).trans <|
    (Pipeline.afterRegion_of_not_arr (dat0 m c) (U1 m c) k0).trans <|
    (StableHlo.after_of_writes_sub hostOps0 _ hostOps0_writes h0).trans rfl

/-! ## The two calls as segments of the program -/

/-- The admissible contents of the two calls' tables, and their proof data. -/
def adms : (p : Fin 2) → (pcfgs (F := F) p).Adm
  | ⟨0, _⟩ => cfg0.toPCfg_adm
  | ⟨1, _⟩ => adm1 m
def pdats : (p : Fin 2) → (c : Dev nD) → Dat τ (Elt F) Unit ℕ (UR sig nD τ) ℕ (Pipeline.pin (pcfgs (F := F)) (adms m) p) c
  | ⟨0, _⟩ => dat0 m
  | ⟨1, _⟩ => dat1 m

open Classical in
/-- The cells the cores wait on: their own. -/
def lev (g : GSem nD τ sig) : Finset Unit := if g.1.2 = .tc then {()} else ∅
abbrev lv0 : GSem nD τ sig → Unit → ℕ := fun _ _ => 0

theorem lev_off (g : GSem nD τ sig) (h : g.1.2 ≠ .tc) : lev g = ∅ := if_neg h
theorem lev_tc (c : Dev nD) (s : SemLoc sig) : () ∈ lev ((c : Thread nD τ), s) := by
  unfold lev; rw [if_pos rfl]; exact Finset.mem_singleton_self ()

theorem cut (p : Fin 2) : Pipeline.LevelCut (pcfgs (F := F)) (adms m) () lev lv0 p (fun _ => (0 : CellTallies nD τ sig Unit)) (fun _ => 0) where
  hι c w s := lev_tc c _
  hιb c w s := Nat.le_refl 0
  hD c g i h := absurd h (Nat.lt_irrefl 0)

/-- What rides beside the buffers: the core owes nothing. -/
abbrev rest (c : Dev nD) : sProp 𝕄 := iprop((∃ W, owes (c : Thread nD τ) (0 : CellTallies nD τ sig Unit) W) ∗ emp ∗ emp)

theorem arrs0 : Pipeline.arrRefs (τ := τ) (pcfgs (F := F) 0).spec ⊆ Pipeline.ucRefs τ sig := Pipeline.arrRefs_sub_ucRefs spec0 (by decide)
theorem arrs1 : Pipeline.arrRefs (τ := τ) (pcfgs (F := F) 1).spec ⊆ Pipeline.ucRefs τ sig := Pipeline.arrRefs_sub_ucRefs spec1 (by decide)
theorem tabs1 : Pipeline.tblRefs (τ := τ) (pcfgs (F := F) 1).pre ⊆ Pipeline.ucRefs τ sig := Pipeline.tblRefs_sub_ucRefs pre1 (by decide)

/-- The second call's invariant before its first point, from the buffers no window stages and the table, -/
theorem enter1 (c : Dev nD) :
    iprop(iprop(Pipeline.scopedRest spec1 c ∗ emp) ∗ Pipeline.prefHeld pre1 c (fun _ => fullShare) (tblF m)) ⊢ (dat1 m c).Φ 0 := by
  rw [scopedRest1_eq, show (dat1 m c).Φ 0 = iprop(others c ∗ (∃ d, owns (c : Thread nD τ) scr fullShare d) ∗ flagPt c (tblF m 0)) from rfl,
    show (Pipeline.prefHeld pre1 c (fun _ => fullShare) (tblF m) : sProp 𝕄) = flagPt c (tblF m 0) from by
      unfold Pipeline.prefHeld
      rw [show (Finset.univ : Finset (Fin 1)) = {(0 : Fin 1)} from by decide, bigSep_singleton]
      rfl]
  unfold others
  iintro ⟨⟨⟨H0, H1, H2, H3, H4, ⟨%f, HS⟩⟩, -⟩, HT⟩
  isplitl [H0 H1 H2 H3 H4]
  · isplitl [H0]; · iexact H0
    isplitl [H1]; · iexact H1
    isplitl [H2]; · iexact H2
    isplitl [H3]; · iexact H3
    iexact H4
  isplitl [HS]
  · iexists f
    rw [owns_whole]
    iexact HS
  iexact HT

/-- and they again from it after the last. -/
theorem leave1 (c : Dev nD) :
    (dat1 m c).Φ (Fin.last (cfgN m).N) ⊢ iprop(iprop(Pipeline.scopedRest spec1 c ∗ emp) ∗ Pipeline.prefHeld pre1 c (fun _ => fullShare) (tblF m)) := by
  rw [scopedRest1_eq, show (dat1 m c).Φ (Fin.last (cfgN m).N) = iprop(others c ∗ scrAt m c (cfgN m).N ∗ flagPt c (tblF m 0)) from rfl,
    show (Pipeline.prefHeld pre1 c (fun _ => fullShare) (tblF m) : sProp 𝕄) = flagPt c (tblF m 0) from by
      unfold Pipeline.prefHeld
      rw [show (Finset.univ : Finset (Fin 1)) = {(0 : Fin 1)} from by decide, bigSep_singleton]
      rfl]
  unfold others
  iintro ⟨⟨H0, H1, H2, H3, H4⟩, HS, HT⟩
  ihave HS' := (scrAt_any m c (cfgN m).N) $$ HS
  icases HS' with ⟨%d, HS⟩
  isplitr [HT]
  · isplitr []
    swap; · iempintro
    isplitl [H0]; · iexact H0
    isplitl [H1]; · iexact H1
    isplitl [H2]; · iexact H2
    isplitl [H3]; · iexact H3
    isplitl [H4]; · iexact H4
    iapply (show (owns (c : Thread nD τ) scr fullShare d : sProp 𝕄) ⊢ iprop(∃ f, (c : Thread nD τ).loc cc1_scratch0 ↦{fullShare} f) from by
      rw [owns_whole]
      iintro H
      iexists d
      iexact H)
    iexact HS
  iexact HT

set_option backward.isDefEq.respectTransparency.types false in
/-- The first call. -/
def reg0 : Pipeline.RegionSeg (pcfgs (F := F)) (adms m) (pdats m) () defs₀ Variants.none lev lv0 0 :=
  Pipeline.RegionSeg.ofHeldIn (pcfgs (F := F)) (adms m) (pdats m) () defs₀ Variants.none lev lv0 0 (fun _ => 0) (Pipeline.ucRefs τ sig)
    (fun _ => iprop(emp)) (fun _ => iprop(emp)) launch0 rfl (fun c => (body0_obligation m c).loose) (fun _ _ => rfl) (fun _ => rfl)
    (fun c => (dat0 m c).share_full fun _ => rfl)
    (fun c => show iprop(Pipeline.scopedRest spec0 c ∗ emp) ⊢ Pipeline.scopedRest spec0 c from by iintro ⟨H, -⟩; iexact H)
    (fun c => show Pipeline.scopedRest spec0 c ⊢ iprop(Pipeline.scopedRest spec0 c ∗ emp) from by
      iintro H
      isplitl [H]
      · iexact H
      · iempintro)
    (fun _ => 0) (cut m 0) (fun _ => iprop(emp)) (U1 m) (fun c w => dat0_A m c w)

set_option backward.isDefEq.respectTransparency.types false in
/-- The second call. -/
def reg1 : Pipeline.RegionSeg (pcfgs (F := F)) (adms m) (pdats m) () defs₀ Variants.none lev lv0 1 :=
  Pipeline.RegionSeg.ofHeldInT (pcfgs (F := F)) (adms m) (pdats m) () defs₀ Variants.none lev lv0 1 (fun _ => 0) (Pipeline.ucRefs τ sig)
    (fun _ => iprop(emp)) (fun _ => iprop(emp)) launch1 (fun c => (body1_obligation m c).loose) (fun _ _ => rfl) (fun _ => rfl)
    (fun c => (dat1 m c).share_full fun _ => rfl) (fun c => enter1 m c) (fun c => leave1 m c)
    (fun _ => 0) (cut m 1) (fun _ => iprop(emp)) (U3 m) (fun c w => dat1_A m c w)
    (fun c k => by obtain rfl : c = 0 := Subsingleton.elim _ _; rfl)

/-! ## The entries and the exits of the two calls -/

set_option backward.isDefEq.respectTransparency.types false in
theorem pre0 (c : Dev nD) : iprop(StableHlo.held (c : Thread nD τ) (Pipeline.ucRefs τ sig) (U1 m c) ∗ rest c) ⊢ (reg0 m).pre c := by
  unfold reg0
  exact Pipeline.RegionSeg.ofHeldIn_pre (pcs := pcfgs (F := F)) (a := adms m) (pdats := pdats m) (ι := ()) (defs₀ := defs₀) (𝒱₀ := Variants.none) (L := lev) (lv := lv0) (p := (0 : Fin 2)) (D := fun _ => 0)
    (S := Pipeline.ucRefs τ sig) (X := fun _ => iprop(emp)) (Y := fun _ => iprop(emp)) (R := fun _ => iprop(emp)) (W := U1 m)
    (arrs0 (F := F)) c

set_option backward.isDefEq.respectTransparency.types false in
theorem post0 (c : Dev nD) : (reg0 m).post c ⊢ iprop(StableHlo.held (c : Thread nD τ) (Pipeline.ucRefs τ sig) (U2 m c) ∗ rest c) := by
  unfold reg0
  exact Pipeline.RegionSeg.ofHeldIn_post (pcs := pcfgs (F := F)) (a := adms m) (pdats := pdats m) (ι := ()) (defs₀ := defs₀) (𝒱₀ := Variants.none) (L := lev) (lv := lv0) (p := (0 : Fin 2)) (D := fun _ => 0)
    (S := Pipeline.ucRefs τ sig) (X := fun _ => iprop(emp)) (Y := fun _ => iprop(emp)) (R := fun _ => iprop(emp)) (W := U1 m)
    (arrs0 (F := F)) c

set_option backward.isDefEq.respectTransparency.types false in
theorem pre1_ok (c : Dev nD) : iprop(StableHlo.held (c : Thread nD τ) (Pipeline.ucRefs τ sig) (U3 m c) ∗ rest c) ⊢ (reg1 m).pre c := by
  unfold reg1
  exact Pipeline.RegionSeg.ofHeldInT_pre (pcs := pcfgs (F := F)) (a := adms m) (pdats := pdats m) (ι := ()) (defs₀ := defs₀) (𝒱₀ := Variants.none) (L := lev) (lv := lv0) (p := (1 : Fin 2)) (D := fun _ => 0)
    (S := Pipeline.ucRefs τ sig) (X := fun _ => iprop(emp)) (Y := fun _ => iprop(emp)) (R := fun _ => iprop(emp)) (W := U3 m)
    (arrs1 (F := F)) (tabs1 (F := F)) c

set_option backward.isDefEq.respectTransparency.types false in
theorem post1 (c : Dev nD) : (reg1 m).post c ⊢ iprop(StableHlo.held (c : Thread nD τ) (Pipeline.ucRefs τ sig) (U4 m c) ∗ rest c) := by
  unfold reg1
  exact Pipeline.RegionSeg.ofHeldInT_post (pcs := pcfgs (F := F)) (a := adms m) (pdats := pdats m) (ι := ()) (defs₀ := defs₀) (𝒱₀ := Variants.none) (L := lev) (lv := lv0) (p := (1 : Fin 2)) (D := fun _ => 0)
    (S := Pipeline.ucRefs τ sig) (X := fun _ => iprop(emp)) (Y := fun _ => iprop(emp)) (R := fun _ => iprop(emp)) (W := U3 m)
    (arrs1 (F := F)) (tabs1 (F := F)) c

/-! ## The host's operations as segments of the program -/

/-- The rows and the gains reshaped, the flags laid out. -/
def host0 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) rest

/-- The weights, the gains and the selection laid out. -/
def host1 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) rest

/-- The heads sliced out. -/
def host2 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) rest

end Cert.Kernel2Ideal.InProj

end
-- ==== Proof.InProj.KernelIdeal.Run.lean ====
/- The two calls and the host operations around them, run. -/
module

public import proofs.«01_k».proof.Proof.InProj.KernelIdeal.Segs

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program as its five segments. -/
abbrev parts (_ : Dev nD) : List (Pipeline.Seg (pcfgs (F := F)) (adms m) (pdats m) () defs₀ Variants.none lev lv0) :=
  [.host (host0 m), .region (reg0 m), .host (host1 m), .region (reg1 m), .host (host2 m)]

/-- The core ends owing nothing. -/
theorem finish (c : Dev nD) : (iprop(StableHlo.held (c : Thread nD τ) (Pipeline.ucRefs τ sig) (U5 m c) ∗ rest c) : sProp 𝕄)
    ⊢ iprop(StableHlo.held (c : Thread nD τ) (Pipeline.ucRefs τ sig) (U5 m c) ∗ ∃ W, owes (c : Thread nD τ) (0 : CellTallies nD τ sig Unit) W) := by
  iintro ⟨Hh, HO, -⟩
  isplitl [Hh]; · iexact Hh
  iexact HO

/-! ## The run -/

set_option backward.isDefEq.respectTransparency.types false in
/-- From any memory with zero counters the two calls end with every buffer as `U5` says and every counter at zero. -/
theorem run_result : θ_run defs (onTc (τ := τ) (main (F := F))) ⟨m, fun _ => 0, ρ⟩ (fun r => (∀ c : Dev nD,
      r.2.mem ((c.tc : Thread nD τ).loc main_v35) = U5 m c (Proc.devRef .tc main_v35)
      ∧ r.2.mem ((c.tc : Thread nD τ).loc main_v37) = U5 m c (Proc.devRef .tc main_v37)
      ∧ r.2.mem ((c.tc : Thread nD τ).loc main_v39) = U5 m c (Proc.devRef .tc main_v39)
      ∧ r.2.mem ((c.tc : Thread nD τ).loc main_v42) = U5 m c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) (adms m) (pdats m) () (cellOf_inj (adms m)) emb₁ defs₀ Variants.none lev lv0 m ρ main
    (parts m)
    (fun c Q => by
      rewrite [main_chain c, Pipeline.Seg.run_eq_chain,
        show (parts m c).map Pipeline.Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [parts, Pipeline.Seg.pipes_host, Pipeline.Seg.pipes_region, Pipeline.Seg.pipes_nil]; decide) 0 lev_off
    (fun _ => iprop(emp)) (initOf (Pipeline.cells (Pipeline.pin (pcfgs (F := F)) (adms m)) (cellOf_inj (adms m))) (Pipeline.launchToks (Pipeline.pin (pcfgs (F := F)) (adms m)) (cellOf_inj (adms m))))
    ?_
    (T₀ := fun c => iprop(StableHlo.held (c : Thread nD τ) (Pipeline.ucRefs τ sig) (U0 m c) ∗ rest c))
    (Tₙ := fun c => StableHlo.held (c : Thread nD τ) (Pipeline.ucRefs τ sig) (U5 m c))
    (hch := fun c => ⟨.rfl, ?_, ?_, ?_, ?_, ?_⟩)
    (hinit := ?_)
    (QY := fun c s => s.mem ((c.tc : Thread nD τ).loc main_v35) = U5 m c (Proc.devRef .tc main_v35) ∧ s.mem ((c.tc : Thread nD τ).loc main_v37) = U5 m c (Proc.devRef .tc main_v37) ∧ s.mem ((c.tc : Thread nD τ).loc main_v39) = U5 m c (Proc.devRef .tc main_v39) ∧ s.mem ((c.tc : Thread nD τ).loc main_v42) = U5 m c (Proc.devRef .tc main_v42) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · iintro Hu; imodintro
    isplitl [Hu]; · iapply (show (ownU _ : sProp 𝕄) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl); iexact Hu
    iapply (show (BI.emp : sProp 𝕄) ⊢ bigSep Finset.univ (fun _ : Dev nD => (BI.emp : sProp 𝕄)) from by rw [BI.bigSep_emp_const])
    iempintro
  · exact pre0 m c
  · exact post0 m c
  · exact pre1_ok m c
  · exact post1 m c
  · exact finish m c
  · refine Pipeline.initEach lev lv0 fun c => ?_
    rw [show unscopedBufs c (fun b => m ((c : Thread nD τ).loc b)) = StableHlo.held (c : Thread nD τ) (Pipeline.ucRefs τ sig) (U0 m c) from Pipeline.unscopedBufs_held c (U0 m c)]
    iintro ⟨⟨Hh, -, HO, -, -, -⟩, -⟩
    imodintro
    isplitl [Hh]; · iexact Hh
    isplitl [HO]; · iexists ∅; iexact HO
    isplitl [] <;> iempintro
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        h (Proc.devRef .tc main_v37) (Finset.mem_filter.mpr ⟨StableHlo.devRef_mem_tcRefs main_v37, by decide⟩),
        h (Proc.devRef .tc main_v39) (Finset.mem_filter.mpr ⟨StableHlo.devRef_mem_tcRefs main_v39, by decide⟩),
        h (Proc.devRef .tc main_v42) (Finset.mem_filter.mpr ⟨StableHlo.devRef_mem_tcRefs main_v42, by decide⟩),
        (h (Proc.devRef .tc main_arg0) (Finset.mem_filter.mpr ⟨StableHlo.devRef_mem_tcRefs main_arg0, by decide⟩)).trans (untouched m c main_arg0 (by decide) (by decide) (by decide) (by decide) (by decide)),
        (h (Proc.devRef .tc main_arg1) (Finset.mem_filter.mpr ⟨StableHlo.devRef_mem_tcRefs main_arg1, by decide⟩)).trans (untouched m c main_arg1 (by decide) (by decide) (by decide) (by decide) (by decide)),
        (h (Proc.devRef .tc main_arg2) (Finset.mem_filter.mpr ⟨StableHlo.devRef_mem_tcRefs main_arg2, by decide⟩)).trans (untouched m c main_arg2 (by decide) (by decide) (by decide) (by decide) (by decide)),
        (h (Proc.devRef .tc main_arg3) (Finset.mem_filter.mpr ⟨StableHlo.devRef_mem_tcRefs main_arg3, by decide⟩)).trans (untouched m c main_arg3 (by decide) (by decide) (by decide) (by decide) (by decide)),
        (h (Proc.devRef .tc main_arg4) (Finset.mem_filter.mpr ⟨StableHlo.devRef_mem_tcRefs main_arg4, by decide⟩)).trans (untouched m c main_arg4 (by decide) (by decide) (by decide) (by decide) (by decide)),
        (h (Proc.devRef .tc main_arg5) (Finset.mem_filter.mpr ⟨StableHlo.devRef_mem_tcRefs main_arg5, by decide⟩)).trans (untouched m c main_arg5 (by decide) (by decide) (by decide) (by decide) (by decide))⟩
    · iexact HSI

end Cert.Kernel2Ideal.InProj

end
-- ==== Proof.InProj.Frame.lean ====
/- The input projection runs on bits as its idealization does: the two programs are the same operations, and what is proved of
   the one's running is proved whatever the arithmetic. -/
module

public import proofs.«01_k».proof.Defs
public import proofs.«01_k».proof.Proof.Gen.Kernel2
public import proofs.«01_k».proof.Proof.InProj.KernelIdeal.Run

@[expose] public section

noncomputable section

namespace Cert.Kernel2Ideal.InProj

open Idealize.ShloMosaic Idealize.ShloMosaic.TcCoe Idealize.ShloMosaic.Tactic Idealize.SL Idealize.SL.Sem
open Cert.Kernel2Ideal Cert.Kernel2Ideal.Gen

/-- From every memory of words the program ends with its arguments unchanged and its semaphores at zero. -/
def Runs : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0)

theorem runs : Runs := fun m ρ _ =>
  (θ_run defs _ _).mono (fun _ hr => ⟨fun c => (hr.1 c).2.2.2.2, hr.2⟩) (run_result m ρ)

/-- The two statements are one. -/
theorem same : Runs = Cert.quiescent_Kernel2 (hKernel2 := Cert.Kernel2.Gen.facts) := by sl_kernel_rfl

theorem frame_bits : Cert.quiescent_Kernel2 (hKernel2 := Cert.Kernel2.Gen.facts) := Eq.mp same runs

end Cert.Kernel2Ideal.InProj

end
-- ==== Proof.InProj.KernelIdeal.Payloads.lean ====
/- The two bodies' payloads, entry by entry. -/
module

public import proofs.«01_k».proof.Proof.InProj.KernelIdeal.Stores
public import Idealize.ShloMosaic.Lib.Pointwise

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row's entry scaled by the reciprocal root of the row's mean square and by a gain; `n` is the row's length as a float's bits. -/
def scaled (n : BitVec 32) {k : ℕ} (y : Fin k → EReal) (l : Fin k) (g : EReal) : EReal :=
  y l * Ideal.rsqrt (Ideal.div (∑ j : Fin k, y j * y j) (Ideal.ofBits .f32 n) + Ideal.ofBits .f32 0x358637BD#32) * g

/-- The first call's tile: the rows scaled. -/
theorem cast_apply (x : Vec Ideal S512x4096 .f32) (g : Vec Ideal S1x4096 .f32) (r : Fin 512) (d : Fin 4096) :
    k0_pay1 x g (ValueIdx.ix2 r d) = scaled 0x45800000#32 (fun j : Fin 4096 => x (ValueIdx.ix2 r j)) d (g (ValueIdx.ix2 0 d)) := by
  pointwise [k0_pay1]
  rfl

/-- The rounded weights. -/
theorem pay1_apply (w : Vec Ideal S4096x512 .f32) (d : Fin 4096) (k : Fin 512) :
    k1_pay1 w (ValueIdx.ix3 0 d k) = w (ValueIdx.ix2 d k) := by
  pointwise [k1_pay1]
  rfl

/-- The products. -/
theorem pay2_apply (x : Vec Ideal S1024x4096 .bf16) (w : Vec Ideal S1x4096x512 .bf16) (r : Fin 1024) (k : Fin 512) :
    k1_pay2 x w (ValueIdx.ix2 r k) = ∑ d : Fin 4096, x (ValueIdx.ix2 r d) * w (ValueIdx.ix3 0 d k) := by
  pointwise [k1_pay2]
  rfl

/-- An entry of a head, normalised where the selection is positive. -/
def picked (s : EReal) (y : Fin 128 → EReal) (l : Fin 128) (g : EReal) : EReal :=
  if 0 < s then scaled 0x43000000#32 y l g else y l

theorem picked_of (y : Fin 128 → EReal) (l : Fin 128) (g : EReal) : picked 1 y l g = scaled 0x43000000#32 y l g := if_pos zero_lt_one
theorem picked_not (y : Fin 128 → EReal) (l : Fin 128) (g : EReal) : picked 0 y l g = y l := if_neg (lt_irrefl 0)

/-- Column `l` of head `q` of a tile. -/
def at4 (q : Fin 4) (l : Fin 128) : Fin 512 := ⟨128 * q.val + l.val, by omega⟩

theorem at4_zero (l : Fin 128) : at4 0 l = ⟨l.val, by omega⟩ := Fin.ext (show 128 * 0 + l.val = l.val by omega)

/-! The four slabs a tile's heads are stored in. -/

theorem slab0_apply (y : FVec Ideal S1024x512 .f32) (g s : Vec Ideal S1x512 .f32) (r : Fin 1024) (l : Fin 128) :
    k1_pay4 y (View.ld s (Rect.unit ![0, 0] ![1, 128] inb_S1x512_S1x128_0_0)) (View.ld g (Rect.unit ![0, 0] ![1, 128] inb_S1x512_S1x128_0_0)) (ValueIdx.ix2 r l)
      = picked (s (ValueIdx.ix2 0 (at4 0 l))) (fun j => y (ValueIdx.ix2 r (at4 0 j))) l (g (ValueIdx.ix2 0 (at4 0 l))) := by
  simp only [at4_zero]
  pointwise [k1_pay4]
  rfl

theorem slab1_apply (y : FVec Ideal S1024x512 .f32) (g s : Vec Ideal S1x512 .f32) (r : Fin 1024) (l : Fin 128) :
    k1_pay9 (k1_pay5 y) (k1_pay6 (View.ld s (Rect.unit ![0, 128] ![1, 128] inb_S1x512_S1x128_0_128))) (k1_pay7 y)
        (k1_pay8 (View.ld g (Rect.unit ![0, 128] ![1, 128] inb_S1x512_S1x128_0_128))) (ValueIdx.ix2 r l)
      = picked (s (ValueIdx.ix2 0 (at4 1 l))) (fun j => y (ValueIdx.ix2 r (at4 1 j))) l (g (ValueIdx.ix2 0 (at4 1 l))) := by
  pointwise [k1_pay9, k1_pay5, k1_pay6, k1_pay7, k1_pay8]
  rfl

theorem slab2_apply (y : FVec Ideal S1024x512 .f32) (g s : Vec Ideal S1x512 .f32) (r : Fin 1024) (l : Fin 128) :
    k1_pay10 y (View.ld s (Rect.unit ![0, 256] ![1, 128] inb_S1x512_S1x128_0_256)) (View.ld g (Rect.unit ![0, 256] ![1, 128] inb_S1x512_S1x128_0_256)) (ValueIdx.ix2 r l)
      = picked (s (ValueIdx.ix2 0 (at4 2 l))) (fun j => y (ValueIdx.ix2 r (at4 2 j))) l (g (ValueIdx.ix2 0 (at4 2 l))) := by
  pointwise [k1_pay10]
  rfl

theorem slab3_apply (y : FVec Ideal S1024x512 .f32) (g s : Vec Ideal S1x512 .f32) (r : Fin 1024) (l : Fin 128) :
    k1_pay3 (k1_pay11 y) (k1_pay12 (View.ld s (Rect.unit ![0, 384] ![1, 128] inb_S1x512_S1x128_0_384)))
        (k1_pay13 (View.ld g (Rect.unit ![0, 384] ![1, 128] inb_S1x512_S1x128_0_384))) (k1_pay14 y) (k1_pay15 (F := Ideal)) (ValueIdx.ix2 r l)
      = picked (s (ValueIdx.ix2 0 (at4 3 l))) (fun j => y (ValueIdx.ix2 r (at4 3 j))) l (g (ValueIdx.ix2 0 (at4 3 l))) := by
  pointwise [k1_pay3, k1_pay11, k1_pay12, k1_pay13, k1_pay14, k1_pay15]
  rfl

end Cert.Kernel2Ideal.InProj

end
-- ==== Proof.InProj.KernelIdeal.Columns.lean ====
/- The gains and the selection the second call reads, column by column. -/
module

public import proofs.«01_k».proof.Proof.InProj.KernelIdeal.Tiles
public import Idealize.ShloMosaic.Lib.Pointwise

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The gains and the selection, laid along the columns -/

/-- Ones over a head. -/
def ones : FVec Ideal S128 .f32 := broadcastInDim S128 ![] bcast_S_S128 (constant (F := Ideal) S_ .f32 0x3F800000#32)

/-- One head's gains and ones after them, for each of the four heads. -/
def pairs (a b : FVec Ideal S128 .f32) : FVec Ideal S1024 .f32 :=
  shapeCast S1024 (broadcastInDim S4x256 ![0, 1] bcast_S1x256_S4x256_0_1
    (shapeCast S1x256 (concatenate S256 0 [⟨S128, a⟩, ⟨S128, b⟩] concatenates_S128_S128_S256_d0) shapeCasts_S256_S1x256)) shapeCasts_S4x256_S1024

theorem pairs_apply (a b : FVec Ideal S128 .f32) (k : Fin 1024) :
    pairs a b (ValueIdx.ix1 k) = if k.val / 128 % 2 = 0 then a (ValueIdx.ix1 ⟨k.val % 128, Nat.mod_lt _ (by decide)⟩)
      else b (ValueIdx.ix1 ⟨k.val % 128, Nat.mod_lt _ (by decide)⟩) := by
  pointwise [pairs]
  show (if h : k.val % 256 < 128 then a (ValueIdx.ix1 ⟨k.val % 256, h⟩) else b (ValueIdx.ix1 ⟨k.val % 256 - 128, by omega⟩)) = _
  by_cases h : k.val % 256 < 128
  · rw [dif_pos h, if_pos (by omega)]
    exact congrArg (fun i => a (ValueIdx.ix1 i)) (Fin.ext (show k.val % 256 = k.val % 128 by omega))
  · rw [dif_neg h, if_neg (by omega)]
    exact congrArg (fun i => b (ValueIdx.ix1 i)) (Fin.ext (show k.val % 256 - 128 = k.val % 128 by omega))

/-- The query heads' gains, for each of the sixteen heads. -/
def heads (g : FVec Ideal S1x128 .f32) : FVec Ideal S2048 .f32 :=
  shapeCast S2048 (broadcastInDim S16x128 ![0, 1] bcast_S1x128_S16x128_0_1
    (shapeCast S1x128 (shapeCast S128 g shapeCasts_S1x128_S128) shapeCasts_S128_S1x128)) shapeCasts_S16x128_S2048

theorem heads_apply (g : FVec Ideal S1x128 .f32) (k : Fin 2048) :
    heads g (ValueIdx.ix1 k) = g (ValueIdx.ix2 0 ⟨k.val % 128, Nat.mod_lt _ (by decide)⟩) := by
  pointwise [heads]
  rfl

/-- Five stretches of columns laid side by side. -/
def along (a : FVec Ideal S8192 .f32) (b : FVec Ideal S2048 .f32) (d e f : FVec Ideal S1024 .f32) : FVec Ideal S1x13312 .f32 :=
  shapeCast S1x13312 (concatenate S13312 0 [⟨S8192, a⟩, ⟨S2048, b⟩, ⟨S1024, d⟩, ⟨S1024, e⟩, ⟨S1024, f⟩]
    concatenates_S8192_S2048_S1024_S1024_S1024_S13312_d0) shapeCasts_S13312_S1x13312

theorem along_apply (a : FVec Ideal S8192 .f32) (b : FVec Ideal S2048 .f32) (d e f : FVec Ideal S1024 .f32) (k : Fin 13312) :
    along a b d e f (ValueIdx.ix2 0 k) =
      if h : k.val < 8192 then a (ValueIdx.ix1 ⟨k.val, h⟩)
      else if h : k.val < 10240 then b (ValueIdx.ix1 ⟨k.val - 8192, by omega⟩)
      else if h : k.val < 11264 then d (ValueIdx.ix1 ⟨k.val - 10240, by omega⟩)
      else if h : k.val < 12288 then e (ValueIdx.ix1 ⟨k.val - 11264, by omega⟩)
      else f (ValueIdx.ix1 ⟨k.val - 12288, by omega⟩) := by
  pointwise [along]
  by_cases h1 : k.val < 8192
  · refine (dif_pos h1).trans (Eq.trans ?_ (dif_pos h1).symm)
    rfl
  refine (dif_neg h1).trans (Eq.trans ?_ (dif_neg h1).symm)
  by_cases h2 : k.val < 10240
  · refine (dif_pos (show k.val - 8192 < 2048 by omega)).trans (Eq.trans ?_ (dif_pos h2).symm)
    rfl
  refine (dif_neg (show ¬ k.val - 8192 < 2048 by omega)).trans (Eq.trans ?_ (dif_neg h2).symm)
  by_cases h3 : k.val < 11264
  · refine (dif_pos (show k.val - 8192 - 2048 < 1024 by omega)).trans (Eq.trans ?_ (dif_pos h3).symm)
    exact congrArg (fun i => d (ValueIdx.ix1 i)) (Fin.ext (show k.val - 8192 - 2048 = k.val - 10240 by omega))
  refine (dif_neg (show ¬ k.val - 8192 - 2048 < 1024 by omega)).trans (Eq.trans ?_ (dif_neg h3).symm)
  by_cases h4 : k.val < 12288
  · refine (dif_pos (show k.val - 8192 - 2048 - 1024 < 1024 by omega)).trans (Eq.trans ?_ (dif_pos h4).symm)
    exact congrArg (fun i => e (ValueIdx.ix1 i)) (Fin.ext (show k.val - 8192 - 2048 - 1024 = k.val - 11264 by omega))
  refine (dif_neg (show ¬ k.val - 8192 - 2048 - 1024 < 1024 by omega)).trans (Eq.trans ?_ (dif_neg h4).symm)
  exact congrArg (fun i => f (ValueIdx.ix1 i)) (Fin.ext (show k.val - 8192 - 2048 - 1024 - 1024 = k.val - 12288 by omega))

/-- A constant along a stretch. -/
abbrev flat8192 (w : BitVec 32) : FVec Ideal S8192 .f32 := broadcastInDim S8192 ![] bcast_S_S8192 (constant (F := Ideal) S_ .f32 w)
abbrev flat2048 (w : BitVec 32) : FVec Ideal S2048 .f32 := broadcastInDim S2048 ![] bcast_S_S2048 (constant (F := Ideal) S_ .f32 w)
abbrev flat1024 (w : BitVec 32) : FVec Ideal S1024 .f32 := broadcastInDim S1024 ![] bcast_S_S1024 (constant (F := Ideal) S_ .f32 w)
abbrev flat128 (w : BitVec 32) : FVec Ideal S128 .f32 := broadcastInDim S128 ![] bcast_S_S128 (constant (F := Ideal) S_ .f32 w)

/-- The gains. -/
def gains (gq gs gw : FVec Ideal S1x128 .f32) : FVec Ideal S1x13312 .f32 :=
  along (flat8192 0x3F800000#32) (heads gq) (flat1024 0x3F800000#32) (pairs (shapeCast S128 gs shapeCasts_S1x128_S128) ones)
    (pairs (shapeCast S128 gw shapeCasts_S1x128_S128) ones)

/-- The selection: one where a head's column is normalised, zero elsewhere. -/
def selection : FVec Ideal S1x13312 .f32 :=
  along (flat8192 0x00000000#32) (flat2048 0x3F800000#32) (flat1024 0x00000000#32) (pairs ones (mulf (flat128 0x00000000#32) ones))
    (pairs ones (mulf (flat128 0x00000000#32) ones))

theorem ones_apply (i : S128.Idx) : ones i = 1 := by
  pointwise [ones]
theorem noughts_apply (i : S128.Idx) : mulf (flat128 0x00000000#32) ones i = 0 := by
  show flat128 0x00000000#32 i * ones i = 0
  rw [ones_apply, mul_one]
  pointwise
theorem flat2048_one (i : S2048.Idx) : flat2048 0x3F800000#32 i = 1 := by
  pointwise

/-- The columns that are normalised: the query heads', and the key half of the selected and window heads'. -/
def Heads (k : ℕ) : Prop := (8192 ≤ k ∧ k < 10240) ∨ (11264 ≤ k ∧ k / 128 % 2 = 0)

instance : DecidablePred Heads := fun k => inferInstanceAs (Decidable (_ ∨ _))

theorem selection_of (k : Fin 13312) (h8 : 8192 ≤ k.val) (h : k.val < 10240 ∨ 11264 ≤ k.val) :
    selection (ValueIdx.ix2 0 k) = if Heads k.val then 1 else 0 := by
  unfold selection
  rw [along_apply, dif_neg (by omega)]
  by_cases h2 : k.val < 10240
  · rw [dif_pos h2, if_pos (show Heads k.val from Or.inl ⟨h8, h2⟩)]
    exact flat2048_one _
  rw [dif_neg h2, dif_neg (by omega)]
  have key : ∀ i : Fin 1024, i.val % 256 = k.val % 256 → pairs ones (mulf (flat128 0x00000000#32) ones) (ValueIdx.ix1 i) = if Heads k.val then 1 else 0 := by
    intro i hi
    rw [pairs_apply]
    by_cases hp : i.val / 128 % 2 = 0
    · rw [if_pos hp, if_pos (show Heads k.val from Or.inr ⟨by omega, by omega⟩)]
      exact ones_apply _
    · rw [if_neg hp, if_neg (show ¬ Heads k.val by rintro (⟨_, _⟩ | ⟨_, _⟩) <;> omega)]
      exact noughts_apply _
  by_cases h4 : k.val < 12288
  · rw [dif_pos h4]
    exact key _ (show (k.val - 11264) % 256 = k.val % 256 by omega)
  · rw [dif_neg h4]
    exact key _ (show (k.val - 12288) % 256 = k.val % 256 by omega)

/-- The gain of a normalised column. -/
def gainOf (gq gs gw : FVec Ideal S1x128 .f32) (k : ℕ) : EReal :=
  if k < 10240 then gq (ValueIdx.ix2 0 ⟨k % 128, Nat.mod_lt _ (by decide)⟩)
  else if k < 12288 then gs (ValueIdx.ix2 0 ⟨k % 128, Nat.mod_lt _ (by decide)⟩)
  else gw (ValueIdx.ix2 0 ⟨k % 128, Nat.mod_lt _ (by decide)⟩)

theorem gains_of (gq gs gw : FVec Ideal S1x128 .f32) (k : Fin 13312) (h : Heads k.val) :
    gains gq gs gw (ValueIdx.ix2 0 k) = gainOf gq gs gw k.val := by
  have h8 : 8192 ≤ k.val := by rcases h with ⟨_, _⟩ | ⟨_, _⟩ <;> omega
  unfold gains gainOf
  rw [along_apply, dif_neg (by omega)]
  by_cases h2 : k.val < 10240
  · rw [dif_pos h2, if_pos h2, heads_apply]
    exact congrArg (fun i => gq (ValueIdx.ix2 0 i)) (Fin.ext (show (k.val - 8192) % 128 = k.val % 128 by omega))
  have hk : 11264 ≤ k.val ∧ k.val / 128 % 2 = 0 := by rcases h with ⟨_, _⟩ | h; · omega
                                                      · exact h
  rw [dif_neg h2, dif_neg (by omega), if_neg h2]
  by_cases h4 : k.val < 12288
  · rw [dif_pos h4, if_pos h4, pairs_apply, if_pos (show (k.val - 11264) / 128 % 2 = 0 by omega)]
    pointwise
    exact congrArg (fun i => gs (ValueIdx.ix2 0 i)) (Fin.ext (show (k.val - 11264) % 128 = k.val % 128 by omega))
  · rw [dif_neg h4, if_neg h4, pairs_apply, if_pos (show (k.val - 12288) / 128 % 2 = 0 by omega)]
    pointwise
    exact congrArg (fun i => gw (ValueIdx.ix2 0 i)) (Fin.ext (show (k.val - 12288) % 128 = k.val % 128 by omega))

/-! ## What the host's operations leave -/

variable (V : Valuation τ sig (Elt Ideal))

theorem rows_laid : StableHlo.after hostOps0 V (Proc.devRef .tc main_v0) = shapeCast S8192x4096 (V (Proc.devRef .tc main_arg0) : Vec Ideal S4x2048x4096 .f32) shapeCasts_S4x2048x4096_S8192x4096 := by
  after_results <;> rfl
theorem gain_laid : StableHlo.after hostOps0 V (Proc.devRef .tc main_v2)
    = shapeCast S1x4096 (shapeCast S4096 (V (Proc.devRef .tc main_arg1) : Vec Ideal S1x4096 .f32) shapeCasts_S1x4096_S4096) shapeCasts_S4096_S1x4096 := by
  after_results <;> rfl
theorem flags_laid : StableHlo.after hostOps0 V (Proc.devRef .tc main_c) = fun i => lit0 (S26.rowMajor i) := by
  after_results <;> rfl
theorem gains_laid : StableHlo.after hostOps1 V (Proc.devRef .tc main_v28)
    = gains (V (Proc.devRef .tc main_arg3)) (V (Proc.devRef .tc main_arg4)) (V (Proc.devRef .tc main_arg5)) := by
  after_results <;> rfl
theorem selection_laid : StableHlo.after hostOps1 V (Proc.devRef .tc main_v33) = selection := by
  after_results <;> rfl
theorem weights_laid : StableHlo.after hostOps1 V (Proc.devRef .tc main_v34)
    = shapeCast S4096x13360 (V (Proc.devRef .tc main_arg2) : Vec Ideal S1x4096x13360 .f32) shapeCasts_S1x4096x13360_S4096x13360 := by
  after_results <;> rfl

end Cert.Kernel2Ideal.InProj

end
-- ==== Proof.InProj.KernelIdeal.Acts.lean ====
/- The array the first call leaves, and what the second finds in every array it reads. -/
module

public import proofs.«01_k».proof.Proof.InProj.KernelIdeal.Segs
public import proofs.«01_k».proof.Proof.InProj.KernelIdeal.Payloads
public import proofs.«01_k».proof.Proof.InProj.KernelIdeal.Columns

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable (m : (ℓ : Loc nD τ sig) → Buf (Elt Ideal) ℓ) (ρ : Dev nD → PrngReg)

/-! ## The arguments, and what the first call leaves -/

abbrev argX (c : Dev nD) : FVec Ideal S4x2048x4096 .f32 := m ((c : Thread nD τ).loc main_arg0)
abbrev argG (c : Dev nD) : FVec Ideal S1x4096 .f32 := m ((c : Thread nD τ).loc main_arg1)
abbrev argW (c : Dev nD) : FVec Ideal S1x4096x13360 .f32 := m ((c : Thread nD τ).loc main_arg2)
abbrev argQ (c : Dev nD) : FVec Ideal S1x128 .f32 := m ((c : Thread nD τ).loc main_arg3)
abbrev argS (c : Dev nD) : FVec Ideal S1x128 .f32 := m ((c : Thread nD τ).loc main_arg4)
abbrev argV (c : Dev nD) : FVec Ideal S1x128 .f32 := m ((c : Thread nD τ).loc main_arg5)

/-- Row `n` of the input, its first two axes joined. -/
def xRow (x : FVec Ideal S4x2048x4096 .f32) (n : Fin 8192) (j : Fin 4096) : EReal :=
  x (ValueIdx.ix3 ⟨n.val / 2048, by omega⟩ ⟨n.val % 2048, Nat.mod_lt _ (by decide)⟩ j)

/-- The row scaled. -/
def act (x : FVec Ideal S4x2048x4096 .f32) (g : FVec Ideal S1x4096 .f32) (n : Fin 8192) (d : Fin 4096) : EReal :=
  scaled 0x45800000#32 (xRow x n) d (g (ValueIdx.ix2 0 d))

/-- All of them. -/
def acts (x : FVec Ideal S4x2048x4096 .f32) (g : FVec Ideal S1x4096 .f32) : Vec Ideal S8192x4096 .bf16 := fun y => act x g (y 0) (y 1)

theorem rows_entry (c : Dev nD) (n : Fin 8192) (j : Fin 4096) :
    (U1 m c (Proc.devRef .tc main_v0) : Vec Ideal S8192x4096 .f32) (ValueIdx.ix2 n j) = xRow (argX m c) n j := by
  refine (congrFun (rows_laid (U0 m c)) (ValueIdx.ix2 n j : S8192x4096.Idx)).trans ?_
  pointwise
  rfl

theorem gain_entry (c : Dev nD) (d : Fin 4096) :
    (U1 m c (Proc.devRef .tc main_v2) : Vec Ideal S1x4096 .f32) (ValueIdx.ix2 0 d) = argG m c (ValueIdx.ix2 0 d) := by
  refine (congrFun (gain_laid (U0 m c)) (ValueIdx.ix2 0 d : S1x4096.Idx)).trans ?_
  pointwise

/-- The point of row tile `i`. -/
def pt0 (i : Fin 16) : Fin grid0.N := ⟨i.val, by rw [N_0]; omega⟩

theorem word_pt0 (i : Fin 16) : (BitVec.ofNat 32 (grid0.coords (pt0 i) 0).val).toNat = i.val := by
  have e : (grid0.coords (pt0 i) 0).val = (pt0 i).val / 1 % 16 := Pipeline.Grid.coords_val (pt0 i) 0 (by decide) rfl
  rw [e, BitVec.toNat_ofNat]
  show i.val / 1 % 16 % 2 ^ 32 = i.val
  omega

def row0 (i : Fin 16) (r : Fin 512) : Fin 8192 := ⟨512 * i.val + r.val, by omega⟩

theorem rows0_apply (c : Dev nD) (i : Fin 16) (r : Fin 512) (j : Fin 4096) :
    rows0 m c (pt0 i) (ValueIdx.ix2 r j) = xRow (argX m c) (row0 i r) j := by
  refine Eq.trans ?_ (rows_entry m c (row0 i r) j)
  refine (View.read_apply ..).trans (congrArg (U1 m c (Proc.devRef .tc main_v0)) (funext fun a => Fin.ext ?_))
  match a with
  | ⟨0, _⟩ => show (BitVec.ofNat 32 (grid0.coords (pt0 i) 0).val).toNat * 512 + 1 * r.val = 512 * i.val + r.val
              rw [word_pt0]; omega
  | ⟨1, _⟩ => show 0 * 4096 + 1 * j.val = j.val
              omega

theorem gain0_apply (c : Dev nD) (i : Fin 16) (d : Fin 4096) :
    gain0 m c (pt0 i) (ValueIdx.ix2 0 d) = argG m c (ValueIdx.ix2 0 d) := by
  refine Eq.trans ?_ (gain_entry m c d)
  refine (View.read_apply ..).trans (congrArg (U1 m c (Proc.devRef .tc main_v2)) (funext fun a => Fin.ext ?_))
  match a with
  | ⟨0, _⟩ => show 0 * 1 + 1 * 0 = 0
              omega
  | ⟨1, _⟩ => show 0 * 4096 + 1 * d.val = d.val
              omega

/-- The block a point leaves. -/
def cast0 (c : Dev nD) (t : Fin cfg0.N) : Vec Ideal S512x4096 .bf16 := k0_pay1 (rows0 m c t) (gain0 m c t)

theorem cast0_apply (c : Dev nD) (i : Fin 16) (r : Fin 512) (d : Fin 4096) :
    cast0 m c (pt0 i) (ValueIdx.ix2 r d) = act (argX m c) (argG m c) (row0 i r) d := by
  refine (cast_apply (rows0 m c (pt0 i)) (gain0 m c (pt0 i)) r d).trans ?_
  rw [gain0_apply]
  exact congrArg (fun y => scaled 0x45800000#32 y d (argG m c (ValueIdx.ix2 0 d))) (funext fun j => rows0_apply m c i r j)

theorem blk_cast (i : Fin 16) (y : S512x4096.Idx) (G : Vec Ideal S8192x4096 .bf16) :
    ((cfg0.win 2).blk (pt0 i)).view.read (Elt Ideal) G y = G (ValueIdx.ix2 (row0 i (y 0)) (y 1)) := by
  refine (View.read_apply ..).trans (congrArg G (funext fun a => Fin.ext ?_))
  match a with
  | ⟨0, _⟩ => show (BitVec.ofNat 32 (grid0.coords (pt0 i) 0).val).toNat * 512 + 1 * (y 0).val = 512 * i.val + (y 0).val
              rw [word_pt0]; omega
  | ⟨1, _⟩ => show 0 * 4096 + 1 * (y 1).val = (y 1).val
              omega

theorem cut_cast (c : Dev nD) (i : Fin 16) (y : S512x4096.Idx) :
    (cfg0.win 2).cut (grid0.coords (pt0 i)) (cast0 m c (pt0 i)) y
      = ((cfg0.win 2).blk (pt0 i)).view.read (Elt Ideal) (acts (argX m c) (argG m c)) y := by
  refine Eq.trans ?_ ((blk_cast i y (acts (argX m c) (argG m c))).trans (cast0_apply m c i (y 0) (y 1)).symm).symm
  refine congrArg (cast0 m c (pt0 i)) (funext fun a => Fin.ext ?_)
  match a with
  | ⟨0, _⟩ => rfl
  | ⟨1, _⟩ => rfl

theorem flushed_cast (c : Dev nD) (t : Fin cfg0.N) :
    (dat0 m c).flushed 2 t = ((cfg0.win 2).blk t).view.read (Elt Ideal) (acts (argX m c) (argG m c)) := by
  have ht : t.val < 16 := Nat.lt_of_lt_of_eq t.isLt N_0
  obtain ⟨i, rfl⟩ : ∃ i : Fin 16, t = pt0 i := ⟨⟨t.val, ht⟩, rfl⟩
  refine Eq.trans (b := (cfg0.win 2).cut (grid0.coords (pt0 i)) (cast0 m c (pt0 i))) rfl ?_
  exact funext (cut_cast m c i)

/-- The tile of a row, and its place in it. -/
def tile0 (n : Fin 8192) : Fin 16 := ⟨n.val / 512, by omega⟩
def in0 (n : Fin 8192) : Fin 512 := ⟨n.val % 512, by omega⟩

theorem mem_cast (y : S8192x4096.Idx) : y ∈ ((cfg0.win 2).blk (pt0 (tile0 (y 0)))).view.set := by
  have e : (((cfg0.win 2).blk (pt0 (tile0 (y 0)))).view.emb (ValueIdx.ix2 (in0 (y 0)) (y 1) : S512x4096.Idx)) = y :=
    funext fun a => Fin.ext (by
      match a with
      | ⟨0, _⟩ => show (BitVec.ofNat 32 (grid0.coords (pt0 (tile0 (y 0))) 0).val).toNat * 512 + 1 * ((y 0).val % 512) = (y 0).val
                  rw [word_pt0]; show (y 0).val / 512 * 512 + _ = _; omega
      | ⟨1, _⟩ => show 0 * 4096 + 1 * (y 1).val = (y 1).val
                  omega)
  have h := View.emb_mem_set ((cfg0.win 2).blk (pt0 (tile0 (y 0)))).view (ValueIdx.ix2 (in0 (y 0)) (y 1) : S512x4096.Idx)
  rw [e] at h
  exact h

/-- The array the first call leaves. -/
theorem acts_left (c : Dev nD) : (dat0 m c).arrAt 2 cfg0.N = acts (argX m c) (argG m c) :=
  (dat0 m c).arrAt_eq_of_cover 2 (acts (argX m c) (argG m c)) (fun t _ => flushed_cast m c t) fun (y : S8192x4096.Idx) =>
    ⟨pt0 (tile0 (y 0)), flush0_2 _, mem_cast y⟩

/-! ## What the second call finds -/

theorem acts_found (c : Dev nD) : (U3 m c (Proc.devRef .tc main_v3) : Vec Ideal S8192x4096 .bf16) = acts (argX m c) (argG m c) :=
  (StableHlo.after_of_writes_sub hostOps1 _ hostOps1_writes (by decide)).trans
    ((Pipeline.afterRegion_arr (dat0 m c) (U1 m c) winFacts0.arr_inj 2).trans (acts_left m c))

/-- A buffer the first call and the host before it leave alone. -/
theorem kept2 (c : Dev nD) (r : Ref sig .tc) (h0 : r ∉ hostOps0_W) (k0 : ∀ w, r ≠ Pipeline.arrRef spec0 w) :
    U2 m c (Proc.devRef .tc r) = m ((c : Thread nD τ).loc r) :=
  (Pipeline.afterRegion_of_not_arr (dat0 m c) (U1 m c) k0).trans <|
    (StableHlo.after_of_writes_sub hostOps0 _ hostOps0_writes h0).trans rfl

theorem weights_found (c : Dev nD) (d : Fin 4096) (k : Fin 13360) :
    (U3 m c (Proc.devRef .tc main_v34) : Vec Ideal S4096x13360 .f32) (ValueIdx.ix2 d k) = argW m c (ValueIdx.ix3 0 d k) := by
  refine (congrFun (weights_laid (U2 m c)) (ValueIdx.ix2 d k : S4096x13360.Idx)).trans ?_
  rw [kept2 m c main_arg2 (by decide) (by decide)]
  pointwise
  rfl

theorem gains_found (c : Dev nD) :
    (U3 m c (Proc.devRef .tc main_v28) : Vec Ideal S1x13312 .f32) = gains (argQ m c) (argS m c) (argV m c) := by
  refine (gains_laid (U2 m c)).trans ?_
  rw [kept2 m c main_arg3 (by decide) (by decide), kept2 m c main_arg4 (by decide) (by decide), kept2 m c main_arg5 (by decide) (by decide)]

theorem selection_found (c : Dev nD) : (U3 m c (Proc.devRef .tc main_v33) : Vec Ideal S1x13312 .f32) = selection :=
  selection_laid (U2 m c)

theorem flags_found (c : Dev nD) : (U3 m c (Proc.devRef .tc main_c) : Vec Ideal S26 .i32) = fun i => lit0 (S26.rowMajor i) :=
  (StableHlo.after_of_writes_sub hostOps1 _ hostOps1_writes (by decide)).trans <|
    (Pipeline.afterRegion_of_not_arr (dat0 m c) (U1 m c) (by decide)).trans (flags_laid (U0 m c))

end Cert.Kernel2Ideal.InProj

end
-- ==== Proof.InProj.KernelIdeal.Blocks.lean ====
/- The second call's blocks, entry by entry. -/
module

public import proofs.«01_k».proof.Proof.InProj.KernelIdeal.Acts

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable (m : (ℓ : Loc nD τ sig) → Buf (Elt Ideal) ℓ) (ρ : Dev nD → PrngReg)

/-! ## A tile with heads, entry by entry -/

/-- The head of a tile's column, and the column's place in it. -/
def headOf (k : Fin 512) : Fin 4 := ⟨k.val / 128, by omega⟩
def placeOf (k : Fin 512) : Fin 128 := ⟨k.val % 128, Nat.mod_lt _ (by decide)⟩

theorem at4_of (k : Fin 512) : at4 (headOf k) (placeOf k) = k := Fin.ext (show 128 * (k.val / 128) + k.val % 128 = k.val by omega)
theorem headOf_at4 (q : Fin 4) (l : Fin 128) : headOf (at4 q l) = q := Fin.ext (show (128 * q.val + l.val) / 128 = q.val by omega)
theorem placeOf_at4 (q : Fin 4) (l : Fin 128) : placeOf (at4 q l) = l := Fin.ext (show (128 * q.val + l.val) % 128 = l.val by omega)

/-- What the four slabs together put in the tile. -/
def tileOf (y : FVec Ideal S1024x512 .f32) (g s : Vec Ideal S1x512 .f32) : Vec Ideal S1024x512 .f32 := fun z =>
  picked (s (ValueIdx.ix2 0 (z 1))) (fun j => y (ValueIdx.ix2 (z 0) (at4 (headOf (z 1)) j))) (placeOf (z 1)) (g (ValueIdx.ix2 0 (z 1)))

theorem tileOf_at (y : FVec Ideal S1024x512 .f32) (g s : Vec Ideal S1x512 .f32) (r : Fin 1024) (q : Fin 4) (l : Fin 128) :
    tileOf y g s (ValueIdx.ix2 r (at4 q l))
      = picked (s (ValueIdx.ix2 0 (at4 q l))) (fun j => y (ValueIdx.ix2 r (at4 q j))) l (g (ValueIdx.ix2 0 (at4 q l))) := by
  show picked (s (ValueIdx.ix2 0 (at4 q l))) (fun j => y (ValueIdx.ix2 r (at4 (headOf (at4 q l)) j))) (placeOf (at4 q l)) (g (ValueIdx.ix2 0 (at4 q l))) = _
  rw [headOf_at4, placeOf_at4]

/-- Column `l` of slab `q` is column `128 q + l` of the tile. -/
theorem emb_slab (r : Fin 1024) (q : Fin 4) (l : Fin 128) (o : ℕ) (ho : o = 128 * q.val)
    (inb : ∀ a, (![0, o] : Fin 2 → ℕ) a + (![1024, 128] : Fin 2 → ℕ) a ≤ S1024x512.size a) :
    (Rect.unit (s := S1024x512) ![0, o] ![1024, 128] inb).emb (ValueIdx.ix2 r l : S1024x128.Idx) = ValueIdx.ix2 r (at4 q l) := by
  refine funext fun a => Fin.ext ?_
  match a with
  | ⟨0, _⟩ => show 0 + 1 * r.val = r.val; omega
  | ⟨1, _⟩ => show o + 1 * l.val = 128 * q.val + l.val; omega

theorem ix2_eta (x : S1024x128.Idx) : ∃ (r : Fin 1024) (l : Fin 128), x = ValueIdx.ix2 r l :=
  ⟨x 0, x 1, funext fun a => by match a with | ⟨0, _⟩ => rfl | ⟨1, _⟩ => rfl⟩

theorem slabs_apply (y : FVec Ideal S1024x512 .f32) (g s : Vec Ideal S1x512 .f32) (z : S1024x512.Idx) :
    View.canon (slabs y g s) z = tileOf y g s z := by
  refine View.canon_apply_of_pieces (tileOf y g s) (slabs y g s) ?_ z (slabs_cover y g s z)
  intro p hp x
  unfold slabs at hp
  simp only [List.mem_cons, List.not_mem_nil, or_false] at hp
  rcases hp with rfl | rfl | rfl | rfl
  · obtain ⟨r, l, rfl⟩ := ix2_eta x
    exact (slab3_apply y g s r l).trans ((tileOf_at y g s r 3 l).symm.trans (congrArg (tileOf y g s) (emb_slab r 3 l 384 rfl inb_S1024x512_S1024x128_0_384).symm))
  · obtain ⟨r, l, rfl⟩ := ix2_eta x
    exact (slab2_apply y g s r l).trans ((tileOf_at y g s r 2 l).symm.trans (congrArg (tileOf y g s) (emb_slab r 2 l 256 rfl inb_S1024x512_S1024x128_0_256).symm))
  · obtain ⟨r, l, rfl⟩ := ix2_eta x
    exact (slab1_apply y g s r l).trans ((tileOf_at y g s r 1 l).symm.trans (congrArg (tileOf y g s) (emb_slab r 1 l 128 rfl inb_S1024x512_S1024x128_0_128).symm))
  · obtain ⟨r, l, rfl⟩ := ix2_eta x
    exact (slab0_apply y g s r l).trans ((tileOf_at y g s r 0 l).symm.trans (congrArg (tileOf y g s) (emb_slab r 0 l 0 rfl inb_S1024x512_S1024x128_0_0).symm))

theorem zero2 : (![0, 0] : Fin 2 → Nat) = fun _ => 0 := funext fun a => by fin_cases a <;> rfl

theorem bare_apply (y : FVec Ideal S1024x512 .f32) : View.canon (bare y) = y := by
  unfold bare
  exact View.canon_unit_zero (S := S1024x512) (Val := Elt Ideal) (e := .f32) zero2 inb_S1024x512_S1024x512_0_0 y

/-! ## The result, entry by entry -/

/-- A row with a weight column. -/
def lin (x : FVec Ideal S4x2048x4096 .f32) (g : FVec Ideal S1x4096 .f32) (w : FVec Ideal S1x4096x13360 .f32) (n : Fin 8192) (k : Fin 13312) : EReal :=
  ∑ d : Fin 4096, act x g n d * w (ValueIdx.ix3 0 d ⟨k.val, by omega⟩)

/-- Place `j` of the head of column `k`, and the place of `k` in it. -/
def headAt (k : Fin 13312) (j : Fin 128) : Fin 13312 := ⟨128 * (k.val / 128) + j.val, by omega⟩
def headIn (k : Fin 13312) : Fin 128 := ⟨k.val % 128, Nat.mod_lt _ (by decide)⟩

/-- Column `k` of row `n` of the result: the product, normalised over its head where it has one. -/
def entry (x : FVec Ideal S4x2048x4096 .f32) (g : FVec Ideal S1x4096 .f32) (w : FVec Ideal S1x4096x13360 .f32) (gq gs gw : FVec Ideal S1x128 .f32)
    (n : Fin 8192) (k : Fin 13312) : EReal :=
  if Heads k.val then scaled 0x43000000#32 (fun j => lin x g w n (headAt k j)) (headIn k) (gainOf gq gs gw k.val) else lin x g w n k

/-- All of them. -/
def whole (x : FVec Ideal S4x2048x4096 .f32) (g : FVec Ideal S1x4096 .f32) (w : FVec Ideal S1x4096x13360 .f32) (gq gs gw : FVec Ideal S1x128 .f32) :
    Vec Ideal S8192x13312 .f32 := fun y => entry x g w gq gs gw (y 0) (y 1)

/-! ## The second call's points: column tile `j` is the outer grid coordinate, row tile `i` the inner one -/

def pt (j : Fin 26) (i : Fin 8) : Fin grid1.N := ⟨8 * j.val + i.val, by rw [N_1]; omega⟩

theorem pt_val (j : Fin 26) (i : Fin 8) : (pt j i).val = 8 * j.val + i.val := rfl

theorem coords_pt (j : Fin 26) (i : Fin 8) : (grid1.coords (pt j i) 0).val = j.val ∧ (grid1.coords (pt j i) 1).val = i.val := by
  have e0 : (grid1.coords (pt j i) 0).val = (pt j i).val / 8 % 26 := Pipeline.Grid.coords_val (pt j i) 0 (by decide) rfl
  have e1 : (grid1.coords (pt j i) 1).val = (pt j i).val / 1 % 8 := Pipeline.Grid.coords_val (pt j i) 1 (by decide) rfl
  rw [pt_val] at e0 e1
  omega

theorem word0 (j : Fin 26) (i : Fin 8) : (BitVec.ofNat 32 (grid1.coords (pt j i) 0).val).toNat = j.val := by
  rw [(coords_pt j i).1, BitVec.toNat_ofNat, Nat.mod_eq_of_lt (by omega)]
theorem word1 (j : Fin 26) (i : Fin 8) : (BitVec.ofNat 32 (grid1.coords (pt j i) 1).val).toNat = i.val := by
  rw [(coords_pt j i).2, BitVec.toNat_ofNat, Nat.mod_eq_of_lt (by omega)]
theorem word1' (j : Fin 26) (i : Fin 8) : (Scalar.addi 0#32 (BitVec.ofNat 32 (grid1.coords (pt j i) 1).val)).toNat = i.val := by
  rw [show Scalar.addi 0#32 (BitVec.ofNat 32 (grid1.coords (pt j i) 1).val) = BitVec.ofNat 32 (grid1.coords (pt j i) 1).val from
    BitVec.zero_add _]
  exact word1 j i

/-- Row `r` of row tile `i`, and column `k` of column tile `j`. -/
def row (i : Fin 8) (r : Fin 1024) : Fin 8192 := ⟨1024 * i.val + r.val, by omega⟩
def col (j : Fin 26) (k : Fin 512) : Fin 13312 := ⟨512 * j.val + k.val, by omega⟩

theorem firstOf_pt (j : Fin 26) (i : Fin 8) : firstOf m (pt j i).val = pt j 0 :=
  Fin.ext (show 8 * ((8 * j.val + i.val) / 8) % 208 = 8 * j.val + 0 by omega)

theorem rows1_apply (c : Dev nD) (j : Fin 26) (i : Fin 8) (r : Fin 1024) (d : Fin 4096) :
    rows1 m c (pt j i) (ValueIdx.ix2 r d) = act (argX m c) (argG m c) (row i r) d := by
  refine Eq.trans (b := (U3 m c (Proc.devRef .tc main_v3) : Vec Ideal S8192x4096 .bf16) (ValueIdx.ix2 (row i r) d)) ?_
    (congrFun (acts_found m c) (ValueIdx.ix2 (row i r) d : S8192x4096.Idx))
  refine (View.read_apply ..).trans (congrArg (U3 m c (Proc.devRef .tc main_v3)) (funext fun a => Fin.ext ?_))
  match a with
  | ⟨0, _⟩ => show (Scalar.addi 0#32 (BitVec.ofNat 32 (grid1.coords (pt j i) 1).val)).toNat * 1024 + 1 * r.val = 1024 * i.val + r.val
              rw [word1']; omega
  | ⟨1, _⟩ => show 0 * 4096 + 1 * d.val = d.val
              omega

/-- A block that nothing cuts moves whole. -/
theorem uncut {G : Pipeline.Grid} (w : Window sig G) (i : G.Coords) (h : ∀ a, w.clip i a = none) (j : w.block.Idx) (a) :
    (j a).val < w.xsize i a := by
  have := (j a).isLt
  unfold Window.xsize
  rw [h a]
  exact this

theorem fill_uncut {G : Pipeline.Grid} (w : Window sig G) (i : G.Coords) (h : ∀ a, w.clip i a = none) {α : Type} (d : w.block.Idx → α)
    (g : (w.xblock i).Idx → α) (j : w.block.Idx) : w.fill i d g j = g fun a => ⟨(j a).val, uncut w i h j a⟩ := by
  unfold Window.fill
  rw [dif_pos ((w.moved_iff i j).mpr (uncut w i h j))]

/-- The weights' block as an array of the tile's own shape: no tile passes the array's edge. -/
theorem wts1_apply (c : Dev nD) (j : Fin 26) (i : Fin 8) (d : Fin 4096) (k : Fin 512) :
    wts1 m c (pt j i) (ValueIdx.ix2 d k) = argW m c (ValueIdx.ix3 0 d ⟨(col j k).val, by have := (col j k).isLt; omega⟩) := by
  refine Eq.trans ?_ (weights_found m c d ⟨(col j k).val, by have := (col j k).isLt; omega⟩)
  refine (fill_uncut ((cfgN m).win 1) (grid1.coords (pt j i)) (noClip m (pt j i)) (wtsView.read (Elt Ideal) wtsView.junk) (blk1 m c 1 (pt j i)) (ValueIdx.ix2 d k : S4096x512.Idx)).trans ?_
  refine (View.read_apply ..).trans (congrArg (U3 m c (Proc.devRef .tc main_v34)) (funext fun a => Fin.ext ?_))
  match a with
  | ⟨0, _⟩ => show 0 * 4096 + 1 * d.val = d.val
              omega
  | ⟨1, _⟩ => show (BitVec.ofNat 32 (grid1.coords (pt j i) 0).val).toNat * 512 + 1 * k.val = 512 * j.val + k.val
              rw [word0]; omega

theorem gain1_apply (c : Dev nD) (j : Fin 26) (i : Fin 8) (k : Fin 512) :
    gain1 m c (pt j i) (ValueIdx.ix2 0 k) = gains (argQ m c) (argS m c) (argV m c) (ValueIdx.ix2 0 (col j k)) := by
  refine Eq.trans (b := (U3 m c (Proc.devRef .tc main_v28) : Vec Ideal S1x13312 .f32) (ValueIdx.ix2 0 (col j k))) ?_
    (congrFun (gains_found m c) (ValueIdx.ix2 0 (col j k) : S1x13312.Idx))
  refine (View.read_apply ..).trans (congrArg (U3 m c (Proc.devRef .tc main_v28)) (funext fun a => Fin.ext ?_))
  match a with
  | ⟨0, _⟩ => show 0 * 1 + 1 * 0 = 0
              omega
  | ⟨1, _⟩ => show (BitVec.ofNat 32 (grid1.coords (pt j i) 0).val).toNat * 512 + 1 * k.val = 512 * j.val + k.val
              rw [word0]; omega

theorem norm1_apply (c : Dev nD) (j : Fin 26) (i : Fin 8) (k : Fin 512) :
    norm1 m c (pt j i) (ValueIdx.ix2 0 k) = selection (ValueIdx.ix2 0 (col j k)) := by
  refine Eq.trans (b := (U3 m c (Proc.devRef .tc main_v33) : Vec Ideal S1x13312 .f32) (ValueIdx.ix2 0 (col j k))) ?_
    (congrFun (selection_found m c) (ValueIdx.ix2 0 (col j k) : S1x13312.Idx))
  refine (View.read_apply ..).trans (congrArg (U3 m c (Proc.devRef .tc main_v33)) (funext fun a => Fin.ext ?_))
  match a with
  | ⟨0, _⟩ => show 0 * 1 + 1 * 0 = 0
              omega
  | ⟨1, _⟩ => show (BitVec.ofNat 32 (grid1.coords (pt j i) 0).val).toNat * 512 + 1 * k.val = 512 * j.val + k.val
              rw [word0]; omega

/-- The products. -/
theorem prod1_apply (c : Dev nD) (j : Fin 26) (i : Fin 8) (r : Fin 1024) (k : Fin 512) :
    prod1 m c (pt j i) (ValueIdx.ix2 r k) = lin (argX m c) (argG m c) (argW m c) (row i r) (col j k) := by
  refine (pay2_apply (rows1 m c (pt j i)) (k1_pay1 (wts1 m c (firstOf m (pt j i).val))) r k).trans ?_
  refine Finset.sum_congr rfl fun d _ => ?_
  rw [pay1_apply, firstOf_pt, wts1_apply, rows1_apply]

/-- The column tiles with heads to normalise. -/
theorem flag_iff : ∀ j : Fin 26, k1_cond2 (lit0 j) = 1#1 ↔ (16 ≤ j.val ∧ j.val < 20) ∨ 22 ≤ j.val := by decide

theorem normed_iff (c : Dev nD) (j : Fin 26) (i : Fin 8) :
    Normed m c (grid1.coords (pt j i)) ↔ (16 ≤ j.val ∧ j.val < 20) ∨ 22 ≤ j.val := by
  have e : flagWord c (grid1.coords (pt j i)) (tblF m 0) = lit0 j := by
    refine (flagWord_eq c _ _).trans ((congrFun (flags_found m 0) (flagIx (grid1.coords (pt j i)))).trans (congrArg lit0 (Fin.ext ?_)))
    exact (Shape.rowMajor_val_one (flagIx (grid1.coords (pt j i)))).trans (word0 j i)
  show k1_cond2 (flagWord c (grid1.coords (pt j i)) (tblF m 0)) = 1#1 ↔ _
  rw [e]
  exact flag_iff j

theorem headAt_col (j : Fin 26) (k : Fin 512) (l : Fin 128) : headAt (col j k) l = col j (at4 (headOf k) l) :=
  Fin.ext (show 128 * ((512 * j.val + k.val) / 128) + l.val = 512 * j.val + (128 * (k.val / 128) + l.val) by omega)
theorem headIn_col (j : Fin 26) (k : Fin 512) : headIn (col j k) = placeOf k :=
  Fin.ext (show (512 * j.val + k.val) % 128 = k.val % 128 by omega)

/-- What a point leaves in its block. -/
theorem out1_apply (c : Dev nD) (j : Fin 26) (i : Fin 8) (r : Fin 1024) (k : Fin 512) :
    out1 m c (pt j i) (ValueIdx.ix2 r k)
      = entry (argX m c) (argG m c) (argW m c) (argQ m c) (argS m c) (argV m c) (row i r) (col j k) := by
  have hcol : (col j k).val = 512 * j.val + k.val := rfl
  by_cases hn : Normed m c (grid1.coords (pt j i))
  · have hj := (normed_iff m c j i).mp hn
    rw [show out1 m c (pt j i) = View.canon (slabs (prod1 m c (pt j i)) (gain1 m c (pt j i)) (norm1 m c (pt j i))) from if_pos hn]
    refine (slabs_apply _ _ _ _).trans ?_
    show picked (norm1 m c (pt j i) (ValueIdx.ix2 0 k)) (fun l => prod1 m c (pt j i) (ValueIdx.ix2 r (at4 (headOf k) l))) (placeOf k)
      (gain1 m c (pt j i) (ValueIdx.ix2 0 k)) = _
    rw [norm1_apply, gain1_apply, selection_of _ (by omega) (by omega),
      funext fun l => prod1_apply m c j i r (at4 (headOf k) l)]
    unfold entry
    by_cases hh : Heads (col j k).val
    · rw [if_pos hh, if_pos hh, picked_of, gains_of _ _ _ _ hh, headIn_col]
      exact congrArg (fun y => scaled 0x43000000#32 y (placeOf k) (gainOf (argQ m c) (argS m c) (argV m c) (col j k).val))
        (funext fun l => congrArg (lin (argX m c) (argG m c) (argW m c) (row i r)) (headAt_col j k l).symm)
    · rw [if_neg hh, if_neg hh, picked_not, at4_of]
  · have hj := fun h => hn ((normed_iff m c j i).mpr h)
    rw [show out1 m c (pt j i) = View.canon (bare (prod1 m c (pt j i))) from if_neg hn]
    refine (congrFun (bare_apply _) _).trans ((prod1_apply m c j i r k).trans ?_)
    unfold entry
    rw [if_neg (show ¬ Heads (col j k).val from by
      rintro (⟨h1, h2⟩ | ⟨h1, h2⟩) <;> exact hj (by omega))]

end Cert.Kernel2Ideal.InProj

end
-- ==== Proof.InProj.KernelIdeal.Result.lean ====
/- The array the second call leaves, and the results. -/
module

public import proofs.«01_k».proof.Proof.InProj.KernelIdeal.Blocks
public import proofs.«01_k».proof.Proof.InProj.KernelIdeal.Run

@[expose] public section

set_option maxRecDepth 16384

noncomputable section

namespace Cert.Kernel2Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable (m : (ℓ : Loc nD τ sig) → Buf (Elt Ideal) ℓ) (ρ : Dev nD → PrngReg)

/-- The array of every entry, of a device's arguments. -/
abbrev wholeOf (c : Dev nD) : Vec Ideal S8192x13312 .f32 :=
  whole (argX m c) (argG m c) (argW m c) (argQ m c) (argS m c) (argV m c)

/-- Where a point's block puts its element in the array. -/
theorem blk_out (j : Fin 26) (i : Fin 8) (y : S1024x512.Idx) (G : Vec Ideal S8192x13312 .f32) :
    (((cfgN m).win 4).blk (pt j i)).view.read (Elt Ideal) G y = G (ValueIdx.ix2 (row i (y 0)) (col j (y 1))) := by
  refine (View.read_apply ..).trans (congrArg G (funext fun a => Fin.ext ?_))
  match a with
  | ⟨0, _⟩ => show (BitVec.ofNat 32 (grid1.coords (pt j i) 1).val).toNat * 1024 + 1 * (y 0).val = 1024 * i.val + (y 0).val
              rw [word1]; omega
  | ⟨1, _⟩ => show (BitVec.ofNat 32 (grid1.coords (pt j i) 0).val).toNat * 512 + 1 * (y 1).val = 512 * j.val + (y 1).val
              rw [word0]; omega

/-- A point's block, cut at no edge, is the array's block there. -/
theorem cut_out (c : Dev nD) (j : Fin 26) (i : Fin 8) (y : S1024x512.Idx) :
    ((cfgN m).win 4).cut (grid1.coords (pt j i)) (out1 m c (pt j i)) y
      = (((cfgN m).win 4).blk (pt j i)).view.read (Elt Ideal) (wholeOf m c) y := by
  refine Eq.trans ?_ ((blk_out m j i y (wholeOf m c)).trans (out1_apply m c j i (y 0) (y 1)).symm).symm
  refine congrArg (out1 m c (pt j i)) (funext fun a => Fin.ext ?_)
  match a with
  | ⟨0, _⟩ => rfl
  | ⟨1, _⟩ => rfl

theorem flushed_eq (c : Dev nD) (t : Fin (cfgN m).N) :
    (dat1 m c).flushed 4 t = (((cfgN m).win 4).blk t).view.read (Elt Ideal) (wholeOf m c) := by
  have ht : t.val < 208 := Nat.lt_of_lt_of_eq t.isLt N_1
  obtain ⟨j, i, rfl⟩ : ∃ (j : Fin 26) (i : Fin 8), t = pt j i :=
    ⟨⟨t.val / 8, by omega⟩, ⟨t.val % 8, by omega⟩, Fin.ext (by show t.val = 8 * (t.val / 8) + t.val % 8; omega)⟩
  refine Eq.trans (b := ((cfgN m).win 4).cut (grid1.coords (pt j i)) (out1 m c (pt j i)))
    (congrArg (((cfgN m).win 4).cut (grid1.coords (pt j i))) (after1_4 m c (pt j i))) ?_
  exact funext (cut_out m c j i)

/-- The tile of a row and of a column, and their places in it. -/
def rowTile (n : Fin 8192) : Fin 8 := ⟨n.val / 1024, by omega⟩
def rowIn (n : Fin 8192) : Fin 1024 := ⟨n.val % 1024, by omega⟩
def colTile (d : Fin 13312) : Fin 26 := ⟨d.val / 512, by omega⟩
def colIn (d : Fin 13312) : Fin 512 := ⟨d.val % 512, by omega⟩

theorem mem_blk_out (y : S8192x13312.Idx) :
    y ∈ (((cfgN m).win 4).blk (pt (colTile (y 1)) (rowTile (y 0)))).view.set := by
  have e : ((((cfgN m).win 4).blk (pt (colTile (y 1)) (rowTile (y 0)))).view.emb (ValueIdx.ix2 (rowIn (y 0)) (colIn (y 1)) : S1024x512.Idx)) = y :=
    funext fun a => Fin.ext (by
      match a with
      | ⟨0, _⟩ => show (BitVec.ofNat 32 (grid1.coords (pt (colTile (y 1)) (rowTile (y 0))) 1).val).toNat * 1024 + 1 * ((y 0).val % 1024) = (y 0).val
                  rw [word1]; show (y 0).val / 1024 * 1024 + _ = _; omega
      | ⟨1, _⟩ => show (BitVec.ofNat 32 (grid1.coords (pt (colTile (y 1)) (rowTile (y 0))) 0).val).toNat * 512 + 1 * ((y 1).val % 512) = (y 1).val
                  rw [word0]; show (y 1).val / 512 * 512 + _ = _; omega)
  have h := View.emb_mem_set (((cfgN m).win 4).blk (pt (colTile (y 1)) (rowTile (y 0)))).view (ValueIdx.ix2 (rowIn (y 0)) (colIn (y 1)) : S1024x512.Idx)
  rw [e] at h
  exact h

/-- The block moves at every point. -/
theorem moves (t : Fin (cfgN m).N) : ((cfgN m).win 4).flush t = true :=
  ((fun t => (Pipeline.Window.flushOf_reads cc1_transform_4 reads1_4 hreads1_4 1 (by decide) (by decide)
    (Pipeline.Window.sep_of_coord cc1_transform_4 1 0 (fun _ => rfl) (by decide)) (P := 1) (m := 0) (by decide) rfl t).mpr (Nat.mod_one _)) :
      ∀ t : Fin grid1.N, Pipeline.Window.flushOf grid1 true cc1_transform_4 t = true) t

/-- The array the second call leaves. -/
theorem whole_left (c : Dev nD) : (dat1 m c).arrAt 4 (cfgN m).N = wholeOf m c :=
  (dat1 m c).arrAt_eq_of_cover 4 (wholeOf m c) (fun t _ => flushed_eq m c t) fun (y : S8192x13312.Idx) =>
    ⟨pt (colTile (y 1)) (rowTile (y 0)), moves m _, mem_blk_out m y⟩

/-! ## The results -/

/-- The array's columns from 10240, 11264 and 12288 on, row by row. -/
def fourth (z : FVec Ideal S8192x13312 .f32) : FVec Ideal S1x4x2048x4x2x128 .f32 :=
  shapeCast S1x4x2048x4x2x128 (extractStridedSlice S8192x1024 ![0, 10240] z slices_S8192x13312_S8192x1024_0_10240) shapeCasts_S8192x1024_S1x4x2048x4x2x128
def fifth (z : FVec Ideal S8192x13312 .f32) : FVec Ideal S1x4x2048x4x2x128 .f32 :=
  shapeCast S1x4x2048x4x2x128 (extractStridedSlice S8192x1024 ![0, 11264] z slices_S8192x13312_S8192x1024_0_11264) shapeCasts_S8192x1024_S1x4x2048x4x2x128
def sixth (z : FVec Ideal S8192x13312 .f32) : FVec Ideal S1x4x2048x4x2x128 .f32 :=
  shapeCast S1x4x2048x4x2x128 (extractStridedSlice S8192x1024 ![0, 12288] z slices_S8192x13312_S8192x1024_0_12288) shapeCasts_S8192x1024_S1x4x2048x4x2x128
/-- The last 512 of every 2048 rows of an array. -/
def lastRows (z : FVec Ideal S1x4x2048x4x2x128 .f32) : FVec Ideal S1x4x512x4x2x128 .f32 :=
  extractStridedSlice S1x4x512x4x2x128 ![0, 0, 1536, 0, 0, 0] z slices_S1x4x2048x4x2x128_S1x4x512x4x2x128_0_0_1536_0_0_0

section Laid
variable (V : Valuation τ sig (Elt Ideal))

theorem fourth_laid : StableHlo.after hostOps2 V (Proc.devRef .tc main_v37) = fourth (V (Proc.devRef .tc main_v35)) := by
  unfold fourth
  after_results <;> rfl
theorem fifth_laid : StableHlo.after hostOps2 V (Proc.devRef .tc main_v39) = fifth (V (Proc.devRef .tc main_v35)) := by
  unfold fifth
  after_results <;> rfl
theorem sixth_laid : StableHlo.after hostOps2 V (Proc.devRef .tc main_v42) = lastRows (sixth (V (Proc.devRef .tc main_v35))) := by
  unfold lastRows sixth
  after_results <;> rfl
end Laid

theorem whole_found (c : Dev nD) : U4 m c (Proc.devRef .tc main_v35) = wholeOf m c :=
  (Pipeline.afterRegion_arr (dat1 m c) (U3 m c) winFacts1.arr_inj 4).trans (whole_left m c)

theorem result35 (c : Dev nD) : U5 m c (Proc.devRef .tc main_v35) = wholeOf m c :=
  (StableHlo.after_of_writes_sub hostOps2 _ hostOps2_writes (by decide)).trans (whole_found m c)
theorem result37 (c : Dev nD) : U5 m c (Proc.devRef .tc main_v37) = fourth (wholeOf m c) :=
  (fourth_laid (U4 m c)).trans (congrArg fourth (whole_found m c))
theorem result39 (c : Dev nD) : U5 m c (Proc.devRef .tc main_v39) = fifth (wholeOf m c) :=
  (fifth_laid (U4 m c)).trans (congrArg fifth (whole_found m c))
theorem result42 (c : Dev nD) : U5 m c (Proc.devRef .tc main_v42) = lastRows (sixth (wholeOf m c)) :=
  (sixth_laid (U4 m c)).trans (congrArg (fun z => lastRows (sixth z)) (whole_found m c))

/-- The kernel ends with the array and its three parts, its arguments unchanged. -/
theorem run : θ_run defs (onTc (τ := τ) (main (F := Ideal))) ⟨m, fun _ => 0, ρ⟩ (fun r => ∀ c : Dev nD,
      r.2.mem ((c.tc : Thread nD τ).loc main_v35) = wholeOf m c
      ∧ r.2.mem ((c.tc : Thread nD τ).loc main_v37) = fourth (wholeOf m c)
      ∧ r.2.mem ((c.tc : Thread nD τ).loc main_v39) = fifth (wholeOf m c)
      ∧ r.2.mem ((c.tc : Thread nD τ).loc main_v42) = lastRows (sixth (wholeOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h1, h2, h3, h4, h5⟩ := h.1 c
    exact ⟨h1.trans (result35 m c), h2.trans (result37 m c), h3.trans (result39 m c), h4.trans (result42 m c), h5⟩) (run_result m ρ)

end Cert.Kernel2Ideal.InProj

end
-- ==== Proof.InProj.Parts.lean ====
/- The reference's parts, entry by entry: the scaled rows, the products, the heads normalised, and the parts joined. -/
module

public import proofs.«01_k».proof.Proof.InProj.KernelIdeal.Blocks
public import proofs.«01_k».proof.Proof.Gen.Reference2Ideal.Run

@[expose] public section

set_option maxRecDepth 16384

noncomputable section

namespace Cert.Reference2Ideal.InProj

open Idealize.ShloMosaic Idealize.ShloMosaic.TcCoe Idealize.ShloMosaic.Tactic
open Cert.Reference2Ideal.Gen
open Cert.Kernel2Ideal.InProj (scaled act lin xRow entry Heads gainOf headAt headIn)

/-! ## The rows and the products -/

/-- The rows scaled. -/
def rows (x : FVec Ideal S4x2048x4096 .f32) (g : FVec Ideal S1x4096 .f32) : FVec Ideal S4x2048x4096 .f32 :=
  mulf (mulf x (broadcastInDim S4x2048x4096 ![0, 1, 2] bcast_S4x2048x1_S4x2048x4096_0_1_2
      (Host.rsqrt (addf (Host.divf (broadcastInDim S4x2048x1 ![0, 1] bcast_S4x2048_S4x2048x1_0_1
        (Host.reduceAdd (mulf x x) (constant S_ .f32 0x00000000#32) reducesTo_S4x2048x4096_S4x2048_d2 h_S_))
        (broadcastInDim S4x2048x1 ![] bcast_S_S4x2048x1 (constant S_ .f32 0x45800000#32)))
        (broadcastInDim S4x2048x1 ![] bcast_S_S4x2048x1 (constant S_ .f32 0x358637BD#32))))))
    (broadcastInDim S4x2048x4096 ![0, 1, 2] bcast_S1x1x4096_S4x2048x4096_0_1_2
      (broadcastInDim S1x1x4096 ![2] bcast_S4096_S1x1x4096_2 (shapeCast _ g shapeCasts_S1x4096_S4096)))

/-- Row `t` of batch entry `b`, the two axes joined. -/
def rowAt (b : Fin 4) (t : Fin 2048) : Fin 8192 := ⟨2048 * b.val + t.val, by omega⟩

theorem xRow_at (x : FVec Ideal S4x2048x4096 .f32) (b : Fin 4) (t : Fin 2048) (j : Fin 4096) : xRow x (rowAt b t) j = x (ValueIdx.ix3 b t j) := by
  have hb : (⟨(rowAt b t).val / 2048, by omega⟩ : Fin 4) = b := Fin.ext (show (2048 * b.val + t.val) / 2048 = b.val by omega)
  have ht : (⟨(rowAt b t).val % 2048, Nat.mod_lt _ (by decide)⟩ : Fin 2048) = t := Fin.ext (show (2048 * b.val + t.val) % 2048 = t.val by omega)
  unfold xRow
  rw [hb, ht]

theorem rows_apply (x : FVec Ideal S4x2048x4096 .f32) (g : FVec Ideal S1x4096 .f32) (b : Fin 4) (t : Fin 2048) (d : Fin 4096) :
    rows x g (ValueIdx.ix3 b t d) = act x g (rowAt b t) d := by
  unfold act
  rw [funext (xRow_at x b t)]
  pointwise [rows]
  rfl

/-- The products. -/
def prods (x : FVec Ideal S4x2048x4096 .f32) (g : FVec Ideal S1x4096 .f32) (w : FVec Ideal S1x4096x13360 .f32) : FVec Ideal S4x2048x13360 .f32 :=
  Host.dotGeneral dot_S4x2048x4096_S4096x13360_S4x2048x13360_2_0_01_1_n_n none (rows x g) (shapeCast _ w shapeCasts_S1x4096x13360_S4096x13360)

theorem prods_apply (x : FVec Ideal S4x2048x4096 .f32) (g : FVec Ideal S1x4096 .f32) (w : FVec Ideal S1x4096x13360 .f32) (b : Fin 4) (t : Fin 2048)
    (k : Fin 13312) : prods x g w (ValueIdx.ix3 b t ⟨k.val, by omega⟩) = lin x g w (rowAt b t) k := by
  refine Eq.trans (b := ∑ d : Fin 4096, rows x g (ValueIdx.ix3 b t d) * w (ValueIdx.ix3 0 d ⟨k.val, by omega⟩)) ?_
    (Finset.sum_congr rfl fun d _ => by rw [rows_apply])
  pointwise [prods]
  rfl

/-! ## The heads -/

/-- Sixteen heads a row, each normalised. -/
def normed16 (y : FVec Ideal S4x2048x4x4x128 .f32) (g : FVec Ideal S1x128 .f32) : FVec Ideal S4x2048x4x4x128 .f32 :=
  mulf (mulf y (broadcastInDim S4x2048x4x4x128 ![0, 1, 2, 3, 4] bcast_S4x2048x4x4x1_S4x2048x4x4x128_0_1_2_3_4
      (Host.rsqrt (addf (Host.divf (broadcastInDim S4x2048x4x4x1 ![0, 1, 2, 3] bcast_S4x2048x4x4_S4x2048x4x4x1_0_1_2_3
        (Host.reduceAdd (mulf y y) (constant S_ .f32 0x00000000#32) reducesTo_S4x2048x4x4x128_S4x2048x4x4_d4 h_S_))
        (broadcastInDim S4x2048x4x4x1 ![] bcast_S_S4x2048x4x4x1 (constant S_ .f32 0x43000000#32)))
        (broadcastInDim S4x2048x4x4x1 ![] bcast_S_S4x2048x4x4x1 (constant S_ .f32 0x358637BD#32))))))
    (broadcastInDim S4x2048x4x4x128 ![0, 1, 2, 3, 4] bcast_S1x1x1x1x128_S4x2048x4x4x128_0_1_2_3_4
      (broadcastInDim S1x1x1x1x128 ![4] bcast_S128_S1x1x1x1x128_4 (shapeCast _ g shapeCasts_S1x128_S128)))

theorem normed16_apply (y : FVec Ideal S4x2048x4x4x128 .f32) (g : FVec Ideal S1x128 .f32) (b : Fin 4) (t : Fin 2048) (p q : Fin 4) (l : Fin 128) :
    normed16 y g (ValueIdx.ix5 b t p q l) = scaled 0x43000000#32 (fun j => y (ValueIdx.ix5 b t p q j)) l (g (ValueIdx.ix2 0 l)) := by
  pointwise [normed16]
  rfl

/-- Four heads a row, each normalised. -/
def normed4 (y : FVec Ideal S4x2048x4x128 .f32) (g : FVec Ideal S1x128 .f32) : FVec Ideal S4x2048x4x128 .f32 :=
  mulf (mulf y (broadcastInDim S4x2048x4x128 ![0, 1, 2, 3] bcast_S4x2048x4x1_S4x2048x4x128_0_1_2_3
      (Host.rsqrt (addf (Host.divf (broadcastInDim S4x2048x4x1 ![0, 1, 2] bcast_S4x2048x4_S4x2048x4x1_0_1_2
        (Host.reduceAdd (mulf y y) (constant S_ .f32 0x00000000#32) reducesTo_S4x2048x4x128_S4x2048x4_d3 h_S_))
        (broadcastInDim S4x2048x4x1 ![] bcast_S_S4x2048x4x1 (constant S_ .f32 0x43000000#32)))
        (broadcastInDim S4x2048x4x1 ![] bcast_S_S4x2048x4x1 (constant S_ .f32 0x358637BD#32))))))
    (broadcastInDim S4x2048x4x128 ![0, 1, 2, 3] bcast_S1x1x1x128_S4x2048x4x128_0_1_2_3
      (broadcastInDim S1x1x1x128 ![3] bcast_S128_S1x1x1x128_3 (shapeCast _ g shapeCasts_S1x128_S128)))

theorem normed4_apply (y : FVec Ideal S4x2048x4x128 .f32) (g : FVec Ideal S1x128 .f32) (b : Fin 4) (t : Fin 2048) (p : Fin 4) (l : Fin 128) :
    normed4 y g (ValueIdx.ix4 b t p l) = scaled 0x43000000#32 (fun j => y (ValueIdx.ix4 b t p j)) l (g (ValueIdx.ix2 0 l)) := by
  pointwise [normed4]
  rfl

/-- A pair of heads' first and second members. -/
def firsts (z : FVec Ideal S4x2048x1024 .f32) : FVec Ideal S4x2048x4x128 .f32 :=
  shapeCast _ (extractStridedSlice S4x2048x4x1x128 ![0, 0, 0, 0, 0] (shapeCast S4x2048x4x2x128 z shapeCasts_S4x2048x1024_S4x2048x4x2x128)
    slices_S4x2048x4x2x128_S4x2048x4x1x128_0_0_0_0_0) shapeCasts_S4x2048x4x1x128_S4x2048x4x128
def seconds (z : FVec Ideal S4x2048x1024 .f32) : FVec Ideal S4x2048x4x128 .f32 :=
  shapeCast _ (extractStridedSlice S4x2048x4x1x128 ![0, 0, 0, 1, 0] (shapeCast S4x2048x4x2x128 z shapeCasts_S4x2048x1024_S4x2048x4x2x128)
    slices_S4x2048x4x2x128_S4x2048x4x1x128_0_0_0_1_0) shapeCasts_S4x2048x4x1x128_S4x2048x4x128

theorem firsts_apply (z : FVec Ideal S4x2048x1024 .f32) (b : Fin 4) (t : Fin 2048) (p : Fin 4) (l : Fin 128) :
    firsts z (ValueIdx.ix4 b t p l) = z (ValueIdx.ix3 b t ⟨256 * p.val + l.val, by omega⟩) := by
  pointwise [firsts]
  exact congrArg (fun i => z (ValueIdx.ix3 b t i)) (Fin.ext (show p.val * 256 + l.val = 256 * p.val + l.val by omega))
theorem seconds_apply (z : FVec Ideal S4x2048x1024 .f32) (b : Fin 4) (t : Fin 2048) (p : Fin 4) (l : Fin 128) :
    seconds z (ValueIdx.ix4 b t p l) = z (ValueIdx.ix3 b t ⟨256 * p.val + 128 + l.val, by omega⟩) := by
  pointwise [seconds]
  exact congrArg (fun i => z (ValueIdx.ix3 b t i)) (Fin.ext (show p.val * 256 + 128 + l.val = 256 * p.val + 128 + l.val by omega))

/-- The pairs, the first member of each normalised. -/
def paired (z : FVec Ideal S4x2048x1024 .f32) (g : FVec Ideal S1x128 .f32) : FVec Ideal S4x2048x4x2x128 .f32 :=
  concatenate S4x2048x4x2x128 3
    [⟨S4x2048x4x1x128, broadcastInDim S4x2048x4x1x128 ![0, 1, 2, 4] bcast_S4x2048x4x128_S4x2048x4x1x128_0_1_2_4 (normed4 (firsts z) g)⟩,
     ⟨S4x2048x4x1x128, broadcastInDim S4x2048x4x1x128 ![0, 1, 2, 4] bcast_S4x2048x4x128_S4x2048x4x1x128_0_1_2_4 (seconds z)⟩]
    concatenates_S4x2048x4x1x128_S4x2048x4x1x128_S4x2048x4x2x128_d3

theorem paired_apply (z : FVec Ideal S4x2048x1024 .f32) (g : FVec Ideal S1x128 .f32) (b : Fin 4) (t : Fin 2048) (p : Fin 4) (s : Fin 2) (l : Fin 128) :
    paired z g (ValueIdx.ix5 b t p s l) = if s.val = 0 then scaled 0x43000000#32 (fun j => z (ValueIdx.ix3 b t ⟨256 * p.val + j.val, by omega⟩)) l (g (ValueIdx.ix2 0 l))
      else z (ValueIdx.ix3 b t ⟨256 * p.val + 128 + l.val, by omega⟩) := by
  refine Eq.trans (b := if s.val = 0 then normed4 (firsts z) g (ValueIdx.ix4 b t p l) else seconds z (ValueIdx.ix4 b t p l)) ?_ ?_
  · pointwise [paired]
    by_cases h : s.val = 0
    · exact (dif_pos (show s.val < 1 by omega)).trans (if_pos h).symm
    · exact (dif_neg (show ¬ s.val < 1 by omega)).trans (if_neg h).symm
  · rw [normed4_apply, seconds_apply, funext (firsts_apply z b t p)]

/-- The batch entry and the time of a row. -/
def batchOf (n : Fin 8192) : Fin 4 := ⟨n.val / 2048, by omega⟩
def timeOf (n : Fin 8192) : Fin 2048 := ⟨n.val % 2048, Nat.mod_lt _ (by decide)⟩

theorem rowAt_of (n : Fin 8192) : rowAt (batchOf n) (timeOf n) = n := Fin.ext (show 2048 * (n.val / 2048) + n.val % 2048 = n.val by omega)

/-- The five parts along the columns. -/
def joined (y0 : FVec Ideal S4x2048x8192 .f32) (y1 : FVec Ideal S4x2048x2048 .f32) (y2 y3 y4 : FVec Ideal S4x2048x1024 .f32) : FVec Ideal S8192x13312 .f32 :=
  shapeCast _ (concatenate S4x2048x13312 2 [⟨S4x2048x8192, y0⟩, ⟨S4x2048x2048, y1⟩, ⟨S4x2048x1024, y2⟩, ⟨S4x2048x1024, y3⟩, ⟨S4x2048x1024, y4⟩]
    concatenates_S4x2048x8192_S4x2048x2048_S4x2048x1024_S4x2048x1024_S4x2048x1024_S4x2048x13312_d2) shapeCasts_S4x2048x13312_S8192x13312

theorem joined_apply (y0 : FVec Ideal S4x2048x8192 .f32) (y1 : FVec Ideal S4x2048x2048 .f32) (y2 y3 y4 : FVec Ideal S4x2048x1024 .f32)
    (n : Fin 8192) (k : Fin 13312) :
    joined y0 y1 y2 y3 y4 (ValueIdx.ix2 n k)
      = if h : k.val < 8192 then y0 (ValueIdx.ix3 (batchOf n) (timeOf n) ⟨k.val, h⟩)
        else if h : k.val < 10240 then y1 (ValueIdx.ix3 (batchOf n) (timeOf n) ⟨k.val - 8192, by omega⟩)
        else if h : k.val < 11264 then y2 (ValueIdx.ix3 (batchOf n) (timeOf n) ⟨k.val - 10240, by omega⟩)
        else if h : k.val < 12288 then y3 (ValueIdx.ix3 (batchOf n) (timeOf n) ⟨k.val - 11264, by omega⟩)
        else y4 (ValueIdx.ix3 (batchOf n) (timeOf n) ⟨k.val - 12288, by omega⟩) := by
  pointwise [joined]
  by_cases h1 : k.val < 8192
  · refine (dif_pos h1).trans (Eq.trans ?_ (dif_pos h1).symm)
    rfl
  refine (dif_neg h1).trans (Eq.trans ?_ (dif_neg h1).symm)
  by_cases h2 : k.val < 10240
  · refine (dif_pos (show k.val - 8192 < 2048 by omega)).trans (Eq.trans ?_ (dif_pos h2).symm)
    rfl
  refine (dif_neg (show ¬ k.val - 8192 < 2048 by omega)).trans (Eq.trans ?_ (dif_neg h2).symm)
  by_cases h3 : k.val < 11264
  · refine (dif_pos (show k.val - 8192 - 2048 < 1024 by omega)).trans (Eq.trans ?_ (dif_pos h3).symm)
    exact congrArg (fun i => y2 (ValueIdx.ix3 (batchOf n) (timeOf n) i)) (Fin.ext (show k.val - 8192 - 2048 = k.val - 10240 by omega))
  refine (dif_neg (show ¬ k.val - 8192 - 2048 < 1024 by omega)).trans (Eq.trans ?_ (dif_neg h3).symm)
  by_cases h4 : k.val < 12288
  · refine (dif_pos (show k.val - 8192 - 2048 - 1024 < 1024 by omega)).trans (Eq.trans ?_ (dif_pos h4).symm)
    exact congrArg (fun i => y3 (ValueIdx.ix3 (batchOf n) (timeOf n) i)) (Fin.ext (show k.val - 8192 - 2048 - 1024 = k.val - 11264 by omega))
  refine (dif_neg (show ¬ k.val - 8192 - 2048 - 1024 < 1024 by omega)).trans (Eq.trans ?_ (dif_neg h4).symm)
  exact congrArg (fun i => y4 (ValueIdx.ix3 (batchOf n) (timeOf n) i)) (Fin.ext (show k.val - 8192 - 2048 - 1024 - 1024 = k.val - 12288 by omega))

/-! ## The five parts of the products -/

section Parts

variable (x : FVec Ideal S4x2048x4096 .f32) (g : FVec Ideal S1x4096 .f32) (w : FVec Ideal S1x4096x13360 .f32) (gq gs gw : FVec Ideal S1x128 .f32)

def part0 : FVec Ideal S4x2048x8192 .f32 := extractStridedSlice S4x2048x8192 ![0, 0, 0] (prods x g w) slices_S4x2048x13360_S4x2048x8192_0_0_0
def part1 : FVec Ideal S4x2048x2048 .f32 := extractStridedSlice S4x2048x2048 ![0, 0, 8192] (prods x g w) slices_S4x2048x13360_S4x2048x2048_0_0_8192
def part2 : FVec Ideal S4x2048x1024 .f32 := extractStridedSlice S4x2048x1024 ![0, 0, 10240] (prods x g w) slices_S4x2048x13360_S4x2048x1024_0_0_10240
def part3 : FVec Ideal S4x2048x1024 .f32 := extractStridedSlice S4x2048x1024 ![0, 0, 11264] (prods x g w) slices_S4x2048x13360_S4x2048x1024_0_0_11264
def part4 : FVec Ideal S4x2048x1024 .f32 := extractStridedSlice S4x2048x1024 ![0, 0, 12288] (prods x g w) slices_S4x2048x13360_S4x2048x1024_0_0_12288

theorem part0_apply (b : Fin 4) (t : Fin 2048) (k : Fin 8192) :
    part0 x g w (ValueIdx.ix3 b t k) = lin x g w (rowAt b t) ⟨k.val, by omega⟩ := by
  refine Eq.trans ?_ (prods_apply x g w b t ⟨k.val, by omega⟩)
  pointwise [part0]
  rfl
theorem part1_apply (b : Fin 4) (t : Fin 2048) (k : Fin 2048) :
    part1 x g w (ValueIdx.ix3 b t k) = lin x g w (rowAt b t) ⟨8192 + k.val, by omega⟩ := by
  refine Eq.trans ?_ (prods_apply x g w b t ⟨8192 + k.val, by omega⟩)
  pointwise [part1]
  rfl
theorem part2_apply (b : Fin 4) (t : Fin 2048) (k : Fin 1024) :
    part2 x g w (ValueIdx.ix3 b t k) = lin x g w (rowAt b t) ⟨10240 + k.val, by omega⟩ := by
  refine Eq.trans ?_ (prods_apply x g w b t ⟨10240 + k.val, by omega⟩)
  pointwise [part2]
  rfl
theorem part3_apply (b : Fin 4) (t : Fin 2048) (k : Fin 1024) :
    part3 x g w (ValueIdx.ix3 b t k) = lin x g w (rowAt b t) ⟨11264 + k.val, by omega⟩ := by
  refine Eq.trans ?_ (prods_apply x g w b t ⟨11264 + k.val, by omega⟩)
  pointwise [part3]
  rfl
theorem part4_apply (b : Fin 4) (t : Fin 2048) (k : Fin 1024) :
    part4 x g w (ValueIdx.ix3 b t k) = lin x g w (rowAt b t) ⟨12288 + k.val, by omega⟩ := by
  refine Eq.trans ?_ (prods_apply x g w b t ⟨12288 + k.val, by omega⟩)
  pointwise [part4]
  rfl

/-- The query heads, normalised, back along the columns. -/
def queries : FVec Ideal S4x2048x2048 .f32 :=
  shapeCast _ (normed16 (shapeCast _ (part1 x g w) shapeCasts_S4x2048x2048_S4x2048x4x4x128) gq) shapeCasts_S4x2048x4x4x128_S4x2048x2048

theorem queries_apply (b : Fin 4) (t : Fin 2048) (k : Fin 2048) :
    queries x g w gq (ValueIdx.ix3 b t k) = scaled 0x43000000#32 (fun j => part1 x g w (ValueIdx.ix3 b t ⟨128 * (k.val / 128) + j.val, by omega⟩))
      ⟨k.val % 128, Nat.mod_lt _ (by decide)⟩ (gq (ValueIdx.ix2 0 ⟨k.val % 128, Nat.mod_lt _ (by decide)⟩)) := by
  refine Eq.trans (b := normed16 (shapeCast _ (part1 x g w) shapeCasts_S4x2048x2048_S4x2048x4x4x128) gq
    (ValueIdx.ix5 b t ⟨k.val / 512, by omega⟩ ⟨k.val / 128 % 4, Nat.mod_lt _ (by decide)⟩ ⟨k.val % 128, Nat.mod_lt _ (by decide)⟩)) ?_ ?_
  · pointwise [queries]
    rfl
  · rw [normed16_apply]
    generalize part1 x g w = y
    refine congrArg (fun f => scaled 0x43000000#32 f _ _) (funext fun j => ?_)
    pointwise
    exact congrArg (fun i => y (ValueIdx.ix3 b t i)) (Fin.ext (show k.val / 512 * 512 + k.val / 128 % 4 * 128 + j.val = 128 * (k.val / 128) + j.val by omega))

/-- The pairs, back along the columns. -/
def flat (y : FVec Ideal S4x2048x4x2x128 .f32) : FVec Ideal S4x2048x1024 .f32 := shapeCast _ y shapeCasts_S4x2048x4x2x128_S4x2048x1024

theorem flat_apply (y : FVec Ideal S4x2048x4x2x128 .f32) (b : Fin 4) (t : Fin 2048) (k : Fin 1024) :
    flat y (ValueIdx.ix3 b t k) = y (ValueIdx.ix5 b t ⟨k.val / 256, by omega⟩ ⟨k.val / 128 % 2, Nat.mod_lt _ (by decide)⟩ ⟨k.val % 128, Nat.mod_lt _ (by decide)⟩) := by
  pointwise [flat]
  rfl

/-! ## The results -/

theorem scaled_congr {n : BitVec 32} {y y' : Fin 128 → EReal} {l l' : Fin 128} {a a' : EReal} (hy : ∀ j, y j = y' j) (hl : l = l') (ha : a = a') :
    scaled n y l a = scaled n y' l' a' := by
  rw [funext hy, hl, ha]

/-- Columns `o + 256 p + 128 s + l` of the array. -/
def colAt (o : ℕ) (ho : o ≤ 12288) (p : Fin 4) (s : Fin 2) (l : Fin 128) : Fin 13312 := ⟨o + (256 * p.val + 128 * s.val + l.val), by omega⟩

theorem paired3 (b : Fin 4) (t : Fin 2048) (p : Fin 4) (s : Fin 2) (l : Fin 128) :
    paired (part3 x g w) gs (ValueIdx.ix5 b t p s l) = entry x g w gq gs gw (rowAt b t) (colAt 11264 (by decide) p s l) := by
  have hk : (colAt 11264 (by decide) p s l).val = 11264 + (256 * p.val + 128 * s.val + l.val) := rfl
  rw [paired_apply]
  unfold entry
  by_cases h : s.val = 0
  · rw [if_pos h, if_pos (show Heads (colAt 11264 (by decide) p s l).val from Or.inr ⟨by omega, by omega⟩)]
    refine scaled_congr (fun j => (part3_apply x g w b t _).trans (congrArg (lin x g w (rowAt b t)) (Fin.ext ?_))) (Fin.ext ?_) ?_
    · show 11264 + (256 * p.val + j.val) = 128 * ((11264 + (256 * p.val + 128 * s.val + l.val)) / 128) + j.val
      omega
    · show l.val = (11264 + (256 * p.val + 128 * s.val + l.val)) % 128
      omega
    · unfold gainOf
      rw [if_neg (by omega), if_pos (by omega)]
      exact congrArg (fun i => gs (ValueIdx.ix2 0 i)) (Fin.ext (show l.val = (11264 + (256 * p.val + 128 * s.val + l.val)) % 128 by omega))
  · rw [if_neg h, if_neg (show ¬ Heads (colAt 11264 (by decide) p s l).val from by rintro (⟨h1, h2⟩ | ⟨h1, h2⟩) <;> omega)]
    refine (part3_apply x g w b t _).trans (congrArg (lin x g w (rowAt b t)) (Fin.ext ?_))
    show 11264 + (256 * p.val + 128 + l.val) = 11264 + (256 * p.val + 128 * s.val + l.val)
    omega

theorem paired4 (b : Fin 4) (t : Fin 2048) (p : Fin 4) (s : Fin 2) (l : Fin 128) :
    paired (part4 x g w) gw (ValueIdx.ix5 b t p s l) = entry x g w gq gs gw (rowAt b t) (colAt 12288 (by decide) p s l) := by
  have hk : (colAt 12288 (by decide) p s l).val = 12288 + (256 * p.val + 128 * s.val + l.val) := rfl
  rw [paired_apply]
  unfold entry
  by_cases h : s.val = 0
  · rw [if_pos h, if_pos (show Heads (colAt 12288 (by decide) p s l).val from Or.inr ⟨by omega, by omega⟩)]
    refine scaled_congr (fun j => (part4_apply x g w b t _).trans (congrArg (lin x g w (rowAt b t)) (Fin.ext ?_))) (Fin.ext ?_) ?_
    · show 12288 + (256 * p.val + j.val) = 128 * ((12288 + (256 * p.val + 128 * s.val + l.val)) / 128) + j.val
      omega
    · show l.val = (12288 + (256 * p.val + 128 * s.val + l.val)) % 128
      omega
    · unfold gainOf
      rw [if_neg (by omega), if_neg (by omega)]
      exact congrArg (fun i => gw (ValueIdx.ix2 0 i)) (Fin.ext (show l.val = (12288 + (256 * p.val + 128 * s.val + l.val)) % 128 by omega))
  · rw [if_neg h, if_neg (show ¬ Heads (colAt 12288 (by decide) p s l).val from by rintro (⟨h1, h2⟩ | ⟨h1, h2⟩) <;> omega)]
    refine (part4_apply x g w b t _).trans (congrArg (lin x g w (rowAt b t)) (Fin.ext ?_))
    show 12288 + (256 * p.val + 128 + l.val) = 12288 + (256 * p.val + 128 * s.val + l.val)
    omega

/-- The reference's array. -/
def array : FVec Ideal S8192x13312 .f32 :=
  joined (part0 x g w) (queries x g w gq) (part2 x g w) (flat (paired (part3 x g w) gs)) (flat (paired (part4 x g w) gw))

theorem array_apply (n : Fin 8192) (k : Fin 13312) : array x g w gq gs gw (ValueIdx.ix2 n k) = entry x g w gq gs gw n k := by
  unfold array
  rw [joined_apply]
  by_cases h1 : k.val < 8192
  · rw [dif_pos h1, part0_apply, rowAt_of]
    unfold entry
    rw [if_neg (show ¬ Heads k.val from by rintro (⟨h1, h2⟩ | ⟨h1, h2⟩) <;> omega)]
  rw [dif_neg h1]
  by_cases h2 : k.val < 10240
  · rw [dif_pos h2, queries_apply]
    unfold entry
    rw [if_pos (show Heads k.val from Or.inl ⟨by omega, h2⟩)]
    refine scaled_congr (fun j => (part1_apply x g w _ _ _).trans ?_) (Fin.ext ?_) ?_
    · rw [rowAt_of]
      refine congrArg (lin x g w n) (Fin.ext ?_)
      show 8192 + (128 * ((k.val - 8192) / 128) + j.val) = 128 * (k.val / 128) + j.val
      omega
    · show (k.val - 8192) % 128 = k.val % 128
      omega
    · unfold gainOf
      rw [if_pos h2]
      exact congrArg (fun i => gq (ValueIdx.ix2 0 i)) (Fin.ext (show (k.val - 8192) % 128 = k.val % 128 by omega))
  rw [dif_neg h2]
  by_cases h3 : k.val < 11264
  · rw [dif_pos h3, part2_apply, rowAt_of]
    unfold entry
    rw [if_neg (show ¬ Heads k.val from by rintro (⟨h1, h2⟩ | ⟨h1, h2⟩) <;> omega)]
    exact congrArg (lin x g w n) (Fin.ext (show 10240 + (k.val - 10240) = k.val by omega))
  rw [dif_neg h3]
  by_cases h4 : k.val < 12288
  · rw [dif_pos h4, flat_apply, paired3 x g w gq gs gw, rowAt_of]
    refine congrArg (entry x g w gq gs gw n) (Fin.ext ?_)
    show 11264 + (256 * ((k.val - 11264) / 256) + 128 * ((k.val - 11264) / 128 % 2) + (k.val - 11264) % 128) = k.val
    omega
  · rw [dif_neg h4, flat_apply, paired4 x g w gq gs gw, rowAt_of]
    refine congrArg (entry x g w gq gs gw n) (Fin.ext ?_)
    show 12288 + (256 * ((k.val - 12288) / 256) + 128 * ((k.val - 12288) / 128 % 2) + (k.val - 12288) % 128) = k.val
    omega

/-- The three parts it returns by themselves. -/
def back2 : FVec Ideal S1x4x2048x4x2x128 .f32 :=
  broadcastInDim S1x4x2048x4x2x128 ![1, 2, 3, 4, 5] bcast_S4x2048x4x2x128_S1x4x2048x4x2x128_1_2_3_4_5
    (shapeCast S4x2048x4x2x128 (part2 x g w) shapeCasts_S4x2048x1024_S4x2048x4x2x128)
def back3 : FVec Ideal S1x4x2048x4x2x128 .f32 :=
  broadcastInDim S1x4x2048x4x2x128 ![1, 2, 3, 4, 5] bcast_S4x2048x4x2x128_S1x4x2048x4x2x128_1_2_3_4_5 (paired (part3 x g w) gs)
def back4 : FVec Ideal S1x4x512x4x2x128 .f32 :=
  broadcastInDim S1x4x512x4x2x128 ![1, 2, 3, 4, 5] bcast_S4x512x4x2x128_S1x4x512x4x2x128_1_2_3_4_5
    (extractStridedSlice S4x512x4x2x128 ![0, 1536, 0, 0, 0] (paired (part4 x g w) gw) slices_S4x2048x4x2x128_S4x512x4x2x128_0_1536_0_0_0)

theorem back2_apply (b : Fin 4) (t : Fin 2048) (p : Fin 4) (s : Fin 2) (l : Fin 128) :
    back2 x g w (ValueIdx.ix6 0 b t p s l) = entry x g w gq gs gw (rowAt b t) (colAt 10240 (by decide) p s l) := by
  unfold entry
  have hk : (colAt 10240 (by decide) p s l).val = 10240 + (256 * p.val + 128 * s.val + l.val) := rfl
  rw [if_neg (show ¬ Heads (colAt 10240 (by decide) p s l).val from by rintro (⟨h1, h2⟩ | ⟨h1, h2⟩) <;> omega)]
  refine Eq.trans ?_ (part2_apply x g w b t ⟨256 * p.val + 128 * s.val + l.val, by omega⟩)
  unfold back2
  generalize part2 x g w = y
  pointwise
  exact congrArg (fun i => y (ValueIdx.ix3 b t i)) (Fin.ext (show p.val * 256 + s.val * 128 + l.val = 256 * p.val + 128 * s.val + l.val by omega))

theorem back3_apply (b : Fin 4) (t : Fin 2048) (p : Fin 4) (s : Fin 2) (l : Fin 128) :
    back3 x g w gs (ValueIdx.ix6 0 b t p s l) = entry x g w gq gs gw (rowAt b t) (colAt 11264 (by decide) p s l) := by
  refine Eq.trans ?_ (paired3 x g w gq gs gw b t p s l)
  unfold back3
  generalize paired (part3 x g w) gs = y
  pointwise
  rfl

theorem back4_apply (b : Fin 4) (t : Fin 512) (p : Fin 4) (s : Fin 2) (l : Fin 128) :
    back4 x g w gw (ValueIdx.ix6 0 b t p s l) = entry x g w gq gs gw (rowAt b ⟨1536 + t.val, by omega⟩) (colAt 12288 (by decide) p s l) := by
  refine Eq.trans ?_ (paired4 x g w gq gs gw b ⟨1536 + t.val, by omega⟩ p s l)
  unfold back4
  generalize paired (part4 x g w) gw = y
  pointwise
  rfl

end Parts

end Cert.Reference2Ideal.InProj

end
-- ==== Proof.InProj.Agree.lean ====
/- The reference's results are the kernel's. -/
module

public import proofs.«01_k».proof.Proof.InProj.KernelIdeal.Result
public import proofs.«01_k».proof.Proof.InProj.Parts

@[expose] public section

set_option maxRecDepth 16384

noncomputable section

namespace Cert.Kernel2Ideal.InProj

open Idealize.ShloMosaic Idealize.ShloMosaic.TcCoe Idealize.ShloMosaic.Tactic
open Idealize.SL Idealize.SL.Sem
open Cert.Kernel2Ideal.Gen
open Cert.Reference2Ideal.InProj (rowAt colAt array back2 back3 back4 array_apply back2_apply back3_apply back4_apply)

theorem fourth_apply (z : FVec Ideal S8192x13312 .f32) (b : Fin 4) (t : Fin 2048) (p : Fin 4) (s : Fin 2) (l : Fin 128) :
    fourth z (ValueIdx.ix6 0 b t p s l) = z (ValueIdx.ix2 (rowAt b t) (colAt 10240 (by decide) p s l)) := by
  pointwise [fourth]
  refine congrArg z (funext fun a => Fin.ext ?_)
  match a with
  | ⟨0, _⟩ => show b.val * 2048 + t.val = 2048 * b.val + t.val; omega
  | ⟨1, _⟩ => show 10240 + (p.val * 256 + s.val * 128 + l.val) = 10240 + (256 * p.val + 128 * s.val + l.val); omega
theorem fifth_apply (z : FVec Ideal S8192x13312 .f32) (b : Fin 4) (t : Fin 2048) (p : Fin 4) (s : Fin 2) (l : Fin 128) :
    fifth z (ValueIdx.ix6 0 b t p s l) = z (ValueIdx.ix2 (rowAt b t) (colAt 11264 (by decide) p s l)) := by
  pointwise [fifth]
  refine congrArg z (funext fun a => Fin.ext ?_)
  match a with
  | ⟨0, _⟩ => show b.val * 2048 + t.val = 2048 * b.val + t.val; omega
  | ⟨1, _⟩ => show 11264 + (p.val * 256 + s.val * 128 + l.val) = 11264 + (256 * p.val + 128 * s.val + l.val); omega
theorem sixth_apply (z : FVec Ideal S8192x13312 .f32) (b : Fin 4) (t : Fin 512) (p : Fin 4) (s : Fin 2) (l : Fin 128) :
    lastRows (sixth z) (ValueIdx.ix6 0 b t p s l) = z (ValueIdx.ix2 (rowAt b ⟨1536 + t.val, by omega⟩) (colAt 12288 (by decide) p s l)) := by
  pointwise [lastRows, sixth]
  refine congrArg z (funext fun a => Fin.ext ?_)
  match a with
  | ⟨0, _⟩ => show b.val * 2048 + (1536 + t.val) = 2048 * b.val + (1536 + t.val); omega
  | ⟨1, _⟩ => show 12288 + (p.val * 256 + s.val * 128 + l.val) = 12288 + (256 * p.val + 128 * s.val + l.val); omega

theorem six (y : S1x4x2048x4x2x128.Idx) : ∃ (b : Fin 4) (t : Fin 2048) (p : Fin 4) (s : Fin 2) (l : Fin 128), y = ValueIdx.ix6 0 b t p s l :=
  ⟨y 1, y 2, y 3, y 4, y 5, funext fun a => by
    match a with
    | ⟨0, _⟩ => exact Fin.ext (show (y 0).val = 0 by have h : (y 0).val < 1 := (y 0).isLt; omega)
    | ⟨1, _⟩ => rfl
    | ⟨2, _⟩ => rfl
    | ⟨3, _⟩ => rfl
    | ⟨4, _⟩ => rfl
    | ⟨5, _⟩ => rfl⟩
theorem six' (y : S1x4x512x4x2x128.Idx) : ∃ (b : Fin 4) (t : Fin 512) (p : Fin 4) (s : Fin 2) (l : Fin 128), y = ValueIdx.ix6 0 b t p s l :=
  ⟨y 1, y 2, y 3, y 4, y 5, funext fun a => by
    match a with
    | ⟨0, _⟩ => exact Fin.ext (show (y 0).val = 0 by have h : (y 0).val < 1 := (y 0).isLt; omega)
    | ⟨1, _⟩ => rfl
    | ⟨2, _⟩ => rfl
    | ⟨3, _⟩ => rfl
    | ⟨4, _⟩ => rfl
    | ⟨5, _⟩ => rfl⟩

variable (x : FVec Ideal S4x2048x4096 .f32) (g : FVec Ideal S1x4096 .f32) (w : FVec Ideal S1x4096x13360 .f32) (gq gs gw : FVec Ideal S1x128 .f32)

theorem array_eq : array x g w gq gs gw = whole x g w gq gs gw := by
  funext y
  obtain ⟨n, k, rfl⟩ : ∃ (n : Fin 8192) (k : Fin 13312), y = ValueIdx.ix2 n k :=
    ⟨y 0, y 1, funext fun a => by match a with | ⟨0, _⟩ => rfl | ⟨1, _⟩ => rfl⟩
  exact array_apply x g w gq gs gw n k

theorem back2_eq : back2 x g w = fourth (whole x g w gq gs gw) := by
  funext y
  obtain ⟨b, t, p, s, l, rfl⟩ := six y
  exact (back2_apply x g w gq gs gw b t p s l).trans (fourth_apply (whole x g w gq gs gw) b t p s l).symm
theorem back3_eq : back3 x g w gs = fifth (whole x g w gq gs gw) := by
  funext y
  obtain ⟨b, t, p, s, l, rfl⟩ := six y
  exact (back3_apply x g w gq gs gw b t p s l).trans (fifth_apply (whole x g w gq gs gw) b t p s l).symm
theorem back4_eq : back4 x g w gw = lastRows (sixth (whole x g w gq gs gw)) := by
  funext y
  obtain ⟨b, t, p, s, l, rfl⟩ := six' y
  exact (back4_apply x g w gq gs gw b t p s l).trans (sixth_apply (whole x g w gq gs gw) b t p s l).symm

end Cert.Kernel2Ideal.InProj

namespace Cert.Reference2Ideal.InProj

open Idealize.ShloMosaic Idealize.ShloMosaic.TcCoe Idealize.ShloMosaic.Tactic
open Idealize.SL Idealize.SL.Sem
open Cert.Reference2Ideal.Gen

variable (m : (ℓ : Loc nD τ sig) → Buf (Elt Ideal) ℓ) (ρ : Dev nD → PrngReg)

abbrev argX (c : Dev nD) : FVec Ideal S4x2048x4096 .f32 := m ((c.tc : Thread nD τ).loc main_arg0)
abbrev argG (c : Dev nD) : FVec Ideal S1x4096 .f32 := m ((c.tc : Thread nD τ).loc main_arg1)
abbrev argW (c : Dev nD) : FVec Ideal S1x4096x13360 .f32 := m ((c.tc : Thread nD τ).loc main_arg2)
abbrev argQ (c : Dev nD) : FVec Ideal S1x128 .f32 := m ((c.tc : Thread nD τ).loc main_arg3)
abbrev argS (c : Dev nD) : FVec Ideal S1x128 .f32 := m ((c.tc : Thread nD τ).loc main_arg4)
abbrev argV (c : Dev nD) : FVec Ideal S1x128 .f32 := m ((c.tc : Thread nD τ).loc main_arg5)

/-- The reference ends with its array and the three parts, its arguments unchanged. -/
theorem run : θ_run defs (onTc (τ := τ) (main (F := Ideal))) ⟨m, fun _ => 0, ρ⟩ (fun r => ∀ c : Dev nD,
      r.2.mem ((c.tc : Thread nD τ).loc main_v86) = array (argX m c) (argG m c) (argW m c) (argQ m c) (argS m c) (argV m c)
      ∧ r.2.mem ((c.tc : Thread nD τ).loc main_v87) = back2 (argX m c) (argG m c) (argW m c)
      ∧ r.2.mem ((c.tc : Thread nD τ).loc main_v88) = back3 (argX m c) (argG m c) (argW m c) (argS m c)
      ∧ r.2.mem ((c.tc : Thread nD τ).loc main_v90) = back4 (argX m c) (argG m c) (argW m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h1, h2, h3, h4, h5⟩ := h c
    exact ⟨h1.trans (by unfold Value.res_main_v86; rfl), h2.trans rfl, h3.trans (by unfold Value.res_main_v88; rfl),
      h4.trans (by unfold Value.res_main_v90; rfl), h5⟩) (Value.run m ρ)

end Cert.Reference2Ideal.InProj

end
-- ==== Proof.InSample.KernelIdeal.RmsCast.lean ====
/- The first of the two calls: the rows scaled by their root mean square and by the gains. -/
module

public import proofs.«01_k».proof.Proof.Gen.Kernel7Ideal.Launch
public import proofs.«01_k».proof.Proof.Gen.Kernel7Ideal.Points
public import proofs.«01_k».proof.Proof.Gen.Kernel7Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.CanonAppend

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the first call starts -/

/-- The core's buffers at launch, -/
abbrev U0 (c : Dev nD) : Valuation τ sig (Elt F) := fun b => m (c, b)
/-- after the host's first operations: the flags' table and the fill, -/
abbrev U01 (c : Dev nD) : Valuation τ sig (Elt F) := StableHlo.after hostOps0 (U0 m c)
/-- after the next: every step's rows filled up to sixteen, -/
abbrev U02 (c : Dev nD) : Valuation τ sig (Elt F) := StableHlo.after hostOps0_1 (U01 m c)
/-- and after the last of them: the rows and the gains reshaped. -/
abbrev U1 (c : Dev nD) : Valuation τ sig (Elt F) := StableHlo.after hostOps0_2 (U02 m c)

/-! ## The body -/

set_option maxHeartbeats 1000000 in
/-- The body's one store, with the proof that the body, run on whole staging buffers, makes it. -/
def castRun (c : Dev nD) (i : grid0.Coords) (a0 : Memref sig .tc .vmem S512x4096 .f32) (ha0 : a0.IsWhole)
    (a1 : Memref sig .tc .vmem S1x4096 .f32) (ha1 : a1.IsWhole) (a2 : Memref sig .tc .vmem S512x4096 .f32) (ha2 : a2.IsWhole)
    (x0 : Vec F S512x4096 .f32) (x1 : Vec F S1x4096 .f32) :
    { L : List (View.Piece (Elt F) S512x4096 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d)
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc0_rms_cast i a0 ha0 a1 ha1 a2 ha2) K } := by
  refine ⟨?_, fun E K => ?run⟩
  case run =>
    simp only [cc0_rms_cast_eq_skeleton]; unfold cc0_rms_cast_skel
    unfold owns
    iintro ⟨⟨%f0, %hf0, H0⟩, ⟨%f1, %hf1, H1⟩, ⟨%d2, %f2, -, H2⟩, Hk⟩
    obtain rfl := ha0.eq_unread hf0; obtain rfl := ha1.eq_unread hf1
    sl_exec
    sl_step
    iapply Hk
    isplitl [H0]
    · iexists _; isplitr; · ipureintro; exact ha0.read_unread _
      iexact H0
    isplitl [H1]
    · iexists _; isplitr; · ipureintro; exact ha1.read_unread _
      iexact H1
    iexists _; iexact H2

theorem zeros2 : (![0, 0] : Fin 2 → ℕ) = fun _ => 0 := by decide

/-- The store is of the rows scaled, over the whole tile. -/
theorem castRun_stores (c : Dev nD) (i : grid0.Coords) (a0 : Memref sig .tc .vmem S512x4096 .f32) (ha0 : a0.IsWhole)
    (a1 : Memref sig .tc .vmem S1x4096 .f32) (ha1 : a1.IsWhole) (a2 : Memref sig .tc .vmem S512x4096 .f32) (ha2 : a2.IsWhole)
    (x0 : Vec F S512x4096 .f32) (x1 : Vec F S1x4096 .f32) :
    (castRun c i a0 ha0 a1 ha1 a2 ha2 x0 x1).1 = [⟨Rect.unit ![0, 0] ![512, 4096] inb_S512x4096_S512x4096_0_0, k0_pay1 x0 x1⟩] := by
  unfold castRun
  dsimp only
  sl_unfold_words
  simp only [View.readAt_eq_ld, ha0.read_unread, ha1.read_unread, View.ld_unit_zero (S := S512x4096) zeros2, View.ld_unit_zero (S := S1x4096) zeros2]

/-- Run on whole staging buffers, the body leaves the rows scaled in its output's. -/
theorem cast_ok (c : Dev nD) (i : grid0.Coords) (a0 : Memref sig .tc .vmem S512x4096 .f32) (ha0 : a0.IsWhole)
    (a1 : Memref sig .tc .vmem S1x4096 .f32) (ha1 : a1.IsWhole) (a2 : Memref sig .tc .vmem S512x4096 .f32) (ha2 : a2.IsWhole)
    (x0 : Vec F S512x4096 .f32) (x1 : Vec F S1x4096 .f32) (E : Set ℕ) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (k0_pay1 x0 x1)) -∗ K ⟨⟩))
      ⊢ wp frame (wpE (defs₀ (F := F)) Variants.none c none) E (cc0_rms_cast i a0 ha0 a1 ha1 a2 ha2) K := by
  iintro ⟨H0, H1, H2, Hk⟩
  iapply ((castRun c i a0 ha0 a1 ha1 a2 ha2 x0 x1).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns
  iexists _
  isplitr
  swap; · iexact H2
  ipureintro
  rw [castRun_stores]
  exact (View.read_writes_eq_canon _ _ _ (View.cover_of_tiledL _ S512x4096.size (by sl_kernel_rfl))).trans (View.canon_unit_zero (S := S512x4096) zeros2 inb_S512x4096_S512x4096_0_0 _)

/-! ## The pipeline's proof data -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (U1 m c (Proc.devRef .tc (Pipeline.arrRef spec0 w)))

/-- The rows and the gains of point `t`. -/
abbrev rows0 (c : Dev nD) (t : Fin cfg0.N) : Vec F S512x4096 .f32 := blk0 m c 0 t
abbrev gain0 (c : Dev nD) (t : Fin cfg0.N) : Vec F S1x4096 .f32 := blk0 m c 1 t

/-- The inputs stay at their blocks, the output holds the scaled rows, and the buffers of the second call ride along. -/
def dat0 (c : Dev nD) : Dat τ (Elt F) Unit ℕ (UR sig nD τ) ℕ cfg0 c where
  A w := U1 m c (Proc.devRef .tc (Pipeline.arrRef spec0 w))
  after w t := match w with
    | ⟨0, _⟩ => blk0 m c 0 t
    | ⟨1, _⟩ => blk0 m c 1 t
    | ⟨2, _⟩ => k0_pay1 (rows0 m c t) (gain0 m c t)
  Φ _ := Pipeline.scopedRest spec0 c
  q _ := fullShare
  owed _ := 0

theorem dat0_A (c : Dev nD) (w : Fin cfg0.W) : (dat0 m c).A w = U1 m c (Proc.devRef .tc (Pipeline.arrRef spec0 w)) := by
  dsimp only [dat0]
theorem after0_0 (c : Dev nD) (t : Fin cfg0.N) : (dat0 m c).after 0 t = blk0 m c 0 t := by dsimp only [dat0]; try rfl
theorem after0_1 (c : Dev nD) (t : Fin cfg0.N) : (dat0 m c).after 1 t = blk0 m c 1 t := by dsimp only [dat0]; try rfl
theorem after0_2 (c : Dev nD) (t : Fin cfg0.N) : (dat0 m c).after 2 t = k0_pay1 (rows0 m c t) (gain0 m c t) := by
  dsimp only [dat0]; try rfl

theorem before0_0 (c : Dev nD) (t : Fin cfg0.N) (d) : (dat0 m c).before 0 t d = blk0 m c 0 t :=
  ((dat0 m c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 m c).before 1 t d = blk0 m c 1 t :=
  ((dat0 m c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)

/-! ## The body at every point -/

/-- What the body is called with at point `t`, window by window, -/
def pre0At (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def post0At (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

theorem body0_ok (c : Dev nD) (t : Fin cfg0.N) :
    pre0At m c t ⊢ wp frame (wpE (defs₀ (F := F)) Variants.none c none) Set.univ (bodyAt0 t) (fun _ => post0At m c t) := by
  unfold pre0At post0At bodyAt0
  simp only [before0_0, before0_1]
  rw [show (dat0 m c).Φ t.succ = (dat0 m c).Φ t.castSucc from rfl,
    show (dat0 m c).owesAt () t.succ = (dat0 m c).owesAt () t.castSucc from rfl, after0_0, after0_1, after0_2]
  iintro ⟨HΦ, Ho, ⟨%d0, H0⟩, ⟨%d1, H1⟩, ⟨%d2, H2⟩⟩
  iapply (cast_ok c (grid0.coords t) _ _ _ _ _ _ (rows0 m c t) (gain0 m c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- What the launch theorem asks of the body. -/
theorem body0_obligation (c : Dev nD) : BodyObligation (dat0 (F := F) m c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body0_ok m c t) rfl .rfl fun _ => .rfl

end Cert.Kernel7Ideal.InSample

end
-- ==== Proof.InSample.KernelIdeal.Stores.lean ====
/- The second call's conditions and what its body stores. -/
module

public import proofs.«01_k».proof.Proof.InSample.KernelIdeal.RmsCast

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The flags' table and the body's conditions -/

/-- The flags' table as the body is handed it, and the scratch buffer. -/
abbrev tabF : Memref sig .tc .smem S26 .i32 := Memref.whole main_c
abbrev htabF : tabF.IsWhole := Memref.isWhole_whole _
abbrev scr : Memref sig .tc .vmem S2x4096x512 .bf16 := Memref.whole cc1_scratch0
abbrev hscr : scr.IsWhole := Memref.isWhole_whole _

/-- The table's buffer type and the whole of it. -/
abbrev FlagBuf (c : Dev nD) : Type := Buf (Elt F) (tabF.view.loc (c : Thread nD τ))
abbrev flagPt (c : Dev nD) (f : FlagBuf (F := F) c) : sProp 𝕄 := tabF.view.loc (c : Thread nD τ) ↦{fullShare} f

/-- The word of the table the body reads at a point: positive when the column tile has heads to normalise. -/
abbrev flagWord (c : Dev nD) (i : grid1.Coords) (x : FlagBuf (F := F) c) : BitVec 32 :=
  View.readAt (Elt F) tabF.view (Rect.unit (s := S26) (k1_off1 i) S1.size (k1_off1_inb i)).toLoadRect x
    (Shape.Idx.first (numel1_S1.symm ▸ Nat.one_pos))

/-- The condition under which the body rounds the weights into the scratch buffer: the first row tile of its column tile. -/
abbrev FirstRows (i : grid1.Coords) : Prop :=
  Scalar.cmpi .ne (Scalar.extui (Scalar.cmpi .eq (BitVec.ofNat 32 (i 1).val) 0#32) : BitVec 32) 0#32 = 1#1

/-- The entry of the table a point reads: its column tile's. -/
def flagIx (i : grid1.Coords) : S26.Idx
  | 0 => ⟨k1_off1 i 0, k1_off1_inb i 0⟩

/-- The word is that entry. -/
theorem flagWord_eq (c : Dev nD) (i : grid1.Coords) (x : FlagBuf (F := F) c) : flagWord c i x = x (flagIx i) :=
  congrArg x (funext fun | (0 : Fin 1) => Fin.ext (show k1_off1 i 0 + 1 * 0 = k1_off1 i 0 from rfl))

/-- The pipeline reads the same entry. -/
theorem flagWord_atD (c : Dev nD) (i : grid1.Coords) (pf : pre1.Contents (Elt F)) :
    pf.atD 0 (k1_off1 i) = flagWord c i (pf 0) := by
  refine Eq.trans ?_ (flagWord_eq c i (pf 0)).symm
  refine (dif_pos (fun | (0 : Fin 1) => k1_off1_inb i 0)).trans ?_
  exact congrArg (pf 0) (funext fun | (0 : Fin 1) => rfl)

/-- The body's two conditions on the word exclude each other, and one of them holds. -/
theorem cond3_iff (w : BitVec 32) : k1_cond3 w = 1#1 ↔ ¬ k1_cond2 w = 1#1 := by
  unfold k1_cond3 k1_cond2
  dsimp only
  rcases (show ∀ b : BitVec 1, b = 0#1 ∨ b = 1#1 by decide) (Scalar.cmpi .sgt w 0#32) with h | h <;> rw [h] <;> decide

/-- There is one row tile: every point is the first of its column tile. -/
theorem firstRows (i : grid1.Coords) : FirstRows i := by
  have e : (i 1).val = 0 := Nat.lt_one_iff.mp (i 1).isLt
  unfold FirstRows
  rw [e]
  decide

/-! ## The stores -/

theorem zeros3 : (![0, 0, 0] : Fin 3 → ℕ) = fun _ => 0 := by decide

/-- The four column slabs of a tile with heads to normalise, last first, from the products `y`, the gains `g` and the selection `s`. -/
def slabs (y : FVec F S512x512 .f32) (g s : Vec F S1x512 .f32) : List (View.Piece (Elt F) S512x512 .f32) :=
  [⟨Rect.unit ![0, 384] ![512, 128] inb_S512x512_S512x128_0_384,
      k1_pay6 (k1_pay14 y) (k1_pay15 (View.ld s (Rect.unit ![0, 384] ![1, 128] inb_S1x512_S1x128_0_384)))
        (k1_pay16 (View.ld g (Rect.unit ![0, 384] ![1, 128] inb_S1x512_S1x128_0_384))) (k1_pay17 y) (k1_pay18 (F := F))⟩,
   ⟨Rect.unit ![0, 256] ![512, 128] inb_S512x512_S512x128_0_256,
      k1_pay13 y (View.ld s (Rect.unit ![0, 256] ![1, 128] inb_S1x512_S1x128_0_256))
        (View.ld g (Rect.unit ![0, 256] ![1, 128] inb_S1x512_S1x128_0_256))⟩,
   ⟨Rect.unit ![0, 128] ![512, 128] inb_S512x512_S512x128_0_128,
      k1_pay12 (k1_pay8 y) (k1_pay9 (View.ld s (Rect.unit ![0, 128] ![1, 128] inb_S1x512_S1x128_0_128))) (k1_pay10 y)
        (k1_pay11 (View.ld g (Rect.unit ![0, 128] ![1, 128] inb_S1x512_S1x128_0_128)))⟩,
   ⟨Rect.unit ![0, 0] ![512, 128] inb_S512x512_S512x128_0_0,
      k1_pay7 y (View.ld s (Rect.unit ![0, 0] ![1, 128] inb_S1x512_S1x128_0_0))
        (View.ld g (Rect.unit ![0, 0] ![1, 128] inb_S1x512_S1x128_0_0))⟩]

/-- The one store of a tile with none: the products. -/
def bare (y : FVec F S512x512 .f32) : List (View.Piece (Elt F) S512x512 .f32) :=
  [⟨Rect.unit ![0, 0] ![512, 512] inb_S512x512_S512x512_0_0, y⟩]

/-- The two stores into the scratch buffer, last first: what the rounding of the weights leaves over, and the rounded weights. -/
def kept (x1 : Vec F S4096x512 .f32) : List (View.Piece (Elt F) S2x4096x512 .bf16) :=
  [⟨Rect.unit ![1, 0, 0] ![1, 4096, 512] inb_S2x4096x512_S1x4096x512_1_0_0, k1_pay4 x1⟩,
   ⟨Rect.unit ![0, 0, 0] ![1, 4096, 512] inb_S2x4096x512_S1x4096x512_0_0_0, k1_pay3 x1⟩]

/-- The products, from the two parts of the weights. -/
abbrev acc (x0 : Vec F S512x4096 .f32) (x1 : Vec F S4096x512 .f32) : FVec F S512x512 .f32 :=
  k1_pay5 x0 (k1_pay3 x1) (k1_pay4 x1) (k1_pay3 x1)

/-- The two halves of the scratch buffer. -/
abbrev half0 : Rect S2x4096x512 := Rect.unit ![0, 0, 0] ![1, 4096, 512] inb_S2x4096x512_S1x4096x512_0_0_0
abbrev half1 : Rect S2x4096x512 := Rect.unit ![1, 0, 0] ![1, 4096, 512] inb_S2x4096x512_S1x4096x512_1_0_0

/-- They share no index. -/
theorem halves_apart (j : half0.shape.Idx) : half0.emb j ∉ half1.set := by
  intro h
  obtain ⟨x, hx⟩ := half1.exists_idx_of_mem h
  have h0 : 1 + 1 * (x 0).val = 0 + 1 * (j 0).val := congrArg Fin.val (congrFun hx (0 : Fin 3))
  have hj : (j 0).val < 1 := (j 0).isLt
  omega

/-- A load of the first half reads what was stored there, -/
theorem read_half0 (a : half1.shape.Idx → Elt F .bf16) (b : half0.shape.Idx → Elt F .bf16) :
    View.readCov (Val := Elt F) scr.view [⟨half1, a⟩, ⟨half0, b⟩] half0.toLoadRect = b :=
  (View.readCov_cons_of_disjoint (Val := Elt F) scr.view ⟨half1, a⟩ [⟨half0, b⟩] half0.toLoadRect
    (Finset.disjoint_right.mpr fun y hy => by
      obtain ⟨j, rfl⟩ := half0.exists_idx_of_mem hy
      exact halves_apart j)).trans
    (View.readCov_cons_toLoadRect (Val := Elt F) (e := .bf16) scr.view half0 b [])

/-- and one of the second half likewise. -/
theorem read_half1 (a : half1.shape.Idx → Elt F .bf16) (b : half0.shape.Idx → Elt F .bf16) :
    View.readCov (Val := Elt F) scr.view [⟨half1, a⟩, ⟨half0, b⟩] half1.toLoadRect = a :=
  View.readCov_cons_toLoadRect (Val := Elt F) (e := .bf16) scr.view half1 a [⟨half0, b⟩]

/-- So the body's loads read the two parts of the weights. -/
theorem loaded0 (x1 : Vec F S4096x512 .f32) :
    View.readCov (Val := Elt F) (s := S2x4096x512) (e := .bf16) (View.whole cc1_scratch0)
      [⟨Rect.unit ![1, 0, 0] ![1, 4096, 512] inb_S2x4096x512_S1x4096x512_1_0_0, k1_pay4 x1⟩,
        ⟨Rect.unit ![0, 0, 0] ![1, 4096, 512] inb_S2x4096x512_S1x4096x512_0_0_0, k1_pay3 x1⟩]
      (Rect.unit ![0, 0, 0] ![1, 4096, 512] inb_S2x4096x512_S1x4096x512_0_0_0).toLoadRect = k1_pay3 x1 :=
  read_half0 (k1_pay4 x1) (k1_pay3 x1)
theorem loaded1 (x1 : Vec F S4096x512 .f32) :
    View.readCov (Val := Elt F) (s := S2x4096x512) (e := .bf16) (View.whole cc1_scratch0)
      [⟨Rect.unit ![1, 0, 0] ![1, 4096, 512] inb_S2x4096x512_S1x4096x512_1_0_0, k1_pay4 x1⟩,
        ⟨Rect.unit ![0, 0, 0] ![1, 4096, 512] inb_S2x4096x512_S1x4096x512_0_0_0, k1_pay3 x1⟩]
      (Rect.unit ![1, 0, 0] ![1, 4096, 512] inb_S2x4096x512_S1x4096x512_1_0_0).toLoadRect = k1_pay4 x1 :=
  read_half1 (k1_pay4 x1) (k1_pay3 x1)

theorem slabs_cover (y : FVec F S512x512 .f32) (g s : Vec F S1x512 .f32) (j : S512x512.Idx) : ∃ pc ∈ slabs y g s, j ∈ pc.1.set :=
  View.cover_of_tiledL (slabs y g s) S512x128.size (by sl_kernel_rfl) j
theorem bare_cover (y : FVec F S512x512 .f32) (j : S512x512.Idx) : ∃ pc ∈ bare y, j ∈ pc.1.set :=
  View.cover_of_tiledL (bare y) S512x512.size (by sl_kernel_rfl) j
theorem kept_cover (x1 : Vec F S4096x512 .f32) (j : S2x4096x512.Idx) : ∃ pc ∈ kept x1, j ∈ pc.1.set :=
  View.cover_of_tiledL (kept x1) S1x4096x512.size (by sl_kernel_rfl) j

end Cert.Kernel7Ideal.InSample

end
-- ==== Proof.InSample.KernelIdeal.RunNormed.lean ====
/- The body at the point of a column tile with heads to normalise. -/
module

public import proofs.«01_k».proof.Proof.InSample.KernelIdeal.Stores

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Its stores, last first, with the proof that the body, run on whole buffers, makes exactly those. -/
def runNormed (c : Dev nD) (i : grid1.Coords) (b0 : Memref sig .tc .vmem S512x4096 .f32) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S512x512 .f32) (hb4 : b4.IsWhole)
    (x0 : Vec F S512x4096 .f32) (x1 : Vec F S4096x512 .f32) (x2 : Vec F S1x512 .f32) (x3 : Vec F S1x512 .f32) (xT : FlagBuf (F := F) c)
    (hz : FirstRows i) (hn : k1_cond2 (flagWord c i xT) = 1#1) (hp : ¬ k1_cond3 (flagWord c i xT) = 1#1) :
    { L : List (View.Piece (Elt F) S512x512 .f32) × List (View.Piece (Elt F) S2x4096x512 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ (∃ d, owns (c : Thread nD τ) scr fullShare d) ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L.1)
                ∗ (∃ f, scr.view.loc (c : Thread nD τ) ↦[scr.view.set]{fullShare} scr.view.writes (Elt F) f L.2) ∗ flagPt c xT) -∗ K ⟨⟩))
          ⊢ wp frame (wpE (defs₀ (F := F)) Variants.none c none) E (cc1_in_proj i tabF htabF b0 hb0 b1 hb1 b2 hb2 b3 hb3 b4 hb4 scr hscr) K } := by
  refine ⟨(?_, ?_), fun E K => ?run⟩
  case run =>
    simp only [cc1_in_proj_eq_skeleton]; unfold cc1_in_proj_skel
    simp only [k1_part1_eq_skeleton, k1_part2_eq_skeleton]; unfold k1_part1_skel k1_part2_skel
    unfold owns
    iintro ⟨⟨%f0, %hf0, H0⟩, ⟨%f1, %hf1, H1⟩, ⟨%f2, %hf2, H2⟩, ⟨%f3, %hf3, H3⟩, ⟨%d4, %f4, -, H4⟩, ⟨%dS, %fS, -, HS⟩, HT, Hk⟩
    obtain rfl := hb0.eq_unread hf0; obtain rfl := hb1.eq_unread hf1
    obtain rfl := hb2.eq_unread hf2; obtain rfl := hb3.eq_unread hf3
    sl_exec (disch := first | sl_exact hz | sl_exact hn | sl_exact hp)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]; · iexists _; iexact HS
    iexact HT

/-- Those stores are four column slabs, and the two parts of the weights into the scratch buffer. -/
theorem runNormed_stores (c : Dev nD) (i : grid1.Coords) (b0 : Memref sig .tc .vmem S512x4096 .f32) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S512x512 .f32) (hb4 : b4.IsWhole)
    (x0 : Vec F S512x4096 .f32) (x1 : Vec F S4096x512 .f32) (x2 : Vec F S1x512 .f32) (x3 : Vec F S1x512 .f32) (xT : FlagBuf (F := F) c)
    (hz : FirstRows i) (hn : k1_cond2 (flagWord c i xT) = 1#1) (hp : ¬ k1_cond3 (flagWord c i xT) = 1#1) :
    (runNormed c i b0 hb0 b1 hb1 b2 hb2 b3 hb3 b4 hb4 x0 x1 x2 x3 xT hz hn hp).1 = ((slabs (acc x0 x1) x2 x3), kept x1) := by
  unfold runNormed
  dsimp only
  sl_unfold_words
  unfold slabs kept acc
  simp only [View.readAt_eq_ld, hb0.read_unread, hb1.read_unread, hb2.read_unread, hb3.read_unread,
    View.ld_unit_zero (S := S512x4096) zeros2, View.ld_unit_zero (S := S4096x512) zeros2]
  rw [loaded0 x1, loaded1 x1]

/-- So, run on whole buffers, the body leaves them in the output's. -/
theorem runNormed_ok (c : Dev nD) (i : grid1.Coords) (b0 : Memref sig .tc .vmem S512x4096 .f32) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S512x512 .f32) (hb4 : b4.IsWhole)
    (x0 : Vec F S512x4096 .f32) (x1 : Vec F S4096x512 .f32) (x2 : Vec F S1x512 .f32) (x3 : Vec F S1x512 .f32) (xT : FlagBuf (F := F) c)
    (hz : FirstRows i) (hn : k1_cond2 (flagWord c i xT) = 1#1) (hp : ¬ k1_cond3 (flagWord c i xT) = 1#1) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ (∃ d, owns (c : Thread nD τ) scr fullShare d) ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (View.canon (slabs (acc x0 x1) x2 x3))
            ∗ owns (c : Thread nD τ) scr fullShare (View.canon (kept x1)) ∗ flagPt c xT) -∗ K ⟨⟩))
      ⊢ wp frame (wpE (defs₀ (F := F)) Variants.none c none) E (cc1_in_proj i tabF htabF b0 hb0 b1 hb1 b2 hb2 b3 hb3 b4 hb4 scr hscr) K := by
  iintro ⟨H0, H1, H2, H3, H4, HS, HT, Hk⟩
  iapply ((runNormed c i b0 hb0 b1 hb1 b2 hb2 b3 hb3 b4 hb4 x0 x1 x2 x3 xT hz hn hp).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, ⟨%eS, HS⟩, HT⟩
  iapply Hk
  isplitl [H0]; · iexact H0
  isplitl [H1]; · iexact H1
  isplitl [H2]; · iexact H2
  isplitl [H3]; · iexact H3
  rw [runNormed_stores]
  isplitl [H4]
  · unfold owns
    iexists _
    isplitr
    swap; · iexact H4
    ipureintro
    exact View.read_writes_eq_canon _ _ _ (slabs_cover (acc x0 x1) x2 x3)
  isplitl [HS]
  · unfold owns
    iexists _
    isplitr
    swap; · iexact HS
    ipureintro
    exact View.read_writes_eq_canon _ _ _ (kept_cover x1)
  iexact HT

end Cert.Kernel7Ideal.InSample

end
-- ==== Proof.InSample.KernelIdeal.RunBare.lean ====
/- The body at the point of a column tile without heads to normalise. -/
module

public import proofs.«01_k».proof.Proof.InSample.KernelIdeal.Stores

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Its stores, last first, with the proof that the body, run on whole buffers, makes exactly those. -/
def runBare (c : Dev nD) (i : grid1.Coords) (b0 : Memref sig .tc .vmem S512x4096 .f32) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S512x512 .f32) (hb4 : b4.IsWhole)
    (x0 : Vec F S512x4096 .f32) (x1 : Vec F S4096x512 .f32) (x2 : Vec F S1x512 .f32) (x3 : Vec F S1x512 .f32) (xT : FlagBuf (F := F) c)
    (hz : FirstRows i) (hn : ¬ k1_cond2 (flagWord c i xT) = 1#1) (hp : k1_cond3 (flagWord c i xT) = 1#1) :
    { L : List (View.Piece (Elt F) S512x512 .f32) × List (View.Piece (Elt F) S2x4096x512 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ (∃ d, owns (c : Thread nD τ) scr fullShare d) ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L.1)
                ∗ (∃ f, scr.view.loc (c : Thread nD τ) ↦[scr.view.set]{fullShare} scr.view.writes (Elt F) f L.2) ∗ flagPt c xT) -∗ K ⟨⟩))
          ⊢ wp frame (wpE (defs₀ (F := F)) Variants.none c none) E (cc1_in_proj i tabF htabF b0 hb0 b1 hb1 b2 hb2 b3 hb3 b4 hb4 scr hscr) K } := by
  refine ⟨(?_, ?_), fun E K => ?run⟩
  case run =>
    simp only [cc1_in_proj_eq_skeleton]; unfold cc1_in_proj_skel
    unfold owns
    iintro ⟨⟨%f0, %hf0, H0⟩, ⟨%f1, %hf1, H1⟩, ⟨%f2, %hf2, H2⟩, ⟨%f3, %hf3, H3⟩, ⟨%d4, %f4, -, H4⟩, ⟨%dS, %fS, -, HS⟩, HT, Hk⟩
    obtain rfl := hb0.eq_unread hf0; obtain rfl := hb1.eq_unread hf1
    obtain rfl := hb2.eq_unread hf2; obtain rfl := hb3.eq_unread hf3
    sl_exec (disch := first | sl_exact hz | sl_exact hn | sl_exact hp)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]; · iexists _; iexact HS
    iexact HT

/-- Those stores are the products, and the two parts of the weights into the scratch buffer. -/
theorem runBare_stores (c : Dev nD) (i : grid1.Coords) (b0 : Memref sig .tc .vmem S512x4096 .f32) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S512x512 .f32) (hb4 : b4.IsWhole)
    (x0 : Vec F S512x4096 .f32) (x1 : Vec F S4096x512 .f32) (x2 : Vec F S1x512 .f32) (x3 : Vec F S1x512 .f32) (xT : FlagBuf (F := F) c)
    (hz : FirstRows i) (hn : ¬ k1_cond2 (flagWord c i xT) = 1#1) (hp : k1_cond3 (flagWord c i xT) = 1#1) :
    (runBare c i b0 hb0 b1 hb1 b2 hb2 b3 hb3 b4 hb4 x0 x1 x2 x3 xT hz hn hp).1 = ((bare (acc x0 x1)), kept x1) := by
  unfold runBare
  dsimp only
  sl_unfold_words
  unfold bare kept acc
  simp only [View.readAt_eq_ld, hb0.read_unread, hb1.read_unread, hb2.read_unread, hb3.read_unread,
    View.ld_unit_zero (S := S512x4096) zeros2, View.ld_unit_zero (S := S4096x512) zeros2]
  rw [loaded0 x1, loaded1 x1]

/-- So, run on whole buffers, the body leaves them in the output's. -/
theorem runBare_ok (c : Dev nD) (i : grid1.Coords) (b0 : Memref sig .tc .vmem S512x4096 .f32) (hb0 : b0.IsWhole) (b1 : Memref sig .tc .vmem S4096x512 .f32) (hb1 : b1.IsWhole)
    (b2 : Memref sig .tc .vmem S1x512 .f32) (hb2 : b2.IsWhole) (b3 : Memref sig .tc .vmem S1x512 .f32) (hb3 : b3.IsWhole)
    (b4 : Memref sig .tc .vmem S512x512 .f32) (hb4 : b4.IsWhole)
    (x0 : Vec F S512x4096 .f32) (x1 : Vec F S4096x512 .f32) (x2 : Vec F S1x512 .f32) (x3 : Vec F S1x512 .f32) (xT : FlagBuf (F := F) c)
    (hz : FirstRows i) (hn : ¬ k1_cond2 (flagWord c i xT) = 1#1) (hp : k1_cond3 (flagWord c i xT) = 1#1) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ (∃ d, owns (c : Thread nD τ) scr fullShare d) ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (View.canon (bare (acc x0 x1)))
            ∗ owns (c : Thread nD τ) scr fullShare (View.canon (kept x1)) ∗ flagPt c xT) -∗ K ⟨⟩))
      ⊢ wp frame (wpE (defs₀ (F := F)) Variants.none c none) E (cc1_in_proj i tabF htabF b0 hb0 b1 hb1 b2 hb2 b3 hb3 b4 hb4 scr hscr) K := by
  iintro ⟨H0, H1, H2, H3, H4, HS, HT, Hk⟩
  iapply ((runBare c i b0 hb0 b1 hb1 b2 hb2 b3 hb3 b4 hb4 x0 x1 x2 x3 xT hz hn hp).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, ⟨%eS, HS⟩, HT⟩
  iapply Hk
  isplitl [H0]; · iexact H0
  isplitl [H1]; · iexact H1
  isplitl [H2]; · iexact H2
  isplitl [H3]; · iexact H3
  rw [runBare_stores]
  isplitl [H4]
  · unfold owns
    iexists _
    isplitr
    swap; · iexact H4
    ipureintro
    exact View.read_writes_eq_canon _ _ _ (bare_cover (acc x0 x1))
  isplitl [HS]
  · unfold owns
    iexists _
    isplitr
    swap; · iexact HS
    ipureintro
    exact View.read_writes_eq_canon _ _ _ (kept_cover x1)
  iexact HT

end Cert.Kernel7Ideal.InSample

end
-- ==== Proof.InSample.KernelIdeal.Tiles.lean ====
/- The second of the two calls: the rows with the weights, the heads normalised where a column tile has any. -/
module

public import proofs.«01_k».proof.Proof.InSample.KernelIdeal.RunNormed
public import proofs.«01_k».proof.Proof.InSample.KernelIdeal.RunBare
public import Idealize.ShloMosaic.Lib.Pipeline.FrameTail
public import Idealize.ShloMosaic.Lib.Pipeline.ClipFacts

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the second call starts -/

/-- The core's buffers after the first call, -/
abbrev U2 (c : Dev nD) : Valuation τ sig (Elt F) := Pipeline.afterRegion (dat0 m c) (U1 m c)
/-- and after the host's next operations: the weights, the gains and the selection laid out. -/
abbrev U3 (c : Dev nD) : Valuation τ sig (Elt F) := StableHlo.after hostOps1 (U2 m c)

/-- The flags' table, and the pipeline that runs at it. -/
def tblF : pre1.Contents (Elt F) := fun k => U3 m (0 : Dev nD) (Proc.devRef .tc (pre1.ref k))
abbrev adm1 : (pcfg1 (F := F)).Adm := ⟨tblF m, trivial⟩
abbrev cfgN : Pipeline.Cfg sig Λ₀ := cfg1 (adm1 m)

/-! ## The blocks -/

/-- Window `w`'s block at point `t`, read off its array as the call finds it. -/
def blk1 (c : Dev nD) (w : Fin (cfgN m).W) (t : Fin (cfgN m).N) :
    (((cfgN m).win w).xblock ((cfgN m).grid.coords t)).Idx → Elt F ((cfgN m).win w).elt :=
  (((cfgN m).win w).blk t).view.read (Elt F) (U3 m c (Proc.devRef .tc (Pipeline.arrRef spec1 w)))

/-- Every column tile of the weights ends inside the array. -/
theorem tile_inb : ∀ (i : grid1.Coords) (a : Fin 2), (cc1_transform_1 i a + 1) * S4096x512.size a ≤ S4096x13360.size a := by decide +kernel

theorem noClip (t : Fin (cfgN m).N) : ∀ a, ((cfgN m).win 1).clip ((cfgN m).grid.coords t) a = none :=
  fun a => Pipeline.Clip.of_eq_none (tile_inb (grid1.coords t) a)

/-- One staging buffer of the weights, through which their block's contents are spelled. -/
abbrev wtsView : View sig .tc .vmem S4096x512 .f32 := (Memref.whole cc1_stg1_0 : Memref sig .tc .vmem S4096x512 .f32).view

/-- The rows, the weights, the gains and the selection of point `t`. -/
abbrev rows1 (c : Dev nD) (t : Fin (cfgN m).N) : Vec F S512x4096 .f32 := blk1 m c 0 t
def wts1 (c : Dev nD) (t : Fin (cfgN m).N) : Vec F S4096x512 .f32 :=
  ((cfgN m).win 1).fill ((cfgN m).grid.coords t) (wtsView.read (Elt F) wtsView.junk) (blk1 m c 1 t)
abbrev gain1 (c : Dev nD) (t : Fin (cfgN m).N) : Vec F S1x512 .f32 := blk1 m c 2 t
abbrev norm1 (c : Dev nD) (t : Fin (cfgN m).N) : Vec F S1x512 .f32 := blk1 m c 3 t

/-- The products of point `t`: its rows with its column tile's weights. -/
abbrev prod1 (c : Dev nD) (t : Fin (cfgN m).N) : FVec F S512x512 .f32 := acc (rows1 m c t) (wts1 m c t)

/-- The column tile has heads to normalise. -/
abbrev Normed (c : Dev nD) (i : grid1.Coords) : Prop := k1_cond2 (flagWord c i (tblF m 0)) = 1#1

/-- What point `t` leaves in the output's staging buffer. -/
def out1 (c : Dev nD) (t : Fin (cfgN m).N) : Vec F S512x512 .f32 :=
  if Normed m c (grid1.coords t) then View.canon (slabs (prod1 m c t) (gain1 m c t) (norm1 m c t)) else View.canon (bare (prod1 m c t))

/-! ## The pipeline's proof data -/

/-- The first call's staging buffers, which the second leaves alone. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The inputs stay at their blocks, the output goes through `out1`, the scratch buffer holds anything between points. -/
def dat1 (c : Dev nD) : Dat τ (Elt F) Unit ℕ (UR sig nD τ) ℕ (cfgN m) c where
  A w := U3 m c (Proc.devRef .tc (Pipeline.arrRef spec1 w))
  after w t := match w with
    | ⟨0, _⟩ => blk1 m c 0 t
    | ⟨1, _⟩ => wts1 m c t
    | ⟨2, _⟩ => blk1 m c 2 t
    | ⟨3, _⟩ => blk1 m c 3 t
    | ⟨4, _⟩ => out1 m c t
  Φ t := iprop(others c ∗ (∃ d, owns (c : Thread nD τ) scr fullShare d) ∗ flagPt c (tblF m 0))
  q _ := fullShare
  owed _ := 0

theorem dat1_A (c : Dev nD) (w : Fin (cfgN m).W) : (dat1 m c).A w = U3 m c (Proc.devRef .tc (Pipeline.arrRef spec1 w)) := by
  dsimp only [dat1]
theorem after1_0 (c : Dev nD) (t : Fin (cfgN m).N) : (dat1 m c).after 0 t = blk1 m c 0 t := by dsimp only [dat1]; try rfl
theorem after1_1 (c : Dev nD) (t : Fin (cfgN m).N) : (dat1 m c).after 1 t = wts1 m c t := by dsimp only [dat1]; try rfl
theorem after1_2 (c : Dev nD) (t : Fin (cfgN m).N) : (dat1 m c).after 2 t = blk1 m c 2 t := by dsimp only [dat1]; try rfl
theorem after1_3 (c : Dev nD) (t : Fin (cfgN m).N) : (dat1 m c).after 3 t = blk1 m c 3 t := by dsimp only [dat1]; try rfl
theorem after1_4 (c : Dev nD) (t : Fin (cfgN m).N) : (dat1 m c).after 4 t = out1 m c t := by dsimp only [dat1]; try rfl

theorem before1_0 (c : Dev nD) (t : Fin (cfgN m).N) (d) : (dat1 m c).before 0 t d = blk1 m c 0 t :=
  ((dat1 m c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin (cfgN m).N) (d) : (dat1 m c).before 1 t d = wts1 m c t :=
  ((dat1 m c).before_in_eq_fetched 1 rfl (fun _ => rfl)
    (fun t t' _ => funext fun a => (noClip m t a).trans (noClip m t' a).symm)
    (fun t => by
      rw [after1_1]; unfold wts1
      refine Eq.trans (((cfgN m).win 1).cut_fill _ _ _) ?_
      unfold Dat.blockOf blk1; rw [dat1_A]; try rfl) t d).trans
    (((dat1 m c).fetched_of_clip_none 1 t (noClip m t) d (wtsView.read (Elt F) wtsView.junk)).trans
      (by unfold Dat.fetched Dat.blockOf wts1 blk1; rw [dat1_A]; try rfl))
theorem before1_2 (c : Dev nD) (t : Fin (cfgN m).N) (d) : (dat1 m c).before 2 t d = blk1 m c 2 t :=
  ((dat1 m c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem before1_3 (c : Dev nD) (t : Fin (cfgN m).N) (d) : (dat1 m c).before 3 t d = blk1 m c 3 t :=
  ((dat1 m c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)

/-! ## The body at every point -/

/-- Each window's current staging buffer at a point. -/
abbrev st1_0 (t : Fin (cfgN m).N) : Memref sig .tc .vmem S512x4096 .f32 := spec1_0.stage ((cfgN m).slots t 0)
abbrev hst1_0 (t : Fin (cfgN m).N) : (st1_0 m t).IsWhole := hstage1_0 (((cfgN m).slots t 0).cast nbuf1_0)
abbrev st1_1 (t : Fin (cfgN m).N) : Memref sig .tc .vmem S4096x512 .f32 := spec1_1.stage ((cfgN m).slots t 1)
abbrev hst1_1 (t : Fin (cfgN m).N) : (st1_1 m t).IsWhole := hstage1_1 (((cfgN m).slots t 1).cast nbuf1_1)
abbrev st1_2 (t : Fin (cfgN m).N) : Memref sig .tc .vmem S1x512 .f32 := spec1_2.stage ((cfgN m).slots t 2)
abbrev hst1_2 (t : Fin (cfgN m).N) : (st1_2 m t).IsWhole := hstage1_2 (((cfgN m).slots t 2).cast nbuf1_2)
abbrev st1_3 (t : Fin (cfgN m).N) : Memref sig .tc .vmem S1x512 .f32 := spec1_3.stage ((cfgN m).slots t 3)
abbrev hst1_3 (t : Fin (cfgN m).N) : (st1_3 m t).IsWhole := hstage1_3 (((cfgN m).slots t 3).cast nbuf1_3)
abbrev st1_4 (t : Fin (cfgN m).N) : Memref sig .tc .vmem S512x512 .f32 := spec1_4.stage ((cfgN m).slots t 4)
abbrev hst1_4 (t : Fin (cfgN m).N) : (st1_4 m t).IsWhole := hstage1_4 (((cfgN m).slots t 4).cast nbuf1_4)

/-- The body at point `t`, on what the pipeline passes it. -/
abbrev bodyAt1 (t : Fin (cfgN m).N) : Prog (TpuEff nD τ sig (Elt F) Λ₀ .tc) PUnit :=
  cc1_in_proj (grid1.coords t) tabF htabF (st1_0 m t) (hst1_0 m t) (st1_1 m t) (hst1_1 m t) (st1_2 m t) (hst1_2 m t) (st1_3 m t) (hst1_3 m t) (st1_4 m t) (hst1_4 m t) scr hscr

/-- What the body is called with at point `t`, window by window, -/
def pre1At (c : Dev nD) (t : Fin (cfgN m).N) : sProp 𝕄 :=
  iprop((dat1 m c).Φ t.castSucc ∗ (dat1 m c).owesAt () t.castSucc
    ∗ (∃ d, owns (c : Thread nD τ) (st1_0 m t) fullShare ((dat1 m c).before 0 t d))
    ∗ (∃ d, owns (c : Thread nD τ) (st1_1 m t) fullShare ((dat1 m c).before 1 t d))
    ∗ (∃ d, owns (c : Thread nD τ) (st1_2 m t) fullShare ((dat1 m c).before 2 t d))
    ∗ (∃ d, owns (c : Thread nD τ) (st1_3 m t) fullShare ((dat1 m c).before 3 t d))
    ∗ (∃ d, owns (c : Thread nD τ) (st1_4 m t) fullShare ((dat1 m c).before 4 t d)))

/-- and what it returns. -/
def post1At (c : Dev nD) (t : Fin (cfgN m).N) : sProp 𝕄 :=
  iprop((dat1 m c).Φ t.succ ∗ (dat1 m c).owesAt () t.succ
    ∗ owns (c : Thread nD τ) (st1_0 m t) fullShare ((dat1 m c).after 0 t)
    ∗ owns (c : Thread nD τ) (st1_1 m t) fullShare ((dat1 m c).after 1 t)
    ∗ owns (c : Thread nD τ) (st1_2 m t) fullShare ((dat1 m c).after 2 t)
    ∗ owns (c : Thread nD τ) (st1_3 m t) fullShare ((dat1 m c).after 3 t)
    ∗ owns (c : Thread nD τ) (st1_4 m t) fullShare ((dat1 m c).after 4 t))

set_option maxHeartbeats 1600000 in
/-- The body at any point, by the two cases: has its column tile heads to normalise. -/
theorem body1_ok (c : Dev nD) (t : Fin (cfgN m).N) :
    pre1At m c t ⊢ wp frame (wpE (defs₀ (F := F)) Variants.none c none) Set.univ (bodyAt1 m t) (fun _ => post1At m c t) := by
  unfold pre1At post1At bodyAt1
  simp only [before1_0, before1_1, before1_2, before1_3]
  rw [show (dat1 m c).owesAt () t.succ = (dat1 m c).owesAt () t.castSucc from rfl, after1_0, after1_1, after1_2, after1_3, after1_4,
    show (dat1 m c).Φ t.castSucc = iprop(others c ∗ (∃ d, owns (c : Thread nD τ) scr fullShare d) ∗ flagPt c (tblF m 0)) from rfl,
    show (dat1 m c).Φ t.succ = iprop(others c ∗ (∃ d, owns (c : Thread nD τ) scr fullShare d) ∗ flagPt c (tblF m 0)) from rfl]
  by_cases hn : Normed m c (grid1.coords t)
  · rw [show out1 m c t = View.canon (slabs (prod1 m c t) (gain1 m c t) (norm1 m c t)) from if_pos hn]
    iintro ⟨⟨HΦ, HS, HT⟩, Ho, ⟨%d0, H0⟩, ⟨%d1, H1⟩, ⟨%d2, H2⟩, ⟨%d3, H3⟩, ⟨%d4, H4⟩⟩
    iapply (runNormed_ok c (grid1.coords t) _ _ _ _ _ _ _ _ _ _ (rows1 m c t) (wts1 m c t) (gain1 m c t) (norm1 m c t) (tblF m 0) (firstRows _) hn (fun h => (cond3_iff _).mp h hn) Set.univ _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HΦ HS HT]
    · isplitl [HΦ]; · iexact HΦ
      isplitl [HS]; · iexists _; iexact HS
      iexact HT
    isplitl [Ho]; · iexact Ho
    isplitl [H0]; · iexact H0
    isplitl [H1]; · iexact H1
    isplitl [H2]; · iexact H2
    isplitl [H3]; · iexact H3
    iexact H4
  · rw [show out1 m c t = View.canon (bare (prod1 m c t)) from if_neg hn]
    iintro ⟨⟨HΦ, HS, HT⟩, Ho, ⟨%d0, H0⟩, ⟨%d1, H1⟩, ⟨%d2, H2⟩, ⟨%d3, H3⟩, ⟨%d4, H4⟩⟩
    iapply (runBare_ok c (grid1.coords t) _ _ _ _ _ _ _ _ _ _ (rows1 m c t) (wts1 m c t) (gain1 m c t) (norm1 m c t) (tblF m 0) (firstRows _) hn ((cond3_iff _).mpr hn) Set.univ _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HΦ HS HT]
    · isplitl [HΦ]; · iexact HΦ
      isplitl [HS]; · iexists _; iexact HS
      iexact HT
    isplitl [Ho]; · iexact Ho
    isplitl [H0]; · iexact H0
    isplitl [H1]; · iexact H1
    isplitl [H2]; · iexact H2
    isplitl [H3]; · iexact H3
    iexact H4

/-- The body as the pipeline's table of bodies gives it. -/
theorem body1_row (t : Fin (cfgN m).N) :
    defs₀ (F := F) .tc (cfgN m).body ((cfgN m).bodyArgs t ((cfgN m).slots t)) = bodyAt1 m t := by
  unfold defs₀; rw [Defs.onTc_tc]

/-- The output is idle at no point: one of the body's two conditions on the flag holds. -/
theorem never_idle (t : Fin (cfgN m).N) : (cfgN m).idle 4 ((cfgN m).grid.coords t) = false := by
  have e : (tblF m).atD 0 (k1_off1 (grid1.coords t)) = flagWord (0 : Dev nD) (grid1.coords t) (tblF m 0) :=
    flagWord_atD 0 _ (tblF m)
  refine Bool.eq_false_iff.mpr fun h => ?_
  replace h : (!(k1_cond2 ((tblF m).atD 0 (k1_off1 (grid1.coords t))) == 1#1)
      && !(k1_cond3 ((tblF m).atD 0 (k1_off1 (grid1.coords t))) == 1#1)) = true := h
  rw [e] at h
  simp only [Bool.and_eq_true, Bool.not_eq_true', beq_eq_false_iff_ne, ne_eq] at h
  exact h.2 ((cond3_iff _).mpr h.1)

/-- What the body leaves in the output is what the launch theorem asks for. -/
theorem out1_left (c : Dev nD) (t : Fin (cfgN m).N) :
    (owns (c : Thread nD τ) (st1_4 m t) fullShare ((dat1 m c).after 4 t) : sProp 𝕄)
      ⊢ match (cfgN m).idle 4 ((cfgN m).grid.coords t) with
        | true =>
          match ((cfgN m).win 4).flush t with
          | false => iprop(∃ d, owns (c : Thread nD τ) (st1_4 m t) fullShare ((dat1 m c).before 4 t d))
          | true => owns (c : Thread nD τ) (st1_4 m t) fullShare ((dat1 m c).after 4 t)
        | false => owns (c : Thread nD τ) (st1_4 m t) fullShare ((dat1 m c).after 4 t) := by
  cases hi : (cfgN m).idle 4 ((cfgN m).grid.coords t)
  · exact .rfl
  · exact absurd ((never_idle m t).symm.trans hi) (by decide)

/-- What the launch theorem asks of the body. -/
theorem body1_obligation (c : Dev nD) : BodyObligation (dat1 (F := F) m c) (defs₀ (F := F)) Variants.none () Set.univ := fun t => by
  rw [bigSep_W1, bigSep_W1, body1_row m]
  exact triple_restated (body1_ok m c t) rfl .rfl fun _ =>
    sep_mono .rfl (sep_mono .rfl (sep_mono .rfl (sep_mono .rfl (sep_mono .rfl (sep_mono .rfl
      (out1_left m c t))))))

end Cert.Kernel7Ideal.InSample

end
-- ==== Proof.InSample.KernelIdeal.Segs.lean ====
/- The two calls and the host operations around them as segments of one program. -/
module

public import proofs.«01_k».proof.Proof.InSample.KernelIdeal.Tiles
public import proofs.«01_k».proof.Proof.Gen.Kernel7Ideal.Regions
public import Idealize.ShloMosaic.Lib.Pipeline.RegionArraysS
public import Idealize.ShloMosaic.Lib.Pipeline.RegionArraysTS

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the two calls end -/

/-- The core's buffers after the second call, -/
abbrev U4 (c : Dev nD) : Valuation τ sig (Elt F) := Pipeline.afterRegion (dat1 m c) (U3 m c)
/-- and after the host's last operations: the heads sliced out. -/
abbrev U5 (c : Dev nD) : Valuation τ sig (Elt F) := StableHlo.after hostOps2 (U4 m c)

/-- A buffer no host operation writes and no call has among its arrays ends as it was. -/
theorem untouched (c : Dev nD) (r : Ref sig .tc) (h0 : r ∉ hostOps0_W) (h01 : r ∉ hostOps0_1_W) (h02 : r ∉ hostOps0_2_W)
    (h1 : r ∉ hostOps1_W) (h2 : r ∉ hostOps2_W)
    (k0 : ∀ w, r ≠ Pipeline.arrRef spec0 w) (k1 : ∀ w, r ≠ Pipeline.arrRef spec1 w) :
    U5 m c (Proc.devRef .tc r) = m ((c : Thread nD τ).loc r) :=
  (StableHlo.after_of_writes_sub hostOps2 _ hostOps2_writes h2).trans <|
    (Pipeline.afterRegion_of_not_arr (dat1 m c) (U3 m c) k1).trans <|
    (StableHlo.after_of_writes_sub hostOps1 _ hostOps1_writes h1).trans <|
    (Pipeline.afterRegion_of_not_arr (dat0 m c) (U1 m c) k0).trans <|
    (StableHlo.after_of_writes_sub hostOps0_2 _ hostOps0_2_writes h02).trans <|
    (StableHlo.after_of_writes_sub hostOps0_1 _ hostOps0_1_writes h01).trans <|
    (StableHlo.after_of_writes_sub hostOps0 _ hostOps0_writes h0).trans rfl

/-! ## The two calls as segments of the program -/

/-- The admissible contents of the two calls' tables, and their proof data. -/
def adms : (p : Fin 2) → (pcfgs (F := F) p).Adm
  | ⟨0, _⟩ => cfg0.toPCfg_adm
  | ⟨1, _⟩ => adm1 m
def pdats : (p : Fin 2) → (c : Dev nD) → Dat τ (Elt F) Unit ℕ (UR sig nD τ) ℕ (Pipeline.pin (pcfgs (F := F)) (adms m) p) c
  | ⟨0, _⟩ => dat0 m
  | ⟨1, _⟩ => dat1 m

open Classical in
/-- The cells the cores wait on: their own. -/
def lev (g : GSem nD τ sig) : Finset Unit := if g.1.2 = .tc then {()} else ∅
abbrev lv0 : GSem nD τ sig → Unit → ℕ := fun _ _ => 0

theorem lev_off (g : GSem nD τ sig) (h : g.1.2 ≠ .tc) : lev g = ∅ := if_neg h
theorem lev_tc (c : Dev nD) (s : SemLoc sig) : () ∈ lev ((c : Thread nD τ), s) := by
  unfold lev; rw [if_pos rfl]; exact Finset.mem_singleton_self ()

theorem cut (p : Fin 2) : Pipeline.LevelCut (pcfgs (F := F)) (adms m) () lev lv0 p (fun _ => (0 : CellTallies nD τ sig Unit)) (fun _ => 0) where
  hι c w s := lev_tc c _
  hιb c w s := Nat.le_refl 0
  hD c g i h := absurd h (Nat.lt_irrefl 0)

/-- What rides beside the buffers: the core owes nothing. -/
abbrev rest (c : Dev nD) : sProp 𝕄 := iprop((∃ W, owes (c : Thread nD τ) (0 : CellTallies nD τ sig Unit) W) ∗ emp ∗ emp)

theorem arrs0 : Pipeline.arrRefs (τ := τ) (pcfgs (F := F) 0).spec ⊆ Pipeline.ucRefs τ sig := Pipeline.arrRefs_sub_ucRefs spec0 (by decide)
theorem arrs1 : Pipeline.arrRefs (τ := τ) (pcfgs (F := F) 1).spec ⊆ Pipeline.ucRefs τ sig := Pipeline.arrRefs_sub_ucRefs spec1 (by decide)
theorem tabs1 : Pipeline.tblRefs (τ := τ) (pcfgs (F := F) 1).pre ⊆ Pipeline.ucRefs τ sig := Pipeline.tblRefs_sub_ucRefs pre1 (by decide)

/-- The second call's invariant before its first point, from the buffers no window stages and the table, -/
theorem enter1 (c : Dev nD) :
    iprop(iprop(Pipeline.scopedRest spec1 c ∗ emp) ∗ Pipeline.prefHeld pre1 c (fun _ => fullShare) (tblF m)) ⊢ (dat1 m c).Φ 0 := by
  rw [scopedRest1_eq, show (dat1 m c).Φ 0 = iprop(others c ∗ (∃ d, owns (c : Thread nD τ) scr fullShare d) ∗ flagPt c (tblF m 0)) from rfl,
    show (Pipeline.prefHeld pre1 c (fun _ => fullShare) (tblF m) : sProp 𝕄) = flagPt c (tblF m 0) from by
      unfold Pipeline.prefHeld
      rw [show (Finset.univ : Finset (Fin 1)) = {(0 : Fin 1)} from by decide, bigSep_singleton]
      rfl]
  unfold others
  iintro ⟨⟨⟨H0, H1, H2, ⟨%f, HS⟩⟩, -⟩, HT⟩
  isplitl [H0 H1 H2]
  · isplitl [H0]; · iexact H0
    isplitl [H1]; · iexact H1
    iexact H2
  isplitl [HS]
  · iexists f
    rw [owns_whole]
    iexact HS
  iexact HT

/-- and they again from it after the last. -/
theorem leave1 (c : Dev nD) :
    (dat1 m c).Φ (Fin.last (cfgN m).N) ⊢ iprop(iprop(Pipeline.scopedRest spec1 c ∗ emp) ∗ Pipeline.prefHeld pre1 c (fun _ => fullShare) (tblF m)) := by
  rw [scopedRest1_eq, show (dat1 m c).Φ (Fin.last (cfgN m).N) = iprop(others c ∗ (∃ d, owns (c : Thread nD τ) scr fullShare d) ∗ flagPt c (tblF m 0)) from rfl,
    show (Pipeline.prefHeld pre1 c (fun _ => fullShare) (tblF m) : sProp 𝕄) = flagPt c (tblF m 0) from by
      unfold Pipeline.prefHeld
      rw [show (Finset.univ : Finset (Fin 1)) = {(0 : Fin 1)} from by decide, bigSep_singleton]
      rfl]
  unfold others
  iintro ⟨⟨H0, H1, H2⟩, ⟨%d, HS⟩, HT⟩
  isplitr [HT]
  · isplitr []
    swap; · iempintro
    isplitl [H0]; · iexact H0
    isplitl [H1]; · iexact H1
    isplitl [H2]; · iexact H2
    iapply (show (owns (c : Thread nD τ) scr fullShare d : sProp 𝕄) ⊢ iprop(∃ f, (c : Thread nD τ).loc cc1_scratch0 ↦{fullShare} f) from by
      rw [owns_whole]
      iintro H
      iexists d
      iexact H)
    iexact HS
  iexact HT

set_option backward.isDefEq.respectTransparency.types false in
/-- The first call. -/
def reg0 : Pipeline.RegionSeg (pcfgs (F := F)) (adms m) (pdats m) () defs₀ Variants.none lev lv0 0 :=
  Pipeline.RegionSeg.ofHeldIn (pcfgs (F := F)) (adms m) (pdats m) () defs₀ Variants.none lev lv0 0 (fun _ => 0) (Pipeline.ucRefs τ sig)
    (fun _ => iprop(emp)) (fun _ => iprop(emp)) launch0 rfl (fun c => (body0_obligation m c).loose) (fun _ _ => rfl) (fun _ => rfl)
    (fun c => (dat0 m c).share_full fun _ => rfl)
    (fun c => show iprop(Pipeline.scopedRest spec0 c ∗ emp) ⊢ Pipeline.scopedRest spec0 c from by iintro ⟨H, -⟩; iexact H)
    (fun c => show Pipeline.scopedRest spec0 c ⊢ iprop(Pipeline.scopedRest spec0 c ∗ emp) from by
      iintro H
      isplitl [H]
      · iexact H
      · iempintro)
    (fun _ => 0) (cut m 0) (fun _ => iprop(emp)) (U1 m) (fun c w => dat0_A m c w)

set_option backward.isDefEq.respectTransparency.types false in
/-- The second call. -/
def reg1 : Pipeline.RegionSeg (pcfgs (F := F)) (adms m) (pdats m) () defs₀ Variants.none lev lv0 1 :=
  Pipeline.RegionSeg.ofHeldInT (pcfgs (F := F)) (adms m) (pdats m) () defs₀ Variants.none lev lv0 1 (fun _ => 0) (Pipeline.ucRefs τ sig)
    (fun _ => iprop(emp)) (fun _ => iprop(emp)) launch1 (fun c => (body1_obligation m c).loose) (fun _ _ => rfl) (fun _ => rfl)
    (fun c => (dat1 m c).share_full fun _ => rfl) (fun c => enter1 m c) (fun c => leave1 m c)
    (fun _ => 0) (cut m 1) (fun _ => iprop(emp)) (U3 m) (fun c w => dat1_A m c w)
    (fun c k => by obtain rfl : c = 0 := Subsingleton.elim _ _; rfl)

/-! ## The entries and the exits of the two calls -/

set_option backward.isDefEq.respectTransparency.types false in
theorem pre0 (c : Dev nD) : iprop(StableHlo.held (c : Thread nD τ) (Pipeline.ucRefs τ sig) (U1 m c) ∗ rest c) ⊢ (reg0 m).pre c := by
  unfold reg0
  exact Pipeline.RegionSeg.ofHeldIn_pre (pcs := pcfgs (F := F)) (a := adms m) (pdats := pdats m) (ι := ()) (defs₀ := defs₀) (𝒱₀ := Variants.none) (L := lev) (lv := lv0) (p := (0 : Fin 2)) (D := fun _ => 0)
    (S := Pipeline.ucRefs τ sig) (X := fun _ => iprop(emp)) (Y := fun _ => iprop(emp)) (R := fun _ => iprop(emp)) (W := U1 m)
    (arrs0 (F := F)) c

set_option backward.isDefEq.respectTransparency.types false in
theorem post0 (c : Dev nD) : (reg0 m).post c ⊢ iprop(StableHlo.held (c : Thread nD τ) (Pipeline.ucRefs τ sig) (U2 m c) ∗ rest c) := by
  unfold reg0
  exact Pipeline.RegionSeg.ofHeldIn_post (pcs := pcfgs (F := F)) (a := adms m) (pdats := pdats m) (ι := ()) (defs₀ := defs₀) (𝒱₀ := Variants.none) (L := lev) (lv := lv0) (p := (0 : Fin 2)) (D := fun _ => 0)
    (S := Pipeline.ucRefs τ sig) (X := fun _ => iprop(emp)) (Y := fun _ => iprop(emp)) (R := fun _ => iprop(emp)) (W := U1 m)
    (arrs0 (F := F)) c

set_option backward.isDefEq.respectTransparency.types false in
theorem pre1_ok (c : Dev nD) : iprop(StableHlo.held (c : Thread nD τ) (Pipeline.ucRefs τ sig) (U3 m c) ∗ rest c) ⊢ (reg1 m).pre c := by
  unfold reg1
  exact Pipeline.RegionSeg.ofHeldInT_pre (pcs := pcfgs (F := F)) (a := adms m) (pdats := pdats m) (ι := ()) (defs₀ := defs₀) (𝒱₀ := Variants.none) (L := lev) (lv := lv0) (p := (1 : Fin 2)) (D := fun _ => 0)
    (S := Pipeline.ucRefs τ sig) (X := fun _ => iprop(emp)) (Y := fun _ => iprop(emp)) (R := fun _ => iprop(emp)) (W := U3 m)
    (arrs1 (F := F)) (tabs1 (F := F)) c

set_option backward.isDefEq.respectTransparency.types false in
theorem post1 (c : Dev nD) : (reg1 m).post c ⊢ iprop(StableHlo.held (c : Thread nD τ) (Pipeline.ucRefs τ sig) (U4 m c) ∗ rest c) := by
  unfold reg1
  exact Pipeline.RegionSeg.ofHeldInT_post (pcs := pcfgs (F := F)) (a := adms m) (pdats := pdats m) (ι := ()) (defs₀ := defs₀) (𝒱₀ := Variants.none) (L := lev) (lv := lv0) (p := (1 : Fin 2)) (D := fun _ => 0)
    (S := Pipeline.ucRefs τ sig) (X := fun _ => iprop(emp)) (Y := fun _ => iprop(emp)) (R := fun _ => iprop(emp)) (W := U3 m)
    (arrs1 (F := F)) (tabs1 (F := F)) c

/-! ## The host's operations as segments of the program -/

/-- The flags and the fill laid out. -/
def host0 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) rest

/-- Every step's rows filled up. -/
def host01 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (U01 m) rest

/-- The rows and the gains reshaped. -/
def host02 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (U02 m) rest

/-- The weights, the gains and the selection laid out. -/
def host1 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) rest

/-- The heads sliced out. -/
def host2 : Pipeline.HostSeg (Ix := Unit) (Name := ℕ) (U := UR sig nD τ) (Lvl := ℕ) (pcfgs (F := F)) defs₀ Variants.none lev lv0 :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) rest

end Cert.Kernel7Ideal.InSample

end
-- ==== Proof.InSample.KernelIdeal.Run.lean ====
/- The two calls and the host operations around them, run. -/
module

public import proofs.«01_k».proof.Proof.InSample.KernelIdeal.Segs

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program as its seven segments. -/
abbrev parts (_ : Dev nD) : List (Pipeline.Seg (pcfgs (F := F)) (adms m) (pdats m) () defs₀ Variants.none lev lv0) :=
  [.host (host0 m), .host (host01 m), .host (host02 m), .region (reg0 m), .host (host1 m), .region (reg1 m), .host (host2 m)]

/-- The core ends owing nothing. -/
theorem finish (c : Dev nD) : (iprop(StableHlo.held (c : Thread nD τ) (Pipeline.ucRefs τ sig) (U5 m c) ∗ rest c) : sProp 𝕄)
    ⊢ iprop(StableHlo.held (c : Thread nD τ) (Pipeline.ucRefs τ sig) (U5 m c) ∗ ∃ W, owes (c : Thread nD τ) (0 : CellTallies nD τ sig Unit) W) := by
  iintro ⟨Hh, HO, -⟩
  isplitl [Hh]; · iexact Hh
  iexact HO

/-! ## The run -/

set_option backward.isDefEq.respectTransparency.types false in
/-- From any memory with zero counters the two calls end with every buffer as `U5` says and every counter at zero. -/
theorem run_result : θ_run defs (onTc (τ := τ) (main (F := F))) ⟨m, fun _ => 0, ρ⟩ (fun r => (∀ c : Dev nD,
      r.2.mem ((c.tc : Thread nD τ).loc main_v47) = U5 m c (Proc.devRef .tc main_v47)
      ∧ r.2.mem ((c.tc : Thread nD τ).loc main_v51) = U5 m c (Proc.devRef .tc main_v51)
      ∧ r.2.mem ((c.tc : Thread nD τ).loc main_v55) = U5 m c (Proc.devRef .tc main_v55)
      ∧ r.2.mem ((c.tc : Thread nD τ).loc main_v45) = U5 m c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) (adms m) (pdats m) () (cellOf_inj (adms m)) emb₁ defs₀ Variants.none lev lv0 m ρ main
    (parts m)
    (fun c Q => by
      rewrite [main_chain c, Pipeline.Seg.run_eq_chain,
        show (parts m c).map Pipeline.Seg.prog = [
          StableHlo.seq hostOps0, StableHlo.seq hostOps0_1, StableHlo.seq hostOps0_2, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [parts, Pipeline.Seg.pipes_host, Pipeline.Seg.pipes_region, Pipeline.Seg.pipes_nil]; decide) 0 lev_off
    (fun _ => iprop(emp)) (initOf (Pipeline.cells (Pipeline.pin (pcfgs (F := F)) (adms m)) (cellOf_inj (adms m))) (Pipeline.launchToks (Pipeline.pin (pcfgs (F := F)) (adms m)) (cellOf_inj (adms m))))
    ?_
    (T₀ := fun c => iprop(StableHlo.held (c : Thread nD τ) (Pipeline.ucRefs τ sig) (U0 m c) ∗ rest c))
    (Tₙ := fun c => StableHlo.held (c : Thread nD τ) (Pipeline.ucRefs τ sig) (U5 m c))
    (hch := fun c => ⟨.rfl, .rfl, .rfl, ?_, ?_, ?_, ?_, ?_⟩)
    (hinit := ?_)
    (QY := fun c s => s.mem ((c.tc : Thread nD τ).loc main_v47) = U5 m c (Proc.devRef .tc main_v47) ∧ s.mem ((c.tc : Thread nD τ).loc main_v51) = U5 m c (Proc.devRef .tc main_v51) ∧ s.mem ((c.tc : Thread nD τ).loc main_v55) = U5 m c (Proc.devRef .tc main_v55) ∧ s.mem ((c.tc : Thread nD τ).loc main_v45) = U5 m c (Proc.devRef .tc main_v45) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · iintro Hu; imodintro
    isplitl [Hu]; · iapply (show (ownU _ : sProp 𝕄) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl); iexact Hu
    iapply (show (BI.emp : sProp 𝕄) ⊢ bigSep Finset.univ (fun _ : Dev nD => (BI.emp : sProp 𝕄)) from by rw [BI.bigSep_emp_const])
    iempintro
  · exact pre0 m c
  · exact post0 m c
  · exact pre1_ok m c
  · exact post1 m c
  · exact finish m c
  · refine Pipeline.initEach lev lv0 fun c => ?_
    rw [show unscopedBufs c (fun b => m ((c : Thread nD τ).loc b)) = StableHlo.held (c : Thread nD τ) (Pipeline.ucRefs τ sig) (U0 m c) from Pipeline.unscopedBufs_held c (U0 m c)]
    iintro ⟨⟨Hh, -, HO, -, -, -⟩, -⟩
    imodintro
    isplitl [Hh]; · iexact Hh
    isplitl [HO]; · iexists ∅; iexact HO
    isplitl [] <;> iempintro
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro
      exact ⟨h (Proc.devRef .tc main_v47) (Finset.mem_filter.mpr ⟨StableHlo.devRef_mem_tcRefs main_v47, by decide⟩),
        h (Proc.devRef .tc main_v51) (Finset.mem_filter.mpr ⟨StableHlo.devRef_mem_tcRefs main_v51, by decide⟩),
        h (Proc.devRef .tc main_v55) (Finset.mem_filter.mpr ⟨StableHlo.devRef_mem_tcRefs main_v55, by decide⟩),
        h (Proc.devRef .tc main_v45) (Finset.mem_filter.mpr ⟨StableHlo.devRef_mem_tcRefs main_v45, by decide⟩),
        (h (Proc.devRef .tc main_arg0) (Finset.mem_filter.mpr ⟨StableHlo.devRef_mem_tcRefs main_arg0, by decide⟩)).trans (untouched m c main_arg0 (by decide) (by decide) (by decide) (by decide) (by decide) (by decide) (by decide)),
        (h (Proc.devRef .tc main_arg1) (Finset.mem_filter.mpr ⟨StableHlo.devRef_mem_tcRefs main_arg1, by decide⟩)).trans (untouched m c main_arg1 (by decide) (by decide) (by decide) (by decide) (by decide) (by decide) (by decide)),
        (h (Proc.devRef .tc main_arg2) (Finset.mem_filter.mpr ⟨StableHlo.devRef_mem_tcRefs main_arg2, by decide⟩)).trans (untouched m c main_arg2 (by decide) (by decide) (by decide) (by decide) (by decide) (by decide) (by decide)),
        (h (Proc.devRef .tc main_arg3) (Finset.mem_filter.mpr ⟨StableHlo.devRef_mem_tcRefs main_arg3, by decide⟩)).trans (untouched m c main_arg3 (by decide) (by decide) (by decide) (by decide) (by decide) (by decide) (by decide)),
        (h (Proc.devRef .tc main_arg4) (Finset.mem_filter.mpr ⟨StableHlo.devRef_mem_tcRefs main_arg4, by decide⟩)).trans (untouched m c main_arg4 (by decide) (by decide) (by decide) (by decide) (by decide) (by decide) (by decide)),
        (h (Proc.devRef .tc main_arg5) (Finset.mem_filter.mpr ⟨StableHlo.devRef_mem_tcRefs main_arg5, by decide⟩)).trans (untouched m c main_arg5 (by decide) (by decide) (by decide) (by decide) (by decide) (by decide) (by decide)),
        (h (Proc.devRef .tc main_arg6) (Finset.mem_filter.mpr ⟨StableHlo.devRef_mem_tcRefs main_arg6, by decide⟩)).trans (untouched m c main_arg6 (by decide) (by decide) (by decide) (by decide) (by decide) (by decide) (by decide))⟩
    · iexact HSI

end Cert.Kernel7Ideal.InSample

end
-- ==== Proof.InSample.Frame.lean ====
/- The sample's input projection runs on bits as its idealization does: the two programs are the same operations, and what is proved of
   the one's running is proved whatever the arithmetic. -/
module

public import proofs.«01_k».proof.Defs
public import proofs.«01_k».proof.Proof.Gen.Kernel7
public import proofs.«01_k».proof.Proof.InSample.KernelIdeal.Run

@[expose] public section

noncomputable section

namespace Cert.Kernel7Ideal.InSample

open Idealize.ShloMosaic Idealize.ShloMosaic.TcCoe Idealize.ShloMosaic.Tactic Idealize.SL Idealize.SL.Sem
open Cert.Kernel7Ideal Cert.Kernel7Ideal.Gen

/-- From every memory of words the program ends with its arguments unchanged and its semaphores at zero. -/
def Runs : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0)

theorem runs : Runs := fun m ρ _ =>
  (θ_run defs _ _).mono (fun _ hr => ⟨fun c => (hr.1 c).2.2.2.2, hr.2⟩) (run_result m ρ)

/-- The two statements are one. -/
theorem same : Runs = Cert.quiescent_Kernel7 (hKernel7 := Cert.Kernel7.Gen.facts) := by sl_kernel_rfl

theorem frame_bits : Cert.quiescent_Kernel7 (hKernel7 := Cert.Kernel7.Gen.facts) := Eq.mp same runs

end Cert.Kernel7Ideal.InSample

end
-- ==== Proof.InSample.KernelIdeal.Payloads.lean ====
/- The two bodies' payloads, entry by entry. -/
module

public import proofs.«01_k».proof.Proof.InSample.KernelIdeal.Stores
public import Idealize.ShloMosaic.Lib.Pointwise

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row's entry scaled by the reciprocal root of the row's mean square and by a gain; `n` is the row's length as a float's bits. -/
def scaled (n : BitVec 32) {k : ℕ} (y : Fin k → EReal) (l : Fin k) (g : EReal) : EReal :=
  y l * Ideal.rsqrt (Ideal.div (∑ j : Fin k, y j * y j) (Ideal.ofBits .f32 n) + Ideal.ofBits .f32 0x358637BD#32) * g

/-- The first call's tile: the rows scaled. -/
theorem cast_apply (x : Vec Ideal S512x4096 .f32) (g : Vec Ideal S1x4096 .f32) (r : Fin 512) (d : Fin 4096) :
    k0_pay1 x g (ValueIdx.ix2 r d) = scaled 0x45800000#32 (fun j : Fin 4096 => x (ValueIdx.ix2 r j)) d (g (ValueIdx.ix2 0 d)) := by
  pointwise [k0_pay1]
  rfl

/-- The rounded weights. -/
theorem hi_apply (w : Vec Ideal S4096x512 .f32) (d : Fin 4096) (k : Fin 512) :
    k1_pay3 w (ValueIdx.ix3 0 d k) = w (ValueIdx.ix2 d k) := by
  pointwise [k1_pay3, k1_pay2, k1_pay1]
  rfl

/-- What their rounding leaves over. -/
theorem lo_apply (w : Vec Ideal S4096x512 .f32) (d : Fin 4096) (k : Fin 512) :
    k1_pay4 w (ValueIdx.ix3 0 d k) = w (ValueIdx.ix2 d k) - w (ValueIdx.ix2 d k) := by
  pointwise [k1_pay4, k1_pay2, k1_pay1]
  rfl

/-- The three products. -/
theorem sums_apply (x : Vec Ideal S512x4096 .f32) (u v : Vec Ideal S1x4096x512 .bf16) (r : Fin 512) (k : Fin 512) :
    k1_pay5 x u v u (ValueIdx.ix2 r k) = (∑ d : Fin 4096, x (ValueIdx.ix2 r d) * u (ValueIdx.ix3 0 d k))
      + ((∑ d : Fin 4096, x (ValueIdx.ix2 r d) * v (ValueIdx.ix3 0 d k))
        + ∑ d : Fin 4096, (x (ValueIdx.ix2 r d) - x (ValueIdx.ix2 r d)) * u (ValueIdx.ix3 0 d k)) := by
  pointwise [k1_pay5]
  rfl

/-- Where neither factor has anything left over, the one product. -/
theorem acc_apply (x : Vec Ideal S512x4096 .f32) (w : Vec Ideal S4096x512 .f32) (r : Fin 512) (k : Fin 512)
    (hx : ∀ d : Fin 4096, x (ValueIdx.ix2 r d) - x (ValueIdx.ix2 r d) = 0) (hw : ∀ d : Fin 4096, w (ValueIdx.ix2 d k) - w (ValueIdx.ix2 d k) = 0) :
    acc x w (ValueIdx.ix2 r k) = ∑ d : Fin 4096, x (ValueIdx.ix2 r d) * w (ValueIdx.ix2 d k) := by
  refine (sums_apply x (k1_pay3 w) (k1_pay4 w) r k).trans ?_
  have e1 : (∑ d : Fin 4096, x (ValueIdx.ix2 r d) * k1_pay4 w (ValueIdx.ix3 0 d k)) = 0 :=
    Finset.sum_eq_zero fun d _ => by rw [lo_apply, hw d, mul_zero]
  have e2 : (∑ d : Fin 4096, (x (ValueIdx.ix2 r d) - x (ValueIdx.ix2 r d)) * k1_pay3 w (ValueIdx.ix3 0 d k)) = 0 :=
    Finset.sum_eq_zero fun d _ => by rw [hx d, zero_mul]
  rw [e1, e2, add_zero, add_zero]
  exact Finset.sum_congr rfl fun d _ => by rw [hi_apply]

/-- An entry of a head, normalised where the selection is positive. -/
def picked (s : EReal) (y : Fin 128 → EReal) (l : Fin 128) (g : EReal) : EReal :=
  if 0 < s then scaled 0x43000000#32 y l g else y l

theorem picked_of (y : Fin 128 → EReal) (l : Fin 128) (g : EReal) : picked 1 y l g = scaled 0x43000000#32 y l g := if_pos zero_lt_one
theorem picked_not (y : Fin 128 → EReal) (l : Fin 128) (g : EReal) : picked 0 y l g = y l := if_neg (lt_irrefl 0)

/-- Column `l` of head `q` of a tile. -/
def at4 (q : Fin 4) (l : Fin 128) : Fin 512 := ⟨128 * q.val + l.val, by omega⟩

theorem at4_zero (l : Fin 128) : at4 0 l = ⟨l.val, by omega⟩ := Fin.ext (show 128 * 0 + l.val = l.val by omega)

/-! The four slabs a tile's heads are stored in. -/

theorem slab0_apply (y : FVec Ideal S512x512 .f32) (g s : Vec Ideal S1x512 .f32) (r : Fin 512) (l : Fin 128) :
    k1_pay7 y (View.ld s (Rect.unit ![0, 0] ![1, 128] inb_S1x512_S1x128_0_0)) (View.ld g (Rect.unit ![0, 0] ![1, 128] inb_S1x512_S1x128_0_0)) (ValueIdx.ix2 r l)
      = picked (s (ValueIdx.ix2 0 (at4 0 l))) (fun j => y (ValueIdx.ix2 r (at4 0 j))) l (g (ValueIdx.ix2 0 (at4 0 l))) := by
  simp only [at4_zero]
  pointwise [k1_pay7]
  rfl

theorem slab1_apply (y : FVec Ideal S512x512 .f32) (g s : Vec Ideal S1x512 .f32) (r : Fin 512) (l : Fin 128) :
    k1_pay12 (k1_pay8 y) (k1_pay9 (View.ld s (Rect.unit ![0, 128] ![1, 128] inb_S1x512_S1x128_0_128))) (k1_pay10 y)
        (k1_pay11 (View.ld g (Rect.unit ![0, 128] ![1, 128] inb_S1x512_S1x128_0_128))) (ValueIdx.ix2 r l)
      = picked (s (ValueIdx.ix2 0 (at4 1 l))) (fun j => y (ValueIdx.ix2 r (at4 1 j))) l (g (ValueIdx.ix2 0 (at4 1 l))) := by
  pointwise [k1_pay12, k1_pay8, k1_pay9, k1_pay10, k1_pay11]
  rfl

theorem slab2_apply (y : FVec Ideal S512x512 .f32) (g s : Vec Ideal S1x512 .f32) (r : Fin 512) (l : Fin 128) :
    k1_pay13 y (View.ld s (Rect.unit ![0, 256] ![1, 128] inb_S1x512_S1x128_0_256)) (View.ld g (Rect.unit ![0, 256] ![1, 128] inb_S1x512_S1x128_0_256)) (ValueIdx.ix2 r l)
      = picked (s (ValueIdx.ix2 0 (at4 2 l))) (fun j => y (ValueIdx.ix2 r (at4 2 j))) l (g (ValueIdx.ix2 0 (at4 2 l))) := by
  pointwise [k1_pay13]
  rfl

theorem slab3_apply (y : FVec Ideal S512x512 .f32) (g s : Vec Ideal S1x512 .f32) (r : Fin 512) (l : Fin 128) :
    k1_pay6 (k1_pay14 y) (k1_pay15 (View.ld s (Rect.unit ![0, 384] ![1, 128] inb_S1x512_S1x128_0_384)))
        (k1_pay16 (View.ld g (Rect.unit ![0, 384] ![1, 128] inb_S1x512_S1x128_0_384))) (k1_pay17 y) (k1_pay18 (F := Ideal)) (ValueIdx.ix2 r l)
      = picked (s (ValueIdx.ix2 0 (at4 3 l))) (fun j => y (ValueIdx.ix2 r (at4 3 j))) l (g (ValueIdx.ix2 0 (at4 3 l))) := by
  pointwise [k1_pay6, k1_pay14, k1_pay15, k1_pay16, k1_pay17, k1_pay18]
  rfl

end Cert.Kernel7Ideal.InSample

end
-- ==== Proof.InSample.KernelIdeal.Columns.lean ====
/- The gains and the selection the second call reads, column by column. -/
module

public import proofs.«01_k».proof.Proof.InSample.KernelIdeal.Tiles
public import Idealize.ShloMosaic.Lib.Pointwise
public import Idealize.ShloMosaic.Lib.KernelVsHost

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The gains and the selection, laid along the columns -/

/-- Ones over a head. -/
def ones : FVec Ideal S128 .f32 := broadcastInDim S128 ![] bcast_S_S128 (constant (F := Ideal) S_ .f32 0x3F800000#32)

/-- One head's gains and ones after them, for each of the four heads. -/
def pairs (a b : FVec Ideal S128 .f32) : FVec Ideal S1024 .f32 :=
  shapeCast S1024 (broadcastInDim S4x256 ![0, 1] bcast_S1x256_S4x256_0_1
    (shapeCast S1x256 (concatenate S256 0 [⟨S128, a⟩, ⟨S128, b⟩] concatenates_S128_S128_S256_d0) shapeCasts_S256_S1x256)) shapeCasts_S4x256_S1024

theorem pairs_apply (a b : FVec Ideal S128 .f32) (k : Fin 1024) :
    pairs a b (ValueIdx.ix1 k) = if k.val / 128 % 2 = 0 then a (ValueIdx.ix1 ⟨k.val % 128, Nat.mod_lt _ (by decide)⟩)
      else b (ValueIdx.ix1 ⟨k.val % 128, Nat.mod_lt _ (by decide)⟩) := by
  pointwise [pairs]
  show (if h : k.val % 256 < 128 then a (ValueIdx.ix1 ⟨k.val % 256, h⟩) else b (ValueIdx.ix1 ⟨k.val % 256 - 128, by omega⟩)) = _
  by_cases h : k.val % 256 < 128
  · rw [dif_pos h, if_pos (by omega)]
    exact congrArg (fun i => a (ValueIdx.ix1 i)) (Fin.ext (show k.val % 256 = k.val % 128 by omega))
  · rw [dif_neg h, if_neg (by omega)]
    exact congrArg (fun i => b (ValueIdx.ix1 i)) (Fin.ext (show k.val % 256 - 128 = k.val % 128 by omega))

/-- The query heads' gains, for each of the sixteen heads. -/
def heads (g : FVec Ideal S1x128 .f32) : FVec Ideal S2048 .f32 :=
  shapeCast S2048 (broadcastInDim S16x128 ![0, 1] bcast_S1x128_S16x128_0_1
    (shapeCast S1x128 (shapeCast S128 g shapeCasts_S1x128_S128) shapeCasts_S128_S1x128)) shapeCasts_S16x128_S2048

theorem heads_apply (g : FVec Ideal S1x128 .f32) (k : Fin 2048) :
    heads g (ValueIdx.ix1 k) = g (ValueIdx.ix2 0 ⟨k.val % 128, Nat.mod_lt _ (by decide)⟩) := by
  pointwise [heads]
  rfl

/-- Five stretches of columns laid side by side. -/
def along (a : FVec Ideal S8192 .f32) (b : FVec Ideal S2048 .f32) (d e f : FVec Ideal S1024 .f32) : FVec Ideal S1x13312 .f32 :=
  shapeCast S1x13312 (concatenate S13312 0 [⟨S8192, a⟩, ⟨S2048, b⟩, ⟨S1024, d⟩, ⟨S1024, e⟩, ⟨S1024, f⟩]
    concatenates_S8192_S2048_S1024_S1024_S1024_S13312_d0) shapeCasts_S13312_S1x13312

theorem along_apply (a : FVec Ideal S8192 .f32) (b : FVec Ideal S2048 .f32) (d e f : FVec Ideal S1024 .f32) (k : Fin 13312) :
    along a b d e f (ValueIdx.ix2 0 k) =
      if h : k.val < 8192 then a (ValueIdx.ix1 ⟨k.val, h⟩)
      else if h : k.val < 10240 then b (ValueIdx.ix1 ⟨k.val - 8192, by omega⟩)
      else if h : k.val < 11264 then d (ValueIdx.ix1 ⟨k.val - 10240, by omega⟩)
      else if h : k.val < 12288 then e (ValueIdx.ix1 ⟨k.val - 11264, by omega⟩)
      else f (ValueIdx.ix1 ⟨k.val - 12288, by omega⟩) := by
  pointwise [along]
  by_cases h1 : k.val < 8192
  · refine (dif_pos h1).trans (Eq.trans ?_ (dif_pos h1).symm)
    rfl
  refine (dif_neg h1).trans (Eq.trans ?_ (dif_neg h1).symm)
  by_cases h2 : k.val < 10240
  · refine (dif_pos (show k.val - 8192 < 2048 by omega)).trans (Eq.trans ?_ (dif_pos h2).symm)
    rfl
  refine (dif_neg (show ¬ k.val - 8192 < 2048 by omega)).trans (Eq.trans ?_ (dif_neg h2).symm)
  by_cases h3 : k.val < 11264
  · refine (dif_pos (show k.val - 8192 - 2048 < 1024 by omega)).trans (Eq.trans ?_ (dif_pos h3).symm)
    exact congrArg (fun i => d (ValueIdx.ix1 i)) (Fin.ext (show k.val - 8192 - 2048 = k.val - 10240 by omega))
  refine (dif_neg (show ¬ k.val - 8192 - 2048 < 1024 by omega)).trans (Eq.trans ?_ (dif_neg h3).symm)
  by_cases h4 : k.val < 12288
  · refine (dif_pos (show k.val - 8192 - 2048 - 1024 < 1024 by omega)).trans (Eq.trans ?_ (dif_pos h4).symm)
    exact congrArg (fun i => e (ValueIdx.ix1 i)) (Fin.ext (show k.val - 8192 - 2048 - 1024 = k.val - 11264 by omega))
  refine (dif_neg (show ¬ k.val - 8192 - 2048 - 1024 < 1024 by omega)).trans (Eq.trans ?_ (dif_neg h4).symm)
  exact congrArg (fun i => f (ValueIdx.ix1 i)) (Fin.ext (show k.val - 8192 - 2048 - 1024 - 1024 = k.val - 12288 by omega))

/-- A constant along a stretch. -/
abbrev flat8192 (w : BitVec 32) : FVec Ideal S8192 .f32 := broadcastInDim S8192 ![] bcast_S_S8192 (constant (F := Ideal) S_ .f32 w)
abbrev flat2048 (w : BitVec 32) : FVec Ideal S2048 .f32 := broadcastInDim S2048 ![] bcast_S_S2048 (constant (F := Ideal) S_ .f32 w)
abbrev flat1024 (w : BitVec 32) : FVec Ideal S1024 .f32 := broadcastInDim S1024 ![] bcast_S_S1024 (constant (F := Ideal) S_ .f32 w)
abbrev flat128 (w : BitVec 32) : FVec Ideal S128 .f32 := broadcastInDim S128 ![] bcast_S_S128 (constant (F := Ideal) S_ .f32 w)

/-- The gains. -/
def gains (gq gs gw : FVec Ideal S1x128 .f32) : FVec Ideal S1x13312 .f32 :=
  along (flat8192 0x3F800000#32) (heads gq) (flat1024 0x3F800000#32) (pairs (shapeCast S128 gs shapeCasts_S1x128_S128) ones)
    (pairs (shapeCast S128 gw shapeCasts_S1x128_S128) ones)

/-- The selection: one where a head's column is normalised, zero elsewhere. -/
def selection : FVec Ideal S1x13312 .f32 :=
  along (flat8192 0x00000000#32) (flat2048 0x3F800000#32) (flat1024 0x00000000#32) (pairs ones (mulf (flat128 0x00000000#32) ones))
    (pairs ones (mulf (flat128 0x00000000#32) ones))

theorem ones_apply (i : S128.Idx) : ones i = 1 := by
  pointwise [ones]
theorem noughts_apply (i : S128.Idx) : mulf (flat128 0x00000000#32) ones i = 0 := by
  show flat128 0x00000000#32 i * ones i = 0
  rw [ones_apply, mul_one]
  pointwise
theorem flat2048_one (i : S2048.Idx) : flat2048 0x3F800000#32 i = 1 := by
  pointwise

/-- The columns that are normalised: the query heads', and the key half of the selected and window heads'. -/
def Heads (k : ℕ) : Prop := (8192 ≤ k ∧ k < 10240) ∨ (11264 ≤ k ∧ k / 128 % 2 = 0)

instance : DecidablePred Heads := fun k => inferInstanceAs (Decidable (_ ∨ _))

theorem selection_of (k : Fin 13312) (h8 : 8192 ≤ k.val) (h : k.val < 10240 ∨ 11264 ≤ k.val) :
    selection (ValueIdx.ix2 0 k) = if Heads k.val then 1 else 0 := by
  unfold selection
  rw [along_apply, dif_neg (by omega)]
  by_cases h2 : k.val < 10240
  · rw [dif_pos h2, if_pos (show Heads k.val from Or.inl ⟨h8, h2⟩)]
    exact flat2048_one _
  rw [dif_neg h2, dif_neg (by omega)]
  have key : ∀ i : Fin 1024, i.val % 256 = k.val % 256 → pairs ones (mulf (flat128 0x00000000#32) ones) (ValueIdx.ix1 i) = if Heads k.val then 1 else 0 := by
    intro i hi
    rw [pairs_apply]
    by_cases hp : i.val / 128 % 2 = 0
    · rw [if_pos hp, if_pos (show Heads k.val from Or.inr ⟨by omega, by omega⟩)]
      exact ones_apply _
    · rw [if_neg hp, if_neg (show ¬ Heads k.val by rintro (⟨_, _⟩ | ⟨_, _⟩) <;> omega)]
      exact noughts_apply _
  by_cases h4 : k.val < 12288
  · rw [dif_pos h4]
    exact key _ (show (k.val - 11264) % 256 = k.val % 256 by omega)
  · rw [dif_neg h4]
    exact key _ (show (k.val - 12288) % 256 = k.val % 256 by omega)

/-- The gain of a normalised column. -/
def gainOf (gq gs gw : FVec Ideal S1x128 .f32) (k : ℕ) : EReal :=
  if k < 10240 then gq (ValueIdx.ix2 0 ⟨k % 128, Nat.mod_lt _ (by decide)⟩)
  else if k < 12288 then gs (ValueIdx.ix2 0 ⟨k % 128, Nat.mod_lt _ (by decide)⟩)
  else gw (ValueIdx.ix2 0 ⟨k % 128, Nat.mod_lt _ (by decide)⟩)

theorem gains_of (gq gs gw : FVec Ideal S1x128 .f32) (k : Fin 13312) (h : Heads k.val) :
    gains gq gs gw (ValueIdx.ix2 0 k) = gainOf gq gs gw k.val := by
  have h8 : 8192 ≤ k.val := by rcases h with ⟨_, _⟩ | ⟨_, _⟩ <;> omega
  unfold gains gainOf
  rw [along_apply, dif_neg (by omega)]
  by_cases h2 : k.val < 10240
  · rw [dif_pos h2, if_pos h2, heads_apply]
    exact congrArg (fun i => gq (ValueIdx.ix2 0 i)) (Fin.ext (show (k.val - 8192) % 128 = k.val % 128 by omega))
  have hk : 11264 ≤ k.val ∧ k.val / 128 % 2 = 0 := by rcases h with ⟨_, _⟩ | h; · omega
                                                      · exact h
  rw [dif_neg h2, dif_neg (by omega), if_neg h2]
  by_cases h4 : k.val < 12288
  · rw [dif_pos h4, if_pos h4, pairs_apply, if_pos (show (k.val - 11264) / 128 % 2 = 0 by omega)]
    pointwise
    exact congrArg (fun i => gs (ValueIdx.ix2 0 i)) (Fin.ext (show (k.val - 11264) % 128 = k.val % 128 by omega))
  · rw [dif_neg h4, if_neg h4, pairs_apply, if_pos (show (k.val - 12288) / 128 % 2 = 0 by omega)]
    pointwise
    exact congrArg (fun i => gw (ValueIdx.ix2 0 i)) (Fin.ext (show (k.val - 12288) % 128 = k.val % 128 by omega))

/-- Every step's four rows, filled up to sixteen. -/
def filled (x : FVec Ideal S32x4x4096 .f32) (z : FVec Ideal S_ .f32) : FVec Ideal S32x16x4096 .f32 :=
  pad S32x16x4096 ![0, 0, 0] ![0, 12, 0] ![0, 0, 0] x z pads_S32x4x4096_S32x16x4096_000_0120_000 h_S_

theorem filled_in (x : FVec Ideal S32x4x4096 .f32) (z : FVec Ideal S_ .f32) (p : Fin 32) (q : Fin 4) (j : Fin 4096) :
    filled x z (ValueIdx.ix3 p ⟨q.val, by omega⟩ j) = x (ValueIdx.ix3 p q j) := by
  refine pad_apply_of_inside _ _ _ x z _ _ _ (ValueIdx.ix3 p q j : S32x4x4096.Idx) fun a => ?_
  match a with
  | ⟨0, _⟩ => show p.val = 0 + p.val * (0 + 1); omega
  | ⟨1, _⟩ => show q.val = 0 + q.val * (0 + 1); omega
  | ⟨2, _⟩ => show j.val = 0 + j.val * (0 + 1); omega

theorem filled_out (x : FVec Ideal S32x4x4096 .f32) (z : FVec Ideal S_ .f32) (p : Fin 32) (q : Fin 16) (j : Fin 4096) (h : ¬ q.val < 4) :
    filled x z (ValueIdx.ix3 p q j) = z (Shape.Idx.first h_S_) := by
  refine pad_apply_of_not_inside _ _ _ x z _ _ _ (1 : Fin 3) ?_
  rintro ⟨-, -, h3⟩
  have h4 : (q.val - 0) / (0 + 1) < 4 := h3
  omega

/-! ## What the host's operations leave -/

variable (V : Valuation τ sig (Elt Ideal))

theorem flags_laid : StableHlo.after hostOps0 V (Proc.devRef .tc main_c) = fun i => lit0 (S26.rowMajor i) := by
  after_results <;> rfl
theorem fill_laid : StableHlo.after hostOps0 V (Proc.devRef .tc main_c_0) = constantI S_ 32 0#32 := by
  after_results <;> rfl
theorem filled_laid : StableHlo.after hostOps0_1 V (Proc.devRef .tc main_v0)
    = filled (V (Proc.devRef .tc main_arg0)) (sitofp (F := Ideal) .f32 (V (Proc.devRef .tc main_c_0))) := by
  unfold filled
  after_results <;> rfl
theorem rows_laid : StableHlo.after hostOps0_2 V (Proc.devRef .tc main_v1)
    = shapeCast S512x4096 (V (Proc.devRef .tc main_v0) : Vec Ideal S32x16x4096 .f32) shapeCasts_S32x16x4096_S512x4096 := by
  after_results <;> rfl
theorem gain_laid : StableHlo.after hostOps0_2 V (Proc.devRef .tc main_v3)
    = shapeCast S1x4096 (shapeCast S4096 (V (Proc.devRef .tc main_arg1) : Vec Ideal S1x4096 .f32) shapeCasts_S1x4096_S4096) shapeCasts_S4096_S1x4096 := by
  after_results <;> rfl
theorem gains_laid : StableHlo.after hostOps1 V (Proc.devRef .tc main_v29)
    = gains (V (Proc.devRef .tc main_arg3)) (V (Proc.devRef .tc main_arg4)) (V (Proc.devRef .tc main_arg5)) := by
  after_results <;> rfl
theorem selection_laid : StableHlo.after hostOps1 V (Proc.devRef .tc main_v34) = selection := by
  after_results <;> rfl
theorem weights_laid : StableHlo.after hostOps1 V (Proc.devRef .tc main_v35)
    = shapeCast S4096x13360 (V (Proc.devRef .tc main_arg2) : Vec Ideal S1x4096x13360 .f32) shapeCasts_S1x4096x13360_S4096x13360 := by
  after_results <;> rfl

end Cert.Kernel7Ideal.InSample

end
-- ==== Proof.InSample.KernelIdeal.Acts.lean ====
/- The array the first call leaves, and what the second finds in every array it reads. -/
module

public import proofs.«01_k».proof.Proof.InSample.KernelIdeal.Segs
public import proofs.«01_k».proof.Proof.InSample.KernelIdeal.Payloads
public import proofs.«01_k».proof.Proof.InSample.KernelIdeal.Columns

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable (m : (ℓ : Loc nD τ sig) → Buf (Elt Ideal) ℓ) (ρ : Dev nD → PrngReg)

/-! ## The arguments, and what the first call leaves -/

abbrev argX (c : Dev nD) : FVec Ideal S32x4x4096 .f32 := m ((c : Thread nD τ).loc main_arg0)
abbrev argG (c : Dev nD) : FVec Ideal S1x4096 .f32 := m ((c : Thread nD τ).loc main_arg1)
abbrev argW (c : Dev nD) : FVec Ideal S1x4096x13360 .f32 := m ((c : Thread nD τ).loc main_arg2)
abbrev argQ (c : Dev nD) : FVec Ideal S1x128 .f32 := m ((c : Thread nD τ).loc main_arg3)
abbrev argS (c : Dev nD) : FVec Ideal S1x128 .f32 := m ((c : Thread nD τ).loc main_arg4)
abbrev argV (c : Dev nD) : FVec Ideal S1x128 .f32 := m ((c : Thread nD τ).loc main_arg5)
abbrev argC (c : Dev nD) : FVec Ideal S1x32x512x4x2x128 .f32 := m ((c : Thread nD τ).loc main_arg6)

/-- Row `n` of the steps' rows, each step's four filled with zeros up to sixteen. -/
def xRow (x : FVec Ideal S32x4x4096 .f32) (n : Fin 512) (j : Fin 4096) : EReal :=
  if h : n.val % 16 < 4 then x (ValueIdx.ix3 ⟨n.val / 16, by omega⟩ ⟨n.val % 16, h⟩ j) else 0

/-- The row scaled. -/
def act (x : FVec Ideal S32x4x4096 .f32) (g : FVec Ideal S1x4096 .f32) (n : Fin 512) (d : Fin 4096) : EReal :=
  scaled 0x45800000#32 (xRow x n) d (g (ValueIdx.ix2 0 d))

/-- All of them. -/
def acts (x : FVec Ideal S32x4x4096 .f32) (g : FVec Ideal S1x4096 .f32) : Vec Ideal S512x4096 .f32 := fun y => act x g (y 0) (y 1)

theorem fill_found (c : Dev nD) : U01 m c (Proc.devRef .tc main_c_0) = constantI S_ 32 0#32 := fill_laid (U0 m c)

theorem filled_found (c : Dev nD) :
    (U02 m c (Proc.devRef .tc main_v0) : Vec Ideal S32x16x4096 .f32) = filled (argX m c) (sitofp (F := Ideal) .f32 (constantI S_ 32 0#32)) := by
  refine (filled_laid (U01 m c)).trans ?_
  rw [fill_found, show U01 m c (Proc.devRef .tc main_arg0) = argX m c from
    (StableHlo.after_of_writes_sub hostOps0 _ hostOps0_writes (by decide)).trans rfl]

theorem fill_zero (i : S_.Idx) : (sitofp (F := Ideal) .f32 (constantI S_ 32 0#32) : FVec Ideal S_ .f32) i = 0 := by
  show (((0#32 : BitVec 32).toInt : ℝ) : EReal) = 0
  simp

theorem rows_entry (c : Dev nD) (n : Fin 512) (j : Fin 4096) :
    (U1 m c (Proc.devRef .tc main_v1) : Vec Ideal S512x4096 .f32) (ValueIdx.ix2 n j) = xRow (argX m c) n j := by
  refine (congrFun (rows_laid (U02 m c)) (ValueIdx.ix2 n j : S512x4096.Idx)).trans ?_
  rw [filled_found]
  refine Eq.trans (b := filled (argX m c) (sitofp (F := Ideal) .f32 (constantI S_ 32 0#32)) (ValueIdx.ix3 ⟨n.val / 16, by omega⟩ ⟨n.val % 16, by omega⟩ j)) ?_ ?_
  · generalize filled (argX m c) (sitofp (F := Ideal) .f32 (constantI S_ 32 0#32)) = y
    pointwise
    rfl
  · unfold xRow
    by_cases h : n.val % 16 < 4
    · rw [dif_pos h]
      exact filled_in _ _ ⟨n.val / 16, by omega⟩ ⟨n.val % 16, h⟩ j
    · rw [dif_neg h]
      exact (filled_out _ _ _ _ j h).trans (fill_zero _)

theorem gain_entry (c : Dev nD) (d : Fin 4096) :
    (U1 m c (Proc.devRef .tc main_v3) : Vec Ideal S1x4096 .f32) (ValueIdx.ix2 0 d) = argG m c (ValueIdx.ix2 0 d) := by
  refine (congrFun (gain_laid (U02 m c)) (ValueIdx.ix2 0 d : S1x4096.Idx)).trans ?_
  rw [show U02 m c (Proc.devRef .tc main_arg1) = argG m c from
    (StableHlo.after_of_writes_sub hostOps0_1 _ hostOps0_1_writes (by decide)).trans <|
      (StableHlo.after_of_writes_sub hostOps0 _ hostOps0_writes (by decide)).trans rfl]
  pointwise

/-- The point of row tile `i`. -/
def pt0 (i : Fin 1) : Fin grid0.N := ⟨i.val, by rw [N_0]; omega⟩

theorem word_pt0 (i : Fin 1) : (BitVec.ofNat 32 (grid0.coords (pt0 i) 0).val).toNat = i.val := by
  have e : (grid0.coords (pt0 i) 0).val = (pt0 i).val / 1 % 1 := Pipeline.Grid.coords_val (pt0 i) 0 (by decide) rfl
  rw [e, BitVec.toNat_ofNat]
  show i.val / 1 % 1 % 2 ^ 32 = i.val
  omega

def row0 (i : Fin 1) (r : Fin 512) : Fin 512 := ⟨512 * i.val + r.val, by omega⟩

theorem rows0_apply (c : Dev nD) (i : Fin 1) (r : Fin 512) (j : Fin 4096) :
    rows0 m c (pt0 i) (ValueIdx.ix2 r j) = xRow (argX m c) (row0 i r) j := by
  refine Eq.trans ?_ (rows_entry m c (row0 i r) j)
  refine (View.read_apply ..).trans (congrArg (U1 m c (Proc.devRef .tc main_v1)) (funext fun a => Fin.ext ?_))
  match a with
  | ⟨0, _⟩ => show (BitVec.ofNat 32 (grid0.coords (pt0 i) 0).val).toNat * 512 + 1 * r.val = 512 * i.val + r.val
              rw [word_pt0]; omega
  | ⟨1, _⟩ => show 0 * 4096 + 1 * j.val = j.val
              omega

theorem gain0_apply (c : Dev nD) (i : Fin 1) (d : Fin 4096) :
    gain0 m c (pt0 i) (ValueIdx.ix2 0 d) = argG m c (ValueIdx.ix2 0 d) := by
  refine Eq.trans ?_ (gain_entry m c d)
  refine (View.read_apply ..).trans (congrArg (U1 m c (Proc.devRef .tc main_v3)) (funext fun a => Fin.ext ?_))
  match a with
  | ⟨0, _⟩ => show 0 * 1 + 1 * 0 = 0
              omega
  | ⟨1, _⟩ => show 0 * 4096 + 1 * d.val = d.val
              omega

/-- The block a point leaves. -/
def cast0 (c : Dev nD) (t : Fin cfg0.N) : Vec Ideal S512x4096 .f32 := k0_pay1 (rows0 m c t) (gain0 m c t)

theorem cast0_apply (c : Dev nD) (i : Fin 1) (r : Fin 512) (d : Fin 4096) :
    cast0 m c (pt0 i) (ValueIdx.ix2 r d) = act (argX m c) (argG m c) (row0 i r) d := by
  refine (cast_apply (rows0 m c (pt0 i)) (gain0 m c (pt0 i)) r d).trans ?_
  rw [gain0_apply]
  exact congrArg (fun y => scaled 0x45800000#32 y d (argG m c (ValueIdx.ix2 0 d))) (funext fun j => rows0_apply m c i r j)

theorem blk_cast (i : Fin 1) (y : S512x4096.Idx) (G : Vec Ideal S512x4096 .f32) :
    ((cfg0.win 2).blk (pt0 i)).view.read (Elt Ideal) G y = G (ValueIdx.ix2 (row0 i (y 0)) (y 1)) := by
  refine (View.read_apply ..).trans (congrArg G (funext fun a => Fin.ext ?_))
  match a with
  | ⟨0, _⟩ => show (BitVec.ofNat 32 (grid0.coords (pt0 i) 0).val).toNat * 512 + 1 * (y 0).val = 512 * i.val + (y 0).val
              rw [word_pt0]; omega
  | ⟨1, _⟩ => show 0 * 4096 + 1 * (y 1).val = (y 1).val
              omega

theorem cut_cast (c : Dev nD) (i : Fin 1) (y : S512x4096.Idx) :
    (cfg0.win 2).cut (grid0.coords (pt0 i)) (cast0 m c (pt0 i)) y
      = ((cfg0.win 2).blk (pt0 i)).view.read (Elt Ideal) (acts (argX m c) (argG m c)) y := by
  refine Eq.trans ?_ ((blk_cast i y (acts (argX m c) (argG m c))).trans (cast0_apply m c i (y 0) (y 1)).symm).symm
  refine congrArg (cast0 m c (pt0 i)) (funext fun a => Fin.ext ?_)
  match a with
  | ⟨0, _⟩ => rfl
  | ⟨1, _⟩ => rfl

theorem flushed_cast (c : Dev nD) (t : Fin cfg0.N) :
    (dat0 m c).flushed 2 t = ((cfg0.win 2).blk t).view.read (Elt Ideal) (acts (argX m c) (argG m c)) := by
  have ht : t.val < 1 := Nat.lt_of_lt_of_eq t.isLt N_0
  obtain ⟨i, rfl⟩ : ∃ i : Fin 1, t = pt0 i := ⟨⟨t.val, ht⟩, rfl⟩
  refine Eq.trans (b := (cfg0.win 2).cut (grid0.coords (pt0 i)) (cast0 m c (pt0 i))) rfl ?_
  exact funext (cut_cast m c i)

/-- The tile of a row, and its place in it. -/
def tile0 (n : Fin 512) : Fin 1 := ⟨n.val / 512, by omega⟩
def in0 (n : Fin 512) : Fin 512 := ⟨n.val % 512, by omega⟩

theorem mem_cast (y : S512x4096.Idx) : y ∈ ((cfg0.win 2).blk (pt0 (tile0 (y 0)))).view.set := by
  have e : (((cfg0.win 2).blk (pt0 (tile0 (y 0)))).view.emb (ValueIdx.ix2 (in0 (y 0)) (y 1) : S512x4096.Idx)) = y :=
    funext fun a => Fin.ext (by
      match a with
      | ⟨0, _⟩ => show (BitVec.ofNat 32 (grid0.coords (pt0 (tile0 (y 0))) 0).val).toNat * 512 + 1 * ((y 0).val % 512) = (y 0).val
                  rw [word_pt0]; show (y 0).val / 512 * 512 + _ = _; omega
      | ⟨1, _⟩ => show 0 * 4096 + 1 * (y 1).val = (y 1).val
                  omega)
  have h := View.emb_mem_set ((cfg0.win 2).blk (pt0 (tile0 (y 0)))).view (ValueIdx.ix2 (in0 (y 0)) (y 1) : S512x4096.Idx)
  rw [e] at h
  exact h

/-- The array the first call leaves. -/
theorem acts_left (c : Dev nD) : (dat0 m c).arrAt 2 cfg0.N = acts (argX m c) (argG m c) :=
  (dat0 m c).arrAt_eq_of_cover 2 (acts (argX m c) (argG m c)) (fun t _ => flushed_cast m c t) fun (y : S512x4096.Idx) =>
    ⟨pt0 (tile0 (y 0)), flush0_2 _, mem_cast y⟩

/-! ## What the second call finds -/

theorem acts_found (c : Dev nD) : (U3 m c (Proc.devRef .tc main_v4) : Vec Ideal S512x4096 .f32) = acts (argX m c) (argG m c) :=
  (StableHlo.after_of_writes_sub hostOps1 _ hostOps1_writes (by decide)).trans
    ((Pipeline.afterRegion_arr (dat0 m c) (U1 m c) winFacts0.arr_inj 2).trans (acts_left m c))

/-- A buffer the first call and the host before it leave alone. -/
theorem kept2 (c : Dev nD) (r : Ref sig .tc) (h0 : r ∉ hostOps0_W) (h01 : r ∉ hostOps0_1_W) (h02 : r ∉ hostOps0_2_W) (k0 : ∀ w, r ≠ Pipeline.arrRef spec0 w) :
    U2 m c (Proc.devRef .tc r) = m ((c : Thread nD τ).loc r) :=
  (Pipeline.afterRegion_of_not_arr (dat0 m c) (U1 m c) k0).trans <|
    (StableHlo.after_of_writes_sub hostOps0_2 _ hostOps0_2_writes h02).trans <|
    (StableHlo.after_of_writes_sub hostOps0_1 _ hostOps0_1_writes h01).trans <|
    (StableHlo.after_of_writes_sub hostOps0 _ hostOps0_writes h0).trans rfl

theorem weights_found (c : Dev nD) (d : Fin 4096) (k : Fin 13360) :
    (U3 m c (Proc.devRef .tc main_v35) : Vec Ideal S4096x13360 .f32) (ValueIdx.ix2 d k) = argW m c (ValueIdx.ix3 0 d k) := by
  refine (congrFun (weights_laid (U2 m c)) (ValueIdx.ix2 d k : S4096x13360.Idx)).trans ?_
  rw [kept2 m c main_arg2 (by decide) (by decide) (by decide) (by decide)]
  pointwise
  rfl

theorem gains_found (c : Dev nD) :
    (U3 m c (Proc.devRef .tc main_v29) : Vec Ideal S1x13312 .f32) = gains (argQ m c) (argS m c) (argV m c) := by
  refine (gains_laid (U2 m c)).trans ?_
  rw [kept2 m c main_arg3 (by decide) (by decide) (by decide) (by decide), kept2 m c main_arg4 (by decide) (by decide) (by decide) (by decide), kept2 m c main_arg5 (by decide) (by decide) (by decide) (by decide)]

theorem selection_found (c : Dev nD) : (U3 m c (Proc.devRef .tc main_v34) : Vec Ideal S1x13312 .f32) = selection :=
  selection_laid (U2 m c)

theorem flags_found (c : Dev nD) : (U3 m c (Proc.devRef .tc main_c) : Vec Ideal S26 .i32) = fun i => lit0 (S26.rowMajor i) :=
  (StableHlo.after_of_writes_sub hostOps1 _ hostOps1_writes (by decide)).trans <|
    (Pipeline.afterRegion_of_not_arr (dat0 m c) (U1 m c) (by decide)).trans <|
    (StableHlo.after_of_writes_sub hostOps0_2 _ hostOps0_2_writes (by decide)).trans <|
    (StableHlo.after_of_writes_sub hostOps0_1 _ hostOps0_1_writes (by decide)).trans (flags_laid (U0 m c))

end Cert.Kernel7Ideal.InSample

end
-- ==== Proof.InSample.Rest.lean ====
/- A scaled row has nothing left over: where a row has an infinite entry, its mean square is infinite and the reciprocal root is zero. -/
module

public import proofs.«01_k».proof.Proof.InSample.KernelIdeal.Payloads
public import Idealize.ShloMosaic.PureOps.Ideal.Laws

@[expose] public section

noncomputable section

namespace Cert.Kernel7Ideal.InSample

open Idealize.ShloMosaic

/-- A number is finite where nothing is left of it less itself. -/
theorem finite_of_rest {a : EReal} (h : a - a = 0) : a ≠ ⊤ ∧ a ≠ ⊥ := by
  constructor
  · rintro rfl
    exact absurd h (by simp)
  · rintro rfl
    exact absurd h (by simp)

theorem rest_of_finite {a : EReal} (h : a ≠ ⊤ ∧ a ≠ ⊥) : a - a = 0 := EReal.sub_self h.1 h.2

theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem width_real : Ideal.ofBits .f32 0x45800000#32 = ((4096 : ℝ) : EReal) := by
  simp [Ideal.ofBits, Ideal.ieee, -EReal.coe_mul]; norm_num

theorem eps_real : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem sq_nonneg' (a : EReal) : 0 ≤ a * a := by
  induction a with
  | bot => simp
  | top => simp
  | coe r => rw [← EReal.coe_mul]; exact_mod_cast mul_self_nonneg r

/-- The reciprocal root of a row's mean square, times an entry of the row. -/
theorem root_finite {k : ℕ} (y : Fin k → EReal) (l : Fin k) :
    y l * Ideal.rsqrt (Ideal.div (∑ j : Fin k, y j * y j) (Ideal.ofBits .f32 0x45800000#32) + Ideal.ofBits .f32 0x358637BD#32) ≠ ⊤
      ∧ y l * Ideal.rsqrt (Ideal.div (∑ j : Fin k, y j * y j) (Ideal.ofBits .f32 0x45800000#32) + Ideal.ofBits .f32 0x358637BD#32) ≠ ⊥ := by
  obtain ⟨e, he, hE⟩ := eps_real
  have hS : 0 ≤ ∑ j : Fin k, y j * y j := Finset.sum_nonneg fun j _ => sq_nonneg' (y j)
  have hl : y l * y l ≤ ∑ j : Fin k, y j * y j := Finset.single_le_sum (f := fun j => y j * y j) (fun j _ => sq_nonneg' (y j)) (Finset.mem_univ l)
  rw [width_real, hE]
  have hw : ((4096 : ℝ) : EReal) ≠ 0 := by exact_mod_cast (by norm_num : (4096 : ℝ) ≠ 0)
  unfold Ideal.div
  rw [if_neg hw, ← EReal.coe_inv]
  generalize hs : (∑ j : Fin k, y j * y j) = S at hS hl
  clear hs
  induction S with
  | bot => exact absurd hS (by simp)
  | top =>
    rw [EReal.top_mul_coe_of_pos (by norm_num), EReal.top_add_coe]
    show y l * 0 ≠ ⊤ ∧ y l * 0 ≠ ⊥
    rw [mul_zero]
    exact ⟨EReal.zero_ne_top, EReal.zero_ne_bot⟩
  | coe s =>
    have s0 : 0 ≤ s := by exact_mod_cast hS
    rw [← EReal.coe_mul, ← EReal.coe_add]
    have hp : 0 < s * (4096 : ℝ)⁻¹ + e := by positivity
    have hr : Ideal.rsqrt ((s * (4096 : ℝ)⁻¹ + e : ℝ) : EReal) = (((Real.sqrt (s * (4096 : ℝ)⁻¹ + e))⁻¹ : ℝ) : EReal) := by
      show (if s * (4096 : ℝ)⁻¹ + e < 0 then ⊥ else if s * (4096 : ℝ)⁻¹ + e = 0 then ⊤ else (((Real.sqrt (s * (4096 : ℝ)⁻¹ + e))⁻¹ : ℝ) : EReal)) = _
      rw [if_neg (not_lt.mpr hp.le), if_neg hp.ne']
    rw [hr]
    refine mul_finite ⟨fun h => ?_, fun h => ?_⟩ ⟨EReal.coe_ne_top _, EReal.coe_ne_bot _⟩
    · rw [h] at hl
      exact absurd hl (by simp)
    · rw [h] at hl
      exact absurd hl (by simp)

/-- A scaled row's entry, where the gain has nothing left over. -/
theorem scaled_rest {k : ℕ} (y : Fin k → EReal) (l : Fin k) {g : EReal} (hg : g - g = 0) :
    scaled 0x45800000#32 y l g - scaled 0x45800000#32 y l g = 0 :=
  rest_of_finite (mul_finite (root_finite y l) (finite_of_rest hg))

end Cert.Kernel7Ideal.InSample

end
-- ==== Proof.InSample.KernelIdeal.Blocks.lean ====
/- The second call's blocks, entry by entry. -/
module

public import proofs.«01_k».proof.Proof.InSample.KernelIdeal.Acts
public import proofs.«01_k».proof.Proof.InSample.Rest

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable (m : (ℓ : Loc nD τ sig) → Buf (Elt Ideal) ℓ) (ρ : Dev nD → PrngReg)

/-! ## A tile with heads, entry by entry -/

/-- The head of a tile's column, and the column's place in it. -/
def headOf (k : Fin 512) : Fin 4 := ⟨k.val / 128, by omega⟩
def placeOf (k : Fin 512) : Fin 128 := ⟨k.val % 128, Nat.mod_lt _ (by decide)⟩

theorem at4_of (k : Fin 512) : at4 (headOf k) (placeOf k) = k := Fin.ext (show 128 * (k.val / 128) + k.val % 128 = k.val by omega)
theorem headOf_at4 (q : Fin 4) (l : Fin 128) : headOf (at4 q l) = q := Fin.ext (show (128 * q.val + l.val) / 128 = q.val by omega)
theorem placeOf_at4 (q : Fin 4) (l : Fin 128) : placeOf (at4 q l) = l := Fin.ext (show (128 * q.val + l.val) % 128 = l.val by omega)

/-- What the four slabs together put in the tile. -/
def tileOf (y : FVec Ideal S512x512 .f32) (g s : Vec Ideal S1x512 .f32) : Vec Ideal S512x512 .f32 := fun z =>
  picked (s (ValueIdx.ix2 0 (z 1))) (fun j => y (ValueIdx.ix2 (z 0) (at4 (headOf (z 1)) j))) (placeOf (z 1)) (g (ValueIdx.ix2 0 (z 1)))

theorem tileOf_at (y : FVec Ideal S512x512 .f32) (g s : Vec Ideal S1x512 .f32) (r : Fin 512) (q : Fin 4) (l : Fin 128) :
    tileOf y g s (ValueIdx.ix2 r (at4 q l))
      = picked (s (ValueIdx.ix2 0 (at4 q l))) (fun j => y (ValueIdx.ix2 r (at4 q j))) l (g (ValueIdx.ix2 0 (at4 q l))) := by
  show picked (s (ValueIdx.ix2 0 (at4 q l))) (fun j => y (ValueIdx.ix2 r (at4 (headOf (at4 q l)) j))) (placeOf (at4 q l)) (g (ValueIdx.ix2 0 (at4 q l))) = _
  rw [headOf_at4, placeOf_at4]

/-- Column `l` of slab `q` is column `128 q + l` of the tile. -/
theorem emb_slab (r : Fin 512) (q : Fin 4) (l : Fin 128) (o : ℕ) (ho : o = 128 * q.val)
    (inb : ∀ a, (![0, o] : Fin 2 → ℕ) a + (![512, 128] : Fin 2 → ℕ) a ≤ S512x512.size a) :
    (Rect.unit (s := S512x512) ![0, o] ![512, 128] inb).emb (ValueIdx.ix2 r l : S512x128.Idx) = ValueIdx.ix2 r (at4 q l) := by
  refine funext fun a => Fin.ext ?_
  match a with
  | ⟨0, _⟩ => show 0 + 1 * r.val = r.val; omega
  | ⟨1, _⟩ => show o + 1 * l.val = 128 * q.val + l.val; omega

theorem ix2_eta (x : S512x128.Idx) : ∃ (r : Fin 512) (l : Fin 128), x = ValueIdx.ix2 r l :=
  ⟨x 0, x 1, funext fun a => by match a with | ⟨0, _⟩ => rfl | ⟨1, _⟩ => rfl⟩

theorem slabs_apply (y : FVec Ideal S512x512 .f32) (g s : Vec Ideal S1x512 .f32) (z : S512x512.Idx) :
    View.canon (slabs y g s) z = tileOf y g s z := by
  refine View.canon_apply_of_pieces (tileOf y g s) (slabs y g s) ?_ z (slabs_cover y g s z)
  intro p hp x
  unfold slabs at hp
  simp only [List.mem_cons, List.not_mem_nil, or_false] at hp
  rcases hp with rfl | rfl | rfl | rfl
  · obtain ⟨r, l, rfl⟩ := ix2_eta x
    exact (slab3_apply y g s r l).trans ((tileOf_at y g s r 3 l).symm.trans (congrArg (tileOf y g s) (emb_slab r 3 l 384 rfl inb_S512x512_S512x128_0_384).symm))
  · obtain ⟨r, l, rfl⟩ := ix2_eta x
    exact (slab2_apply y g s r l).trans ((tileOf_at y g s r 2 l).symm.trans (congrArg (tileOf y g s) (emb_slab r 2 l 256 rfl inb_S512x512_S512x128_0_256).symm))
  · obtain ⟨r, l, rfl⟩ := ix2_eta x
    exact (slab1_apply y g s r l).trans ((tileOf_at y g s r 1 l).symm.trans (congrArg (tileOf y g s) (emb_slab r 1 l 128 rfl inb_S512x512_S512x128_0_128).symm))
  · obtain ⟨r, l, rfl⟩ := ix2_eta x
    exact (slab0_apply y g s r l).trans ((tileOf_at y g s r 0 l).symm.trans (congrArg (tileOf y g s) (emb_slab r 0 l 0 rfl inb_S512x512_S512x128_0_0).symm))

theorem zero2 : (![0, 0] : Fin 2 → Nat) = fun _ => 0 := funext fun a => by fin_cases a <;> rfl

theorem bare_apply (y : FVec Ideal S512x512 .f32) : View.canon (bare y) = y := by
  unfold bare
  exact View.canon_unit_zero (S := S512x512) (Val := Elt Ideal) (e := .f32) zero2 inb_S512x512_S512x512_0_0 y

/-! ## The result, entry by entry -/

/-- A row with a weight column. -/
def lin (x : FVec Ideal S32x4x4096 .f32) (g : FVec Ideal S1x4096 .f32) (w : FVec Ideal S1x4096x13360 .f32) (n : Fin 512) (k : Fin 13312) : EReal :=
  ∑ d : Fin 4096, act x g n d * w (ValueIdx.ix3 0 d ⟨k.val, by omega⟩)

/-- Place `j` of the head of column `k`, and the place of `k` in it. -/
def headAt (k : Fin 13312) (j : Fin 128) : Fin 13312 := ⟨128 * (k.val / 128) + j.val, by omega⟩
def headIn (k : Fin 13312) : Fin 128 := ⟨k.val % 128, Nat.mod_lt _ (by decide)⟩

/-- Column `k` of row `n` of the result: the product, normalised over its head where it has one. -/
def entry (x : FVec Ideal S32x4x4096 .f32) (g : FVec Ideal S1x4096 .f32) (w : FVec Ideal S1x4096x13360 .f32) (gq gs gw : FVec Ideal S1x128 .f32)
    (n : Fin 512) (k : Fin 13312) : EReal :=
  if Heads k.val then scaled 0x43000000#32 (fun j => lin x g w n (headAt k j)) (headIn k) (gainOf gq gs gw k.val) else lin x g w n k

/-- All of them. -/
def whole (x : FVec Ideal S32x4x4096 .f32) (g : FVec Ideal S1x4096 .f32) (w : FVec Ideal S1x4096x13360 .f32) (gq gs gw : FVec Ideal S1x128 .f32) :
    Vec Ideal S512x13312 .f32 := fun y => entry x g w gq gs gw (y 0) (y 1)

/-! ## The second call's points: column tile `j` is the outer grid coordinate, row tile `i` the inner one -/

def pt (j : Fin 26) (i : Fin 1) : Fin grid1.N := ⟨1 * j.val + i.val, by rw [N_1]; omega⟩

theorem pt_val (j : Fin 26) (i : Fin 1) : (pt j i).val = 1 * j.val + i.val := rfl

theorem coords_pt (j : Fin 26) (i : Fin 1) : (grid1.coords (pt j i) 0).val = j.val ∧ (grid1.coords (pt j i) 1).val = i.val := by
  have e0 : (grid1.coords (pt j i) 0).val = (pt j i).val / 1 % 26 := Pipeline.Grid.coords_val (pt j i) 0 (by decide) rfl
  have e1 : (grid1.coords (pt j i) 1).val = (pt j i).val / 1 % 1 := Pipeline.Grid.coords_val (pt j i) 1 (by decide) rfl
  rw [pt_val] at e0 e1
  omega

theorem word0 (j : Fin 26) (i : Fin 1) : (BitVec.ofNat 32 (grid1.coords (pt j i) 0).val).toNat = j.val := by
  rw [(coords_pt j i).1, BitVec.toNat_ofNat, Nat.mod_eq_of_lt (by omega)]
theorem word1 (j : Fin 26) (i : Fin 1) : (BitVec.ofNat 32 (grid1.coords (pt j i) 1).val).toNat = i.val := by
  rw [(coords_pt j i).2, BitVec.toNat_ofNat, Nat.mod_eq_of_lt (by omega)]
theorem word1' (j : Fin 26) (i : Fin 1) : (Scalar.addi 0#32 (BitVec.ofNat 32 (grid1.coords (pt j i) 1).val)).toNat = i.val := by
  rw [show Scalar.addi 0#32 (BitVec.ofNat 32 (grid1.coords (pt j i) 1).val) = BitVec.ofNat 32 (grid1.coords (pt j i) 1).val from
    BitVec.zero_add _]
  exact word1 j i

/-- Row `r` of row tile `i`, and column `k` of column tile `j`. -/
def row (i : Fin 1) (r : Fin 512) : Fin 512 := ⟨512 * i.val + r.val, by omega⟩
def col (j : Fin 26) (k : Fin 512) : Fin 13312 := ⟨512 * j.val + k.val, by omega⟩

theorem rows1_apply (c : Dev nD) (j : Fin 26) (i : Fin 1) (r : Fin 512) (d : Fin 4096) :
    rows1 m c (pt j i) (ValueIdx.ix2 r d) = act (argX m c) (argG m c) (row i r) d := by
  refine Eq.trans (b := (U3 m c (Proc.devRef .tc main_v4) : Vec Ideal S512x4096 .f32) (ValueIdx.ix2 (row i r) d)) ?_
    (congrFun (acts_found m c) (ValueIdx.ix2 (row i r) d : S512x4096.Idx))
  refine (View.read_apply ..).trans (congrArg (U3 m c (Proc.devRef .tc main_v4)) (funext fun a => Fin.ext ?_))
  match a with
  | ⟨0, _⟩ => show (Scalar.addi 0#32 (BitVec.ofNat 32 (grid1.coords (pt j i) 1).val)).toNat * 512 + 1 * r.val = 512 * i.val + r.val
              rw [word1']; omega
  | ⟨1, _⟩ => show 0 * 4096 + 1 * d.val = d.val
              omega

/-- A block that nothing cuts moves whole. -/
theorem uncut {G : Pipeline.Grid} (w : Window sig G) (i : G.Coords) (h : ∀ a, w.clip i a = none) (j : w.block.Idx) (a) :
    (j a).val < w.xsize i a := by
  have := (j a).isLt
  unfold Window.xsize
  rw [h a]
  exact this

theorem fill_uncut {G : Pipeline.Grid} (w : Window sig G) (i : G.Coords) (h : ∀ a, w.clip i a = none) {α : Type} (d : w.block.Idx → α)
    (g : (w.xblock i).Idx → α) (j : w.block.Idx) : w.fill i d g j = g fun a => ⟨(j a).val, uncut w i h j a⟩ := by
  unfold Window.fill
  rw [dif_pos ((w.moved_iff i j).mpr (uncut w i h j))]

/-- The weights' block as an array of the tile's own shape: no tile passes the array's edge. -/
theorem wts1_apply (c : Dev nD) (j : Fin 26) (i : Fin 1) (d : Fin 4096) (k : Fin 512) :
    wts1 m c (pt j i) (ValueIdx.ix2 d k) = argW m c (ValueIdx.ix3 0 d ⟨(col j k).val, by have := (col j k).isLt; omega⟩) := by
  refine Eq.trans ?_ (weights_found m c d ⟨(col j k).val, by have := (col j k).isLt; omega⟩)
  refine (fill_uncut ((cfgN m).win 1) (grid1.coords (pt j i)) (noClip m (pt j i)) (wtsView.read (Elt Ideal) wtsView.junk) (blk1 m c 1 (pt j i)) (ValueIdx.ix2 d k : S4096x512.Idx)).trans ?_
  refine (View.read_apply ..).trans (congrArg (U3 m c (Proc.devRef .tc main_v35)) (funext fun a => Fin.ext ?_))
  match a with
  | ⟨0, _⟩ => show 0 * 4096 + 1 * d.val = d.val
              omega
  | ⟨1, _⟩ => show (BitVec.ofNat 32 (grid1.coords (pt j i) 0).val).toNat * 512 + 1 * k.val = 512 * j.val + k.val
              rw [word0]; omega

theorem gain1_apply (c : Dev nD) (j : Fin 26) (i : Fin 1) (k : Fin 512) :
    gain1 m c (pt j i) (ValueIdx.ix2 0 k) = gains (argQ m c) (argS m c) (argV m c) (ValueIdx.ix2 0 (col j k)) := by
  refine Eq.trans (b := (U3 m c (Proc.devRef .tc main_v29) : Vec Ideal S1x13312 .f32) (ValueIdx.ix2 0 (col j k))) ?_
    (congrFun (gains_found m c) (ValueIdx.ix2 0 (col j k) : S1x13312.Idx))
  refine (View.read_apply ..).trans (congrArg (U3 m c (Proc.devRef .tc main_v29)) (funext fun a => Fin.ext ?_))
  match a with
  | ⟨0, _⟩ => show 0 * 1 + 1 * 0 = 0
              omega
  | ⟨1, _⟩ => show (BitVec.ofNat 32 (grid1.coords (pt j i) 0).val).toNat * 512 + 1 * k.val = 512 * j.val + k.val
              rw [word0]; omega

theorem norm1_apply (c : Dev nD) (j : Fin 26) (i : Fin 1) (k : Fin 512) :
    norm1 m c (pt j i) (ValueIdx.ix2 0 k) = selection (ValueIdx.ix2 0 (col j k)) := by
  refine Eq.trans (b := (U3 m c (Proc.devRef .tc main_v34) : Vec Ideal S1x13312 .f32) (ValueIdx.ix2 0 (col j k))) ?_
    (congrFun (selection_found m c) (ValueIdx.ix2 0 (col j k) : S1x13312.Idx))
  refine (View.read_apply ..).trans (congrArg (U3 m c (Proc.devRef .tc main_v34)) (funext fun a => Fin.ext ?_))
  match a with
  | ⟨0, _⟩ => show 0 * 1 + 1 * 0 = 0
              omega
  | ⟨1, _⟩ => show (BitVec.ofNat 32 (grid1.coords (pt j i) 0).val).toNat * 512 + 1 * k.val = 512 * j.val + k.val
              rw [word0]; omega

/-- Neither a gain of the rows nor a weight of the columns computed has anything left over, less itself: each is finite. -/
def Clean (g : FVec Ideal S1x4096 .f32) (w : FVec Ideal S1x4096x13360 .f32) : Prop :=
  (∀ d : Fin 4096, g (ValueIdx.ix2 0 d) - g (ValueIdx.ix2 0 d) = 0)
    ∧ ∀ (d : Fin 4096) (k : Fin 13312), w (ValueIdx.ix3 0 d ⟨k.val, by omega⟩) - w (ValueIdx.ix3 0 d ⟨k.val, by omega⟩) = 0

/-- The products. -/
theorem prod1_apply (c : Dev nD) (hc : Clean (argG m c) (argW m c)) (j : Fin 26) (i : Fin 1) (r : Fin 512) (k : Fin 512) :
    prod1 m c (pt j i) (ValueIdx.ix2 r k) = lin (argX m c) (argG m c) (argW m c) (row i r) (col j k) := by
  refine (acc_apply (rows1 m c (pt j i)) (wts1 m c (pt j i)) r k (fun d => ?_) (fun d => ?_)).trans ?_
  · rw [rows1_apply]
    exact scaled_rest _ _ (hc.1 d)
  · rw [wts1_apply]
    exact hc.2 d (col j k)
  · refine Finset.sum_congr rfl fun d _ => ?_
    rw [wts1_apply, rows1_apply]

/-- The column tiles with heads to normalise. -/
theorem flag_iff : ∀ j : Fin 26, k1_cond2 (lit0 j) = 1#1 ↔ (16 ≤ j.val ∧ j.val < 20) ∨ 22 ≤ j.val := by decide

theorem normed_iff (c : Dev nD) (j : Fin 26) (i : Fin 1) :
    Normed m c (grid1.coords (pt j i)) ↔ (16 ≤ j.val ∧ j.val < 20) ∨ 22 ≤ j.val := by
  have e : flagWord c (grid1.coords (pt j i)) (tblF m 0) = lit0 j := by
    refine (flagWord_eq c _ _).trans ((congrFun (flags_found m 0) (flagIx (grid1.coords (pt j i)))).trans (congrArg lit0 (Fin.ext ?_)))
    exact (Shape.rowMajor_val_one (flagIx (grid1.coords (pt j i)))).trans (word0 j i)
  show k1_cond2 (flagWord c (grid1.coords (pt j i)) (tblF m 0)) = 1#1 ↔ _
  rw [e]
  exact flag_iff j

theorem headAt_col (j : Fin 26) (k : Fin 512) (l : Fin 128) : headAt (col j k) l = col j (at4 (headOf k) l) :=
  Fin.ext (show 128 * ((512 * j.val + k.val) / 128) + l.val = 512 * j.val + (128 * (k.val / 128) + l.val) by omega)
theorem headIn_col (j : Fin 26) (k : Fin 512) : headIn (col j k) = placeOf k :=
  Fin.ext (show (512 * j.val + k.val) % 128 = k.val % 128 by omega)

/-- What a point leaves in its block. -/
theorem out1_apply (c : Dev nD) (hc : Clean (argG m c) (argW m c)) (j : Fin 26) (i : Fin 1) (r : Fin 512) (k : Fin 512) :
    out1 m c (pt j i) (ValueIdx.ix2 r k)
      = entry (argX m c) (argG m c) (argW m c) (argQ m c) (argS m c) (argV m c) (row i r) (col j k) := by
  have hcol : (col j k).val = 512 * j.val + k.val := rfl
  by_cases hn : Normed m c (grid1.coords (pt j i))
  · have hj := (normed_iff m c j i).mp hn
    rw [show out1 m c (pt j i) = View.canon (slabs (prod1 m c (pt j i)) (gain1 m c (pt j i)) (norm1 m c (pt j i))) from if_pos hn]
    refine (slabs_apply _ _ _ _).trans ?_
    show picked (norm1 m c (pt j i) (ValueIdx.ix2 0 k)) (fun l => prod1 m c (pt j i) (ValueIdx.ix2 r (at4 (headOf k) l))) (placeOf k)
      (gain1 m c (pt j i) (ValueIdx.ix2 0 k)) = _
    rw [norm1_apply, gain1_apply, selection_of _ (by omega) (by omega),
      funext fun l => prod1_apply m c hc j i r (at4 (headOf k) l)]
    unfold entry
    by_cases hh : Heads (col j k).val
    · rw [if_pos hh, if_pos hh, picked_of, gains_of _ _ _ _ hh, headIn_col]
      exact congrArg (fun y => scaled 0x43000000#32 y (placeOf k) (gainOf (argQ m c) (argS m c) (argV m c) (col j k).val))
        (funext fun l => congrArg (lin (argX m c) (argG m c) (argW m c) (row i r)) (headAt_col j k l).symm)
    · rw [if_neg hh, if_neg hh, picked_not, at4_of]
  · have hj := fun h => hn ((normed_iff m c j i).mpr h)
    rw [show out1 m c (pt j i) = View.canon (bare (prod1 m c (pt j i))) from if_neg hn]
    refine (congrFun (bare_apply _) _).trans ((prod1_apply m c hc j i r k).trans ?_)
    unfold entry
    rw [if_neg (show ¬ Heads (col j k).val from by
      rintro (⟨h1, h2⟩ | ⟨h1, h2⟩) <;> exact hj (by omega))]

end Cert.Kernel7Ideal.InSample

end
-- ==== Proof.InSample.Finite.lean ====
/- The precondition, read: no gain of the rows and no weight of the columns computed has anything left over, less itself. -/
module

public import proofs.«01_k».proof.Proof.InSample.KernelIdeal.Blocks
public import proofs.«01_k».proof.Proof.Gen.Pre_finite
public import Idealize.ShloMosaic.Lib.ReduceAll
public import Idealize.ShloMosaic.Lib.WordCmp

@[expose] public section

set_option maxRecDepth 16384

noncomputable section

namespace Cert.Kernel7Ideal.InSample

open Idealize.ShloMosaic Idealize.ShloMosaic.Tactic Cert.Pre_finite Cert.Pre_finite.Gen

/-- Both of a pair of bits are set where their conjunction is. -/
theorem both (a b : BitVec 1) (h : IntOp.andi a b = 1#1) : a = 1#1 ∧ b = 1#1 := by
  revert a b
  decide

/-- A comparison for equality that says yes. -/
theorem eq_of_oeq (a b : EReal) (h : FloatOps.cmpf (F := Ideal) (φ := .f32) .oeq a b = 1#1) : a = b := by
  by_contra hc
  have e : FloatOps.cmpf (F := Ideal) (φ := .f32) .oeq a b = 0#1 := by
    show BitVec.ofBool (decide (a = b)) = 0#1
    rw [decide_eq_false hc]
    rfl
  rw [e] at h
  exact absurd h (by decide)

theorem clean_of_pre (x : FVec Ideal S32x4x4096 .f32) (g : FVec Ideal S1x4096 .f32) (w : FVec Ideal S1x4096x13360 .f32)
    (gq gs gw : FVec Ideal S1x128 .f32) (cw : FVec Ideal S1x32x512x4x2x128 .f32)
    (h : fn (F := Ideal) x g w gq gs gw cw = fun _ => 1#1) : Clean g w := by
  haveI : Subsingleton S_.Idx := ⟨fun a b => funext fun z => z.elim0⟩
  obtain ⟨h1, h2⟩ := both _ _ (congrFun h (fun z => z.elim0))
  constructor
  · intro d
    refine (eq_of_oeq _ _ (Host.reduce_andi_all _ _ reducesTo_S1x4096_S_d0_1 h_S_ (fun z => z.elim0) h1 (ValueIdx.ix2 0 d))).trans ?_
    exact Ideal.ofBits_zero_f32
  · intro d k
    have e := (eq_of_oeq _ _ (Host.reduce_andi_all _ _ reducesTo_S4096x13312_S_d0_1 h_S_ (fun z => z.elim0) h2 (ValueIdx.ix2 d k))).trans
      (show _ = (0 : EReal) from Ideal.ofBits_zero_f32)
    refine Eq.trans ?_ e
    pointwise
    rfl

end Cert.Kernel7Ideal.InSample

end
-- ==== Proof.InSample.KernelIdeal.Result.lean ====
/- The array the second call leaves, and the results. -/
module

public import proofs.«01_k».proof.Proof.InSample.KernelIdeal.Blocks
public import proofs.«01_k».proof.Proof.InSample.KernelIdeal.Run

@[expose] public section

set_option maxRecDepth 16384

noncomputable section

namespace Cert.Kernel7Ideal.InSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable (m : (ℓ : Loc nD τ sig) → Buf (Elt Ideal) ℓ) (ρ : Dev nD → PrngReg)

/-- The array of every entry, of a device's arguments. -/
abbrev wholeOf (c : Dev nD) : Vec Ideal S512x13312 .f32 :=
  whole (argX m c) (argG m c) (argW m c) (argQ m c) (argS m c) (argV m c)

/-- Where a point's block puts its element in the array. -/
theorem blk_out (j : Fin 26) (i : Fin 1) (y : S512x512.Idx) (G : Vec Ideal S512x13312 .f32) :
    (((cfgN m).win 4).blk (pt j i)).view.read (Elt Ideal) G y = G (ValueIdx.ix2 (row i (y 0)) (col j (y 1))) := by
  refine (View.read_apply ..).trans (congrArg G (funext fun a => Fin.ext ?_))
  match a with
  | ⟨0, _⟩ => show (BitVec.ofNat 32 (grid1.coords (pt j i) 1).val).toNat * 512 + 1 * (y 0).val = 512 * i.val + (y 0).val
              rw [word1]; omega
  | ⟨1, _⟩ => show (BitVec.ofNat 32 (grid1.coords (pt j i) 0).val).toNat * 512 + 1 * (y 1).val = 512 * j.val + (y 1).val
              rw [word0]; omega

/-- A point's block, cut at no edge, is the array's block there. -/
theorem cut_out (c : Dev nD) (hc : Clean (argG m c) (argW m c)) (j : Fin 26) (i : Fin 1) (y : S512x512.Idx) :
    ((cfgN m).win 4).cut (grid1.coords (pt j i)) (out1 m c (pt j i)) y
      = (((cfgN m).win 4).blk (pt j i)).view.read (Elt Ideal) (wholeOf m c) y := by
  refine Eq.trans ?_ ((blk_out m j i y (wholeOf m c)).trans (out1_apply m c hc j i (y 0) (y 1)).symm).symm
  refine congrArg (out1 m c (pt j i)) (funext fun a => Fin.ext ?_)
  match a with
  | ⟨0, _⟩ => rfl
  | ⟨1, _⟩ => rfl

theorem flushed_eq (c : Dev nD) (hc : Clean (argG m c) (argW m c)) (t : Fin (cfgN m).N) :
    (dat1 m c).flushed 4 t = (((cfgN m).win 4).blk t).view.read (Elt Ideal) (wholeOf m c) := by
  have ht : t.val < 26 := Nat.lt_of_lt_of_eq t.isLt N_1
  obtain ⟨j, i, rfl⟩ : ∃ (j : Fin 26) (i : Fin 1), t = pt j i :=
    ⟨⟨t.val / 1, by omega⟩, ⟨t.val % 1, by omega⟩, Fin.ext (by show t.val = 1 * (t.val / 1) + t.val % 1; omega)⟩
  refine Eq.trans (b := ((cfgN m).win 4).cut (grid1.coords (pt j i)) (out1 m c (pt j i)))
    (congrArg (((cfgN m).win 4).cut (grid1.coords (pt j i))) (after1_4 m c (pt j i))) ?_
  exact funext (cut_out m c hc j i)

/-- The tile of a row and of a column, and their places in it. -/
def rowTile (n : Fin 512) : Fin 1 := ⟨n.val / 512, by omega⟩
def rowIn (n : Fin 512) : Fin 512 := ⟨n.val % 512, by omega⟩
def colTile (d : Fin 13312) : Fin 26 := ⟨d.val / 512, by omega⟩
def colIn (d : Fin 13312) : Fin 512 := ⟨d.val % 512, by omega⟩

theorem mem_blk_out (y : S512x13312.Idx) :
    y ∈ (((cfgN m).win 4).blk (pt (colTile (y 1)) (rowTile (y 0)))).view.set := by
  have e : ((((cfgN m).win 4).blk (pt (colTile (y 1)) (rowTile (y 0)))).view.emb (ValueIdx.ix2 (rowIn (y 0)) (colIn (y 1)) : S512x512.Idx)) = y :=
    funext fun a => Fin.ext (by
      match a with
      | ⟨0, _⟩ => show (BitVec.ofNat 32 (grid1.coords (pt (colTile (y 1)) (rowTile (y 0))) 1).val).toNat * 512 + 1 * ((y 0).val % 512) = (y 0).val
                  rw [word1]; show (y 0).val / 512 * 512 + _ = _; omega
      | ⟨1, _⟩ => show (BitVec.ofNat 32 (grid1.coords (pt (colTile (y 1)) (rowTile (y 0))) 0).val).toNat * 512 + 1 * ((y 1).val % 512) = (y 1).val
                  rw [word0]; show (y 1).val / 512 * 512 + _ = _; omega)
  have h := View.emb_mem_set (((cfgN m).win 4).blk (pt (colTile (y 1)) (rowTile (y 0)))).view (ValueIdx.ix2 (rowIn (y 0)) (colIn (y 1)) : S512x512.Idx)
  rw [e] at h
  exact h

/-- The block moves at every point. -/
theorem moves (t : Fin (cfgN m).N) : ((cfgN m).win 4).flush t = true :=
  ((fun t => (Pipeline.Window.flushOf_reads cc1_transform_4 reads1_4 hreads1_4 0 (by decide) (by decide)
    (Pipeline.Window.sep_of_coord cc1_transform_4 0 1 (fun _ => rfl) (by decide)) (P := 1) (m := 0) (by decide) rfl t).mpr (Nat.mod_one _)) :
      ∀ t : Fin grid1.N, Pipeline.Window.flushOf grid1 true cc1_transform_4 t = true) t

/-- The array the second call leaves. -/
theorem whole_left (c : Dev nD) (hc : Clean (argG m c) (argW m c)) : (dat1 m c).arrAt 4 (cfgN m).N = wholeOf m c :=
  (dat1 m c).arrAt_eq_of_cover 4 (wholeOf m c) (fun t _ => flushed_eq m c hc t) fun (y : S512x13312.Idx) =>
    ⟨pt (colTile (y 1)) (rowTile (y 0)), moves m _, mem_blk_out m y⟩

/-! ## The results -/

/-- The steps' four rows back, of the sixteen each was filled to. -/
def mains (z : FVec Ideal S512x13312 .f32) : FVec Ideal S32x4x13312 .f32 :=
  extractStridedSlice S32x4x13312 ![0, 0, 0] (shapeCast S32x16x13312 z shapeCasts_S512x13312_S32x16x13312) slices_S32x16x13312_S32x4x13312_0_0_0
def steps (z : FVec Ideal S512x1024 .f32) : FVec Ideal S32x4x4x2x128 .f32 :=
  extractStridedSlice S32x4x4x2x128 ![0, 0, 0, 0, 0] (shapeCast S32x16x4x2x128 z shapeCasts_S512x1024_S32x16x4x2x128) slices_S32x16x4x2x128_S32x4x4x2x128_0_0_0_0_0
def lead (z : FVec Ideal S32x4x4x2x128 .f32) : FVec Ideal S1x32x4x4x2x128 .f32 :=
  broadcastInDim S1x32x4x4x2x128 ![1, 2, 3, 4, 5] bcast_S32x4x4x2x128_S1x32x4x4x2x128_1_2_3_4_5 z

/-- The array's columns from 10240, 11264 and 12288 on. -/
def fourth (z : FVec Ideal S512x13312 .f32) : FVec Ideal S1x32x4x4x2x128 .f32 :=
  lead (steps (extractStridedSlice S512x1024 ![0, 10240] z slices_S512x13312_S512x1024_0_10240))
def fifth (z : FVec Ideal S512x13312 .f32) : FVec Ideal S1x32x4x4x2x128 .f32 :=
  lead (steps (extractStridedSlice S512x1024 ![0, 11264] z slices_S512x13312_S512x1024_0_11264))
def sixth (z : FVec Ideal S512x13312 .f32) : FVec Ideal S1x32x4x4x2x128 .f32 :=
  lead (steps (extractStridedSlice S512x1024 ![0, 12288] z slices_S512x13312_S512x1024_0_12288))

/-- A cache with new rows after it, and of all those rows the last 512. -/
def pushed (x : FVec Ideal S1x32x512x4x2x128 .f32) (z : FVec Ideal S32x4x4x2x128 .f32) : FVec Ideal S1x32x512x4x2x128 .f32 :=
  broadcastInDim S1x32x512x4x2x128 ![1, 2, 3, 4, 5] bcast_S32x512x4x2x128_S1x32x512x4x2x128_1_2_3_4_5
    (extractStridedSlice S32x512x4x2x128 ![0, 4, 0, 0, 0]
      (concatenate S32x516x4x2x128 1 [⟨S32x512x4x2x128, shapeCast S32x512x4x2x128 x shapeCasts_S1x32x512x4x2x128_S32x512x4x2x128⟩, ⟨S32x4x4x2x128, z⟩]
        concatenates_S32x512x4x2x128_S32x4x4x2x128_S32x516x4x2x128_d1) slices_S32x516x4x2x128_S32x512x4x2x128_0_4_0_0_0)
def cached (x : FVec Ideal S1x32x512x4x2x128 .f32) (z : FVec Ideal S512x13312 .f32) : FVec Ideal S1x32x512x4x2x128 .f32 :=
  pushed x (shapeCast S32x4x4x2x128 (sixth z) shapeCasts_S1x32x4x4x2x128_S32x4x4x2x128)

section Laid
variable (V : Valuation τ sig (Elt Ideal))

theorem mains_laid : StableHlo.after hostOps2 V (Proc.devRef .tc main_v47) = mains (V (Proc.devRef .tc main_v36)) := by
  unfold mains
  after_results <;> rfl
theorem fourth_laid : StableHlo.after hostOps2 V (Proc.devRef .tc main_v51) = fourth (V (Proc.devRef .tc main_v36)) := by
  unfold fourth lead steps
  after_results <;> rfl
theorem fifth_laid : StableHlo.after hostOps2 V (Proc.devRef .tc main_v55) = fifth (V (Proc.devRef .tc main_v36)) := by
  unfold fifth lead steps
  after_results <;> rfl
theorem cached_laid : StableHlo.after hostOps2 V (Proc.devRef .tc main_v45) = cached (V (Proc.devRef .tc main_arg6)) (V (Proc.devRef .tc main_v36)) := by
  unfold cached pushed sixth lead steps
  after_results <;> rfl
end Laid

theorem whole_found (c : Dev nD) (hc : Clean (argG m c) (argW m c)) : U4 m c (Proc.devRef .tc main_v36) = wholeOf m c :=
  (Pipeline.afterRegion_arr (dat1 m c) (U3 m c) winFacts1.arr_inj 4).trans (whole_left m c hc)

theorem cache_found (c : Dev nD) : U4 m c (Proc.devRef .tc main_arg6) = argC m c :=
  (Pipeline.afterRegion_of_not_arr (dat1 m c) (U3 m c) (show ∀ w, main_arg6 ≠ Pipeline.arrRef spec1 w by decide)).trans <|
    (StableHlo.after_of_writes_sub hostOps1 _ hostOps1_writes (by decide)).trans (kept2 m c main_arg6 (by decide) (by decide) (by decide) (by decide))

theorem result47 (c : Dev nD) (hc : Clean (argG m c) (argW m c)) : U5 m c (Proc.devRef .tc main_v47) = mains (wholeOf m c) :=
  (mains_laid (U4 m c)).trans (congrArg mains (whole_found m c hc))
theorem result51 (c : Dev nD) (hc : Clean (argG m c) (argW m c)) : U5 m c (Proc.devRef .tc main_v51) = fourth (wholeOf m c) :=
  (fourth_laid (U4 m c)).trans (congrArg fourth (whole_found m c hc))
theorem result55 (c : Dev nD) (hc : Clean (argG m c) (argW m c)) : U5 m c (Proc.devRef .tc main_v55) = fifth (wholeOf m c) :=
  (fifth_laid (U4 m c)).trans (congrArg fifth (whole_found m c hc))
theorem result45 (c : Dev nD) (hc : Clean (argG m c) (argW m c)) : U5 m c (Proc.devRef .tc main_v45) = cached (argC m c) (wholeOf m c) :=
  (cached_laid (U4 m c)).trans (congr (congrArg cached (cache_found m c)) (whole_found m c hc))

/-- The kernel ends with the array and its three parts, its arguments unchanged. -/
theorem run (hc : ∀ c : Dev nD, Clean (argG m c) (argW m c)) :
    θ_run defs (onTc (τ := τ) (main (F := Ideal))) ⟨m, fun _ => 0, ρ⟩ (fun r => ∀ c : Dev nD,
      r.2.mem ((c.tc : Thread nD τ).loc main_v47) = mains (wholeOf m c)
      ∧ r.2.mem ((c.tc : Thread nD τ).loc main_v51) = fourth (wholeOf m c)
      ∧ r.2.mem ((c.tc : Thread nD τ).loc main_v55) = fifth (wholeOf m c)
      ∧ r.2.mem ((c.tc : Thread nD τ).loc main_v45) = cached (argC m c) (wholeOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨h1, h2, h3, h4, h5⟩ := h.1 c
    exact ⟨h1.trans (result47 m c (hc c)), h2.trans (result51 m c (hc c)), h3.trans (result55 m c (hc c)), h4.trans (result45 m c (hc c)), h5⟩) (run_result m ρ)

end Cert.Kernel7Ideal.InSample

end
-- ==== Proof.InSample.Parts.lean ====
/- The reference's parts, entry by entry: the scaled rows, the products, the heads normalised, and the parts joined. -/
module

public import proofs.«01_k».proof.Proof.InSample.KernelIdeal.Blocks
public import proofs.«01_k».proof.Proof.Gen.Reference7Ideal.Run

@[expose] public section

set_option maxRecDepth 16384

noncomputable section

namespace Cert.Reference7Ideal.InSample

open Idealize.ShloMosaic Idealize.ShloMosaic.TcCoe Idealize.ShloMosaic.Tactic
open Cert.Reference7Ideal.Gen
open Cert.Kernel7Ideal.InSample (scaled act lin xRow entry Heads gainOf headAt headIn)

/-! ## The rows and the products -/

/-- The rows scaled. -/
def rows (x : FVec Ideal S32x4x4096 .f32) (g : FVec Ideal S1x4096 .f32) : FVec Ideal S32x4x4096 .f32 :=
  mulf (mulf x (broadcastInDim S32x4x4096 ![0, 1, 2] bcast_S32x4x1_S32x4x4096_0_1_2
      (Host.rsqrt (addf (Host.divf (broadcastInDim S32x4x1 ![0, 1] bcast_S32x4_S32x4x1_0_1
        (Host.reduceAdd (mulf x x) (constant S_ .f32 0x00000000#32) reducesTo_S32x4x4096_S32x4_d2 h_S_))
        (broadcastInDim S32x4x1 ![] bcast_S_S32x4x1 (constant S_ .f32 0x45800000#32)))
        (broadcastInDim S32x4x1 ![] bcast_S_S32x4x1 (constant S_ .f32 0x358637BD#32))))))
    (broadcastInDim S32x4x4096 ![0, 1, 2] bcast_S1x1x4096_S32x4x4096_0_1_2
      (broadcastInDim S1x1x4096 ![2] bcast_S4096_S1x1x4096_2 (shapeCast _ g shapeCasts_S1x4096_S4096)))

/-- Row `t` of step `b`, each step's rows filled up to sixteen. -/
def rowAt (b : Fin 32) (t : Fin 4) : Fin 512 := ⟨16 * b.val + t.val, by omega⟩

theorem xRow_at (x : FVec Ideal S32x4x4096 .f32) (b : Fin 32) (t : Fin 4) (j : Fin 4096) : xRow x (rowAt b t) j = x (ValueIdx.ix3 b t j) := by
  have h : (rowAt b t).val % 16 < 4 := by show (16 * b.val + t.val) % 16 < 4; omega
  have hb : (⟨(rowAt b t).val / 16, by omega⟩ : Fin 32) = b := Fin.ext (show (16 * b.val + t.val) / 16 = b.val by omega)
  have ht : (⟨(rowAt b t).val % 16, h⟩ : Fin 4) = t := Fin.ext (show (16 * b.val + t.val) % 16 = t.val by omega)
  unfold xRow
  rw [dif_pos h, hb, ht]

theorem rows_apply (x : FVec Ideal S32x4x4096 .f32) (g : FVec Ideal S1x4096 .f32) (b : Fin 32) (t : Fin 4) (d : Fin 4096) :
    rows x g (ValueIdx.ix3 b t d) = act x g (rowAt b t) d := by
  unfold act
  rw [funext (xRow_at x b t)]
  pointwise [rows]
  rfl

/-- The products. -/
def prods (x : FVec Ideal S32x4x4096 .f32) (g : FVec Ideal S1x4096 .f32) (w : FVec Ideal S1x4096x13360 .f32) : FVec Ideal S32x4x13360 .f32 :=
  Host.dotGeneral dot_S32x4x4096_S4096x13360_S32x4x13360_2_0_01_1_n_n none (rows x g) (shapeCast _ w shapeCasts_S1x4096x13360_S4096x13360)

theorem prods_apply (x : FVec Ideal S32x4x4096 .f32) (g : FVec Ideal S1x4096 .f32) (w : FVec Ideal S1x4096x13360 .f32) (b : Fin 32) (t : Fin 4)
    (k : Fin 13312) : prods x g w (ValueIdx.ix3 b t ⟨k.val, by omega⟩) = lin x g w (rowAt b t) k := by
  refine Eq.trans (b := ∑ d : Fin 4096, rows x g (ValueIdx.ix3 b t d) * w (ValueIdx.ix3 0 d ⟨k.val, by omega⟩)) ?_
    (Finset.sum_congr rfl fun d _ => by rw [rows_apply])
  pointwise [prods]
  rfl

/-! ## The heads -/

/-- Sixteen heads a row, each normalised. -/
def normed16 (y : FVec Ideal S32x4x4x4x128 .f32) (g : FVec Ideal S1x128 .f32) : FVec Ideal S32x4x4x4x128 .f32 :=
  mulf (mulf y (broadcastInDim S32x4x4x4x128 ![0, 1, 2, 3, 4] bcast_S32x4x4x4x1_S32x4x4x4x128_0_1_2_3_4
      (Host.rsqrt (addf (Host.divf (broadcastInDim S32x4x4x4x1 ![0, 1, 2, 3] bcast_S32x4x4x4_S32x4x4x4x1_0_1_2_3
        (Host.reduceAdd (mulf y y) (constant S_ .f32 0x00000000#32) reducesTo_S32x4x4x4x128_S32x4x4x4_d4 h_S_))
        (broadcastInDim S32x4x4x4x1 ![] bcast_S_S32x4x4x4x1 (constant S_ .f32 0x43000000#32)))
        (broadcastInDim S32x4x4x4x1 ![] bcast_S_S32x4x4x4x1 (constant S_ .f32 0x358637BD#32))))))
    (broadcastInDim S32x4x4x4x128 ![0, 1, 2, 3, 4] bcast_S1x1x1x1x128_S32x4x4x4x128_0_1_2_3_4
      (broadcastInDim S1x1x1x1x128 ![4] bcast_S128_S1x1x1x1x128_4 (shapeCast _ g shapeCasts_S1x128_S128)))

theorem normed16_apply (y : FVec Ideal S32x4x4x4x128 .f32) (g : FVec Ideal S1x128 .f32) (b : Fin 32) (t : Fin 4) (p q : Fin 4) (l : Fin 128) :
    normed16 y g (ValueIdx.ix5 b t p q l) = scaled 0x43000000#32 (fun j => y (ValueIdx.ix5 b t p q j)) l (g (ValueIdx.ix2 0 l)) := by
  pointwise [normed16]
  rfl

/-- Four heads a row, each normalised. -/
def normed4 (y : FVec Ideal S32x4x4x128 .f32) (g : FVec Ideal S1x128 .f32) : FVec Ideal S32x4x4x128 .f32 :=
  mulf (mulf y (broadcastInDim S32x4x4x128 ![0, 1, 2, 3] bcast_S32x4x4x1_S32x4x4x128_0_1_2_3
      (Host.rsqrt (addf (Host.divf (broadcastInDim S32x4x4x1 ![0, 1, 2] bcast_S32x4x4_S32x4x4x1_0_1_2
        (Host.reduceAdd (mulf y y) (constant S_ .f32 0x00000000#32) reducesTo_S32x4x4x128_S32x4x4_d3 h_S_))
        (broadcastInDim S32x4x4x1 ![] bcast_S_S32x4x4x1 (constant S_ .f32 0x43000000#32)))
        (broadcastInDim S32x4x4x1 ![] bcast_S_S32x4x4x1 (constant S_ .f32 0x358637BD#32))))))
    (broadcastInDim S32x4x4x128 ![0, 1, 2, 3] bcast_S1x1x1x128_S32x4x4x128_0_1_2_3
      (broadcastInDim S1x1x1x128 ![3] bcast_S128_S1x1x1x128_3 (shapeCast _ g shapeCasts_S1x128_S128)))

theorem normed4_apply (y : FVec Ideal S32x4x4x128 .f32) (g : FVec Ideal S1x128 .f32) (b : Fin 32) (t : Fin 4) (p : Fin 4) (l : Fin 128) :
    normed4 y g (ValueIdx.ix4 b t p l) = scaled 0x43000000#32 (fun j => y (ValueIdx.ix4 b t p j)) l (g (ValueIdx.ix2 0 l)) := by
  pointwise [normed4]
  rfl

/-- A pair of heads' first and second members. -/
def firsts (z : FVec Ideal S32x4x1024 .f32) : FVec Ideal S32x4x4x128 .f32 :=
  shapeCast _ (extractStridedSlice S32x4x4x1x128 ![0, 0, 0, 0, 0] (shapeCast S32x4x4x2x128 z shapeCasts_S32x4x1024_S32x4x4x2x128)
    slices_S32x4x4x2x128_S32x4x4x1x128_0_0_0_0_0) shapeCasts_S32x4x4x1x128_S32x4x4x128
def seconds (z : FVec Ideal S32x4x1024 .f32) : FVec Ideal S32x4x4x128 .f32 :=
  shapeCast _ (extractStridedSlice S32x4x4x1x128 ![0, 0, 0, 1, 0] (shapeCast S32x4x4x2x128 z shapeCasts_S32x4x1024_S32x4x4x2x128)
    slices_S32x4x4x2x128_S32x4x4x1x128_0_0_0_1_0) shapeCasts_S32x4x4x1x128_S32x4x4x128

theorem firsts_apply (z : FVec Ideal S32x4x1024 .f32) (b : Fin 32) (t : Fin 4) (p : Fin 4) (l : Fin 128) :
    firsts z (ValueIdx.ix4 b t p l) = z (ValueIdx.ix3 b t ⟨256 * p.val + l.val, by omega⟩) := by
  pointwise [firsts]
  exact congrArg (fun i => z (ValueIdx.ix3 b t i)) (Fin.ext (show p.val * 256 + l.val = 256 * p.val + l.val by omega))
theorem seconds_apply (z : FVec Ideal S32x4x1024 .f32) (b : Fin 32) (t : Fin 4) (p : Fin 4) (l : Fin 128) :
    seconds z (ValueIdx.ix4 b t p l) = z (ValueIdx.ix3 b t ⟨256 * p.val + 128 + l.val, by omega⟩) := by
  pointwise [seconds]
  exact congrArg (fun i => z (ValueIdx.ix3 b t i)) (Fin.ext (show p.val * 256 + 128 + l.val = 256 * p.val + 128 + l.val by omega))

/-- The pairs, the first member of each normalised. -/
def paired (z : FVec Ideal S32x4x1024 .f32) (g : FVec Ideal S1x128 .f32) : FVec Ideal S32x4x4x2x128 .f32 :=
  concatenate S32x4x4x2x128 3
    [⟨S32x4x4x1x128, broadcastInDim S32x4x4x1x128 ![0, 1, 2, 4] bcast_S32x4x4x128_S32x4x4x1x128_0_1_2_4 (normed4 (firsts z) g)⟩,
     ⟨S32x4x4x1x128, broadcastInDim S32x4x4x1x128 ![0, 1, 2, 4] bcast_S32x4x4x128_S32x4x4x1x128_0_1_2_4 (seconds z)⟩]
    concatenates_S32x4x4x1x128_S32x4x4x1x128_S32x4x4x2x128_d3

theorem paired_apply (z : FVec Ideal S32x4x1024 .f32) (g : FVec Ideal S1x128 .f32) (b : Fin 32) (t : Fin 4) (p : Fin 4) (s : Fin 2) (l : Fin 128) :
    paired z g (ValueIdx.ix5 b t p s l) = if s.val = 0 then scaled 0x43000000#32 (fun j => z (ValueIdx.ix3 b t ⟨256 * p.val + j.val, by omega⟩)) l (g (ValueIdx.ix2 0 l))
      else z (ValueIdx.ix3 b t ⟨256 * p.val + 128 + l.val, by omega⟩) := by
  refine Eq.trans (b := if s.val = 0 then normed4 (firsts z) g (ValueIdx.ix4 b t p l) else seconds z (ValueIdx.ix4 b t p l)) ?_ ?_
  · pointwise [paired]
    by_cases h : s.val = 0
    · exact (dif_pos (show s.val < 1 by omega)).trans (if_pos h).symm
    · exact (dif_neg (show ¬ s.val < 1 by omega)).trans (if_neg h).symm
  · rw [normed4_apply, seconds_apply, funext (firsts_apply z b t p)]

/-- The five parts along the columns. -/
def joined (y0 : FVec Ideal S32x4x8192 .f32) (y1 : FVec Ideal S32x4x2048 .f32) (y2 y3 y4 : FVec Ideal S32x4x1024 .f32) : FVec Ideal S32x4x13312 .f32 :=
  concatenate S32x4x13312 2 [⟨S32x4x8192, y0⟩, ⟨S32x4x2048, y1⟩, ⟨S32x4x1024, y2⟩, ⟨S32x4x1024, y3⟩, ⟨S32x4x1024, y4⟩]
    concatenates_S32x4x8192_S32x4x2048_S32x4x1024_S32x4x1024_S32x4x1024_S32x4x13312_d2

theorem joined_apply (y0 : FVec Ideal S32x4x8192 .f32) (y1 : FVec Ideal S32x4x2048 .f32) (y2 y3 y4 : FVec Ideal S32x4x1024 .f32)
    (b : Fin 32) (t : Fin 4) (k : Fin 13312) :
    joined y0 y1 y2 y3 y4 (ValueIdx.ix3 b t k)
      = if h : k.val < 8192 then y0 (ValueIdx.ix3 b t ⟨k.val, h⟩)
        else if h : k.val < 10240 then y1 (ValueIdx.ix3 b t ⟨k.val - 8192, by omega⟩)
        else if h : k.val < 11264 then y2 (ValueIdx.ix3 b t ⟨k.val - 10240, by omega⟩)
        else if h : k.val < 12288 then y3 (ValueIdx.ix3 b t ⟨k.val - 11264, by omega⟩)
        else y4 (ValueIdx.ix3 b t ⟨k.val - 12288, by omega⟩) := by
  pointwise [joined]
  by_cases h1 : k.val < 8192
  · refine (dif_pos h1).trans (Eq.trans ?_ (dif_pos h1).symm)
    rfl
  refine (dif_neg h1).trans (Eq.trans ?_ (dif_neg h1).symm)
  by_cases h2 : k.val < 10240
  · refine (dif_pos (show k.val - 8192 < 2048 by omega)).trans (Eq.trans ?_ (dif_pos h2).symm)
    rfl
  refine (dif_neg (show ¬ k.val - 8192 < 2048 by omega)).trans (Eq.trans ?_ (dif_neg h2).symm)
  by_cases h3 : k.val < 11264
  · refine (dif_pos (show k.val - 8192 - 2048 < 1024 by omega)).trans (Eq.trans ?_ (dif_pos h3).symm)
    exact congrArg (fun i => y2 (ValueIdx.ix3 b t i)) (Fin.ext (show k.val - 8192 - 2048 = k.val - 10240 by omega))
  refine (dif_neg (show ¬ k.val - 8192 - 2048 < 1024 by omega)).trans (Eq.trans ?_ (dif_neg h3).symm)
  by_cases h4 : k.val < 12288
  · refine (dif_pos (show k.val - 8192 - 2048 - 1024 < 1024 by omega)).trans (Eq.trans ?_ (dif_pos h4).symm)
    exact congrArg (fun i => y3 (ValueIdx.ix3 b t i)) (Fin.ext (show k.val - 8192 - 2048 - 1024 = k.val - 11264 by omega))
  refine (dif_neg (show ¬ k.val - 8192 - 2048 - 1024 < 1024 by omega)).trans (Eq.trans ?_ (dif_neg h4).symm)
  exact congrArg (fun i => y4 (ValueIdx.ix3 b t i)) (Fin.ext (show k.val - 8192 - 2048 - 1024 - 1024 = k.val - 12288 by omega))

/-! ## The five parts of the products -/

section Parts

variable (x : FVec Ideal S32x4x4096 .f32) (g : FVec Ideal S1x4096 .f32) (w : FVec Ideal S1x4096x13360 .f32) (gq gs gw : FVec Ideal S1x128 .f32)

def part0 : FVec Ideal S32x4x8192 .f32 := extractStridedSlice S32x4x8192 ![0, 0, 0] (prods x g w) slices_S32x4x13360_S32x4x8192_0_0_0
def part1 : FVec Ideal S32x4x2048 .f32 := extractStridedSlice S32x4x2048 ![0, 0, 8192] (prods x g w) slices_S32x4x13360_S32x4x2048_0_0_8192
def part2 : FVec Ideal S32x4x1024 .f32 := extractStridedSlice S32x4x1024 ![0, 0, 10240] (prods x g w) slices_S32x4x13360_S32x4x1024_0_0_10240
def part3 : FVec Ideal S32x4x1024 .f32 := extractStridedSlice S32x4x1024 ![0, 0, 11264] (prods x g w) slices_S32x4x13360_S32x4x1024_0_0_11264
def part4 : FVec Ideal S32x4x1024 .f32 := extractStridedSlice S32x4x1024 ![0, 0, 12288] (prods x g w) slices_S32x4x13360_S32x4x1024_0_0_12288

theorem part0_apply (b : Fin 32) (t : Fin 4) (k : Fin 8192) :
    part0 x g w (ValueIdx.ix3 b t k) = lin x g w (rowAt b t) ⟨k.val, by omega⟩ := by
  refine Eq.trans ?_ (prods_apply x g w b t ⟨k.val, by omega⟩)
  pointwise [part0]
  rfl
theorem part1_apply (b : Fin 32) (t : Fin 4) (k : Fin 2048) :
    part1 x g w (ValueIdx.ix3 b t k) = lin x g w (rowAt b t) ⟨8192 + k.val, by omega⟩ := by
  refine Eq.trans ?_ (prods_apply x g w b t ⟨8192 + k.val, by omega⟩)
  pointwise [part1]
  rfl
theorem part2_apply (b : Fin 32) (t : Fin 4) (k : Fin 1024) :
    part2 x g w (ValueIdx.ix3 b t k) = lin x g w (rowAt b t) ⟨10240 + k.val, by omega⟩ := by
  refine Eq.trans ?_ (prods_apply x g w b t ⟨10240 + k.val, by omega⟩)
  pointwise [part2]
  rfl
theorem part3_apply (b : Fin 32) (t : Fin 4) (k : Fin 1024) :
    part3 x g w (ValueIdx.ix3 b t k) = lin x g w (rowAt b t) ⟨11264 + k.val, by omega⟩ := by
  refine Eq.trans ?_ (prods_apply x g w b t ⟨11264 + k.val, by omega⟩)
  pointwise [part3]
  rfl
theorem part4_apply (b : Fin 32) (t : Fin 4) (k : Fin 1024) :
    part4 x g w (ValueIdx.ix3 b t k) = lin x g w (rowAt b t) ⟨12288 + k.val, by omega⟩ := by
  refine Eq.trans ?_ (prods_apply x g w b t ⟨12288 + k.val, by omega⟩)
  pointwise [part4]
  rfl

/-- The query heads, normalised, back along the columns. -/
def queries : FVec Ideal S32x4x2048 .f32 :=
  shapeCast _ (normed16 (shapeCast _ (part1 x g w) shapeCasts_S32x4x2048_S32x4x4x4x128) gq) shapeCasts_S32x4x4x4x128_S32x4x2048

theorem queries_apply (b : Fin 32) (t : Fin 4) (k : Fin 2048) :
    queries x g w gq (ValueIdx.ix3 b t k) = scaled 0x43000000#32 (fun j => part1 x g w (ValueIdx.ix3 b t ⟨128 * (k.val / 128) + j.val, by omega⟩))
      ⟨k.val % 128, Nat.mod_lt _ (by decide)⟩ (gq (ValueIdx.ix2 0 ⟨k.val % 128, Nat.mod_lt _ (by decide)⟩)) := by
  refine Eq.trans (b := normed16 (shapeCast _ (part1 x g w) shapeCasts_S32x4x2048_S32x4x4x4x128) gq
    (ValueIdx.ix5 b t ⟨k.val / 512, by omega⟩ ⟨k.val / 128 % 4, Nat.mod_lt _ (by decide)⟩ ⟨k.val % 128, Nat.mod_lt _ (by decide)⟩)) ?_ ?_
  · pointwise [queries]
    rfl
  · rw [normed16_apply]
    generalize part1 x g w = y
    refine congrArg (fun f => scaled 0x43000000#32 f _ _) (funext fun j => ?_)
    pointwise
    exact congrArg (fun i => y (ValueIdx.ix3 b t i)) (Fin.ext (show k.val / 512 * 512 + k.val / 128 % 4 * 128 + j.val = 128 * (k.val / 128) + j.val by omega))

/-- The pairs, back along the columns. -/
def flat (y : FVec Ideal S32x4x4x2x128 .f32) : FVec Ideal S32x4x1024 .f32 := shapeCast _ y shapeCasts_S32x4x4x2x128_S32x4x1024

theorem flat_apply (y : FVec Ideal S32x4x4x2x128 .f32) (b : Fin 32) (t : Fin 4) (k : Fin 1024) :
    flat y (ValueIdx.ix3 b t k) = y (ValueIdx.ix5 b t ⟨k.val / 256, by omega⟩ ⟨k.val / 128 % 2, Nat.mod_lt _ (by decide)⟩ ⟨k.val % 128, Nat.mod_lt _ (by decide)⟩) := by
  pointwise [flat]
  rfl

/-! ## The results -/

theorem scaled_congr {n : BitVec 32} {y y' : Fin 128 → EReal} {l l' : Fin 128} {a a' : EReal} (hy : ∀ j, y j = y' j) (hl : l = l') (ha : a = a') :
    scaled n y l a = scaled n y' l' a' := by
  rw [funext hy, hl, ha]

/-- Columns `o + 256 p + 128 s + l` of the array. -/
def colAt (o : ℕ) (ho : o ≤ 12288) (p : Fin 4) (s : Fin 2) (l : Fin 128) : Fin 13312 := ⟨o + (256 * p.val + 128 * s.val + l.val), by omega⟩

theorem paired3 (b : Fin 32) (t : Fin 4) (p : Fin 4) (s : Fin 2) (l : Fin 128) :
    paired (part3 x g w) gs (ValueIdx.ix5 b t p s l) = entry x g w gq gs gw (rowAt b t) (colAt 11264 (by decide) p s l) := by
  have hk : (colAt 11264 (by decide) p s l).val = 11264 + (256 * p.val + 128 * s.val + l.val) := rfl
  rw [paired_apply]
  unfold entry
  by_cases h : s.val = 0
  · rw [if_pos h, if_pos (show Heads (colAt 11264 (by decide) p s l).val from Or.inr ⟨by omega, by omega⟩)]
    refine scaled_congr (fun j => (part3_apply x g w b t _).trans (congrArg (lin x g w (rowAt b t)) (Fin.ext ?_))) (Fin.ext ?_) ?_
    · show 11264 + (256 * p.val + j.val) = 128 * ((11264 + (256 * p.val + 128 * s.val + l.val)) / 128) + j.val
      omega
    · show l.val = (11264 + (256 * p.val + 128 * s.val + l.val)) % 128
      omega
    · unfold gainOf
      rw [if_neg (by omega), if_pos (by omega)]
      exact congrArg (fun i => gs (ValueIdx.ix2 0 i)) (Fin.ext (show l.val = (11264 + (256 * p.val + 128 * s.val + l.val)) % 128 by omega))
  · rw [if_neg h, if_neg (show ¬ Heads (colAt 11264 (by decide) p s l).val from by rintro (⟨h1, h2⟩ | ⟨h1, h2⟩) <;> omega)]
    refine (part3_apply x g w b t _).trans (congrArg (lin x g w (rowAt b t)) (Fin.ext ?_))
    show 11264 + (256 * p.val + 128 + l.val) = 11264 + (256 * p.val + 128 * s.val + l.val)
    omega

theorem paired4 (b : Fin 32) (t : Fin 4) (p : Fin 4) (s : Fin 2) (l : Fin 128) :
    paired (part4 x g w) gw (ValueIdx.ix5 b t p s l) = entry x g w gq gs gw (rowAt b t) (colAt 12288 (by decide) p s l) := by
  have hk : (colAt 12288 (by decide) p s l).val = 12288 + (256 * p.val + 128 * s.val + l.val) := rfl
  rw [paired_apply]
  unfold entry
  by_cases h : s.val = 0
  · rw [if_pos h, if_pos (show Heads (colAt 12288 (by decide) p s l).val from Or.inr ⟨by omega, by omega⟩)]
    refine scaled_congr (fun j => (part4_apply x g w b t _).trans (congrArg (lin x g w (rowAt b t)) (Fin.ext ?_))) (Fin.ext ?_) ?_
    · show 12288 + (256 * p.val + j.val) = 128 * ((12288 + (256 * p.val + 128 * s.val + l.val)) / 128) + j.val
      omega
    · show l.val = (12288 + (256 * p.val + 128 * s.val + l.val)) % 128
      omega
    · unfold gainOf
      rw [if_neg (by omega), if_neg (by omega)]
      exact congrArg (fun i => gw (ValueIdx.ix2 0 i)) (Fin.ext (show l.val = (12288 + (256 * p.val + 128 * s.val + l.val)) % 128 by omega))
  · rw [if_neg h, if_neg (show ¬ Heads (colAt 12288 (by decide) p s l).val from by rintro (⟨h1, h2⟩ | ⟨h1, h2⟩) <;> omega)]
    refine (part4_apply x g w b t _).trans (congrArg (lin x g w (rowAt b t)) (Fin.ext ?_))
    show 12288 + (256 * p.val + 128 + l.val) = 12288 + (256 * p.val + 128 * s.val + l.val)
    omega

/-- The reference's array. -/
def array : FVec Ideal S32x4x13312 .f32 :=
  joined (part0 x g w) (queries x g w gq) (part2 x g w) (flat (paired (part3 x g w) gs)) (flat (paired (part4 x g w) gw))

theorem array_apply (b : Fin 32) (t : Fin 4) (k : Fin 13312) : array x g w gq gs gw (ValueIdx.ix3 b t k) = entry x g w gq gs gw (rowAt b t) k := by
  unfold array
  rw [joined_apply]
  by_cases h1 : k.val < 8192
  · rw [dif_pos h1, part0_apply]
    unfold entry
    rw [if_neg (show ¬ Heads k.val from by rintro (⟨h1, h2⟩ | ⟨h1, h2⟩) <;> omega)]
  rw [dif_neg h1]
  by_cases h2 : k.val < 10240
  · rw [dif_pos h2, queries_apply]
    unfold entry
    rw [if_pos (show Heads k.val from Or.inl ⟨by omega, h2⟩)]
    refine scaled_congr (fun j => (part1_apply x g w _ _ _).trans ?_) (Fin.ext ?_) ?_
    · refine congrArg (lin x g w (rowAt b t)) (Fin.ext ?_)
      show 8192 + (128 * ((k.val - 8192) / 128) + j.val) = 128 * (k.val / 128) + j.val
      omega
    · show (k.val - 8192) % 128 = k.val % 128
      omega
    · unfold gainOf
      rw [if_pos h2]
      exact congrArg (fun i => gq (ValueIdx.ix2 0 i)) (Fin.ext (show (k.val - 8192) % 128 = k.val % 128 by omega))
  rw [dif_neg h2]
  by_cases h3 : k.val < 11264
  · rw [dif_pos h3, part2_apply]
    unfold entry
    rw [if_neg (show ¬ Heads k.val from by rintro (⟨h1, h2⟩ | ⟨h1, h2⟩) <;> omega)]
    exact congrArg (lin x g w (rowAt b t)) (Fin.ext (show 10240 + (k.val - 10240) = k.val by omega))
  rw [dif_neg h3]
  by_cases h4 : k.val < 12288
  · rw [dif_pos h4, flat_apply, paired3 x g w gq gs gw]
    refine congrArg (entry x g w gq gs gw (rowAt b t)) (Fin.ext ?_)
    show 11264 + (256 * ((k.val - 11264) / 256) + 128 * ((k.val - 11264) / 128 % 2) + (k.val - 11264) % 128) = k.val
    omega
  · rw [dif_neg h4, flat_apply, paired4 x g w gq gs gw]
    refine congrArg (entry x g w gq gs gw (rowAt b t)) (Fin.ext ?_)
    show 12288 + (256 * ((k.val - 12288) / 256) + 128 * ((k.val - 12288) / 128 % 2) + (k.val - 12288) % 128) = k.val
    omega

/-- The three parts it returns by themselves, the last after the cache it is pushed into. -/
def back2 : FVec Ideal S1x32x4x4x2x128 .f32 :=
  broadcastInDim S1x32x4x4x2x128 ![1, 2, 3, 4, 5] bcast_S32x4x4x2x128_S1x32x4x4x2x128_1_2_3_4_5
    (shapeCast S32x4x4x2x128 (part2 x g w) shapeCasts_S32x4x1024_S32x4x4x2x128)
def back3 : FVec Ideal S1x32x4x4x2x128 .f32 :=
  broadcastInDim S1x32x4x4x2x128 ![1, 2, 3, 4, 5] bcast_S32x4x4x2x128_S1x32x4x4x2x128_1_2_3_4_5 (paired (part3 x g w) gs)
def back4 (cw : FVec Ideal S1x32x512x4x2x128 .f32) : FVec Ideal S1x32x512x4x2x128 .f32 :=
  broadcastInDim S1x32x512x4x2x128 ![1, 2, 3, 4, 5] bcast_S32x512x4x2x128_S1x32x512x4x2x128_1_2_3_4_5
    (extractStridedSlice S32x512x4x2x128 ![0, 4, 0, 0, 0]
      (concatenate S32x516x4x2x128 1 [⟨S32x512x4x2x128, shapeCast _ cw shapeCasts_S1x32x512x4x2x128_S32x512x4x2x128⟩, ⟨S32x4x4x2x128, paired (part4 x g w) gw⟩]
        concatenates_S32x512x4x2x128_S32x4x4x2x128_S32x516x4x2x128_d1) slices_S32x516x4x2x128_S32x512x4x2x128_0_4_0_0_0)

theorem back2_apply (b : Fin 32) (t : Fin 4) (p : Fin 4) (s : Fin 2) (l : Fin 128) :
    back2 x g w (ValueIdx.ix6 0 b t p s l) = entry x g w gq gs gw (rowAt b t) (colAt 10240 (by decide) p s l) := by
  unfold entry
  have hk : (colAt 10240 (by decide) p s l).val = 10240 + (256 * p.val + 128 * s.val + l.val) := rfl
  rw [if_neg (show ¬ Heads (colAt 10240 (by decide) p s l).val from by rintro (⟨h1, h2⟩ | ⟨h1, h2⟩) <;> omega)]
  refine Eq.trans ?_ (part2_apply x g w b t ⟨256 * p.val + 128 * s.val + l.val, by omega⟩)
  unfold back2
  generalize part2 x g w = y
  pointwise
  exact congrArg (fun i => y (ValueIdx.ix3 b t i)) (Fin.ext (show p.val * 256 + s.val * 128 + l.val = 256 * p.val + 128 * s.val + l.val by omega))

theorem back3_apply (b : Fin 32) (t : Fin 4) (p : Fin 4) (s : Fin 2) (l : Fin 128) :
    back3 x g w gs (ValueIdx.ix6 0 b t p s l) = entry x g w gq gs gw (rowAt b t) (colAt 11264 (by decide) p s l) := by
  refine Eq.trans ?_ (paired3 x g w gq gs gw b t p s l)
  unfold back3
  generalize paired (part3 x g w) gs = y
  pointwise
  rfl

end Parts

end Cert.Reference7Ideal.InSample

end
-- ==== Proof.InSample.Agree.lean ====
/- The reference's results are the kernel's. -/
module

public import proofs.«01_k».proof.Proof.InSample.KernelIdeal.Result
public import proofs.«01_k».proof.Proof.InSample.Parts

@[expose] public section

set_option maxRecDepth 16384

noncomputable section

namespace Cert.Kernel7Ideal.InSample

open Idealize.ShloMosaic Idealize.ShloMosaic.TcCoe Idealize.ShloMosaic.Tactic
open Idealize.SL Idealize.SL.Sem
open Cert.Kernel7Ideal.Gen
open Cert.Reference7Ideal.InSample (rowAt colAt array back2 back3 back4 part4 paired paired4 array_apply back2_apply back3_apply)

theorem mains_apply (z : FVec Ideal S512x13312 .f32) (b : Fin 32) (t : Fin 4) (k : Fin 13312) :
    mains z (ValueIdx.ix3 b t k) = z (ValueIdx.ix2 (rowAt b t) k) := by
  pointwise [mains]
  refine congrArg z (funext fun a => Fin.ext ?_)
  match a with
  | ⟨0, _⟩ => show b.val * 16 + t.val = 16 * b.val + t.val; omega
  | ⟨1, _⟩ => rfl

theorem fourth_apply (z : FVec Ideal S512x13312 .f32) (b : Fin 32) (t : Fin 4) (p : Fin 4) (s : Fin 2) (l : Fin 128) :
    fourth z (ValueIdx.ix6 0 b t p s l) = z (ValueIdx.ix2 (rowAt b t) (colAt 10240 (by decide) p s l)) := by
  pointwise [fourth, lead, steps]
  refine congrArg z (funext fun a => Fin.ext ?_)
  match a with
  | ⟨0, _⟩ => show b.val * 16 + t.val = 16 * b.val + t.val; omega
  | ⟨1, _⟩ => show 10240 + (p.val * 256 + s.val * 128 + l.val) = 10240 + (256 * p.val + 128 * s.val + l.val); omega
theorem fifth_apply (z : FVec Ideal S512x13312 .f32) (b : Fin 32) (t : Fin 4) (p : Fin 4) (s : Fin 2) (l : Fin 128) :
    fifth z (ValueIdx.ix6 0 b t p s l) = z (ValueIdx.ix2 (rowAt b t) (colAt 11264 (by decide) p s l)) := by
  pointwise [fifth, lead, steps]
  refine congrArg z (funext fun a => Fin.ext ?_)
  match a with
  | ⟨0, _⟩ => show b.val * 16 + t.val = 16 * b.val + t.val; omega
  | ⟨1, _⟩ => show 11264 + (p.val * 256 + s.val * 128 + l.val) = 11264 + (256 * p.val + 128 * s.val + l.val); omega
theorem sixth_apply (z : FVec Ideal S512x13312 .f32) (b : Fin 32) (t : Fin 4) (p : Fin 4) (s : Fin 2) (l : Fin 128) :
    (shapeCast S32x4x4x2x128 (sixth z) shapeCasts_S1x32x4x4x2x128_S32x4x4x2x128 : FVec Ideal S32x4x4x2x128 .f32) (ValueIdx.ix5 b t p s l) = z (ValueIdx.ix2 (rowAt b t) (colAt 12288 (by decide) p s l)) := by
  pointwise [sixth, lead, steps]
  refine congrArg z (funext fun a => Fin.ext ?_)
  match a with
  | ⟨0, _⟩ => show b.val * 16 + t.val = 16 * b.val + t.val; omega
  | ⟨1, _⟩ => show 12288 + (p.val * 256 + s.val * 128 + l.val) = 12288 + (256 * p.val + 128 * s.val + l.val); omega

theorem six (y : S1x32x4x4x2x128.Idx) : ∃ (b : Fin 32) (t : Fin 4) (p : Fin 4) (s : Fin 2) (l : Fin 128), y = ValueIdx.ix6 0 b t p s l :=
  ⟨y 1, y 2, y 3, y 4, y 5, funext fun a => by
    match a with
    | ⟨0, _⟩ => exact Fin.ext (show (y 0).val = 0 by have h : (y 0).val < 1 := (y 0).isLt; omega)
    | ⟨1, _⟩ => rfl
    | ⟨2, _⟩ => rfl
    | ⟨3, _⟩ => rfl
    | ⟨4, _⟩ => rfl
    | ⟨5, _⟩ => rfl⟩

variable (x : FVec Ideal S32x4x4096 .f32) (g : FVec Ideal S1x4096 .f32) (w : FVec Ideal S1x4096x13360 .f32) (gq gs gw : FVec Ideal S1x128 .f32)
  (cw : FVec Ideal S1x32x512x4x2x128 .f32)

theorem array_eq : array x g w gq gs gw = mains (whole x g w gq gs gw) := by
  funext y
  obtain ⟨b, t, k, rfl⟩ : ∃ (b : Fin 32) (t : Fin 4) (k : Fin 13312), y = ValueIdx.ix3 b t k :=
    ⟨y 0, y 1, y 2, funext fun a => by match a with | ⟨0, _⟩ => rfl | ⟨1, _⟩ => rfl | ⟨2, _⟩ => rfl⟩
  exact (array_apply x g w gq gs gw b t k).trans (mains_apply (whole x g w gq gs gw) b t k).symm

theorem back2_eq : back2 x g w = fourth (whole x g w gq gs gw) := by
  funext y
  obtain ⟨b, t, p, s, l, rfl⟩ := six y
  exact (back2_apply x g w gq gs gw b t p s l).trans (fourth_apply (whole x g w gq gs gw) b t p s l).symm
theorem back3_eq : back3 x g w gs = fifth (whole x g w gq gs gw) := by
  funext y
  obtain ⟨b, t, p, s, l, rfl⟩ := six y
  exact (back3_apply x g w gq gs gw b t p s l).trans (fifth_apply (whole x g w gq gs gw) b t p s l).symm

theorem new_eq : paired (part4 x g w) gw = shapeCast S32x4x4x2x128 (sixth (whole x g w gq gs gw)) shapeCasts_S1x32x4x4x2x128_S32x4x4x2x128 := by
  funext y
  obtain ⟨b, t, p, s, l, rfl⟩ : ∃ (b : Fin 32) (t : Fin 4) (p : Fin 4) (s : Fin 2) (l : Fin 128), y = ValueIdx.ix5 b t p s l :=
    ⟨y 0, y 1, y 2, y 3, y 4, funext fun a => by
      match a with | ⟨0, _⟩ => rfl | ⟨1, _⟩ => rfl | ⟨2, _⟩ => rfl | ⟨3, _⟩ => rfl | ⟨4, _⟩ => rfl⟩
  exact (paired4 x g w gq gs gw b t p s l).trans (sixth_apply (whole x g w gq gs gw) b t p s l).symm

theorem back4_eq : back4 x g w gw cw = cached cw (whole x g w gq gs gw) :=
  Eq.trans (b := pushed cw (paired (part4 x g w) gw)) rfl (congrArg (pushed cw) (new_eq x g w gq gs gw))

end Cert.Kernel7Ideal.InSample

namespace Cert.Reference7Ideal.InSample

open Idealize.ShloMosaic Idealize.ShloMosaic.TcCoe Idealize.ShloMosaic.Tactic
open Idealize.SL Idealize.SL.Sem
open Cert.Reference7Ideal.Gen

variable (m : (ℓ : Loc nD τ sig) → Buf (Elt Ideal) ℓ) (ρ : Dev nD → PrngReg)

abbrev argX (c : Dev nD) : FVec Ideal S32x4x4096 .f32 := m ((c.tc : Thread nD τ).loc main_arg0)
abbrev argG (c : Dev nD) : FVec Ideal S1x4096 .f32 := m ((c.tc : Thread nD τ).loc main_arg1)
abbrev argW (c : Dev nD) : FVec Ideal S1x4096x13360 .f32 := m ((c.tc : Thread nD τ).loc main_arg2)
abbrev argQ (c : Dev nD) : FVec Ideal S1x128 .f32 := m ((c.tc : Thread nD τ).loc main_arg3)
abbrev argS (c : Dev nD) : FVec Ideal S1x128 .f32 := m ((c.tc : Thread nD τ).loc main_arg4)
abbrev argV (c : Dev nD) : FVec Ideal S1x128 .f32 := m ((c.tc : Thread nD τ).loc main_arg5)
abbrev argC (c : Dev nD) : FVec Ideal S1x32x512x4x2x128 .f32 := m ((c.tc : Thread nD τ).loc main_arg6)

/-- The reference ends with its array and the three parts, its arguments unchanged. -/
theorem run : θ_run defs (onTc (τ := τ) (main (F := Ideal))) ⟨m, fun _ => 0, ρ⟩ (fun r => ∀ c : Dev nD,
      r.2.mem ((c.tc : Thread nD τ).loc main_v85) = array (argX m c) (argG m c) (argW m c) (argQ m c) (argS m c) (argV m c)
      ∧ r.2.mem ((c.tc : Thread nD τ).loc main_v89) = back2 (argX m c) (argG m c) (argW m c)
      ∧ r.2.mem ((c.tc : Thread nD τ).loc main_v90) = back3 (argX m c) (argG m c) (argW m c) (argS m c)
      ∧ r.2.mem ((c.tc : Thread nD τ).loc main_v91) = back4 (argX m c) (argG m c) (argW m c) (argV m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨h1, h2, h3, h4, h5⟩ := h c
    exact ⟨h1.trans (by unfold Value.res_main_v85; rfl), h2.trans rfl, h3.trans (by unfold Value.res_main_v90; rfl),
      h4.trans (by unfold Value.res_main_v91; rfl), h5⟩) (Value.run m ρ)

end Cert.Reference7Ideal.InSample

end
-- ==== Proof.OutProj.Blocks.lean ====
/- The output projection's points: column tile `j` is the outer grid coordinate, row tile `i` the inner one. A point leaves
   the product of its 1024 rows with the 512 weight columns of its tile, which the tile's first point has put in scratch. -/
module

public import proofs.«01_k».proof.Proof.Gen.Kernel3Ideal.Frame
public import Idealize.ShloMosaic.Lib.Pointwise

@[expose] public section

set_option maxRecDepth 16384

noncomputable section

namespace Cert.Kernel3Ideal.OutProj

open Idealize.ShloMosaic Idealize.ShloMosaic.TcCoe Idealize.ShloMosaic.Tactic
open Idealize.SL Idealize.SL.Sem
open Cert.Kernel3Ideal.Gen

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The point of column tile `j` and row tile `i`. -/
def pt (j i : Fin 8) : Fin grid0.N := ⟨8 * j.val + i.val, by rw [N_0]; omega⟩

theorem pt_val (j i : Fin 8) : (pt j i).val = 8 * j.val + i.val := rfl

/-- Its coordinates. -/
theorem coords_pt (j i : Fin 8) : (grid0.coords (pt j i) 0).val = j.val ∧ (grid0.coords (pt j i) 1).val = i.val := by
  have e0 : (grid0.coords (pt j i) 0).val = (pt j i).val / 8 % 8 := Pipeline.Grid.coords_val (pt j i) 0 (by decide) rfl
  have e1 : (grid0.coords (pt j i) 1).val = (pt j i).val / 1 % 8 := Pipeline.Grid.coords_val (pt j i) 1 (by decide) rfl
  rw [pt_val] at e0 e1
  omega

theorem word0 (j i : Fin 8) : (BitVec.ofNat 32 (grid0.coords (pt j i) 0).val).toNat = j.val := by
  rw [(coords_pt j i).1, BitVec.toNat_ofNat, Nat.mod_eq_of_lt (by omega)]
theorem word1 (j i : Fin 8) : (BitVec.ofNat 32 (grid0.coords (pt j i) 1).val).toNat = i.val := by
  rw [(coords_pt j i).2, BitVec.toNat_ofNat, Nat.mod_eq_of_lt (by omega)]
theorem word1' (j i : Fin 8) : (Scalar.addi 0#32 (BitVec.ofNat 32 (grid0.coords (pt j i) 1).val)).toNat = i.val := by
  rw [show Scalar.addi 0#32 (BitVec.ofNat 32 (grid0.coords (pt j i) 1).val) = BitVec.ofNat 32 (grid0.coords (pt j i) 1).val from
    BitVec.zero_add _]
  exact word1 j i

/-- Row `r` of row tile `i`, and column `k` of column tile `j`. -/
def row (i : Fin 8) (r : Fin 1024) : Fin 8192 := ⟨1024 * i.val + r.val, by omega⟩
def col (j : Fin 8) (k : Fin 512) : Fin 4096 := ⟨512 * j.val + k.val, by omega⟩

/-- The rows and the weights on a device. -/
abbrev argX (c : Dev nD) : Vec Ideal S8192x4096 .bf16 := m ((c.tc : Thread nD τ).loc main_arg0)
abbrev argW (c : Dev nD) : Vec Ideal S1x4096x4096 .f32 := m ((c.tc : Thread nD τ).loc main_arg1)

/-- The weights as the call finds them: the argument without its first axis. -/
theorem weights (c : Dev nD) : (V m c main_v0 : Vec Ideal S4096x4096 .f32) = shapeCast _ (argW m c) shapeCasts_S1x4096x4096_S4096x4096 := by
  show StableHlo.after hostOps0 (fun b => m (c, b)) (Proc.devRef .tc main_v0) = _
  after_results <;> rfl

/-- The blocks a point reads: its rows and its weight columns. -/
abbrev xs (hO : Ok m) (c : Dev nD) (t : Fin (cfgM m hO).N) : Vec Ideal S1024x4096 .bf16 := iblk m hO c 0 t
abbrev ws (hO : Ok m) (c : Dev nD) (t : Fin (cfgM m hO).N) : Vec Ideal S4096x512 .f32 := iblk m hO c 1 t

theorem xs_apply (hO : Ok m) (c : Dev nD) (j i : Fin 8) (r : Fin 1024) (d : Fin 4096) :
    xs m hO c (pt j i) (ValueIdx.ix2 r d) = argX m c (ValueIdx.ix2 (row i r) d) := by
  refine Eq.trans (b := (V m c main_arg0 : Vec Ideal S8192x4096 .bf16) (ValueIdx.ix2 (row i r) d)) ?_
    (congrFun (V_main_arg0 m c) (ValueIdx.ix2 (row i r) d : S8192x4096.Idx))
  refine (View.read_apply ..).trans (congrArg (V m c main_arg0) (funext fun a => Fin.ext ?_))
  match a with
  | ⟨0, _⟩ => show (Scalar.addi 0#32 (BitVec.ofNat 32 (grid0.coords (pt j i) 1).val)).toNat * 1024 + 1 * r.val = 1024 * i.val + r.val
              rw [word1']; omega
  | ⟨1, _⟩ => show 0 * 4096 + 1 * d.val = d.val
              omega

theorem ws_apply (hO : Ok m) (c : Dev nD) (j i : Fin 8) (d : Fin 4096) (k : Fin 512) :
    ws m hO c (pt j i) (ValueIdx.ix2 d k) = argW m c (ValueIdx.ix3 0 d (col j k)) := by
  refine Eq.trans (b := (V m c main_v0 : Vec Ideal S4096x4096 .f32) (ValueIdx.ix2 d (col j k))) ?_
    ((congrFun (weights m c) (ValueIdx.ix2 d (col j k) : S4096x4096.Idx)).trans (by pointwise; rfl))
  refine (View.read_apply ..).trans (congrArg (V m c main_v0) (funext fun a => Fin.ext ?_))
  match a with
  | ⟨0, _⟩ => show 0 * 4096 + 1 * d.val = d.val
              omega
  | ⟨1, _⟩ => show (BitVec.ofNat 32 (grid0.coords (pt j i) 0).val).toNat * 512 + 1 * k.val = 512 * j.val + k.val
              rw [word0]; omega

/-- The scratch a tile's first point stores. -/
theorem pay1_apply (w : Vec Ideal S4096x512 .f32) (d : Fin 4096) (k : Fin 512) :
    k0_pay1 w (ValueIdx.ix3 0 d k) = w (ValueIdx.ix2 d k) := by
  pointwise [k0_pay1]
  rfl

/-- The product of a block of rows with the scratch. -/
theorem pay2_apply (x : Vec Ideal S1024x4096 .bf16) (w : Vec Ideal S1x4096x512 .bf16) (r : Fin 1024) (k : Fin 512) :
    k0_pay2 x w (ValueIdx.ix2 r k) = ∑ d : Fin 4096, x (ValueIdx.ix2 r d) * w (ValueIdx.ix3 0 d k) := by
  pointwise [k0_pay2]
  rfl

/-- What a first point leaves in the output block and in the scratch, -/
theorem out_first (c : Dev nD) (i : grid0.Coords) (a3 : Memref sig .tc .vmem S1024x4096 .bf16) (h3 : a3.IsWhole) (a4 : Memref sig .tc .vmem S4096x512 .f32) (h4 : a4.IsWhole)
    (a5 : Memref sig .tc .vmem S1024x512 .f32) (h5 : a5.IsWhole) (a6 : Memref sig .tc .vmem S1x4096x512 .bf16) (h6 : a6.IsWhole) (hc : cond0_0 i)
    (x0 : Vec Ideal S1024x4096 .bf16) (x1 : Vec Ideal S4096x512 .f32) (xt : TbBuf0 (F := Ideal) c tbM0_0) :
    out0_A_2 c i a3 h3 a4 h4 a5 h5 a6 h6 hc x0 x1 xt = k0_pay2 x0 (k0_pay1 x1) := by
  unfold out0_A_2
  rw [View.read_writes_junk_eq_canon]
  unfold kernelRun0_A
  dsimp only
  sl_unfold_words
  simp only [View.readAt_eq_ld, h3.read_unread, h4.read_unread, View.ld_unit_zero (S := S1024x4096) zero2,
    View.ld_unit_zero (S := S4096x512) zero2, View.readCov_eq_canon']
  simp only [View.canon_unit_zero (S := S1024x512) zero2, View.canon_unit_zero (S := S1x4096x512) zero3]
  refine congrArg (k0_pay2 x0) (funext fun y => congrArg (k0_pay1 x1) (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem scratch_first (c : Dev nD) (i : grid0.Coords) (a3 : Memref sig .tc .vmem S1024x4096 .bf16) (h3 : a3.IsWhole) (a4 : Memref sig .tc .vmem S4096x512 .f32) (h4 : a4.IsWhole)
    (a5 : Memref sig .tc .vmem S1024x512 .f32) (h5 : a5.IsWhole) (a6 : Memref sig .tc .vmem S1x4096x512 .bf16) (h6 : a6.IsWhole) (hc : cond0_0 i)
    (x0 : Vec Ideal S1024x4096 .bf16) (x1 : Vec Ideal S4096x512 .f32) (xt : TbBuf0 (F := Ideal) c tbM0_0) :
    sout0_A_0 c i a3 h3 a4 h4 a5 h5 a6 h6 hc x0 x1 xt = k0_pay1 x1 := by
  unfold sout0_A_0
  rw [View.read_writes_junk_eq_canon]
  unfold kernelRun0_A
  dsimp only
  sl_unfold_words
  simp only [View.readAt_eq_ld, h4.read_unread, View.ld_unit_zero (S := S4096x512) zero2,
    View.canon_unit_zero (S := S1x4096x512) zero3]

/-- and a later point in the output block, from the scratch it found. -/
theorem out_later (c : Dev nD) (i : grid0.Coords) (a3 : Memref sig .tc .vmem S1024x4096 .bf16) (h3 : a3.IsWhole) (a4 : Memref sig .tc .vmem S4096x512 .f32) (h4 : a4.IsWhole)
    (a5 : Memref sig .tc .vmem S1024x512 .f32) (h5 : a5.IsWhole) (a6 : Memref sig .tc .vmem S1x4096x512 .bf16) (h6 : a6.IsWhole) (hc : ¬cond0_0 i)
    (x0 : Vec Ideal S1024x4096 .bf16) (x1 : Vec Ideal S4096x512 .f32) (xt : TbBuf0 (F := Ideal) c tbM0_0) (s : Vec Ideal S1x4096x512 .bf16) :
    out0_B_2 c i a3 h3 a4 h4 a5 h5 a6 h6 hc x0 x1 xt s = k0_pay2 x0 s := by
  unfold out0_B_2
  rw [View.read_writes_junk_eq_canon]
  unfold kernelRun0_B
  dsimp only
  sl_unfold_words
  simp only [View.readAt_eq_ld, h3.read_unread, h6.read_unread, View.ld_unit_zero (S := S1024x4096) zero2,
    View.ld_unit_zero (S := S1x4096x512) zero3, View.canon_unit_zero (S := S1024x512) zero2]

end Cert.Kernel3Ideal.OutProj

end
-- ==== Proof.OutProj.Result.lean ====
/- The output projection's result: every block is written once, so the array holds at each row and column the product of the
   row with the weight column, which is what the reference computes. -/
module

public import proofs.«01_k».proof.Proof.OutProj.Blocks
public import proofs.«01_k».proof.Proof.Gen.Reference3Ideal.Run

@[expose] public section

set_option maxRecDepth 16384

noncomputable section

namespace Cert.Kernel3Ideal.OutProj

open Idealize.ShloMosaic Idealize.ShloMosaic.TcCoe Idealize.ShloMosaic.Tactic
open Idealize.SL Idealize.SL.Sem
open Cert.Kernel3Ideal.Gen

variable (m : (ℓ : Loc nD τ sig) → Buf (Elt Ideal) ℓ) (ρ : Dev nD → PrngReg)

/-- The table is read by no index map. -/
theorem ok : Ok m := trivial

/-- The scratch and the output block after a point. -/
def scratchAt (hO : Ok m) (c : Dev nD) (n : ℕ) (hn : n < (cfgM m hO).N) : Vec Ideal S1x4096x512 .bf16 := (outsAt0 m hO c n hn).2
def blockAt (hO : Ok m) (c : Dev nD) (n : ℕ) (hn : n < (cfgM m hO).N) : Vec Ideal S1024x512 .f32 := (outsAt0 m hO c n hn).1

theorem scratchAt_congr (hO : Ok m) (c : Dev nD) {n n' : ℕ} (e : n = n') (h : n < (cfgM m hO).N) (h' : n' < (cfgM m hO).N) :
    scratchAt m hO c n h = scratchAt m hO c n' h' := by
  subst e; rfl

theorem scratchAt_first (hO : Ok m) (c : Dev nD) (t : Fin (cfgM m hO).N) (h0 : t.val % 8 = 0) :
    scratchAt m hO c t.val t.isLt = k0_pay1 (ws m hO c t) := by
  have h := congrArg Prod.snd (outsAt0_A m hO c t h0)
  dsimp only at h
  exact h.trans (scratch_first c (grid0.coords t) (ms0_0 m hO t) (hs0_0 m hO t) (ms0_1 m hO t) (hs0_1 m hO t) (ms0_2 m hO t) (hs0_2 m hO t) scM0_0 (Memref.isWhole_whole _)
    ((hcond0_0 t).mpr h0) (iblk m hO c 0 t) (iblk m hO c 1 t) (tbl m 0))

theorem scratchAt_later (hO : Ok m) (c : Dev nD) (t : Fin (cfgM m hO).N) (h0 : ¬ t.val % 8 = 0) :
    scratchAt m hO c t.val t.isLt = scratchAt m hO c (t.val - 1) (Nat.lt_of_le_of_lt (Nat.sub_le _ _) t.isLt) := by
  have h := congrArg Prod.snd (outsAt0_B m hO c t h0)
  dsimp only at h
  exact h

theorem blockAt_first (hO : Ok m) (c : Dev nD) (t : Fin (cfgM m hO).N) (h0 : t.val % 8 = 0) :
    blockAt m hO c t.val t.isLt = k0_pay2 (xs m hO c t) (k0_pay1 (ws m hO c t)) := by
  have h := congrArg Prod.fst (outsAt0_A m hO c t h0)
  dsimp only at h
  exact h.trans (out_first c (grid0.coords t) (ms0_0 m hO t) (hs0_0 m hO t) (ms0_1 m hO t) (hs0_1 m hO t) (ms0_2 m hO t) (hs0_2 m hO t) scM0_0 (Memref.isWhole_whole _)
    ((hcond0_0 t).mpr h0) (iblk m hO c 0 t) (iblk m hO c 1 t) (tbl m 0))

theorem blockAt_later (hO : Ok m) (c : Dev nD) (t : Fin (cfgM m hO).N) (h0 : ¬ t.val % 8 = 0) :
    blockAt m hO c t.val t.isLt = k0_pay2 (xs m hO c t) (scratchAt m hO c (t.val - 1) (Nat.lt_of_le_of_lt (Nat.sub_le _ _) t.isLt)) := by
  have h := congrArg Prod.fst (outsAt0_B m hO c t h0)
  dsimp only at h
  exact h.trans (out_later c (grid0.coords t) (ms0_0 m hO t) (hs0_0 m hO t) (ms0_1 m hO t) (hs0_1 m hO t) (ms0_2 m hO t) (hs0_2 m hO t) scM0_0 (Memref.isWhole_whole _)
    (fun h => h0 ((hcond0_0 t).mp h)) (iblk m hO c 0 t) (iblk m hO c 1 t) (tbl m 0) _)

/-- The scratch after every point of a column tile holds the tile's weight columns. -/
theorem scratch_apply (hO : Ok m) (c : Dev nD) (j : Fin 8) (d : Fin 4096) (k : Fin 512) : ∀ (n : ℕ) (hn : n < 8),
    scratchAt m hO c (pt j ⟨n, hn⟩).val (pt j ⟨n, hn⟩).isLt (ValueIdx.ix3 0 d k) = argW m c (ValueIdx.ix3 0 d (col j k))
  | 0, hn => by
    rw [scratchAt_first m hO c (pt j ⟨0, hn⟩) (by rw [pt_val]; show (8 * j.val + 0) % 8 = 0; omega), pay1_apply, ws_apply]
  | n + 1, hn => by
    rw [scratchAt_later m hO c (pt j ⟨n + 1, hn⟩) (by rw [pt_val]; show ¬ (8 * j.val + (n + 1)) % 8 = 0; omega),
      ← scratch_apply hO c j d k n (by omega)]
    exact congrFun (scratchAt_congr m hO c (by rw [pt_val, pt_val]; show 8 * j.val + (n + 1) - 1 = 8 * j.val + n; omega) _ _) _

/-- The output block after a point. -/
theorem block_apply (hO : Ok m) (c : Dev nD) (j i : Fin 8) (r : Fin 1024) (k : Fin 512) :
    blockAt m hO c (pt j i).val (pt j i).isLt (ValueIdx.ix2 r k)
      = ∑ d : Fin 4096, argX m c (ValueIdx.ix2 (row i r) d) * argW m c (ValueIdx.ix3 0 d (col j k)) := by
  by_cases h : i.val = 0
  · rw [blockAt_first m hO c (pt j i) (by rw [pt_val]; omega), pay2_apply]
    exact Finset.sum_congr rfl fun d _ => by rw [pay1_apply, ws_apply, xs_apply]
  · rw [blockAt_later m hO c (pt j i) (by rw [pt_val]; omega), pay2_apply]
    refine Finset.sum_congr rfl fun d _ => ?_
    rw [xs_apply, ← scratch_apply m hO c j d k (i.val - 1) (by omega)]
    exact congrArg (argX m c (ValueIdx.ix2 (row i r) d) * ·) (congrFun (scratchAt_congr m hO c
      (by rw [pt_val, pt_val]; show 8 * j.val + i.val - 1 = 8 * j.val + (i.val - 1); omega) _ _) _)

/-- The tile of a row and of a column, and their places in it. -/
def rowTile (n : Fin 8192) : Fin 8 := ⟨n.val / 1024, by omega⟩
def rowIn (n : Fin 8192) : Fin 1024 := ⟨n.val % 1024, by omega⟩
def colTile (d : Fin 4096) : Fin 8 := ⟨d.val / 512, by omega⟩
def colIn (d : Fin 4096) : Fin 512 := ⟨d.val % 512, by omega⟩

/-- The product of the rows with the weights. -/
def whole (c : Dev nD) : Vec Ideal S8192x4096 .f32 := fun y =>
  ∑ d : Fin 4096, argX m c (ValueIdx.ix2 (y 0) d) * argW m c (ValueIdx.ix3 0 d (y 1))

/-- Where a point's block puts its element in the array. -/
theorem blk_out (hO : Ok m) (j i : Fin 8) (y : S1024x512.Idx) (G : Vec Ideal S8192x4096 .f32) :
    (((cfgM m hO).win 2).blk (pt j i)).view.read (Elt Ideal) G y = G (ValueIdx.ix2 (row i (y 0)) (col j (y 1))) := by
  refine (View.read_apply ..).trans (congrArg G (funext fun a => Fin.ext ?_))
  match a with
  | ⟨0, _⟩ => show (BitVec.ofNat 32 (grid0.coords (pt j i) 1).val).toNat * 1024 + 1 * (y 0).val = 1024 * i.val + (y 0).val
              rw [word1]; omega
  | ⟨1, _⟩ => show (BitVec.ofNat 32 (grid0.coords (pt j i) 0).val).toNat * 512 + 1 * (y 1).val = 512 * j.val + (y 1).val
              rw [word0]; omega

/-- A point's block, cut at no edge, is the product's block there. -/
theorem cut_out (hO : Ok m) (c : Dev nD) (j i : Fin 8) (y : S1024x512.Idx) :
    ((cfgM m hO).win 2).cut (grid0.coords (pt j i)) (blockAt m hO c (pt j i).val (pt j i).isLt) y
      = (((cfgM m hO).win 2).blk (pt j i)).view.read (Elt Ideal) (whole m c) y := by
  refine Eq.trans ?_ ((blk_out m hO j i y (whole m c)).trans (block_apply m hO c j i (y 0) (y 1)).symm).symm
  refine congrArg (blockAt m hO c (pt j i).val (pt j i).isLt) (funext fun a => Fin.ext ?_)
  match a with
  | ⟨0, _⟩ => rfl
  | ⟨1, _⟩ => rfl

theorem flushed_eq (hO : Ok m) (c : Dev nD) (t : Fin (cfgM m hO).N) :
    (dats m hO 0 c).flushed 2 t = (((cfgM m hO).win 2).blk t).view.read (Elt Ideal) (whole m c) := by
  have ht : t.val < 64 := Nat.lt_of_lt_of_eq t.isLt N_0
  obtain ⟨j, i, rfl⟩ : ∃ j i : Fin 8, t = pt j i :=
    ⟨⟨t.val / 8, by omega⟩, ⟨t.val % 8, by omega⟩, Fin.ext (by show t.val = 8 * (t.val / 8) + t.val % 8; omega)⟩
  refine Eq.trans (b := ((cfgM m hO).win 2).cut (grid0.coords (pt j i)) (blockAt m hO c (pt j i).val (pt j i).isLt)) rfl ?_
  exact funext (cut_out m hO c j i)

theorem mem_blk_out (hO : Ok m) (y : S8192x4096.Idx) :
    y ∈ (((cfgM m hO).win 2).blk (pt (colTile (y 1)) (rowTile (y 0)))).view.set := by
  have e : ((((cfgM m hO).win 2).blk (pt (colTile (y 1)) (rowTile (y 0)))).view.emb (ValueIdx.ix2 (rowIn (y 0)) (colIn (y 1)) : S1024x512.Idx)) = y :=
    funext fun a => Fin.ext (by
      match a with
      | ⟨0, _⟩ => show (BitVec.ofNat 32 (grid0.coords (pt (colTile (y 1)) (rowTile (y 0))) 1).val).toNat * 1024 + 1 * ((y 0).val % 1024) = (y 0).val
                  rw [word1]; show (y 0).val / 1024 * 1024 + _ = _; omega
      | ⟨1, _⟩ => show (BitVec.ofNat 32 (grid0.coords (pt (colTile (y 1)) (rowTile (y 0))) 0).val).toNat * 512 + 1 * ((y 1).val % 512) = (y 1).val
                  rw [word0]; show (y 1).val / 512 * 512 + _ = _; omega)
  have h := View.emb_mem_set (((cfgM m hO).win 2).blk (pt (colTile (y 1)) (rowTile (y 0)))).view (ValueIdx.ix2 (rowIn (y 0)) (colIn (y 1)) : S1024x512.Idx)
  rw [e] at h
  exact h

/-- The array the call leaves. -/
theorem result_eq (hO : Ok m) (c : Dev nD) : (dats m hO 0 c).arrAt 2 (cfgM m hO).N = whole m c :=
  (dats m hO 0 c).arrAt_eq_of_cover 2 (whole m c) (fun t _ => flushed_eq m hO c t) fun (y : S8192x4096.Idx) =>
    ⟨pt (colTile (y 1)) (rowTile (y 0)), flush0_2 (adm m hO) _, mem_blk_out m hO y⟩

/-- The kernel ends at the product, its arguments unchanged. -/
theorem run : θ_run defs (onTc (τ := τ) (main (F := Ideal))) ⟨m, fun _ => 0, ρ⟩ (fun r => ∀ c : Dev nD,
      r.2.mem ((c.tc : Thread nD τ).loc main_v2) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (result_eq m (ok m) c), h.2 c⟩)
    (θ_run_and (run_main m ρ (ok m)) (unchanged m ρ (ok m)))

end Cert.Kernel3Ideal.OutProj

namespace Cert.Reference3Ideal.OutProj

open Idealize.ShloMosaic Idealize.ShloMosaic.TcCoe Idealize.ShloMosaic.Tactic
open Cert.Reference3Ideal.Gen

/-- The reference's product. -/
def product (x : FVec Ideal S8192x4096 .bf16) (w : FVec Ideal S1x4096x4096 .f32) : FVec Ideal S8192x4096 .f32 :=
  Host.dotGeneral dot_S8192x4096_S4096x4096_S8192x4096_1_0_0_1_n_n none (extf .f32 x bitsLt_bf16_f32)
    (shapeCast _ w shapeCasts_S1x4096x4096_S4096x4096)

theorem product_apply (x : FVec Ideal S8192x4096 .bf16) (w : FVec Ideal S1x4096x4096 .f32) (n : Fin 8192) (e : Fin 4096) :
    product x w (ValueIdx.ix2 n e) = ∑ d : Fin 4096, x (ValueIdx.ix2 n d) * w (ValueIdx.ix3 0 d e) := by
  pointwise [product]
  rfl

end Cert.Reference3Ideal.OutProj

namespace Cert.Kernel3Ideal.OutProj

open Idealize.ShloMosaic Idealize.ShloMosaic.TcCoe

/-- It is the array the kernel leaves. -/
theorem product_eq (m : (ℓ : Loc nD τ sig) → Buf (Elt Ideal) ℓ) (c : Dev nD) :
    Cert.Reference3Ideal.OutProj.product (argX m c) (argW m c) = whole m c := by
  funext y
  obtain ⟨n, d, rfl⟩ : ∃ (n : Fin 8192) (d : Fin 4096), y = ValueIdx.ix2 n d :=
    ⟨y 0, y 1, funext fun a => by match a with | ⟨0, _⟩ => rfl | ⟨1, _⟩ => rfl⟩
  exact Cert.Reference3Ideal.OutProj.product_apply _ _ n d

end Cert.Kernel3Ideal.OutProj

end
-- ==== Proof.PleGate.KernelIdeal.Body.lean ====
/- The body of the gated sum: at the first row tile of a column tile it rounds the tile's weights into scratch, and at every
   point it stores the residual plus the projected embedding gated by the logistic of the rows' products. -/
module

public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.CanonAppend

@[expose] public section

set_option maxRecDepth 16384

noncomputable section

namespace Cert.Kernel4Ideal.PleGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table, the scratch buffer and the body's condition -/

/-- The flags' table, which the body is handed and does not read, and the scratch buffer. -/
abbrev tabF : Memref sig .tc .smem S8 .i32 := Memref.whole main_v1
abbrev htabF : tabF.IsWhole := Memref.isWhole_whole _
abbrev scr : Memref sig .tc .vmem S1x4096x512 .bf16 := Memref.whole cc0_scratch0
abbrev hscr : scr.IsWhole := Memref.isWhole_whole _

/-- The table's buffer type and the half of it the body is handed. -/
abbrev FlagBuf (c : Dev nD) : Type := Buf (Elt F) (tabF.view.loc (c : Thread nD τ))
abbrev flagPt (c : Dev nD) (f : FlagBuf (F := F) c) : sProp 𝕄 := tabF.view.loc (c : Thread nD τ) ↦{fullShare.right} f

/-- The condition under which the body rounds the weights into the scratch buffer: the first row tile of its column tile. -/
abbrev FirstRows (i : grid0.Coords) : Prop :=
  Scalar.cmpi .ne (Scalar.extui (Scalar.cmpi .eq (BitVec.ofNat 32 (i 1).val) 0#32) : BitVec 32) 0#32 = 1#1

/-- It holds at every eighth point. -/
theorem firstRows_iff : ∀ t : Fin grid0.N, FirstRows (grid0.coords t) ↔ t.val % 8 = 0 := fun t => by
  have ht : t.val < 64 := Nat.lt_of_lt_of_eq t.isLt N_0
  have e1 : (grid0.coords t 1).val = t.val / 1 % 8 := Pipeline.Grid.coords_val t 1 (by decide) rfl
  unfold FirstRows
  simp only [e1]
  word_cmp

theorem zeros2 : (![0, 0] : Fin 2 → ℕ) = fun _ => 0 := by decide
theorem zeros3 : (![0, 0, 0] : Fin 3 → ℕ) = fun _ => 0 := by decide

/-- The one store of a tile. -/
def tile (y : FVec F S1024x512 .f32) : List (View.Piece (Elt F) S1024x512 .f32) :=
  [⟨Rect.unit ![0, 0] ![1024, 512] inb_S1024x512_S1024x512_0_0, y⟩]

/-- The one store into the scratch buffer: the weights rounded. -/
def kept (x1 : Vec F S4096x512 .f32) : List (View.Piece (Elt F) S1x4096x512 .bf16) :=
  [⟨Rect.unit ![0, 0, 0] ![1, 4096, 512] inb_S1x4096x512_S1x4096x512_0_0_0, k0_pay1 x1⟩]

/-- Every index of the scratch buffer is the one the whole rectangle gives it. -/
theorem whole_scr (X : Vec F S1x4096x512 .bf16) :
    (fun j => X ((Rect.unit ![0, 0, 0] ![1, 4096, 512] inb_S1x4096x512_S1x4096x512_0_0_0).idx j)) = X :=
  View.ld_unit_zero (S := S1x4096x512) zeros3 inb_S1x4096x512_S1x4096x512_0_0_0 X

theorem tile_cover (y : FVec F S1024x512 .f32) (j : S1024x512.Idx) : ∃ pc ∈ tile y, j ∈ pc.1.set :=
  View.cover_of_tiledL (tile y) S1024x512.size (by sl_kernel_rfl) j
theorem kept_cover (x1 : Vec F S4096x512 .f32) (j : S1x4096x512.Idx) : ∃ pc ∈ kept x1, j ∈ pc.1.set :=
  View.cover_of_tiledL (kept x1) S1x4096x512.size (by sl_kernel_rfl) j

/-! ## The body at a first row tile -/

set_option maxHeartbeats 4000000 in
/-- Its stores, with the proof that the body, run on whole buffers, makes exactly those. -/
def runFirst (c : Dev nD) (i : grid0.Coords) (b0 : Memref sig .tc .vmem S1024x4096 .bf16) (hb0 : b0.IsWhole) (b1 : Memref sig .tc .vmem S4096x512 .f32) (hb1 : b1.IsWhole)
    (b2 : Memref sig .tc .vmem S1024x512 .f32) (hb2 : b2.IsWhole) (b3 : Memref sig .tc .vmem S1024x512 .f32) (hb3 : b3.IsWhole)
    (b4 : Memref sig .tc .vmem S1024x512 .f32) (hb4 : b4.IsWhole)
    (x0 : Vec F S1024x4096 .bf16) (x1 : Vec F S4096x512 .f32) (x2 : Vec F S1024x512 .f32) (x3 : Vec F S1024x512 .f32) (xT : FlagBuf (F := F) c)
    (hz : FirstRows i) :
    { L : List (View.Piece (Elt F) S1024x512 .f32) × List (View.Piece (Elt F) S1x4096x512 .bf16) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ (∃ d, owns (c : Thread nD τ) scr fullShare d) ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L.1)
                ∗ (∃ f, scr.view.loc (c : Thread nD τ) ↦[scr.view.set]{fullShare} scr.view.writes (Elt F) f L.2) ∗ flagPt c xT) -∗ K ⟨⟩))
          ⊢ wp frame (wpE (defs₀ (F := F)) Variants.none c none) E (cc0_ple_gate i tabF htabF b0 hb0 b1 hb1 b2 hb2 b3 hb3 b4 hb4 scr hscr) K } := by
  refine ⟨(?_, ?_), fun E K => ?run⟩
  case run =>
    simp only [cc0_ple_gate_eq_skeleton]; unfold cc0_ple_gate_skel
    unfold owns
    iintro ⟨⟨%f0, %hf0, H0⟩, ⟨%f1, %hf1, H1⟩, ⟨%f2, %hf2, H2⟩, ⟨%f3, %hf3, H3⟩, ⟨%d4, %f4, -, H4⟩, ⟨%dS, %fS, -, HS⟩, HT, Hk⟩
    obtain rfl := hb0.eq_unread hf0; obtain rfl := hb1.eq_unread hf1
    obtain rfl := hb2.eq_unread hf2; obtain rfl := hb3.eq_unread hf3
    sl_exec (disch := first | sl_exact hz)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]; · iexists _; iexact HS
    iexact HT

/-- Those stores are the gated sums, and the rounded weights into the scratch buffer. -/
theorem runFirst_stores (c : Dev nD) (i : grid0.Coords) (b0 : Memref sig .tc .vmem S1024x4096 .bf16) (hb0 : b0.IsWhole) (b1 : Memref sig .tc .vmem S4096x512 .f32) (hb1 : b1.IsWhole)
    (b2 : Memref sig .tc .vmem S1024x512 .f32) (hb2 : b2.IsWhole) (b3 : Memref sig .tc .vmem S1024x512 .f32) (hb3 : b3.IsWhole)
    (b4 : Memref sig .tc .vmem S1024x512 .f32) (hb4 : b4.IsWhole)
    (x0 : Vec F S1024x4096 .bf16) (x1 : Vec F S4096x512 .f32) (x2 : Vec F S1024x512 .f32) (x3 : Vec F S1024x512 .f32) (xT : FlagBuf (F := F) c)
    (hz : FirstRows i) :
    (runFirst c i b0 hb0 b1 hb1 b2 hb2 b3 hb3 b4 hb4 x0 x1 x2 x3 xT hz).1 = (tile (k0_pay2 x0 (k0_pay1 x1) x2 x3), kept x1) := by
  unfold runFirst
  dsimp only
  sl_unfold_words
  unfold tile kept
  simp only [View.readAt_eq_ld, hb0.read_unread, hb1.read_unread, hb2.read_unread, hb3.read_unread, hscr.read_unread,
    View.ld_unit_zero (S := S1024x4096) zeros2, View.ld_unit_zero (S := S4096x512) zeros2, View.ld_unit_zero (S := S1024x512) zeros2, View.ld_unit_zero (S := S1x4096x512) zeros3, View.readCov_eq_canon', View.canon_unit_zero (S := S1x4096x512) zeros3, whole_scr]

/-- So, run on whole buffers, the body leaves them in the output's. -/
theorem runFirst_ok (c : Dev nD) (i : grid0.Coords) (b0 : Memref sig .tc .vmem S1024x4096 .bf16) (hb0 : b0.IsWhole) (b1 : Memref sig .tc .vmem S4096x512 .f32) (hb1 : b1.IsWhole)
    (b2 : Memref sig .tc .vmem S1024x512 .f32) (hb2 : b2.IsWhole) (b3 : Memref sig .tc .vmem S1024x512 .f32) (hb3 : b3.IsWhole)
    (b4 : Memref sig .tc .vmem S1024x512 .f32) (hb4 : b4.IsWhole)
    (x0 : Vec F S1024x4096 .bf16) (x1 : Vec F S4096x512 .f32) (x2 : Vec F S1024x512 .f32) (x3 : Vec F S1024x512 .f32) (xT : FlagBuf (F := F) c)
    (hz : FirstRows i) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ (∃ d, owns (c : Thread nD τ) scr fullShare d) ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (k0_pay2 x0 (k0_pay1 x1) x2 x3)
            ∗ owns (c : Thread nD τ) scr fullShare (k0_pay1 x1) ∗ flagPt c xT) -∗ K ⟨⟩))
      ⊢ wp frame (wpE (defs₀ (F := F)) Variants.none c none) E (cc0_ple_gate i tabF htabF b0 hb0 b1 hb1 b2 hb2 b3 hb3 b4 hb4 scr hscr) K := by
  iintro ⟨H0, H1, H2, H3, H4, HS, HT, Hk⟩
  iapply ((runFirst c i b0 hb0 b1 hb1 b2 hb2 b3 hb3 b4 hb4 x0 x1 x2 x3 xT hz).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, ⟨%eS, HS⟩, HT⟩
  iapply Hk
  isplitl [H0]; · iexact H0
  isplitl [H1]; · iexact H1
  isplitl [H2]; · iexact H2
  isplitl [H3]; · iexact H3
  rw [runFirst_stores]
  isplitl [H4]
  · unfold owns
    iexists _
    isplitr
    swap; · iexact H4
    ipureintro
    exact (View.read_writes_eq_canon _ _ _ (tile_cover (k0_pay2 x0 (k0_pay1 x1) x2 x3))).trans (View.canon_unit_zero (S := S1024x512) zeros2 _ _)
  isplitl [HS]
  · unfold owns
    iexists _
    isplitr
    swap; · iexact HS
    ipureintro
    exact (View.read_writes_eq_canon _ _ _ (kept_cover x1)).trans (View.canon_unit_zero (S := S1x4096x512) zeros3 _ _)
  iexact HT

/-! ## The body at a later row tile -/

set_option maxHeartbeats 4000000 in
/-- Its stores, with the proof that the body, run on whole buffers, makes exactly those. -/
def runLater (c : Dev nD) (i : grid0.Coords) (b0 : Memref sig .tc .vmem S1024x4096 .bf16) (hb0 : b0.IsWhole) (b1 : Memref sig .tc .vmem S4096x512 .f32) (hb1 : b1.IsWhole)
    (b2 : Memref sig .tc .vmem S1024x512 .f32) (hb2 : b2.IsWhole) (b3 : Memref sig .tc .vmem S1024x512 .f32) (hb3 : b3.IsWhole)
    (b4 : Memref sig .tc .vmem S1024x512 .f32) (hb4 : b4.IsWhole)
    (x0 : Vec F S1024x4096 .bf16) (x1 : Vec F S4096x512 .f32) (x2 : Vec F S1024x512 .f32) (x3 : Vec F S1024x512 .f32) (xT : FlagBuf (F := F) c) (xs : Vec F S1x4096x512 .bf16)
    (hz : ¬ FirstRows i) :
    { L : List (View.Piece (Elt F) S1024x512 .f32) //
      ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3
            ∗ (∃ d, owns (c : Thread nD τ) b4 fullShare d) ∗ owns (c : Thread nD τ) scr fullShare xs ∗ flagPt c xT
            ∗ (iprop(owns (c : Thread nD τ) b0 fullShare x0 ∗ owns (c : Thread nD τ) b1 fullShare x1 ∗ owns (c : Thread nD τ) b2 fullShare x2 ∗ owns (c : Thread nD τ) b3 fullShare x3
                ∗ (∃ f, b4.view.loc (c : Thread nD τ) ↦[b4.view.set]{fullShare} b4.view.writes (Elt F) f L)
                ∗ owns (c : Thread nD τ) scr fullShare xs ∗ flagPt c xT) -∗ K ⟨⟩))
          ⊢ wp frame (wpE (defs₀ (F := F)) Variants.none c none) E (cc0_ple_gate i tabF htabF b0 hb0 b1 hb1 b2 hb2 b3 hb3 b4 hb4 scr hscr) K } := by
  refine ⟨?_, fun E K => ?run⟩
  case run =>
    simp only [cc0_ple_gate_eq_skeleton]; unfold cc0_ple_gate_skel
    unfold owns
    iintro ⟨⟨%f0, %hf0, H0⟩, ⟨%f1, %hf1, H1⟩, ⟨%f2, %hf2, H2⟩, ⟨%f3, %hf3, H3⟩, ⟨%d4, %f4, -, H4⟩, ⟨%fS, %hfS, HS⟩, HT, Hk⟩
    obtain rfl := hb0.eq_unread hf0; obtain rfl := hb1.eq_unread hf1
    obtain rfl := hb2.eq_unread hf2; obtain rfl := hb3.eq_unread hf3
    obtain rfl := hscr.eq_unread hfS
    sl_exec (disch := first | sl_exact hz)
    sl_step
    iapply Hk
    isplitl [H0]
    · iexists _; isplitr; · ipureintro; exact hb0.read_unread _
      iexact H0
    isplitl [H1]
    · iexists _; isplitr; · ipureintro; exact hb1.read_unread _
      iexact H1
    isplitl [H2]
    · iexists _; isplitr; · ipureintro; exact hb2.read_unread _
      iexact H2
    isplitl [H3]
    · iexists _; isplitr; · ipureintro; exact hb3.read_unread _
      iexact H3
    isplitl [H4]; · iexists _; iexact H4
    isplitl [HS]
    · iexists _; isplitr; · ipureintro; exact hscr.read_unread _
      iexact HS
    iexact HT

/-- Those stores are the gated sums. -/
theorem runLater_stores (c : Dev nD) (i : grid0.Coords) (b0 : Memref sig .tc .vmem S1024x4096 .bf16) (hb0 : b0.IsWhole) (b1 : Memref sig .tc .vmem S4096x512 .f32) (hb1 : b1.IsWhole)
    (b2 : Memref sig .tc .vmem S1024x512 .f32) (hb2 : b2.IsWhole) (b3 : Memref sig .tc .vmem S1024x512 .f32) (hb3 : b3.IsWhole)
    (b4 : Memref sig .tc .vmem S1024x512 .f32) (hb4 : b4.IsWhole)
    (x0 : Vec F S1024x4096 .bf16) (x1 : Vec F S4096x512 .f32) (x2 : Vec F S1024x512 .f32) (x3 : Vec F S1024x512 .f32) (xT : FlagBuf (F := F) c) (xs : Vec F S1x4096x512 .bf16)
    (hz : ¬ FirstRows i) :
    (runLater c i b0 hb0 b1 hb1 b2 hb2 b3 hb3 b4 hb4 x0 x1 x2 x3 xT xs hz).1 = tile (k0_pay2 x0 xs x2 x3) := by
  unfold runLater
  dsimp only
  sl_unfold_words
  unfold tile
  simp only [View.readAt_eq_ld, hb0.read_unread, hb1.read_unread, hb2.read_unread, hb3.read_unread, hscr.read_unread,
    View.ld_unit_zero (S := S1024x4096) zeros2, View.ld_unit_zero (S := S4096x512) zeros2, View.ld_unit_zero (S := S1024x512) zeros2, View.ld_unit_zero (S := S1x4096x512) zeros3]

/-- So, run on whole buffers, the body leaves them in the output's. -/
theorem runLater_ok (c : Dev nD) (i : grid0.Coords) (b0 : Memref sig .tc .vmem S1024x4096 .bf16) (hb0 : b0.IsWhole) (b1 : Memref sig .tc .vmem S4096x512 .f32) (hb1 : b1.IsWhole)
    (b2 : Memref sig .tc .vmem S1024x512 .f32) (hb2 : b2.IsWhole) (b3 : Memref sig .tc .vmem S1024x512 .f32) (hb3 : b3.IsWhole)
    (b4 : Memref sig .tc .vmem S1024x512 .f32) (hb4 : b4.IsWhole)
    (x0 : Vec F S1024x4096 .bf16) (x1 : Vec F S4096x512 .f32) (x2 : Vec F S1024x512 .f32) (x3 : Vec F S1024x512 .f32) (xT : FlagBuf (F := F) c) (xs : Vec F S1x4096x512 .bf16)
    (hz : ¬ FirstRows i) (E : Set ℕ) (K : PUnit → sProp 𝕄) :
    iprop(owns (c : Thread nD τ) b0 fullShare x0 ∗ owns (c : Thread nD τ) b1 fullShare x1 ∗ owns (c : Thread nD τ) b2 fullShare x2 ∗ owns (c : Thread nD τ) b3 fullShare x3
        ∗ (∃ d, owns (c : Thread nD τ) b4 fullShare d) ∗ owns (c : Thread nD τ) scr fullShare xs ∗ flagPt c xT
        ∗ (iprop(owns (c : Thread nD τ) b0 fullShare x0 ∗ owns (c : Thread nD τ) b1 fullShare x1 ∗ owns (c : Thread nD τ) b2 fullShare x2 ∗ owns (c : Thread nD τ) b3 fullShare x3
            ∗ owns (c : Thread nD τ) b4 fullShare (k0_pay2 x0 xs x2 x3)
            ∗ owns (c : Thread nD τ) scr fullShare xs ∗ flagPt c xT) -∗ K ⟨⟩))
      ⊢ wp frame (wpE (defs₀ (F := F)) Variants.none c none) E (cc0_ple_gate i tabF htabF b0 hb0 b1 hb1 b2 hb2 b3 hb3 b4 hb4 scr hscr) K := by
  iintro ⟨H0, H1, H2, H3, H4, HS, HT, Hk⟩
  iapply ((runLater c i b0 hb0 b1 hb1 b2 hb2 b3 hb3 b4 hb4 x0 x1 x2 x3 xT xs hz).2 E K)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, ⟨%e4, H4⟩, HS, HT⟩
  iapply Hk
  isplitl [H0]; · iexact H0
  isplitl [H1]; · iexact H1
  isplitl [H2]; · iexact H2
  isplitl [H3]; · iexact H3
  rw [runLater_stores]
  isplitl [H4]
  · unfold owns
    iexists _
    isplitr
    swap; · iexact H4
    ipureintro
    exact (View.read_writes_eq_canon _ _ _ (tile_cover (k0_pay2 x0 xs x2 x3))).trans (View.canon_unit_zero (S := S1024x512) zeros2 _ _)
  isplitl [HS]; · iexact HS
  iexact HT

end Cert.Kernel4Ideal.PleGate

end
-- ==== Proof.PleGate.KernelIdeal.Run.lean ====
/- The gated sum's call, run: every row tile ends inside the arrays it reads, so every block arrives whole. -/
module

public import proofs.«01_k».proof.Proof.PleGate.KernelIdeal.Body
public import Idealize.ShloMosaic.Lib.Pipeline.FrameTail
public import Idealize.ShloMosaic.Lib.Pipeline.FrameSuffix
public import Idealize.ShloMosaic.Lib.Pipeline.ClipFacts
public import Idealize.ShloMosaic.Lib.Claim

@[expose] public section

set_option maxRecDepth 16384

noncomputable section

namespace Cert.Kernel4Ideal.PleGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the core's buffers hold as the call starts -/

/-- The core's buffers after the host's operations: the weights without their first axis, and the flags. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps_fresh : (hostOps0 : List (HloOp τ sig (Elt F))).Forall fun op => op.fresh = ∅ := by
  simp only [List.Forall]; repeat' constructor

/-- The references the host writes. -/
abbrev hostRefs : List (Ref sig .tc) := [main_v0, main_c, main_v1]
theorem hostOps_writes : (hostOps0 : List (HloOp τ sig (Elt F))).Forall fun op => op.writes ⊆ (hostRefs.map (Proc.devRef (τ := τ) .tc)).toFinset :=
  StableHlo.forall_writes_sub_of_map rfl

theorem V_of (c : Dev nD) (r : Ref sig .tc) (h : r ∉ hostRefs) : V m c r = m ((c : Thread nD τ).loc r) :=
  StableHlo.after_of_writes_sub hostOps0 _ hostOps_writes h

set_option maxHeartbeats 800000 in
/-- The program up to the call, which the reshape of its result follows. -/
theorem hmain (𝒱₀ : Variants) : Pipeline.HMainPK (Ix := Unit) (Name := ℕ) (U := UR sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps_fresh) main_chain

/-- The reshape touches the call's result and its own only. -/
theorem tail_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro j
  fin_cases j <;> simp only [StableHlo.reshape_bufs, Finset.mem_insert, Finset.mem_singleton, not_or] <;> and_intros <;> exact StableHlo.devRef_ne_of_ne (by decide)
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  subst hop
  rfl
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-- The flags' table, and the pipeline that runs at it. -/
def tbl : pre0.Contents (Elt F) := fun k => V m (0 : Dev nD) (pre0.ref k)
theorem V_pre (c : Dev nD) (k : Fin 1) : V m c (pre0.ref k) = tbl m k := by
  obtain rfl : c = 0 := Subsingleton.elim _ _; rfl
abbrev adm : (pcfg0 (F := F)).Adm := ⟨tbl m, trivial⟩
abbrev cfgN : Pipeline.Cfg sig Λ₀ := cfg0 (adm m)

theorem PhiT_eq (c : Dev nD) : (Pipeline.ΦT pre0 (tbl m) c : sProp 𝕄) = flagPt c (tbl m 0) := by
  unfold Pipeline.ΦT Pipeline.prefHeld
  rw [show (Finset.univ : Finset (Fin 1)) = {(0 : Fin 1)} from by decide, bigSep_singleton]
  rfl

theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## The blocks -/

/-- Window `w`'s block at point `t`, read off its array as the call finds it. -/
def blk (c : Dev nD) (w : Fin (cfgN m).W) (t : Fin (cfgN m).N) :
    (((cfgN m).win w).xblock ((cfgN m).grid.coords t)).Idx → Elt F ((cfgN m).win w).elt :=
  (((cfgN m).win w).blk t).view.read (Elt F) (V m c (Pipeline.arrRef spec0 w))

/-- Every tile of the rows, of the residual and of the projected embedding ends inside its array. -/
theorem inb_0 : ∀ (i : grid0.Coords) (a : Fin 2), (cc0_transform_0 i a + 1) * S1024x4096.size a ≤ S8704x4096.size a := by decide +kernel
theorem noClip0 (t : Fin (cfgN m).N) : ∀ a, ((cfgN m).win 0).clip ((cfgN m).grid.coords t) a = none :=
  fun a => Pipeline.Clip.of_eq_none (inb_0 (grid0.coords t) a)
theorem inb_2 : ∀ (i : grid0.Coords) (a : Fin 2), (cc0_transform_2 i a + 1) * S1024x512.size a ≤ S8704x4096.size a := by decide +kernel
theorem noClip2 (t : Fin (cfgN m).N) : ∀ a, ((cfgN m).win 2).clip ((cfgN m).grid.coords t) a = none :=
  fun a => Pipeline.Clip.of_eq_none (inb_2 (grid0.coords t) a)
theorem inb_3 : ∀ (i : grid0.Coords) (a : Fin 2), (cc0_transform_3 i a + 1) * S1024x512.size a ≤ S8704x4096.size a := by decide +kernel
theorem noClip3 (t : Fin (cfgN m).N) : ∀ a, ((cfgN m).win 3).clip ((cfgN m).grid.coords t) a = none :=
  fun a => Pipeline.Clip.of_eq_none (inb_3 (grid0.coords t) a)

/-- The rows, the weights, the residual and the projected embedding of point `t`, the tiles spelled through one staging buffer. -/
abbrev view0 : View sig .tc .vmem S1024x4096 .bf16 := (Memref.whole cc0_stg0_0 : Memref sig .tc .vmem S1024x4096 .bf16).view
def rows (c : Dev nD) (t : Fin (cfgN m).N) : Vec F S1024x4096 .bf16 :=
  ((cfgN m).win 0).fill ((cfgN m).grid.coords t) (view0.read (Elt F) view0.junk) (blk m c 0 t)
abbrev wts (c : Dev nD) (t : Fin (cfgN m).N) : Vec F S4096x512 .f32 := blk m c 1 t
abbrev view2 : View sig .tc .vmem S1024x512 .f32 := (Memref.whole cc0_stg2_0 : Memref sig .tc .vmem S1024x512 .f32).view
def resid (c : Dev nD) (t : Fin (cfgN m).N) : Vec F S1024x512 .f32 :=
  ((cfgN m).win 2).fill ((cfgN m).grid.coords t) (view2.read (Elt F) view2.junk) (blk m c 2 t)
abbrev view3 : View sig .tc .vmem S1024x512 .f32 := (Memref.whole cc0_stg3_0 : Memref sig .tc .vmem S1024x512 .f32).view
def proj (c : Dev nD) (t : Fin (cfgN m).N) : Vec F S1024x512 .f32 :=
  ((cfgN m).win 3).fill ((cfgN m).grid.coords t) (view3.read (Elt F) view3.junk) (blk m c 3 t)

/-- The first point of the column tile point `n` is in. -/
def firstOf (n : ℕ) : Fin (cfgN m).N := ⟨8 * (n / 8) % 64, Nat.lt_of_lt_of_eq (Nat.mod_lt _ (by decide)) N_0.symm⟩

theorem firstOf_self (t : Fin (cfgN m).N) (h : t.val % 8 = 0) : firstOf m t.val = t := by
  have ht : t.val < 64 := Nat.lt_of_lt_of_eq t.isLt N_0
  exact Fin.ext (show 8 * (t.val / 8) % 64 = t.val by omega)

theorem firstOf_succ (n : ℕ) (h : ¬ (n + 1) % 8 = 0) : firstOf m (n + 1) = firstOf m n :=
  Fin.ext (show 8 * ((n + 1) / 8) % 64 = 8 * (n / 8) % 64 by rw [show (n + 1) / 8 = n / 8 by omega])

/-- What point `t` leaves in the output's staging buffer, its column tile's weights rounded at the tile's first point. -/
def outAt (c : Dev nD) (t : Fin (cfgN m).N) : Vec F S1024x512 .f32 :=
  k0_pay2 (rows m c t) (k0_pay1 (wts m c (firstOf m t.val))) (resid m c t) (proj m c t)

/-! ## The pipeline's proof data -/

/-- The scratch buffer before point `n`: anything, then the rounded weights of the column tile of the point before. -/
def scrAt (c : Dev nD) : ℕ → sProp 𝕄
  | 0 => iprop(∃ d, owns (c : Thread nD τ) scr fullShare d)
  | n + 1 => owns (c : Thread nD τ) scr fullShare (k0_pay1 (wts m c (firstOf m n)))

theorem scrAt_any (c : Dev nD) : ∀ n, scrAt m c n ⊢ (iprop(∃ d, owns (c : Thread nD τ) scr fullShare d) : sProp 𝕄)
  | 0 => .rfl
  | n + 1 => by unfold scrAt; iintro H; iexists _; iexact H

theorem scrAt_later (c : Dev nD) : ∀ n, ¬ n % 8 = 0 →
    scrAt m c n = owns (c : Thread nD τ) scr fullShare (k0_pay1 (wts m c (firstOf m n)))
  | 0, h => absurd (Nat.zero_mod _) h
  | n + 1, h => by rw [firstOf_succ m n h]; rfl

/-- The inputs stay at their blocks, the output goes through `outAt`, the scratch buffer through `scrAt`. -/
def dat (c : Dev nD) : Dat τ (Elt F) Unit ℕ (UR sig nD τ) ℕ (cfgN m) c where
  A w := V m c (Pipeline.arrRef spec0 w)
  after w t := match w with
    | ⟨0, _⟩ => rows m c t
    | ⟨1, _⟩ => blk m c 1 t
    | ⟨2, _⟩ => resid m c t
    | ⟨3, _⟩ => proj m c t
    | ⟨4, _⟩ => outAt m c t
  Φ t := iprop(iprop(scrAt m c t.val ∗ (∃ r, prngReg c r)) ∗ flagPt c (tbl m 0))
  q _ := fullShare
  owed _ := 0

def dats : (p : Fin 1) → (c : Dev nD) → Dat τ (Elt F) Unit ℕ (UR sig nD τ) ℕ ((Pipeline.pin pcfgs fun _ => adm m) p) c
  | ⟨0, _⟩ => dat m

theorem dat_A (c : Dev nD) (w : Fin (cfgN m).W) : (dat m c).A w = V m c (Pipeline.arrRef spec0 w) := by
  dsimp only [dat]
theorem after_0 (c : Dev nD) (t : Fin (cfgN m).N) : (dat m c).after 0 t = rows m c t := by dsimp only [dat]; try rfl
theorem after_1 (c : Dev nD) (t : Fin (cfgN m).N) : (dat m c).after 1 t = blk m c 1 t := by dsimp only [dat]; try rfl
theorem after_2 (c : Dev nD) (t : Fin (cfgN m).N) : (dat m c).after 2 t = resid m c t := by dsimp only [dat]; try rfl
theorem after_3 (c : Dev nD) (t : Fin (cfgN m).N) : (dat m c).after 3 t = proj m c t := by dsimp only [dat]; try rfl
theorem after_4 (c : Dev nD) (t : Fin (cfgN m).N) : (dat m c).after 4 t = outAt m c t := by dsimp only [dat]; try rfl

theorem before_0 (c : Dev nD) (t : Fin (cfgN m).N) (d) : (dat m c).before 0 t d = rows m c t :=
  ((dat m c).before_in_eq_fetched 0 rfl (fun _ => rfl)
    (fun t t' _ => funext fun a => (noClip0 m t a).trans (noClip0 m t' a).symm)
    (fun t => by
      rw [after_0]; unfold rows
      refine Eq.trans (((cfgN m).win 0).cut_fill _ _ _) ?_
      unfold Dat.blockOf blk; rw [dat_A]; try rfl) t d).trans
    (((dat m c).fetched_of_clip_none 0 t (noClip0 m t) d (view0.read (Elt F) view0.junk)).trans
      (by unfold Dat.fetched Dat.blockOf rows blk; rw [dat_A]; try rfl))
theorem before_1 (c : Dev nD) (t : Fin (cfgN m).N) (d) : (dat m c).before 1 t d = blk m c 1 t :=
  ((dat m c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin (cfgN m).N) (d) : (dat m c).before 2 t d = resid m c t :=
  ((dat m c).before_in_eq_fetched 2 rfl (fun _ => rfl)
    (fun t t' _ => funext fun a => (noClip2 m t a).trans (noClip2 m t' a).symm)
    (fun t => by
      rw [after_2]; unfold resid
      refine Eq.trans (((cfgN m).win 2).cut_fill _ _ _) ?_
      unfold Dat.blockOf blk; rw [dat_A]; try rfl) t d).trans
    (((dat m c).fetched_of_clip_none 2 t (noClip2 m t) d (view2.read (Elt F) view2.junk)).trans
      (by unfold Dat.fetched Dat.blockOf resid blk; rw [dat_A]; try rfl))
theorem before_3 (c : Dev nD) (t : Fin (cfgN m).N) (d) : (dat m c).before 3 t d = proj m c t :=
  ((dat m c).before_in_eq_fetched 3 rfl (fun _ => rfl)
    (fun t t' _ => funext fun a => (noClip3 m t a).trans (noClip3 m t' a).symm)
    (fun t => by
      rw [after_3]; unfold proj
      refine Eq.trans (((cfgN m).win 3).cut_fill _ _ _) ?_
      unfold Dat.blockOf blk; rw [dat_A]; try rfl) t d).trans
    (((dat m c).fetched_of_clip_none 3 t (noClip3 m t) d (view3.read (Elt F) view3.junk)).trans
      (by unfold Dat.fetched Dat.blockOf proj blk; rw [dat_A]; try rfl))

/-! ## The body at every point -/

/-- Each window's current staging buffer at a point. -/
abbrev st0 (t : Fin (cfgN m).N) : Memref sig .tc .vmem S1024x4096 .bf16 := spec0_0.stage ((cfgN m).slots t 0)
abbrev hst0 (t : Fin (cfgN m).N) : (st0 m t).IsWhole := hstage0_0 (((cfgN m).slots t 0).cast nbuf0_0)
abbrev st1 (t : Fin (cfgN m).N) : Memref sig .tc .vmem S4096x512 .f32 := spec0_1.stage ((cfgN m).slots t 1)
abbrev hst1 (t : Fin (cfgN m).N) : (st1 m t).IsWhole := hstage0_1 (((cfgN m).slots t 1).cast nbuf0_1)
abbrev st2 (t : Fin (cfgN m).N) : Memref sig .tc .vmem S1024x512 .f32 := spec0_2.stage ((cfgN m).slots t 2)
abbrev hst2 (t : Fin (cfgN m).N) : (st2 m t).IsWhole := hstage0_2 (((cfgN m).slots t 2).cast nbuf0_2)
abbrev st3 (t : Fin (cfgN m).N) : Memref sig .tc .vmem S1024x512 .f32 := spec0_3.stage ((cfgN m).slots t 3)
abbrev hst3 (t : Fin (cfgN m).N) : (st3 m t).IsWhole := hstage0_3 (((cfgN m).slots t 3).cast nbuf0_3)
abbrev st4 (t : Fin (cfgN m).N) : Memref sig .tc .vmem S1024x512 .f32 := spec0_4.stage ((cfgN m).slots t 4)
abbrev hst4 (t : Fin (cfgN m).N) : (st4 m t).IsWhole := hstage0_4 (((cfgN m).slots t 4).cast nbuf0_4)

/-- The body at point `t`, on what the pipeline passes it. -/
abbrev bodyAt (t : Fin (cfgN m).N) : Prog (TpuEff nD τ sig (Elt F) Λ₀ .tc) PUnit :=
  cc0_ple_gate (grid0.coords t) tabF htabF (st0 m t) (hst0 m t) (st1 m t) (hst1 m t) (st2 m t) (hst2 m t) (st3 m t) (hst3 m t) (st4 m t) (hst4 m t) scr hscr

/-- What the body is called with at point `t`, window by window, -/
def preAt (c : Dev nD) (t : Fin (cfgN m).N) : sProp 𝕄 :=
  iprop((dat m c).Φ t.castSucc ∗ (dat m c).owesAt () t.castSucc
    ∗ (∃ d, owns (c : Thread nD τ) (st0 m t) fullShare ((dat m c).before 0 t d))
    ∗ (∃ d, owns (c : Thread nD τ) (st1 m t) fullShare ((dat m c).before 1 t d))
    ∗ (∃ d, owns (c : Thread nD τ) (st2 m t) fullShare ((dat m c).before 2 t d))
    ∗ (∃ d, owns (c : Thread nD τ) (st3 m t) fullShare ((dat m c).before 3 t d))
    ∗ (∃ d, owns (c : Thread nD τ) (st4 m t) fullShare ((dat m c).before 4 t d)))

/-- and what it returns. -/
def postAt (c : Dev nD) (t : Fin (cfgN m).N) : sProp 𝕄 :=
  iprop((dat m c).Φ t.succ ∗ (dat m c).owesAt () t.succ
    ∗ owns (c : Thread nD τ) (st0 m t) fullShare ((dat m c).after 0 t)
    ∗ owns (c : Thread nD τ) (st1 m t) fullShare ((dat m c).after 1 t)
    ∗ owns (c : Thread nD τ) (st2 m t) fullShare ((dat m c).after 2 t)
    ∗ owns (c : Thread nD τ) (st3 m t) fullShare ((dat m c).after 3 t)
    ∗ owns (c : Thread nD τ) (st4 m t) fullShare ((dat m c).after 4 t))

set_option maxHeartbeats 1600000 in
/-- The body at any point, the first of its column tile or not. -/
theorem body_ok (c : Dev nD) (t : Fin (cfgN m).N) :
    preAt m c t ⊢ wp frame (wpE (defs₀ (F := F)) Variants.none c none) Set.univ (bodyAt m t) (fun _ => postAt m c t) := by
  unfold preAt postAt bodyAt
  simp only [before_0, before_1, before_2, before_3]
  rw [show (dat m c).owesAt () t.succ = (dat m c).owesAt () t.castSucc from rfl, after_0, after_1, after_2, after_3, after_4,
    show (dat m c).Φ t.castSucc = iprop(iprop(scrAt m c t.val ∗ (∃ r, prngReg c r)) ∗ flagPt c (tbl m 0)) from rfl,
    show (dat m c).Φ t.succ = iprop(iprop(owns (c : Thread nD τ) scr fullShare (k0_pay1 (wts m c (firstOf m t.val))) ∗ (∃ r, prngReg c r)) ∗ flagPt c (tbl m 0)) from rfl]
  unfold outAt
  by_cases hz : t.val % 8 = 0
  · rw [firstOf_self m t hz]
    iintro ⟨⟨⟨HS, Hg⟩, HT⟩, Ho, ⟨%d0, H0⟩, ⟨%d1, H1⟩, ⟨%d2, H2⟩, ⟨%d3, H3⟩, ⟨%d4, H4⟩⟩
    iapply (runFirst_ok c (grid0.coords t) _ _ _ _ _ _ _ _ _ _ (rows m c t) (wts m c t) (resid m c t) (proj m c t) (tbl m 0) ((firstRows_iff t).mpr hz) Set.univ _)
    isplitl [H0]; · iexact H0
    isplitl [H1]; · iexact H1
    isplitl [H2]; · iexact H2
    isplitl [H3]; · iexact H3
    isplitl [H4]; · iexists _; iexact H4
    isplitl [HS]; · iapply (scrAt_any m c t.val); iexact HS
    isplitl [HT]; · iexact HT
    iintro ⟨H0, H1, H2, H3, H4, HS, HT⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    iexact H4
  · rw [scrAt_later m c t.val hz]
    iintro ⟨⟨⟨HS, Hg⟩, HT⟩, Ho, ⟨%d0, H0⟩, ⟨%d1, H1⟩, ⟨%d2, H2⟩, ⟨%d3, H3⟩, ⟨%d4, H4⟩⟩
    iapply (runLater_ok c (grid0.coords t) _ _ _ _ _ _ _ _ _ _ (rows m c t) (wts m c t) (resid m c t) (proj m c t) (tbl m 0) (k0_pay1 (wts m c (firstOf m t.val))) (fun h => hz ((firstRows_iff t).mp h)) Set.univ _)
    isplitl [H0]; · iexact H0
    isplitl [H1]; · iexact H1
    isplitl [H2]; · iexact H2
    isplitl [H3]; · iexact H3
    isplitl [H4]; · iexists _; iexact H4
    isplitl [HS]; · iexact HS
    isplitl [HT]; · iexact HT
    iintro ⟨H0, H1, H2, H3, H4, HS, HT⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    iexact H4

/-- The body as the pipeline's table of bodies gives it. -/
theorem body_row (t : Fin (cfgN m).N) :
    defs₀ (F := F) .tc (cfgN m).body ((cfgN m).bodyArgs t ((cfgN m).slots t)) = bodyAt m t := by
  unfold defs₀; rw [Defs.onTc_tc]

/-- What the launch theorem asks of the body. -/
theorem body_obligation (c : Dev nD) : BodyObligation (dat (F := F) m c) (defs₀ (F := F)) Variants.none () Set.univ := fun t => by
  rw [bigSep_W0, bigSep_W0, body_row m]
  exact triple_restated (body_ok m c t) rfl .rfl fun _ => .rfl

/-! ## The run -/

/-- The invariant before the first point is what the launch hands the call, -/
theorem enter (c : Dev nD) : iprop(Pipeline.ΦA spec0 c ∗ Pipeline.ΦT pre0 (tbl m) c) ⊢ (dat m c).Φ 0 := by
  rw [show (dat m c).Φ 0 = iprop(iprop((∃ d, owns (c : Thread nD τ) scr fullShare d) ∗ (∃ r, prngReg c r)) ∗ flagPt c (tbl m 0)) from rfl, PhiA_eq, PhiT_eq]

/-- and after the last it gives that back. -/
theorem leave (c : Dev nD) : (dat m c).Φ (Fin.last (cfgN m).N) ⊢ Pipeline.ΦA spec0 c := by
  rw [show (dat m c).Φ (Fin.last (cfgN m).N) = iprop(iprop(scrAt m c (cfgN m).N ∗ (∃ r, prngReg c r)) ∗ flagPt c (tbl m 0)) from rfl, PhiA_eq]
  iintro ⟨⟨HS, Hg⟩, -⟩
  isplitl [HS]
  · iapply (scrAt_any m c (cfgN m).N); iexact HS
  iexact Hg

/-- The core's buffers after the reshape. -/
abbrev VT (c : Dev nD) (b : Ref sig .tc) : Buf (Elt F) ((c : Thread nD τ).loc b) :=
  Pipeline.afterTail pcfgs (fun _ => adm m) (dats m) 0 (V0 m) [hostOps1] c b

set_option backward.isDefEq.respectTransparency.types false in
/-- Every execution ends, its arrays as the pipeline leaves them and every counter at zero. -/
theorem run_main : θ_run defs (onTc (τ := τ) (main (F := F))) (s₀ m ρ) (fun r => (Pipeline.FramePost (Pipeline.pin pcfgs fun _ => adm m) (dats m) 0 (VT m)) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dat m c).share_full fun _ => rfl)
    (howed := fun _ _ => rfl) (V₀ := V0 m) (opss := [hostOps1]) (hsub := tail_sub) (hfresh := tail_fresh) (hkeep := tail_keeps)
    (hmain := hmain m Variants.none) (hA := dat_A m) (hpf := V_pre m) (hin := enter m) (hout := leave m)

/-- The array the call leaves, and its reshape, the result. -/
abbrev array (c : Dev nD) : Buf (Elt F) ((c : Thread nD τ).loc main_v2) := (dat m c).arrAt 4 (cfgN m).N
def result (c : Dev nD) : Vec F S4x2048x4096 .f32 := shapeCast S4x2048x4096 (array m c : Vec F S8192x4096 .f32) shapeCasts_S8192x4096_S4x2048x4096

theorem VT_result (c : Dev nD) : VT m c main_v3 = result m c := by
  unfold VT Pipeline.afterTail
  have e : Pipeline.withArrays (Pipeline.pin pcfgs (fun _ => adm m) 0).spec c (V0 m c)
      (fun w => (dats m 0 c).arrAt w (Pipeline.pin pcfgs (fun _ => adm m) 0).N) (Proc.devRef .tc main_v2) = array m c :=
    Pipeline.withArrays_arr spec0 winFacts0.arr_inj c (V0 m c) (fun w => (dats m 0 c).arrAt w (cfgN m).N) 4
  generalize Pipeline.withArrays (Pipeline.pin pcfgs (fun _ => adm m) 0).spec c (V0 m c)
      (fun w => (dats m 0 c).arrAt w (Pipeline.pin pcfgs (fun _ => adm m) 0).N) = X at e ⊢
  unfold result
  rw [← e]
  show StableHlo.after (hostOps1 (F := F)) X (Proc.devRef .tc main_v3) = _
  after_results <;> rfl

theorem VT_arg3 (c : Dev nD) : VT m c main_arg3 = m ((c : Thread nD τ).loc main_arg3) := by
  unfold VT Pipeline.afterTail
  refine (StableHlo.after_of_writes_sub (W := [main_v3]) hostOps1 _ (StableHlo.forall_writes_sub_of_map rfl) (by decide : main_arg3 ∉ [main_v3])).trans ?_
  exact (Pipeline.withArrays_of_ne spec0 c (V0 m c) _ main_arg3 (by decide)).trans (V_of m c main_arg3 (by decide))

/-- So the program ends with its result at `result`, its arguments as they were and every counter at zero. -/
theorem run_result : θ_run defs (onTc (τ := τ) (main (F := F))) ⟨m, fun _ => 0, ρ⟩ (fun r => (∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_v3 (by decide : main_v3 ∈ Pipeline.restRefs sig spec0)).trans (VT_result m c),
      ((h.1 c).1 0).trans (((dat m c).arrAt_in 0 rfl _).trans ((dat_A m c 0).trans (V_of m c main_arg0 (by decide)))),
      ((h.1 c).1 2).trans (((dat m c).arrAt_in 2 rfl _).trans ((dat_A m c 2).trans (V_of m c main_arg1 (by decide)))),
      ((h.1 c).1 3).trans (((dat m c).arrAt_in 3 rfl _).trans ((dat_A m c 3).trans (V_of m c main_arg2 (by decide)))),
      ((h.1 c).2 main_arg3 (by decide : main_arg3 ∈ Pipeline.restRefs sig spec0)).trans (VT_arg3 m c)⟩, h.2⟩) (run_main m ρ)

end Cert.Kernel4Ideal.PleGate

end
-- ==== Proof.PleGate.Frame.lean ====
/- The gated sum runs on bits as its idealization does: the two programs are the same operations, and what is proved of
   the one's running is proved whatever the arithmetic. -/
module

public import proofs.«01_k».proof.Defs
public import proofs.«01_k».proof.Proof.Gen.Kernel4
public import proofs.«01_k».proof.Proof.PleGate.KernelIdeal.Run

@[expose] public section

noncomputable section

namespace Cert.Kernel4Ideal.PleGate

open Idealize.ShloMosaic Idealize.ShloMosaic.TcCoe Idealize.ShloMosaic.Tactic Idealize.SL Idealize.SL.Sem
open Cert.Kernel4Ideal Cert.Kernel4Ideal.Gen

/-- From every memory of words the program ends with its arguments unchanged and its semaphores at zero. -/
def Runs : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0)

theorem runs : Runs := fun m ρ _ =>
  (θ_run defs _ _).mono (fun _ hr => ⟨fun c => (hr.1 c).2, hr.2⟩) (run_result m ρ)

/-- The two statements are one. -/
theorem same : Runs = Cert.quiescent_Kernel4 (hKernel4 := Cert.Kernel4.Gen.facts) := by sl_kernel_rfl

theorem frame_bits : Cert.quiescent_Kernel4 (hKernel4 := Cert.Kernel4.Gen.facts) := Eq.mp same runs

end Cert.Kernel4Ideal.PleGate

end
-- ==== Proof.PleGate.PromptBlocks.lean ====
/- The gated sum's points for the prompt's rows: column tile `j` is the outer grid coordinate, row tile `i` the inner one. A point leaves
   the residual plus the projected embedding gated by the logistic of the rows' products with the tile's weight columns. -/
module

public import proofs.«01_k».proof.Proof.PleGate.KernelIdeal.Run
public import Idealize.ShloMosaic.Lib.Pointwise

@[expose] public section

set_option maxRecDepth 16384

noncomputable section

namespace Cert.Kernel4Ideal.PleGate

open Idealize.ShloMosaic Idealize.ShloMosaic.TcCoe Idealize.ShloMosaic.Tactic
open Idealize.SL Idealize.SL.Sem
open Cert.Kernel4Ideal.Gen
open Idealize.ShloMosaic.Pipeline (Window)
variable (m : (ℓ : Loc nD τ sig) → Buf (Elt Ideal) ℓ)

/-- The point of column tile `j` and row tile `i`. -/
def pt (j i : Fin 8) : Fin grid0.N := ⟨8 * j.val + i.val, by rw [N_0]; omega⟩

theorem pt_val (j i : Fin 8) : (pt j i).val = 8 * j.val + i.val := rfl

/-- Its coordinates. -/
theorem coords_pt (j i : Fin 8) : (grid0.coords (pt j i) 0).val = j.val ∧ (grid0.coords (pt j i) 1).val = i.val := by
  have e0 : (grid0.coords (pt j i) 0).val = (pt j i).val / 8 % 8 := Pipeline.Grid.coords_val (pt j i) 0 (by decide) rfl
  have e1 : (grid0.coords (pt j i) 1).val = (pt j i).val / 1 % 8 := Pipeline.Grid.coords_val (pt j i) 1 (by decide) rfl
  rw [pt_val] at e0 e1
  omega

theorem word0 (j i : Fin 8) : (BitVec.ofNat 32 (grid0.coords (pt j i) 0).val).toNat = j.val := by
  rw [(coords_pt j i).1, BitVec.toNat_ofNat, Nat.mod_eq_of_lt (by omega)]
theorem word1 (j i : Fin 8) : (BitVec.ofNat 32 (grid0.coords (pt j i) 1).val).toNat = i.val := by
  rw [(coords_pt j i).2, BitVec.toNat_ofNat, Nat.mod_eq_of_lt (by omega)]
theorem wordIn (j i : Fin 8) : (Scalar.addi 0#32 (BitVec.ofNat 32 (grid0.coords (pt j i) 1).val)).toNat = i.val := by
  rw [show Scalar.addi 0#32 (BitVec.ofNat 32 (grid0.coords (pt j i) 1).val) = BitVec.ofNat 32 (grid0.coords (pt j i) 1).val from
    BitVec.zero_add _]
  exact word1 j i

/-- Row `r` of row tile `i` among the prompt's rows and in the arrays the call reads, and column `k` of column tile `j`. -/
def row (i : Fin 8) (r : Fin 1024) : Fin 8192 := ⟨1024 * i.val + r.val, by omega⟩
def src (n : Fin 8192) : Fin 8704 := ⟨n.val, by omega⟩
def col (j : Fin 8) (k : Fin 512) : Fin 4096 := ⟨512 * j.val + k.val, by omega⟩

/-- The normalised rows, the residual, the projected embedding and the weights on a device. -/
abbrev argX (c : Dev nD) : Vec Ideal S8704x4096 .bf16 := m ((c.tc : Thread nD τ).loc main_arg0)
abbrev argH (c : Dev nD) : Vec Ideal S8704x4096 .f32 := m ((c.tc : Thread nD τ).loc main_arg1)
abbrev argP (c : Dev nD) : Vec Ideal S8704x4096 .f32 := m ((c.tc : Thread nD τ).loc main_arg2)
abbrev argW (c : Dev nD) : Vec Ideal S1x4096x4096 .f32 := m ((c.tc : Thread nD τ).loc main_arg3)

/-- The weights as the call finds them: the argument without its first axis. -/
theorem weights (c : Dev nD) : (V m c main_v0 : Vec Ideal S4096x4096 .f32) = shapeCast _ (argW m c) shapeCasts_S1x4096x4096_S4096x4096 := by
  show StableHlo.after hostOps0 (fun b => m (c, b)) (Proc.devRef .tc main_v0) = _
  after_results <;> rfl

/-- A block the array's edge does not cut reads as the array does. -/
theorem uncut {G : Pipeline.Grid} (w : Window sig G) (i : G.Coords) (h : ∀ a, w.clip i a = none) (j : w.block.Idx) (a) :
    (j a).val < w.xsize i a := by
  have := (j a).isLt
  unfold Window.xsize
  rw [h a]
  exact this

theorem fill_uncut {G : Pipeline.Grid} (w : Window sig G) (i : G.Coords) (h : ∀ a, w.clip i a = none) {α : Type} (d : w.block.Idx → α)
    (g : (w.xblock i).Idx → α) (j : w.block.Idx) : w.fill i d g j = g fun a => ⟨(j a).val, uncut w i h j a⟩ := by
  unfold Window.fill
  rw [dif_pos ((w.moved_iff i j).mpr (uncut w i h j))]

theorem rows_apply (c : Dev nD) (j i : Fin 8) (r : Fin 1024) (d : Fin 4096) :
    rows m c (pt j i) (ValueIdx.ix2 r d) = argX m c (ValueIdx.ix2 (src (row i r)) d) := by
  refine Eq.trans (b := (V m c main_arg0 : Vec Ideal S8704x4096 .bf16) (ValueIdx.ix2 (src (row i r)) d)) ?_
    (congrFun (V_of m c main_arg0 (by decide)) (ValueIdx.ix2 (src (row i r)) d : S8704x4096.Idx))
  refine (fill_uncut ((cfgN m).win 0) (grid0.coords (pt j i)) (noClip0 m (pt j i)) (view0.read (Elt Ideal) view0.junk) (blk m c 0 (pt j i)) (ValueIdx.ix2 r d : S1024x4096.Idx)).trans ?_
  refine (View.read_apply ..).trans (congrArg (V m c main_arg0) (funext fun a => Fin.ext ?_))
  match a with
  | ⟨0, _⟩ => show (Scalar.addi 0#32 (BitVec.ofNat 32 (grid0.coords (pt j i) 1).val)).toNat * 1024 + 1 * r.val = 1024 * i.val + r.val
              rw [wordIn]; omega
  | ⟨1, _⟩ => show 0 * 4096 + 1 * d.val = d.val
              omega

theorem resid_apply (c : Dev nD) (j i : Fin 8) (r : Fin 1024) (k : Fin 512) :
    resid m c (pt j i) (ValueIdx.ix2 r k) = argH m c (ValueIdx.ix2 (src (row i r)) (col j k)) := by
  refine Eq.trans (b := (V m c main_arg1 : Vec Ideal S8704x4096 .f32) (ValueIdx.ix2 (src (row i r)) (col j k))) ?_
    (congrFun (V_of m c main_arg1 (by decide)) (ValueIdx.ix2 (src (row i r)) (col j k) : S8704x4096.Idx))
  refine (fill_uncut ((cfgN m).win 2) (grid0.coords (pt j i)) (noClip2 m (pt j i)) (view2.read (Elt Ideal) view2.junk) (blk m c 2 (pt j i)) (ValueIdx.ix2 r k : S1024x512.Idx)).trans ?_
  refine (View.read_apply ..).trans (congrArg (V m c main_arg1) (funext fun a => Fin.ext ?_))
  match a with
  | ⟨0, _⟩ => show (Scalar.addi 0#32 (BitVec.ofNat 32 (grid0.coords (pt j i) 1).val)).toNat * 1024 + 1 * r.val = 1024 * i.val + r.val
              rw [wordIn]; omega
  | ⟨1, _⟩ => show (BitVec.ofNat 32 (grid0.coords (pt j i) 0).val).toNat * 512 + 1 * k.val = 512 * j.val + k.val
              rw [word0]; omega

theorem proj_apply (c : Dev nD) (j i : Fin 8) (r : Fin 1024) (k : Fin 512) :
    proj m c (pt j i) (ValueIdx.ix2 r k) = argP m c (ValueIdx.ix2 (src (row i r)) (col j k)) := by
  refine Eq.trans (b := (V m c main_arg2 : Vec Ideal S8704x4096 .f32) (ValueIdx.ix2 (src (row i r)) (col j k))) ?_
    (congrFun (V_of m c main_arg2 (by decide)) (ValueIdx.ix2 (src (row i r)) (col j k) : S8704x4096.Idx))
  refine (fill_uncut ((cfgN m).win 3) (grid0.coords (pt j i)) (noClip3 m (pt j i)) (view3.read (Elt Ideal) view3.junk) (blk m c 3 (pt j i)) (ValueIdx.ix2 r k : S1024x512.Idx)).trans ?_
  refine (View.read_apply ..).trans (congrArg (V m c main_arg2) (funext fun a => Fin.ext ?_))
  match a with
  | ⟨0, _⟩ => show (Scalar.addi 0#32 (BitVec.ofNat 32 (grid0.coords (pt j i) 1).val)).toNat * 1024 + 1 * r.val = 1024 * i.val + r.val
              rw [wordIn]; omega
  | ⟨1, _⟩ => show (BitVec.ofNat 32 (grid0.coords (pt j i) 0).val).toNat * 512 + 1 * k.val = 512 * j.val + k.val
              rw [word0]; omega

theorem wts_apply (c : Dev nD) (j i : Fin 8) (d : Fin 4096) (k : Fin 512) :
    wts m c (pt j i) (ValueIdx.ix2 d k) = argW m c (ValueIdx.ix3 0 d (col j k)) := by
  refine Eq.trans (b := (V m c main_v0 : Vec Ideal S4096x4096 .f32) (ValueIdx.ix2 d (col j k))) ?_
    ((congrFun (weights m c) (ValueIdx.ix2 d (col j k) : S4096x4096.Idx)).trans (by pointwise; rfl))
  refine (View.read_apply ..).trans (congrArg (V m c main_v0) (funext fun a => Fin.ext ?_))
  match a with
  | ⟨0, _⟩ => show 0 * 4096 + 1 * d.val = d.val
              omega
  | ⟨1, _⟩ => show (BitVec.ofNat 32 (grid0.coords (pt j i) 0).val).toNat * 512 + 1 * k.val = 512 * j.val + k.val
              rw [word0]; omega

/-- The weights a point rounds into scratch. -/
theorem pay1_apply (w : Vec Ideal S4096x512 .f32) (d : Fin 4096) (k : Fin 512) :
    k0_pay1 w (ValueIdx.ix3 0 d k) = w (ValueIdx.ix2 d k) := by
  pointwise [k0_pay1]
  rfl

/-- The gated sum of a block. -/
theorem pay2_apply (x : Vec Ideal S1024x4096 .bf16) (w : Vec Ideal S1x4096x512 .bf16) (h p : Vec Ideal S1024x512 .f32) (r : Fin 1024) (k : Fin 512) :
    k0_pay2 x w h p (ValueIdx.ix2 r k)
      = h (ValueIdx.ix2 r k) + Ideal.logistic (∑ d : Fin 4096, x (ValueIdx.ix2 r d) * w (ValueIdx.ix3 0 d k)) * p (ValueIdx.ix2 r k) := by
  pointwise [k0_pay2]
  rfl

theorem firstOf_pt (j i : Fin 8) : firstOf m (pt j i).val = pt j 0 :=
  Fin.ext (by show 8 * ((8 * j.val + i.val) / 8) % 64 = 8 * j.val + 0; omega)

/-- The gated sum at every row and column. -/
def whole (c : Dev nD) : Vec Ideal S8192x4096 .f32 := fun y =>
  argH m c (ValueIdx.ix2 (src (y 0)) (y 1))
    + Ideal.logistic (∑ d : Fin 4096, argX m c (ValueIdx.ix2 (src (y 0)) d) * argW m c (ValueIdx.ix3 0 d (y 1))) * argP m c (ValueIdx.ix2 (src (y 0)) (y 1))

/-- What a point leaves in its block. -/
theorem outAt_apply (c : Dev nD) (j i : Fin 8) (r : Fin 1024) (k : Fin 512) :
    outAt m c (pt j i) (ValueIdx.ix2 r k) = whole m c (ValueIdx.ix2 (row i r) (col j k)) := by
  unfold outAt
  rw [pay2_apply, resid_apply, proj_apply, firstOf_pt]
  refine congrArg (fun s => argH m c (ValueIdx.ix2 (src (row i r)) (col j k)) + Ideal.logistic s * argP m c (ValueIdx.ix2 (src (row i r)) (col j k)))
    (Finset.sum_congr rfl fun d _ => ?_)
  rw [pay1_apply, wts_apply, rows_apply]

end Cert.Kernel4Ideal.PleGate

end
-- ==== Proof.PleGate.PromptResult.lean ====
/- The gated sum's result for the prompt's rows: every block is written once, so the array holds the gated sum at every row and
   column, which is what the reference computes; the host then reshapes it to sequences. -/
module

public import proofs.«01_k».proof.Proof.PleGate.PromptBlocks
public import proofs.«01_k».proof.Proof.Gen.Reference4Ideal.Run

@[expose] public section

set_option maxRecDepth 16384

noncomputable section

namespace Cert.Kernel4Ideal.PleGate

open Idealize.ShloMosaic Idealize.ShloMosaic.TcCoe Idealize.ShloMosaic.Tactic
open Idealize.SL Idealize.SL.Sem
open Cert.Kernel4Ideal.Gen

variable (m : (ℓ : Loc nD τ sig) → Buf (Elt Ideal) ℓ) (ρ : Dev nD → PrngReg)

/-- The output's block moves at every point. -/
theorem flush_out (t : Fin grid0.N) : Pipeline.Window.flushOf grid0 true cc0_transform_4 t = true :=
  (Pipeline.Window.flushOf_reads cc0_transform_4 reads0_4 hreads0_4 1 (by decide) (by decide)
    (Pipeline.Window.sep_of_coord cc0_transform_4 1 0 (fun _ => rfl) (by decide)) (P := 1) (m := 0) (by decide) rfl t).mpr (Nat.mod_one _)

/-- The tile of a row and of a column, and their places in it. -/
def rowTile (n : Fin 8192) : Fin 8 := ⟨n.val / 1024, by omega⟩
def rowIn (n : Fin 8192) : Fin 1024 := ⟨n.val % 1024, by omega⟩
def colTile (d : Fin 4096) : Fin 8 := ⟨d.val / 512, by omega⟩
def colIn (d : Fin 4096) : Fin 512 := ⟨d.val % 512, by omega⟩

/-- Where a point's block puts its element in the array. -/
theorem blk_out (j i : Fin 8) (y : S1024x512.Idx) (G : Vec Ideal S8192x4096 .f32) :
    (((cfgN m).win 4).blk (pt j i)).view.read (Elt Ideal) G y = G (ValueIdx.ix2 (row i (y 0)) (col j (y 1))) := by
  refine (View.read_apply ..).trans (congrArg G (funext fun a => Fin.ext ?_))
  match a with
  | ⟨0, _⟩ => show (BitVec.ofNat 32 (grid0.coords (pt j i) 1).val).toNat * 1024 + 1 * (y 0).val = 1024 * i.val + (y 0).val
              rw [word1]; omega
  | ⟨1, _⟩ => show (BitVec.ofNat 32 (grid0.coords (pt j i) 0).val).toNat * 512 + 1 * (y 1).val = 512 * j.val + (y 1).val
              rw [word0]; omega

/-- A point's block, cut at no edge, is the gated sum's block there. -/
theorem cut_out (c : Dev nD) (j i : Fin 8) (y : S1024x512.Idx) :
    ((cfgN m).win 4).cut (grid0.coords (pt j i)) (outAt m c (pt j i)) y
      = (((cfgN m).win 4).blk (pt j i)).view.read (Elt Ideal) (whole m c) y := by
  refine Eq.trans ?_ ((blk_out m j i y (whole m c)).trans (outAt_apply m c j i (y 0) (y 1)).symm).symm
  refine congrArg (outAt m c (pt j i)) (funext fun a => Fin.ext ?_)
  match a with
  | ⟨0, _⟩ => rfl
  | ⟨1, _⟩ => rfl

theorem flushed_eq (c : Dev nD) (t : Fin (cfgN m).N) :
    (dat m c).flushed 4 t = (((cfgN m).win 4).blk t).view.read (Elt Ideal) (whole m c) := by
  have ht : t.val < 64 := Nat.lt_of_lt_of_eq t.isLt N_0
  obtain ⟨j, i, rfl⟩ : ∃ j i : Fin 8, t = pt j i :=
    ⟨⟨t.val / 8, by omega⟩, ⟨t.val % 8, by omega⟩, Fin.ext (by show t.val = 8 * (t.val / 8) + t.val % 8; omega)⟩
  refine Eq.trans (congrArg (((cfgN m).win 4).cut (grid0.coords (pt j i))) (after_4 m c (pt j i))) ?_
  exact funext (cut_out m c j i)

theorem mem_blk_out (y : S8192x4096.Idx) :
    y ∈ (((cfgN m).win 4).blk (pt (colTile (y 1)) (rowTile (y 0)))).view.set := by
  have e : ((((cfgN m).win 4).blk (pt (colTile (y 1)) (rowTile (y 0)))).view.emb (ValueIdx.ix2 (rowIn (y 0)) (colIn (y 1)) : S1024x512.Idx)) = y :=
    funext fun a => Fin.ext (by
      match a with
      | ⟨0, _⟩ => show (BitVec.ofNat 32 (grid0.coords (pt (colTile (y 1)) (rowTile (y 0))) 1).val).toNat * 1024 + 1 * ((y 0).val % 1024) = (y 0).val
                  rw [word1]; show (y 0).val / 1024 * 1024 + _ = _; omega
      | ⟨1, _⟩ => show (BitVec.ofNat 32 (grid0.coords (pt (colTile (y 1)) (rowTile (y 0))) 0).val).toNat * 512 + 1 * ((y 1).val % 512) = (y 1).val
                  rw [word0]; show (y 1).val / 512 * 512 + _ = _; omega)
  have h := View.emb_mem_set (((cfgN m).win 4).blk (pt (colTile (y 1)) (rowTile (y 0)))).view (ValueIdx.ix2 (rowIn (y 0)) (colIn (y 1)) : S1024x512.Idx)
  rw [e] at h
  exact h

/-- The array the call leaves. -/
theorem result_eq (c : Dev nD) : (dat m c).arrAt 4 (cfgN m).N = whole m c :=
  (dat m c).arrAt_eq_of_cover 4 (whole m c) (fun t _ => flushed_eq m c t) fun (y : S8192x4096.Idx) =>
    ⟨pt (colTile (y 1)) (rowTile (y 0)), flush_out _, mem_blk_out m y⟩

/-- The result: the array's rows as 4 sequences. -/
def seqs (c : Dev nD) : FVec Ideal S4x2048x4096 .f32 := shapeCast S4x2048x4096 (whole m c) shapeCasts_S8192x4096_S4x2048x4096

/-- The kernel ends at the gated sum of the sequences, its arguments unchanged. -/
theorem run : θ_run defs (onTc (τ := τ) (main (F := Ideal))) ⟨m, fun _ => 0, ρ⟩ (fun r => ∀ c : Dev nD,
      r.2.mem ((c.tc : Thread nD τ).loc main_v3) = seqs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1.trans (congrArg (fun z => shapeCast S4x2048x4096 z shapeCasts_S8192x4096_S4x2048x4096) (result_eq m c)), (h.1 c).2⟩)
    (run_result m ρ)

end Cert.Kernel4Ideal.PleGate

namespace Cert.Reference4Ideal.PleGate

open Idealize.ShloMosaic Idealize.ShloMosaic.TcCoe Idealize.ShloMosaic.Tactic
open Cert.Reference4Ideal.Gen

/-- The reference's products and its gated sum. -/
def product (x : FVec Ideal S8704x4096 .bf16) (w : FVec Ideal S1x4096x4096 .f32) : FVec Ideal S8192x4096 .f32 :=
  Host.dotGeneral dot_S8192x4096_S4096x4096_S8192x4096_1_0_0_1_n_n none (extf .f32 (extractStridedSlice S8192x4096 ![0, 0] x slices_S8704x4096_S8192x4096_0_0) bitsLt_bf16_f32)
    (shapeCast _ w shapeCasts_S1x4096x4096_S4096x4096)
def gated (x : FVec Ideal S8704x4096 .bf16) (h p : FVec Ideal S8704x4096 .f32) (w : FVec Ideal S1x4096x4096 .f32) : FVec Ideal S8192x4096 .f32 :=
  addf (extractStridedSlice S8192x4096 ![0, 0] h slices_S8704x4096_S8192x4096_0_0)
    (mulf (Host.divf (broadcastInDim S8192x4096 ![] bcast_S_S8192x4096 (constant S_ .f32 0x3F800000#32))
      (addf (broadcastInDim S8192x4096 ![] bcast_S_S8192x4096 (constant S_ .f32 0x3F800000#32)) (Host.exp (Host.negf (product x w)))))
      (extractStridedSlice S8192x4096 ![0, 0] p slices_S8704x4096_S8192x4096_0_0))

def seqs (x : FVec Ideal S8704x4096 .bf16) (h p : FVec Ideal S8704x4096 .f32) (w : FVec Ideal S1x4096x4096 .f32) : FVec Ideal S4x2048x4096 .f32 :=
  shapeCast S4x2048x4096 (gated x h p w) shapeCasts_S8192x4096_S4x2048x4096

/-- A row of the slice in the array. -/
def src (n : Fin 8192) : Fin 8704 := ⟨n.val, by omega⟩

theorem slice_apply {e : FTy} (x : FVec Ideal S8704x4096 e) (n : Fin 8192) (d : Fin 4096) :
    extractStridedSlice S8192x4096 ![0, 0] x slices_S8704x4096_S8192x4096_0_0 (ValueIdx.ix2 n d) = x (ValueIdx.ix2 (src n) d) :=
  congrArg x (funext fun a => Fin.ext (by
    match a with
    | ⟨0, _⟩ => show 0 + n.val = n.val; omega
    | ⟨1, _⟩ => show 0 + d.val = d.val; omega))

theorem product_apply (x : FVec Ideal S8704x4096 .bf16) (w : FVec Ideal S1x4096x4096 .f32) (n : Fin 8192) (e : Fin 4096) :
    product x w (ValueIdx.ix2 n e) = ∑ d : Fin 4096, x (ValueIdx.ix2 (src n) d) * w (ValueIdx.ix3 0 d e) := by
  refine Eq.trans (b := ∑ d : Fin 4096, (extractStridedSlice S8192x4096 ![0, 0] x slices_S8704x4096_S8192x4096_0_0) (ValueIdx.ix2 n d) * w (ValueIdx.ix3 0 d e)) ?_
    (Finset.sum_congr rfl fun d _ => by rw [slice_apply])
  unfold product
  generalize extractStridedSlice S8192x4096 ![0, 0] x slices_S8704x4096_S8192x4096_0_0 = z
  pointwise
  rfl

theorem gated_apply (x : FVec Ideal S8704x4096 .bf16) (h p : FVec Ideal S8704x4096 .f32) (w : FVec Ideal S1x4096x4096 .f32) (n : Fin 8192) (e : Fin 4096) :
    gated x h p w (ValueIdx.ix2 n e)
      = h (ValueIdx.ix2 (src n) e) + Ideal.logistic (∑ d : Fin 4096, x (ValueIdx.ix2 (src n) d) * w (ValueIdx.ix3 0 d e)) * p (ValueIdx.ix2 (src n) e) := by
  rw [← product_apply, ← slice_apply h, ← slice_apply p]
  unfold gated
  generalize product x w = s
  generalize extractStridedSlice S8192x4096 ![0, 0] h slices_S8704x4096_S8192x4096_0_0 = h'
  generalize extractStridedSlice S8192x4096 ![0, 0] p slices_S8704x4096_S8192x4096_0_0 = p'
  pointwise [Ideal.ofBits_one_f32]
  rfl

end Cert.Reference4Ideal.PleGate

namespace Cert.Kernel4Ideal.PleGate

open Idealize.ShloMosaic Idealize.ShloMosaic.TcCoe

/-- It is the array the kernel leaves. -/
theorem gated_eq (m : (ℓ : Loc nD τ sig) → Buf (Elt Ideal) ℓ) (c : Dev nD) :
    Cert.Reference4Ideal.PleGate.gated (argX m c) (argH m c) (argP m c) (argW m c) = whole m c := by
  funext y
  obtain ⟨n, d, rfl⟩ : ∃ (n : Fin 8192) (d : Fin 4096), y = ValueIdx.ix2 n d :=
    ⟨y 0, y 1, funext fun a => by match a with | ⟨0, _⟩ => rfl | ⟨1, _⟩ => rfl⟩
  exact Cert.Reference4Ideal.PleGate.gated_apply _ _ _ _ n d

/-- The reference's result is the kernel's. -/
theorem seqs_eq (m : (ℓ : Loc nD τ sig) → Buf (Elt Ideal) ℓ) (c : Dev nD) :
    Cert.Reference4Ideal.PleGate.seqs (argX m c) (argH m c) (argP m c) (argW m c) = seqs m c := by
  unfold Cert.Reference4Ideal.PleGate.seqs
  rw [gated_eq m c]
  rfl

end Cert.Kernel4Ideal.PleGate

end
-- ==== Proof.PleGate.SampleBlocks.lean ====
/- The gated sum's points for the sample's rows: column tile `j` is the outer grid coordinate, and one row tile holds every row. A point leaves
   the residual plus the projected embedding gated by the logistic of the rows' products with the tile's weight columns. -/
module

public import proofs.«01_k».proof.Proof.Gen.Kernel5Ideal.Frame
public import Idealize.ShloMosaic.Lib.Pointwise

@[expose] public section

set_option maxRecDepth 16384

noncomputable section

namespace Cert.Kernel5Ideal.PleGate

open Idealize.ShloMosaic Idealize.ShloMosaic.TcCoe Idealize.ShloMosaic.Tactic
open Idealize.SL Idealize.SL.Sem
open Cert.Kernel5Ideal.Gen

variable (m : (ℓ : Loc nD τ sig) → Buf (Elt Ideal) ℓ)

theorem zeros2 : (![0, 0] : Fin 2 → ℕ) = fun _ => 0 := by decide
theorem zeros3 : (![0, 0, 0] : Fin 3 → ℕ) = fun _ => 0 := by decide

/-- The point of column tile `j`. -/
def pt (j : Fin 8) : Fin grid0.N := ⟨j.val, by rw [N_0]; omega⟩

theorem pt_val (j : Fin 8) : (pt j).val = j.val := rfl

/-- Its coordinates. -/
theorem coords_pt (j : Fin 8) : (grid0.coords (pt j) 0).val = j.val ∧ (grid0.coords (pt j) 1).val = 0 := by
  have e0 : (grid0.coords (pt j) 0).val = (pt j).val / 1 % 8 := Pipeline.Grid.coords_val (pt j) 0 (by decide) rfl
  have e1 : (grid0.coords (pt j) 1).val = (pt j).val / 1 % 1 := Pipeline.Grid.coords_val (pt j) 1 (by decide) rfl
  rw [pt_val] at e0 e1
  omega

theorem word0 (j : Fin 8) : (BitVec.ofNat 32 (grid0.coords (pt j) 0).val).toNat = j.val := by
  rw [(coords_pt j).1, BitVec.toNat_ofNat, Nat.mod_eq_of_lt (by omega)]
theorem word1 (j : Fin 8) : (BitVec.ofNat 32 (grid0.coords (pt j) 1).val).toNat = 0 := by
  rw [(coords_pt j).2]; rfl
theorem wordIn (j : Fin 8) : (Scalar.addi 16#32 (BitVec.ofNat 32 (grid0.coords (pt j) 1).val)).toNat = 16 := by
  rw [(coords_pt j).2]; rfl

/-- Where row `r` of the sample is in the arrays the call reads, and column `k` of column tile `j`. -/
def src (n : Fin 512) : Fin 8704 := ⟨8192 + n.val, by omega⟩
def col (j : Fin 8) (k : Fin 512) : Fin 4096 := ⟨512 * j.val + k.val, by omega⟩

/-- The normalised rows, the residual, the projected embedding and the weights on a device. -/
abbrev argX (c : Dev nD) : Vec Ideal S8704x4096 .bf16 := m ((c.tc : Thread nD τ).loc main_arg0)
abbrev argH (c : Dev nD) : Vec Ideal S8704x4096 .f32 := m ((c.tc : Thread nD τ).loc main_arg1)
abbrev argP (c : Dev nD) : Vec Ideal S8704x4096 .f32 := m ((c.tc : Thread nD τ).loc main_arg2)
abbrev argW (c : Dev nD) : Vec Ideal S1x4096x4096 .f32 := m ((c.tc : Thread nD τ).loc main_arg3)

/-- The weights as the call finds them: the argument without its first axis. -/
theorem weights (c : Dev nD) : (V m c main_v0 : Vec Ideal S4096x4096 .f32) = shapeCast _ (argW m c) shapeCasts_S1x4096x4096_S4096x4096 := by
  show StableHlo.after hostOps0 (fun b => m (c, b)) (Proc.devRef .tc main_v0) = _
  after_results <;> rfl

/-- The blocks a point reads. -/
abbrev rows (hO : Ok m) (c : Dev nD) (t : Fin (cfgM m hO).N) : Vec Ideal S512x4096 .bf16 := iblk m hO c 0 t
abbrev wts (hO : Ok m) (c : Dev nD) (t : Fin (cfgM m hO).N) : Vec Ideal S4096x512 .f32 := iblk m hO c 1 t
abbrev resid (hO : Ok m) (c : Dev nD) (t : Fin (cfgM m hO).N) : Vec Ideal S512x512 .f32 := iblk m hO c 2 t
abbrev proj (hO : Ok m) (c : Dev nD) (t : Fin (cfgM m hO).N) : Vec Ideal S512x512 .f32 := iblk m hO c 3 t

theorem rows_apply (hO : Ok m) (c : Dev nD) (j : Fin 8) (r : Fin 512) (d : Fin 4096) :
    rows m hO c (pt j) (ValueIdx.ix2 r d) = argX m c (ValueIdx.ix2 (src r) d) := by
  refine Eq.trans (b := (V m c main_arg0 : Vec Ideal S8704x4096 .bf16) (ValueIdx.ix2 (src r) d)) ?_
    (congrFun (V_main_arg0 m c) (ValueIdx.ix2 (src r) d : S8704x4096.Idx))
  refine (View.read_apply ..).trans (congrArg (V m c main_arg0) (funext fun a => Fin.ext ?_))
  match a with
  | ⟨0, _⟩ => show (Scalar.addi 16#32 (BitVec.ofNat 32 (grid0.coords (pt j) 1).val)).toNat * 512 + 1 * r.val = 8192 + r.val
              rw [wordIn]; omega
  | ⟨1, _⟩ => show 0 * 4096 + 1 * d.val = d.val
              omega

theorem resid_apply (hO : Ok m) (c : Dev nD) (j : Fin 8) (r : Fin 512) (k : Fin 512) :
    resid m hO c (pt j) (ValueIdx.ix2 r k) = argH m c (ValueIdx.ix2 (src r) (col j k)) := by
  refine Eq.trans (b := (V m c main_arg1 : Vec Ideal S8704x4096 .f32) (ValueIdx.ix2 (src r) (col j k))) ?_
    (congrFun (V_main_arg1 m c) (ValueIdx.ix2 (src r) (col j k) : S8704x4096.Idx))
  refine (View.read_apply ..).trans (congrArg (V m c main_arg1) (funext fun a => Fin.ext ?_))
  match a with
  | ⟨0, _⟩ => show (Scalar.addi 16#32 (BitVec.ofNat 32 (grid0.coords (pt j) 1).val)).toNat * 512 + 1 * r.val = 8192 + r.val
              rw [wordIn]; omega
  | ⟨1, _⟩ => show (BitVec.ofNat 32 (grid0.coords (pt j) 0).val).toNat * 512 + 1 * k.val = 512 * j.val + k.val
              rw [word0]; omega

theorem proj_apply (hO : Ok m) (c : Dev nD) (j : Fin 8) (r : Fin 512) (k : Fin 512) :
    proj m hO c (pt j) (ValueIdx.ix2 r k) = argP m c (ValueIdx.ix2 (src r) (col j k)) := by
  refine Eq.trans (b := (V m c main_arg2 : Vec Ideal S8704x4096 .f32) (ValueIdx.ix2 (src r) (col j k))) ?_
    (congrFun (V_main_arg2 m c) (ValueIdx.ix2 (src r) (col j k) : S8704x4096.Idx))
  refine (View.read_apply ..).trans (congrArg (V m c main_arg2) (funext fun a => Fin.ext ?_))
  match a with
  | ⟨0, _⟩ => show (Scalar.addi 16#32 (BitVec.ofNat 32 (grid0.coords (pt j) 1).val)).toNat * 512 + 1 * r.val = 8192 + r.val
              rw [wordIn]; omega
  | ⟨1, _⟩ => show (BitVec.ofNat 32 (grid0.coords (pt j) 0).val).toNat * 512 + 1 * k.val = 512 * j.val + k.val
              rw [word0]; omega

theorem wts_apply (hO : Ok m) (c : Dev nD) (j : Fin 8) (d : Fin 4096) (k : Fin 512) :
    wts m hO c (pt j) (ValueIdx.ix2 d k) = argW m c (ValueIdx.ix3 0 d (col j k)) := by
  refine Eq.trans (b := (V m c main_v0 : Vec Ideal S4096x4096 .f32) (ValueIdx.ix2 d (col j k))) ?_
    ((congrFun (weights m c) (ValueIdx.ix2 d (col j k) : S4096x4096.Idx)).trans (by pointwise; rfl))
  refine (View.read_apply ..).trans (congrArg (V m c main_v0) (funext fun a => Fin.ext ?_))
  match a with
  | ⟨0, _⟩ => show 0 * 4096 + 1 * d.val = d.val
              omega
  | ⟨1, _⟩ => show (BitVec.ofNat 32 (grid0.coords (pt j) 0).val).toNat * 512 + 1 * k.val = 512 * j.val + k.val
              rw [word0]; omega

/-- The weights a point rounds into scratch. -/
theorem pay1_apply (w : Vec Ideal S4096x512 .f32) (d : Fin 4096) (k : Fin 512) :
    k0_pay1 w (ValueIdx.ix3 0 d k) = w (ValueIdx.ix2 d k) := by
  pointwise [k0_pay1]
  rfl

/-- The gated sum of a block. -/
theorem pay2_apply (x : Vec Ideal S512x4096 .bf16) (w : Vec Ideal S1x4096x512 .bf16) (h p : Vec Ideal S512x512 .f32) (r : Fin 512) (k : Fin 512) :
    k0_pay2 x w h p (ValueIdx.ix2 r k)
      = h (ValueIdx.ix2 r k) + Ideal.logistic (∑ d : Fin 4096, x (ValueIdx.ix2 r d) * w (ValueIdx.ix3 0 d k)) * p (ValueIdx.ix2 r k) := by
  pointwise [k0_pay2]
  rfl

/-- What a point leaves in the output block. -/
theorem out_eq (c : Dev nD) (i : grid0.Coords) (a3 : Memref sig .tc .vmem S512x4096 .bf16) (h3 : a3.IsWhole) (a4 : Memref sig .tc .vmem S4096x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x512 .f32) (h7 : a7.IsWhole) (a8 : Memref sig .tc .vmem S1x4096x512 .bf16) (h8 : a8.IsWhole) (hc : cond0_0 i)
    (x0 : Vec Ideal S512x4096 .bf16) (x1 : Vec Ideal S4096x512 .f32) (x2 x3 : Vec Ideal S512x512 .f32) (xt : TbBuf0 (F := Ideal) c tbM0_0) :
    out0_A_4 c i a3 h3 a4 h4 a5 h5 a6 h6 a7 h7 a8 h8 hc x0 x1 x2 x3 xt = k0_pay2 x0 (k0_pay1 x1) x2 x3 := by
  unfold out0_A_4
  rw [View.read_writes_junk_eq_canon]
  unfold kernelRun0_A
  dsimp only
  sl_unfold_words
  simp only [View.readAt_eq_ld, h3.read_unread, h4.read_unread, h5.read_unread, h6.read_unread, View.ld_unit_zero (S := S512x4096) zeros2,
    View.ld_unit_zero (S := S512x512) zeros2, View.ld_unit_zero (S := S4096x512) zeros2, View.readCov_eq_canon']
  simp only [View.canon_unit_zero (S := S512x512) zeros2, View.canon_unit_zero (S := S1x4096x512) zeros3]
  refine congrArg (fun w => k0_pay2 x0 w x2 x3) (funext fun y => congrArg (k0_pay1 x1) (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

def outAt (hO : Ok m) (c : Dev nD) (t : Fin (cfgM m hO).N) : Vec Ideal S512x512 .f32 := outsAt0 m hO c t

theorem outAt_eq (hO : Ok m) (c : Dev nD) (t : Fin (cfgM m hO).N) :
    outAt m hO c t = k0_pay2 (rows m hO c t) (k0_pay1 (wts m hO c t)) (resid m hO c t) (proj m hO c t) :=
  out_eq c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) scM0_0 (Memref.isWhole_whole _) (hcond0_0 t) (iblk m hO c 0 t) (iblk m hO c 1 t) (iblk m hO c 2 t) (iblk m hO c 3 t) (tbl m 0)

/-- The gated sum at every row and column. -/
def whole (c : Dev nD) : Vec Ideal S512x4096 .f32 := fun y =>
  argH m c (ValueIdx.ix2 (src (y 0)) (y 1))
    + Ideal.logistic (∑ d : Fin 4096, argX m c (ValueIdx.ix2 (src (y 0)) d) * argW m c (ValueIdx.ix3 0 d (y 1))) * argP m c (ValueIdx.ix2 (src (y 0)) (y 1))

/-- What a point leaves in its block. -/
theorem outAt_apply (hO : Ok m) (c : Dev nD) (j : Fin 8) (r : Fin 512) (k : Fin 512) :
    outAt m hO c (pt j) (ValueIdx.ix2 r k) = whole m c (ValueIdx.ix2 r (col j k)) := by
  rw [outAt_eq, pay2_apply, resid_apply, proj_apply]
  refine congrArg (fun s => argH m c (ValueIdx.ix2 (src r) (col j k)) + Ideal.logistic s * argP m c (ValueIdx.ix2 (src r) (col j k)))
    (Finset.sum_congr rfl fun d _ => ?_)
  rw [pay1_apply, wts_apply, rows_apply]

end Cert.Kernel5Ideal.PleGate

end
-- ==== Proof.PleGate.SampleResult.lean ====
/- The gated sum's result for the sample's rows: every block is written once, so the array holds the gated sum at every row and
   column, which is what the reference computes; the host then keeps the rows of the tokens. -/
module

public import proofs.«01_k».proof.Proof.PleGate.SampleBlocks
public import proofs.«01_k».proof.Proof.Gen.Reference5Ideal.Run

@[expose] public section

set_option maxRecDepth 16384

noncomputable section

namespace Cert.Kernel5Ideal.PleGate

open Idealize.ShloMosaic Idealize.ShloMosaic.TcCoe Idealize.ShloMosaic.Tactic
open Idealize.SL Idealize.SL.Sem
open Cert.Kernel5Ideal.Gen

variable (m : (ℓ : Loc nD τ sig) → Buf (Elt Ideal) ℓ) (ρ : Dev nD → PrngReg)

/-- The table is read by no index map. -/
theorem ok : Ok m := trivial

/-- The tile of a column, and its place in it. -/
def colTile (d : Fin 4096) : Fin 8 := ⟨d.val / 512, by omega⟩
def colIn (d : Fin 4096) : Fin 512 := ⟨d.val % 512, by omega⟩

/-- Where a point's block puts its element in the array. -/
theorem blk_out (hO : Ok m) (j : Fin 8) (y : S512x512.Idx) (G : Vec Ideal S512x4096 .f32) :
    (((cfgM m hO).win 4).blk (pt j)).view.read (Elt Ideal) G y = G (ValueIdx.ix2 (y 0) (col j (y 1))) := by
  refine (View.read_apply ..).trans (congrArg G (funext fun a => Fin.ext ?_))
  match a with
  | ⟨0, _⟩ => show (BitVec.ofNat 32 (grid0.coords (pt j) 1).val).toNat * 512 + 1 * (y 0).val = (y 0).val
              rw [word1]; omega
  | ⟨1, _⟩ => show (BitVec.ofNat 32 (grid0.coords (pt j) 0).val).toNat * 512 + 1 * (y 1).val = 512 * j.val + (y 1).val
              rw [word0]; omega

/-- A point's block, cut at no edge, is the gated sum's block there. -/
theorem cut_out (hO : Ok m) (c : Dev nD) (j : Fin 8) (y : S512x512.Idx) :
    ((cfgM m hO).win 4).cut (grid0.coords (pt j)) (outAt m hO c (pt j)) y
      = (((cfgM m hO).win 4).blk (pt j)).view.read (Elt Ideal) (whole m c) y := by
  refine Eq.trans ?_ ((blk_out m hO j y (whole m c)).trans (outAt_apply m hO c j (y 0) (y 1)).symm).symm
  refine congrArg (outAt m hO c (pt j)) (funext fun a => Fin.ext ?_)
  match a with
  | ⟨0, _⟩ => rfl
  | ⟨1, _⟩ => rfl

theorem flushed_eq (hO : Ok m) (c : Dev nD) (t : Fin (cfgM m hO).N) :
    (dats m hO 0 c).flushed 4 t = (((cfgM m hO).win 4).blk t).view.read (Elt Ideal) (whole m c) := by
  have ht : t.val < 8 := Nat.lt_of_lt_of_eq t.isLt N_0
  obtain ⟨j, rfl⟩ : ∃ j : Fin 8, t = pt j := ⟨⟨t.val, ht⟩, rfl⟩
  refine Eq.trans (congrArg (((cfgM m hO).win 4).cut (grid0.coords (pt j))) (after0_4 m hO c (pt j))) ?_
  exact funext (cut_out m hO c j)

theorem mem_blk_out (hO : Ok m) (y : S512x4096.Idx) :
    y ∈ (((cfgM m hO).win 4).blk (pt (colTile (y 1)))).view.set := by
  have e : ((((cfgM m hO).win 4).blk (pt (colTile (y 1)))).view.emb (ValueIdx.ix2 (y 0) (colIn (y 1)) : S512x512.Idx)) = y :=
    funext fun a => Fin.ext (by
      match a with
      | ⟨0, _⟩ => show (BitVec.ofNat 32 (grid0.coords (pt (colTile (y 1))) 1).val).toNat * 512 + 1 * (y 0).val = (y 0).val
                  rw [word1]; omega
      | ⟨1, _⟩ => show (BitVec.ofNat 32 (grid0.coords (pt (colTile (y 1))) 0).val).toNat * 512 + 1 * ((y 1).val % 512) = (y 1).val
                  rw [word0]; show (y 1).val / 512 * 512 + _ = _; omega)
  have h := View.emb_mem_set (((cfgM m hO).win 4).blk (pt (colTile (y 1)))).view (ValueIdx.ix2 (y 0) (colIn (y 1)) : S512x512.Idx)
  rw [e] at h
  exact h

/-- The array the call leaves. -/
theorem result_eq (hO : Ok m) (c : Dev nD) : (dats m hO 0 c).arrAt 4 (cfgM m hO).N = whole m c :=
  (dats m hO 0 c).arrAt_eq_of_cover 4 (whole m c) (fun t _ => flushed_eq m hO c t) fun (y : S512x4096.Idx) =>
    ⟨pt (colTile (y 1)), flush0_4 (adm m hO) _, mem_blk_out m hO y⟩

/-- The result: the array's rows as 32 sequences of 16, the first 4 of each. -/
def tokens (c : Dev nD) : FVec Ideal S32x4x4096 .f32 :=
  extractStridedSlice S32x4x4096 ![0, 0, 0] (shapeCast S32x16x4096 (whole m c) shapeCasts_S512x4096_S32x16x4096) slices_S32x16x4096_S32x4x4096_0_0_0

/-- What the host's operations after the call leave. -/
theorem tail_eq (hO : Ok m) (c : Dev nD) :
    Pipeline.afterTail pcfgs (fun _ => adm m hO) (dats m hO) 0 (V0 m) [hostOps1] c main_v4 = tokens m c := by
  unfold Pipeline.afterTail
  have e : Pipeline.withArrays (Pipeline.pin pcfgs (fun _ => adm m hO) 0).spec c (V0 m c)
      (fun w => (dats m hO 0 c).arrAt w (Pipeline.pin pcfgs (fun _ => adm m hO) 0).N) (Proc.devRef .tc main_v2) = whole m c :=
    (Pipeline.withArrays_arr spec0 winFacts0.arr_inj c (V0 m c) (fun w => (dats m hO 0 c).arrAt w (cfgM m hO).N) 4).trans (result_eq m hO c)
  generalize Pipeline.withArrays (Pipeline.pin pcfgs (fun _ => adm m hO) 0).spec c (V0 m c)
      (fun w => (dats m hO 0 c).arrAt w (Pipeline.pin pcfgs (fun _ => adm m hO) 0).N) = X at e ⊢
  unfold tokens
  rw [← e]
  show StableHlo.after (hostOps1 (F := Ideal)) X (Proc.devRef .tc main_v4) = _
  after_results <;> rfl

/-- The kernel ends at the gated sum of the tokens, its arguments unchanged. -/
theorem run : θ_run defs (onTc (τ := τ) (main (F := Ideal))) ⟨m, fun _ => 0, ρ⟩ (fun r => ∀ c : Dev nD,
      r.2.mem ((c.tc : Thread nD τ).loc main_v4) = tokens m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (by decide : main_v4 ∈ Pipeline.restRefs sig spec0)).trans (tail_eq m (ok m) c), h.2 c⟩)
    (θ_run_and (run_main m ρ (ok m)) (unchanged m ρ (ok m)))

end Cert.Kernel5Ideal.PleGate

namespace Cert.Reference5Ideal.PleGate

open Idealize.ShloMosaic Idealize.ShloMosaic.TcCoe Idealize.ShloMosaic.Tactic
open Cert.Reference5Ideal.Gen

/-- The reference's products and its gated sum. -/
def product (x : FVec Ideal S8704x4096 .bf16) (w : FVec Ideal S1x4096x4096 .f32) : FVec Ideal S512x4096 .f32 :=
  Host.dotGeneral dot_S512x4096_S4096x4096_S512x4096_1_0_0_1_n_n none (extf .f32 (extractStridedSlice S512x4096 ![8192, 0] x slices_S8704x4096_S512x4096_8192_0) bitsLt_bf16_f32)
    (shapeCast _ w shapeCasts_S1x4096x4096_S4096x4096)
def gated (x : FVec Ideal S8704x4096 .bf16) (h p : FVec Ideal S8704x4096 .f32) (w : FVec Ideal S1x4096x4096 .f32) : FVec Ideal S512x4096 .f32 :=
  addf (extractStridedSlice S512x4096 ![8192, 0] h slices_S8704x4096_S512x4096_8192_0)
    (mulf (Host.divf (broadcastInDim S512x4096 ![] bcast_S_S512x4096 (constant S_ .f32 0x3F800000#32))
      (addf (broadcastInDim S512x4096 ![] bcast_S_S512x4096 (constant S_ .f32 0x3F800000#32)) (Host.exp (Host.negf (product x w)))))
      (extractStridedSlice S512x4096 ![8192, 0] p slices_S8704x4096_S512x4096_8192_0))

def tokens (x : FVec Ideal S8704x4096 .bf16) (h p : FVec Ideal S8704x4096 .f32) (w : FVec Ideal S1x4096x4096 .f32) : FVec Ideal S32x4x4096 .f32 :=
  extractStridedSlice S32x4x4096 ![0, 0, 0] (shapeCast S32x16x4096 (gated x h p w) shapeCasts_S512x4096_S32x16x4096) slices_S32x16x4096_S32x4x4096_0_0_0

/-- A row of the slice in the array. -/
def src (n : Fin 512) : Fin 8704 := ⟨8192 + n.val, by omega⟩

theorem slice_apply {e : FTy} (x : FVec Ideal S8704x4096 e) (n : Fin 512) (d : Fin 4096) :
    extractStridedSlice S512x4096 ![8192, 0] x slices_S8704x4096_S512x4096_8192_0 (ValueIdx.ix2 n d) = x (ValueIdx.ix2 (src n) d) :=
  congrArg x (funext fun a => Fin.ext (by
    match a with
    | ⟨0, _⟩ => show 8192 + n.val = 8192 + n.val; omega
    | ⟨1, _⟩ => show 0 + d.val = d.val; omega))

theorem product_apply (x : FVec Ideal S8704x4096 .bf16) (w : FVec Ideal S1x4096x4096 .f32) (n : Fin 512) (e : Fin 4096) :
    product x w (ValueIdx.ix2 n e) = ∑ d : Fin 4096, x (ValueIdx.ix2 (src n) d) * w (ValueIdx.ix3 0 d e) := by
  refine Eq.trans (b := ∑ d : Fin 4096, (extractStridedSlice S512x4096 ![8192, 0] x slices_S8704x4096_S512x4096_8192_0) (ValueIdx.ix2 n d) * w (ValueIdx.ix3 0 d e)) ?_
    (Finset.sum_congr rfl fun d _ => by rw [slice_apply])
  unfold product
  generalize extractStridedSlice S512x4096 ![8192, 0] x slices_S8704x4096_S512x4096_8192_0 = z
  pointwise
  rfl

theorem gated_apply (x : FVec Ideal S8704x4096 .bf16) (h p : FVec Ideal S8704x4096 .f32) (w : FVec Ideal S1x4096x4096 .f32) (n : Fin 512) (e : Fin 4096) :
    gated x h p w (ValueIdx.ix2 n e)
      = h (ValueIdx.ix2 (src n) e) + Ideal.logistic (∑ d : Fin 4096, x (ValueIdx.ix2 (src n) d) * w (ValueIdx.ix3 0 d e)) * p (ValueIdx.ix2 (src n) e) := by
  rw [← product_apply, ← slice_apply h, ← slice_apply p]
  unfold gated
  generalize product x w = s
  generalize extractStridedSlice S512x4096 ![8192, 0] h slices_S8704x4096_S512x4096_8192_0 = h'
  generalize extractStridedSlice S512x4096 ![8192, 0] p slices_S8704x4096_S512x4096_8192_0 = p'
  pointwise [Ideal.ofBits_one_f32]
  rfl

end Cert.Reference5Ideal.PleGate

namespace Cert.Kernel5Ideal.PleGate

open Idealize.ShloMosaic Idealize.ShloMosaic.TcCoe

/-- It is the array the kernel leaves. -/
theorem gated_eq (m : (ℓ : Loc nD τ sig) → Buf (Elt Ideal) ℓ) (c : Dev nD) :
    Cert.Reference5Ideal.PleGate.gated (argX m c) (argH m c) (argP m c) (argW m c) = whole m c := by
  funext y
  obtain ⟨n, d, rfl⟩ : ∃ (n : Fin 512) (d : Fin 4096), y = ValueIdx.ix2 n d :=
    ⟨y 0, y 1, funext fun a => by match a with | ⟨0, _⟩ => rfl | ⟨1, _⟩ => rfl⟩
  exact Cert.Reference5Ideal.PleGate.gated_apply _ _ _ _ n d

/-- The reference's result is the kernel's. -/
theorem tokens_eq (m : (ℓ : Loc nD τ sig) → Buf (Elt Ideal) ℓ) (c : Dev nD) :
    Cert.Reference5Ideal.PleGate.tokens (argX m c) (argH m c) (argP m c) (argW m c) = tokens m c := by
  unfold Cert.Reference5Ideal.PleGate.tokens
  rw [gated_eq m c]
  rfl

end Cert.Kernel5Ideal.PleGate

end
-- ==== Proof.PleProj.Blocks.lean ====
/- The embedding projection's points: one column tile holds every column, row tile `i` is point `i`. A point leaves the
   products of its 256 rows with the weights, each row scaled by the reciprocal root of its mean square and by the gains; the
   first point puts the weights in scratch. -/
module

public import proofs.«01_k».proof.Proof.Gen.Kernel6Ideal.Frame
public import Idealize.ShloMosaic.Lib.Pointwise

@[expose] public section

set_option maxRecDepth 16384

noncomputable section

namespace Cert.Kernel6Ideal.PleProj

open Idealize.ShloMosaic Idealize.ShloMosaic.TcCoe Idealize.ShloMosaic.Tactic
open Idealize.SL Idealize.SL.Sem
open Cert.Kernel6Ideal.Gen

variable (m : (ℓ : Loc nD τ sig) → Buf (Elt Ideal) ℓ)

theorem zeros2 : (![0, 0] : Fin 2 → ℕ) = fun _ => 0 := by decide
theorem zeros3 : (![0, 0, 0] : Fin 3 → ℕ) = fun _ => 0 := by decide

/-- The point of row tile `i`. -/
def pt (i : Fin 34) : Fin grid0.N := ⟨i.val, by rw [N_0]; omega⟩

theorem pt_val (i : Fin 34) : (pt i).val = i.val := rfl

/-- Its coordinates. -/
theorem coords_pt (i : Fin 34) : (grid0.coords (pt i) 0).val = 0 ∧ (grid0.coords (pt i) 1).val = i.val := by
  have e0 : (grid0.coords (pt i) 0).val = (pt i).val / 34 % 1 := Pipeline.Grid.coords_val (pt i) 0 (by decide) rfl
  have e1 : (grid0.coords (pt i) 1).val = (pt i).val / 1 % 34 := Pipeline.Grid.coords_val (pt i) 1 (by decide) rfl
  rw [pt_val] at e0 e1
  omega

theorem word0 (i : Fin 34) : (BitVec.ofNat 32 (grid0.coords (pt i) 0).val).toNat = 0 := by
  rw [(coords_pt i).1]; rfl
theorem word1 (i : Fin 34) : (BitVec.ofNat 32 (grid0.coords (pt i) 1).val).toNat = i.val := by
  rw [(coords_pt i).2, BitVec.toNat_ofNat, Nat.mod_eq_of_lt (by omega)]
theorem wordIn (i : Fin 34) : (Scalar.addi 0#32 (BitVec.ofNat 32 (grid0.coords (pt i) 1).val)).toNat = i.val := by
  rw [show Scalar.addi 0#32 (BitVec.ofNat 32 (grid0.coords (pt i) 1).val) = BitVec.ofNat 32 (grid0.coords (pt i) 1).val from
    BitVec.zero_add _]
  exact word1 i

/-- Row `r` of row tile `i`. -/
def row (i : Fin 34) (r : Fin 256) : Fin 8704 := ⟨256 * i.val + r.val, by omega⟩

/-- The embedding rows, the weights and the gains on a device. -/
abbrev argX (c : Dev nD) : Vec Ideal S8704x256 .f32 := m ((c.tc : Thread nD τ).loc main_arg0)
abbrev argW (c : Dev nD) : Vec Ideal S1x256x4096 .f32 := m ((c.tc : Thread nD τ).loc main_arg1)
abbrev argG (c : Dev nD) : Vec Ideal S1x4096 .f32 := m ((c.tc : Thread nD τ).loc main_arg2)

/-- What the host leaves of them: the rows rounded, the weights without their first axis, the gains reshaped twice. -/
theorem rows_found (c : Dev nD) : (V m c main_v0 : Vec Ideal S8704x256 .bf16) = (truncf .bf16 (argX m c : FVec Ideal S8704x256 .f32) bitsLt_bf16_f32 : FVec Ideal S8704x256 .bf16) := by
  show StableHlo.after hostOps0 (fun b => m (c, b)) (Proc.devRef .tc main_v0) = _
  after_results <;> rfl
theorem weights_found (c : Dev nD) : (V m c main_v1 : Vec Ideal S256x4096 .f32) = shapeCast _ (argW m c) shapeCasts_S1x256x4096_S256x4096 := by
  show StableHlo.after hostOps0 (fun b => m (c, b)) (Proc.devRef .tc main_v1) = _
  after_results <;> rfl
theorem gains_found (c : Dev nD) : (V m c main_v3 : Vec Ideal S1x4096 .f32)
    = shapeCast _ (shapeCast S4096 (argG m c) shapeCasts_S1x4096_S4096) shapeCasts_S4096_S1x4096 := by
  show StableHlo.after hostOps0 (fun b => m (c, b)) (Proc.devRef .tc main_v3) = _
  after_results <;> rfl

/-- The blocks a point reads. -/
abbrev xs (hO : Ok m) (c : Dev nD) (t : Fin (cfgM m hO).N) : Vec Ideal S256x256 .bf16 := iblk m hO c 0 t
abbrev ws (hO : Ok m) (c : Dev nD) (t : Fin (cfgM m hO).N) : Vec Ideal S256x4096 .f32 := iblk m hO c 1 t
abbrev gs (hO : Ok m) (c : Dev nD) (t : Fin (cfgM m hO).N) : Vec Ideal S1x4096 .f32 := iblk m hO c 2 t

theorem xs_apply (hO : Ok m) (c : Dev nD) (i : Fin 34) (r : Fin 256) (d : Fin 256) :
    xs m hO c (pt i) (ValueIdx.ix2 r d) = argX m c (ValueIdx.ix2 (row i r) d) := by
  refine Eq.trans (b := (V m c main_v0 : Vec Ideal S8704x256 .bf16) (ValueIdx.ix2 (row i r) d)) ?_
    ((congrFun (rows_found m c) (ValueIdx.ix2 (row i r) d : S8704x256.Idx)).trans rfl)
  refine (View.read_apply ..).trans (congrArg (V m c main_v0) (funext fun a => Fin.ext ?_))
  match a with
  | ⟨0, _⟩ => show (Scalar.addi 0#32 (BitVec.ofNat 32 (grid0.coords (pt i) 1).val)).toNat * 256 + 1 * r.val = 256 * i.val + r.val
              rw [wordIn]; omega
  | ⟨1, _⟩ => show 0 * 256 + 1 * d.val = d.val
              omega

theorem ws_apply (hO : Ok m) (c : Dev nD) (i : Fin 34) (d : Fin 256) (k : Fin 4096) :
    ws m hO c (pt i) (ValueIdx.ix2 d k) = argW m c (ValueIdx.ix3 0 d k) := by
  refine Eq.trans (b := (V m c main_v1 : Vec Ideal S256x4096 .f32) (ValueIdx.ix2 d k)) ?_
    ((congrFun (weights_found m c) (ValueIdx.ix2 d k : S256x4096.Idx)).trans (by pointwise; rfl))
  refine (View.read_apply ..).trans (congrArg (V m c main_v1) (funext fun a => Fin.ext ?_))
  match a with
  | ⟨0, _⟩ => show 0 * 256 + 1 * d.val = d.val
              omega
  | ⟨1, _⟩ => show (BitVec.ofNat 32 (grid0.coords (pt i) 0).val).toNat * 4096 + 1 * k.val = k.val
              rw [word0]; omega

theorem gs_apply (hO : Ok m) (c : Dev nD) (i : Fin 34) (k : Fin 4096) :
    gs m hO c (pt i) (ValueIdx.ix2 0 k) = argG m c (ValueIdx.ix2 0 k) := by
  refine Eq.trans (b := (V m c main_v3 : Vec Ideal S1x4096 .f32) (ValueIdx.ix2 0 k)) ?_
    ((congrFun (gains_found m c) (ValueIdx.ix2 0 k : S1x4096.Idx)).trans (by pointwise))
  refine (View.read_apply ..).trans (congrArg (V m c main_v3) (funext fun a => Fin.ext ?_))
  match a with
  | ⟨0, _⟩ => show 0 * 1 + 1 * 0 = 0
              omega
  | ⟨1, _⟩ => show (BitVec.ofNat 32 (grid0.coords (pt i) 0).val).toNat * 4096 + 1 * k.val = k.val
              rw [word0]; omega

/-- A row's entry scaled by the reciprocal root of the row's mean square and by a gain. -/
def scaled (y : Fin 4096 → EReal) (l : Fin 4096) (g : EReal) : EReal :=
  y l * Ideal.rsqrt (Ideal.div (∑ j : Fin 4096, y j * y j) (Ideal.ofBits .f32 0x45800000#32) + Ideal.ofBits .f32 0x358637BD#32) * g

/-- The scratch the first point stores. -/
theorem pay1_apply (w : Vec Ideal S256x4096 .f32) (d : Fin 256) (k : Fin 4096) :
    k0_pay1 w (ValueIdx.ix3 0 d k) = w (ValueIdx.ix2 d k) := by
  pointwise [k0_pay1]
  rfl

/-- The products of a block of rows with the scratch, scaled. -/
theorem pay2_apply (x : Vec Ideal S256x256 .bf16) (w : Vec Ideal S1x256x4096 .bf16) (g : Vec Ideal S1x4096 .f32) (r : Fin 256) (k : Fin 4096) :
    k0_pay2 x w g (ValueIdx.ix2 r k)
      = scaled (fun l => ∑ d : Fin 256, x (ValueIdx.ix2 r d) * w (ValueIdx.ix3 0 d l)) k (g (ValueIdx.ix2 0 k)) := by
  pointwise [k0_pay2]
  rfl

/-- What a first point leaves in the output block and in the scratch, -/
theorem out_first (c : Dev nD) (i : grid0.Coords) (a3 : Memref sig .tc .vmem S256x256 .bf16) (h3 : a3.IsWhole) (a4 : Memref sig .tc .vmem S256x4096 .f32) (h4 : a4.IsWhole)
    (a5 : Memref sig .tc .vmem S1x4096 .f32) (h5 : a5.IsWhole) (a6 : Memref sig .tc .vmem S256x4096 .f32) (h6 : a6.IsWhole) (a7 : Memref sig .tc .vmem S1x256x4096 .bf16) (h7 : a7.IsWhole) (hc : cond0_0 i)
    (x0 : Vec Ideal S256x256 .bf16) (x1 : Vec Ideal S256x4096 .f32) (x2 : Vec Ideal S1x4096 .f32) (xt : TbBuf0 (F := Ideal) c tbM0_0) :
    out0_A_3 c i a3 h3 a4 h4 a5 h5 a6 h6 a7 h7 hc x0 x1 x2 xt = k0_pay2 x0 (k0_pay1 x1) x2 := by
  unfold out0_A_3
  rw [View.read_writes_junk_eq_canon]
  unfold kernelRun0_A
  dsimp only
  sl_unfold_words
  simp only [View.readAt_eq_ld, h3.read_unread, h4.read_unread, h5.read_unread, View.ld_unit_zero (S := S256x256) zeros2, View.ld_unit_zero (S := S1x4096) zeros2,
    View.ld_unit_zero (S := S256x4096) zeros2, View.readCov_eq_canon']
  simp only [View.canon_unit_zero (S := S256x4096) zeros2, View.canon_unit_zero (S := S1x256x4096) zeros3]
  refine congrArg (fun w => k0_pay2 x0 w x2) (funext fun y => congrArg (k0_pay1 x1) (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem scratch_first (c : Dev nD) (i : grid0.Coords) (a3 : Memref sig .tc .vmem S256x256 .bf16) (h3 : a3.IsWhole) (a4 : Memref sig .tc .vmem S256x4096 .f32) (h4 : a4.IsWhole)
    (a5 : Memref sig .tc .vmem S1x4096 .f32) (h5 : a5.IsWhole) (a6 : Memref sig .tc .vmem S256x4096 .f32) (h6 : a6.IsWhole) (a7 : Memref sig .tc .vmem S1x256x4096 .bf16) (h7 : a7.IsWhole) (hc : cond0_0 i)
    (x0 : Vec Ideal S256x256 .bf16) (x1 : Vec Ideal S256x4096 .f32) (x2 : Vec Ideal S1x4096 .f32) (xt : TbBuf0 (F := Ideal) c tbM0_0) :
    sout0_A_0 c i a3 h3 a4 h4 a5 h5 a6 h6 a7 h7 hc x0 x1 x2 xt = k0_pay1 x1 := by
  unfold sout0_A_0
  rw [View.read_writes_junk_eq_canon]
  unfold kernelRun0_A
  dsimp only
  sl_unfold_words
  simp only [View.readAt_eq_ld, h4.read_unread, View.ld_unit_zero (S := S256x4096) zeros2,
    View.canon_unit_zero (S := S1x256x4096) zeros3]

/-- and a later point in the output block, from the scratch it found. -/
theorem out_later (c : Dev nD) (i : grid0.Coords) (a3 : Memref sig .tc .vmem S256x256 .bf16) (h3 : a3.IsWhole) (a4 : Memref sig .tc .vmem S256x4096 .f32) (h4 : a4.IsWhole)
    (a5 : Memref sig .tc .vmem S1x4096 .f32) (h5 : a5.IsWhole) (a6 : Memref sig .tc .vmem S256x4096 .f32) (h6 : a6.IsWhole) (a7 : Memref sig .tc .vmem S1x256x4096 .bf16) (h7 : a7.IsWhole) (hc : ¬cond0_0 i)
    (x0 : Vec Ideal S256x256 .bf16) (x1 : Vec Ideal S256x4096 .f32) (x2 : Vec Ideal S1x4096 .f32) (xt : TbBuf0 (F := Ideal) c tbM0_0) (s : Vec Ideal S1x256x4096 .bf16) :
    out0_B_3 c i a3 h3 a4 h4 a5 h5 a6 h6 a7 h7 hc x0 x1 x2 xt s = k0_pay2 x0 s x2 := by
  unfold out0_B_3
  rw [View.read_writes_junk_eq_canon]
  unfold kernelRun0_B
  dsimp only
  sl_unfold_words
  simp only [View.readAt_eq_ld, h3.read_unread, h5.read_unread, h7.read_unread, View.ld_unit_zero (S := S256x256) zeros2, View.ld_unit_zero (S := S1x4096) zeros2,
    View.ld_unit_zero (S := S1x256x4096) zeros3, View.canon_unit_zero (S := S256x4096) zeros2]

end Cert.Kernel6Ideal.PleProj

end
-- ==== Proof.PleProj.Result.lean ====
/- The embedding projection's result: every block is written once, so the array holds at each row and column the scaled
   product, which is what the reference computes. -/
module

public import proofs.«01_k».proof.Proof.PleProj.Blocks
public import proofs.«01_k».proof.Proof.Gen.Reference6Ideal.Run

@[expose] public section

set_option maxRecDepth 16384

noncomputable section

namespace Cert.Kernel6Ideal.PleProj

open Idealize.ShloMosaic Idealize.ShloMosaic.TcCoe Idealize.ShloMosaic.Tactic
open Idealize.SL Idealize.SL.Sem
open Cert.Kernel6Ideal.Gen

variable (m : (ℓ : Loc nD τ sig) → Buf (Elt Ideal) ℓ) (ρ : Dev nD → PrngReg)

/-- The table is read by no index map. -/
theorem ok : Ok m := trivial

/-- The scratch and the output block after a point. -/
def scratchAt (hO : Ok m) (c : Dev nD) (n : ℕ) (hn : n < (cfgM m hO).N) : Vec Ideal S1x256x4096 .bf16 := (outsAt0 m hO c n hn).2
def blockAt (hO : Ok m) (c : Dev nD) (n : ℕ) (hn : n < (cfgM m hO).N) : Vec Ideal S256x4096 .f32 := (outsAt0 m hO c n hn).1

theorem scratchAt_congr (hO : Ok m) (c : Dev nD) {n n' : ℕ} (e : n = n') (h : n < (cfgM m hO).N) (h' : n' < (cfgM m hO).N) :
    scratchAt m hO c n h = scratchAt m hO c n' h' := by
  subst e; rfl

theorem scratchAt_first (hO : Ok m) (c : Dev nD) (t : Fin (cfgM m hO).N) (h0 : t.val % 34 = 0) :
    scratchAt m hO c t.val t.isLt = k0_pay1 (ws m hO c t) := by
  have h := congrArg Prod.snd (outsAt0_A m hO c t h0)
  dsimp only at h
  exact h.trans (scratch_first c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _)
    ((hcond0_0 t).mpr h0) (iblk m hO c 0 t) (iblk m hO c 1 t) (iblk m hO c 2 t) (tbl m 0))

theorem scratchAt_later (hO : Ok m) (c : Dev nD) (t : Fin (cfgM m hO).N) (h0 : ¬ t.val % 34 = 0) :
    scratchAt m hO c t.val t.isLt = scratchAt m hO c (t.val - 1) (Nat.lt_of_le_of_lt (Nat.sub_le _ _) t.isLt) := by
  have h := congrArg Prod.snd (outsAt0_B m hO c t h0)
  dsimp only at h
  exact h

theorem blockAt_first (hO : Ok m) (c : Dev nD) (t : Fin (cfgM m hO).N) (h0 : t.val % 34 = 0) :
    blockAt m hO c t.val t.isLt = k0_pay2 (xs m hO c t) (k0_pay1 (ws m hO c t)) (gs m hO c t) := by
  have h := congrArg Prod.fst (outsAt0_A m hO c t h0)
  dsimp only at h
  exact h.trans (out_first c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _)
    ((hcond0_0 t).mpr h0) (iblk m hO c 0 t) (iblk m hO c 1 t) (iblk m hO c 2 t) (tbl m 0))

theorem blockAt_later (hO : Ok m) (c : Dev nD) (t : Fin (cfgM m hO).N) (h0 : ¬ t.val % 34 = 0) :
    blockAt m hO c t.val t.isLt = k0_pay2 (xs m hO c t) (scratchAt m hO c (t.val - 1) (Nat.lt_of_le_of_lt (Nat.sub_le _ _) t.isLt)) (gs m hO c t) := by
  have h := congrArg Prod.fst (outsAt0_B m hO c t h0)
  dsimp only at h
  exact h.trans (out_later c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _)
    (fun h => h0 ((hcond0_0 t).mp h)) (iblk m hO c 0 t) (iblk m hO c 1 t) (iblk m hO c 2 t) (tbl m 0) _)

/-- The scratch after every point holds the weights. -/
theorem scratch_apply (hO : Ok m) (c : Dev nD) (d : Fin 256) (k : Fin 4096) : ∀ (n : ℕ) (hn : n < 34),
    scratchAt m hO c (pt ⟨n, hn⟩).val (pt ⟨n, hn⟩).isLt (ValueIdx.ix3 0 d k) = argW m c (ValueIdx.ix3 0 d k)
  | 0, hn => by
    rw [scratchAt_first m hO c (pt ⟨0, hn⟩) rfl, pay1_apply, ws_apply]
  | n + 1, hn => by
    rw [scratchAt_later m hO c (pt ⟨n + 1, hn⟩) (by rw [pt_val]; show ¬ (n + 1) % 34 = 0; omega),
      ← scratch_apply hO c d k n (by omega)]
    exact congrFun (scratchAt_congr m hO c (by rw [pt_val, pt_val]; show n + 1 - 1 = n; omega) _ _) _

/-- The products of the rows with the weights, and the products scaled. -/
def prods (c : Dev nD) (n : Fin 8704) (k : Fin 4096) : EReal := ∑ d : Fin 256, argX m c (ValueIdx.ix2 n d) * argW m c (ValueIdx.ix3 0 d k)
def whole (c : Dev nD) : Vec Ideal S8704x4096 .f32 := fun y => scaled (prods m c (y 0)) (y 1) (argG m c (ValueIdx.ix2 0 (y 1)))

/-- The output block after a point. -/
theorem block_apply (hO : Ok m) (c : Dev nD) (i : Fin 34) (r : Fin 256) (k : Fin 4096) :
    blockAt m hO c (pt i).val (pt i).isLt (ValueIdx.ix2 r k) = whole m c (ValueIdx.ix2 (row i r) k) := by
  by_cases h : i.val = 0
  · rw [blockAt_first m hO c (pt i) (by rw [pt_val]; omega), pay2_apply, gs_apply]
    refine congrArg (fun y => scaled y k (argG m c (ValueIdx.ix2 0 k))) (funext fun l => Finset.sum_congr rfl fun d _ => ?_)
    rw [pay1_apply, ws_apply, xs_apply]
  · rw [blockAt_later m hO c (pt i) (by rw [pt_val]; omega), pay2_apply, gs_apply]
    refine congrArg (fun y => scaled y k (argG m c (ValueIdx.ix2 0 k))) (funext fun l => Finset.sum_congr rfl fun d _ => ?_)
    rw [xs_apply, ← scratch_apply m hO c d l (i.val - 1) (by omega)]
    exact congrArg (argX m c (ValueIdx.ix2 (row i r) d) * ·) (congrFun (scratchAt_congr m hO c
      (by rw [pt_val, pt_val]) _ _) _)

/-- The tile of a row, and its place in it. -/
def rowTile (n : Fin 8704) : Fin 34 := ⟨n.val / 256, by omega⟩
def rowIn (n : Fin 8704) : Fin 256 := ⟨n.val % 256, by omega⟩

/-- Where a point's block puts its element in the array. -/
theorem blk_out (hO : Ok m) (i : Fin 34) (y : S256x4096.Idx) (G : Vec Ideal S8704x4096 .f32) :
    (((cfgM m hO).win 3).blk (pt i)).view.read (Elt Ideal) G y = G (ValueIdx.ix2 (row i (y 0)) (y 1)) := by
  refine (View.read_apply ..).trans (congrArg G (funext fun a => Fin.ext ?_))
  match a with
  | ⟨0, _⟩ => show (BitVec.ofNat 32 (grid0.coords (pt i) 1).val).toNat * 256 + 1 * (y 0).val = 256 * i.val + (y 0).val
              rw [word1]; omega
  | ⟨1, _⟩ => show (BitVec.ofNat 32 (grid0.coords (pt i) 0).val).toNat * 4096 + 1 * (y 1).val = (y 1).val
              rw [word0]; omega

/-- A point's block, cut at no edge, is the array's block there. -/
theorem cut_out (hO : Ok m) (c : Dev nD) (i : Fin 34) (y : S256x4096.Idx) :
    ((cfgM m hO).win 3).cut (grid0.coords (pt i)) (blockAt m hO c (pt i).val (pt i).isLt) y
      = (((cfgM m hO).win 3).blk (pt i)).view.read (Elt Ideal) (whole m c) y := by
  refine Eq.trans ?_ ((blk_out m hO i y (whole m c)).trans (block_apply m hO c i (y 0) (y 1)).symm).symm
  refine congrArg (blockAt m hO c (pt i).val (pt i).isLt) (funext fun a => Fin.ext ?_)
  match a with
  | ⟨0, _⟩ => rfl
  | ⟨1, _⟩ => rfl

theorem flushed_eq (hO : Ok m) (c : Dev nD) (t : Fin (cfgM m hO).N) :
    (dats m hO 0 c).flushed 3 t = (((cfgM m hO).win 3).blk t).view.read (Elt Ideal) (whole m c) := by
  have ht : t.val < 34 := Nat.lt_of_lt_of_eq t.isLt N_0
  obtain ⟨i, rfl⟩ : ∃ i : Fin 34, t = pt i := ⟨⟨t.val, ht⟩, rfl⟩
  refine Eq.trans (congrArg (((cfgM m hO).win 3).cut (grid0.coords (pt i))) (after0_3 m hO c (pt i))) ?_
  exact funext (cut_out m hO c i)

theorem mem_blk_out (hO : Ok m) (y : S8704x4096.Idx) : y ∈ (((cfgM m hO).win 3).blk (pt (rowTile (y 0)))).view.set := by
  have e : ((((cfgM m hO).win 3).blk (pt (rowTile (y 0)))).view.emb (ValueIdx.ix2 (rowIn (y 0)) (y 1) : S256x4096.Idx)) = y :=
    funext fun a => Fin.ext (by
      match a with
      | ⟨0, _⟩ => show (BitVec.ofNat 32 (grid0.coords (pt (rowTile (y 0))) 1).val).toNat * 256 + 1 * ((y 0).val % 256) = (y 0).val
                  rw [word1]; show (y 0).val / 256 * 256 + _ = _; omega
      | ⟨1, _⟩ => show (BitVec.ofNat 32 (grid0.coords (pt (rowTile (y 0))) 0).val).toNat * 4096 + 1 * (y 1).val = (y 1).val
                  rw [word0]; omega)
  have h := View.emb_mem_set (((cfgM m hO).win 3).blk (pt (rowTile (y 0)))).view (ValueIdx.ix2 (rowIn (y 0)) (y 1) : S256x4096.Idx)
  rw [e] at h
  exact h

/-- The array the call leaves. -/
theorem result_eq (hO : Ok m) (c : Dev nD) : (dats m hO 0 c).arrAt 3 (cfgM m hO).N = whole m c :=
  (dats m hO 0 c).arrAt_eq_of_cover 3 (whole m c) (fun t _ => flushed_eq m hO c t) fun (y : S8704x4096.Idx) =>
    ⟨pt (rowTile (y 0)), flush0_3 (adm m hO) _, mem_blk_out m hO y⟩

/-- The kernel ends at the scaled products, its arguments unchanged. -/
theorem run : θ_run defs (onTc (τ := τ) (main (F := Ideal))) ⟨m, fun _ => 0, ρ⟩ (fun r => ∀ c : Dev nD,
      r.2.mem ((c.tc : Thread nD τ).loc main_v5) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (result_eq m (ok m) c), h.2 c⟩)
    (θ_run_and (run_main m ρ (ok m)) (unchanged m ρ (ok m)))

end Cert.Kernel6Ideal.PleProj

namespace Cert.Reference6Ideal.PleProj

open Idealize.ShloMosaic Idealize.ShloMosaic.TcCoe Idealize.ShloMosaic.Tactic
open Cert.Reference6Ideal.Gen
open Cert.Kernel6Ideal.PleProj (scaled)

/-- The reference's products and their norm. -/
def product (x : FVec Ideal S8704x256 .f32) (w : FVec Ideal S1x256x4096 .f32) : FVec Ideal S8704x4096 .f32 :=
  Host.dotGeneral dot_S8704x256_S256x4096_S8704x4096_1_0_0_1_n_n none x (shapeCast _ w shapeCasts_S1x256x4096_S256x4096)
def normed (y : FVec Ideal S8704x4096 .f32) (g : FVec Ideal S1x4096 .f32) : FVec Ideal S8704x4096 .f32 :=
  mulf (mulf y (broadcastInDim S8704x4096 ![0, 1] bcast_S8704x1_S8704x4096_0_1
      (Host.rsqrt (addf (Host.divf (broadcastInDim S8704x1 ![0] bcast_S8704_S8704x1_0
        (Host.reduceAdd (mulf y y) (constant S_ .f32 0x00000000#32) reducesTo_S8704x4096_S8704_d1 h_S_))
        (broadcastInDim S8704x1 ![] bcast_S_S8704x1 (constant S_ .f32 0x45800000#32)))
        (broadcastInDim S8704x1 ![] bcast_S_S8704x1 (constant S_ .f32 0x358637BD#32))))))
    (broadcastInDim S8704x4096 ![0, 1] bcast_S1x4096_S8704x4096_0_1
      (broadcastInDim S1x4096 ![1] bcast_S4096_S1x4096_1 (shapeCast _ g shapeCasts_S1x4096_S4096)))

theorem product_apply (x : FVec Ideal S8704x256 .f32) (w : FVec Ideal S1x256x4096 .f32) (n : Fin 8704) (e : Fin 4096) :
    product x w (ValueIdx.ix2 n e) = ∑ d : Fin 256, x (ValueIdx.ix2 n d) * w (ValueIdx.ix3 0 d e) := by
  pointwise [product]
  rfl

theorem normed_apply (y : FVec Ideal S8704x4096 .f32) (g : FVec Ideal S1x4096 .f32) (n : Fin 8704) (e : Fin 4096) :
    normed y g (ValueIdx.ix2 n e) = scaled (fun l => y (ValueIdx.ix2 n l)) e (g (ValueIdx.ix2 0 e)) := by
  pointwise [normed]
  rfl

end Cert.Reference6Ideal.PleProj

namespace Cert.Kernel6Ideal.PleProj

open Idealize.ShloMosaic Idealize.ShloMosaic.TcCoe

/-- It is the array the kernel leaves. -/
theorem normed_eq (m : (ℓ : Loc nD τ sig) → Buf (Elt Ideal) ℓ) (c : Dev nD) :
    Cert.Reference6Ideal.PleProj.normed (Cert.Reference6Ideal.PleProj.product (argX m c) (argW m c)) (argG m c) = whole m c := by
  funext y
  obtain ⟨n, d, rfl⟩ : ∃ (n : Fin 8704) (d : Fin 4096), y = ValueIdx.ix2 n d :=
    ⟨y 0, y 1, funext fun a => by match a with | ⟨0, _⟩ => rfl | ⟨1, _⟩ => rfl⟩
  refine (Cert.Reference6Ideal.PleProj.normed_apply _ _ n d).trans ?_
  exact congrArg (fun z => scaled z d (argG m c (ValueIdx.ix2 0 d))) (funext fun l => Cert.Reference6Ideal.PleProj.product_apply _ _ n l)

end Cert.Kernel6Ideal.PleProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_in_range
public import proofs.«01_k».proof.Proof.Gen.Pre_finite
public import proofs.«01_k».proof.Proof.Gen.ReferenceIdeal
public import proofs.«01_k».proof.Proof.Gen.ReferenceIdeal.Run
public import proofs.«01_k».proof.Proof.Experts.Range
public import proofs.«01_k».proof.Proof.Experts.Frame
public import proofs.«01_k».proof.Proof.Experts.Equal
public import proofs.«01_k».proof.Proof.Gen.Kernel2
public import proofs.«01_k».proof.Proof.Gen.Kernel2.Launch
public import proofs.«01_k».proof.Proof.Gen.Kernel2.Points
public import proofs.«01_k».proof.Proof.Gen.Kernel2.Skeleton
public import proofs.«01_k».proof.Proof.Gen.Kernel2.Regions
public import proofs.«01_k».proof.Proof.Gen.Kernel2Ideal
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Regions
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Launch
public import proofs.«01_k».proof.Proof.Gen.Kernel4.Skeleton
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.OutProj.SampleResult
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.GateProj.Result
public import proofs.«01_k».proof.Proof.Gen.Pre_finite_both
public import proofs.«01_k».proof.Proof.Gen.Kernel7
public import proofs.«01_k».proof.Proof.Gen.Kernel7Ideal
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Regions
public import proofs.«01_k».proof.Proof.Gen.Reference7Ideal
public import proofs.«01_k».proof.Proof.Gen.Reference7Ideal.Run
public import proofs.«01_k».proof.Proof.InProj.Frame
public import proofs.«01_k».proof.Proof.InProj.KernelIdeal.Run
public import proofs.«01_k».proof.Proof.InProj.Agree
public import proofs.«01_k».proof.Proof.InSample.Frame
public import proofs.«01_k».proof.Proof.InSample.Finite
public import proofs.«01_k».proof.Proof.InSample.Agree
public import proofs.«01_k».proof.Proof.OutProj.Result
public import proofs.«01_k».proof.Proof.PleGate.Frame
public import proofs.«01_k».proof.Proof.PleGate.PromptResult
public import proofs.«01_k».proof.Proof.PleGate.SampleResult
public import proofs.«01_k».proof.Proof.PleProj.Result
public import Idealize.ShloMosaic.Adequacy
public import Idealize.ShloMosaic.Init

@[expose] public section

noncomputable section

namespace Cert.Proof

open Idealize.ShloMosaic Idealize.ShloMosaic.TcCoe Idealize.SL Idealize.SL.Sem

/-- The tables' words name one of the sixteen experts. -/
theorem range_KernelIdeal {F : FTy → Type} [FloatOps F] (m : (ℓ : Loc Cert.KernelIdeal.nD Cert.KernelIdeal.τ Cert.KernelIdeal.sig) → Buf (Elt F) ℓ)
    (h : Cert.Pre_in_range.fn (F := F) (m (((0 : Dev Cert.KernelIdeal.nD).tc : Thread Cert.KernelIdeal.nD Cert.KernelIdeal.τ).loc Cert.KernelIdeal.main_arg0))
      (m (((0 : Dev Cert.KernelIdeal.nD).tc : Thread Cert.KernelIdeal.nD Cert.KernelIdeal.τ).loc Cert.KernelIdeal.main_arg1))
      (m (((0 : Dev Cert.KernelIdeal.nD).tc : Thread Cert.KernelIdeal.nD Cert.KernelIdeal.τ).loc Cert.KernelIdeal.main_arg2))
      (m (((0 : Dev Cert.KernelIdeal.nD).tc : Thread Cert.KernelIdeal.nD Cert.KernelIdeal.τ).loc Cert.KernelIdeal.main_arg3))
      (m (((0 : Dev Cert.KernelIdeal.nD).tc : Thread Cert.KernelIdeal.nD Cert.KernelIdeal.τ).loc Cert.KernelIdeal.main_arg4))
      (m (((0 : Dev Cert.KernelIdeal.nD).tc : Thread Cert.KernelIdeal.nD Cert.KernelIdeal.τ).loc Cert.KernelIdeal.main_arg5))
      (m (((0 : Dev Cert.KernelIdeal.nD).tc : Thread Cert.KernelIdeal.nD Cert.KernelIdeal.τ).loc Cert.KernelIdeal.main_arg6)) = fun _ => 1#1) :
    Cert.KernelIdeal.Experts.Range m :=
  fun k => Cert.Experts.toNat_lt_of_pre _ _ _ _ _ _ _ h k

/-- The kernel runs, on bits. -/
theorem frame_kernel : Cert.quiescent_Kernel (hKernel := Cert.Kernel.Gen.facts) (hPre_in_range := Cert.Pre_in_range.Gen.facts) :=
  Cert.KernelIdeal.Experts.frame_bits

/-- Its idealization runs. -/
theorem frame_ideal : Cert.quiescent_KernelIdeal (hKernelIdeal := Cert.KernelIdeal.Gen.facts) (hPre_in_range := Cert.Pre_in_range.Gen.facts) := fun m ρ h =>
  (θ_run Cert.KernelIdeal.defs _ _).mono (fun _ hr => ⟨fun c => (hr.1 c).2, hr.2⟩)
    (Cert.KernelIdeal.Experts.run_result m ρ (Cert.KernelIdeal.Experts.ok_of_range m (range_KernelIdeal m (h 0))))

/-- The reference runs, and it has no semaphore. -/
theorem frame_reference : Cert.quiescent_ReferenceIdeal (hReferenceIdeal := Cert.ReferenceIdeal.Gen.facts) := fun m ρ _ =>
  (θ_run Cert.ReferenceIdeal.defs _ _).mono (fun r hr => ⟨fun c => (hr c).2, sem_eq_zero_of_no_sems (by decide) r.2⟩)
    (Cert.ReferenceIdeal.Value.run (F := Ideal) m ρ)

/-- The idealization's result is the reference's. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m ρ m' ρ' h hagree
  have hR := range_KernelIdeal m (h 0)
  have hO := Cert.KernelIdeal.Experts.ok_of_range m hR
  refine ⟨fun c => Cert.KernelIdeal.Experts.result m hO c,
    (θ_run Cert.KernelIdeal.defs _ _).mono (fun _ hr => hr.1) (Cert.KernelIdeal.Experts.run_result m ρ hO), ?_⟩
  refine (θ_run Cert.ReferenceIdeal.defs _ _).mono (fun _ hr c => ⟨(hr c).1.trans ?_, (hr c).2⟩) (Cert.ReferenceIdeal.Value.run (F := Ideal) m' ρ')
  obtain ⟨h0, h1, h2, h3, h4, h5, h6⟩ := hagree c
  show _ = Cert.KernelIdeal.Experts.result m hO c
  rw [Cert.KernelIdeal.Experts.result_eq, Cert.KernelIdeal.Experts.whole_eq_reference m hR, h0, h1, h2, h3, h4, h5, h6]
  rfl

/-- The input projection runs, on bits. -/
theorem frame_kernel2 : Cert.quiescent_Kernel2 (hKernel2 := Cert.Kernel2.Gen.facts) := Cert.Kernel2Ideal.InProj.frame_bits

/-- Its idealization runs. -/
theorem frame_ideal2 : Cert.quiescent_Kernel2Ideal (hKernel2Ideal := Cert.Kernel2Ideal.Gen.facts) := fun m ρ _ =>
  (θ_run Cert.Kernel2Ideal.defs _ _).mono (fun _ hr => ⟨fun c => (hr.1 c).2.2.2.2, hr.2⟩) (Cert.Kernel2Ideal.InProj.run_result m ρ)

/-- Its reference runs, and it has no semaphore. -/
theorem frame_reference2 : Cert.quiescent_Reference2Ideal (hReference2Ideal := Cert.Reference2Ideal.Gen.facts) := fun m ρ _ =>
  (θ_run Cert.Reference2Ideal.defs _ _).mono (fun r hr => ⟨fun c => (hr c).2.2.2.2, sem_eq_zero_of_no_sems (by decide) r.2⟩)
    (Cert.Reference2Ideal.Value.run (F := Ideal) m ρ)

/-- The idealized input projection ends at the reference's array and its three parts. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.InProj.wholeOf m c, fun c => Cert.Kernel2Ideal.InProj.fourth (Cert.Kernel2Ideal.InProj.wholeOf m c),
    fun c => Cert.Kernel2Ideal.InProj.fifth (Cert.Kernel2Ideal.InProj.wholeOf m c),
    fun c => Cert.Kernel2Ideal.InProj.lastRows (Cert.Kernel2Ideal.InProj.sixth (Cert.Kernel2Ideal.InProj.wholeOf m c)),
    Cert.Kernel2Ideal.InProj.run m ρ, ?_⟩
  refine (θ_run Cert.Reference2Ideal.defs _ _).mono (fun _ hr c => ?_) (Cert.Reference2Ideal.InProj.run m' ρ')
  obtain ⟨h0, h1, h2, h3, h4, h5⟩ := hagree c
  have e0 : Cert.Reference2Ideal.InProj.argX m' c = Cert.Kernel2Ideal.InProj.argX m c := h0
  have e1 : Cert.Reference2Ideal.InProj.argG m' c = Cert.Kernel2Ideal.InProj.argG m c := h1
  have e2 : Cert.Reference2Ideal.InProj.argW m' c = Cert.Kernel2Ideal.InProj.argW m c := h2
  have e3 : Cert.Reference2Ideal.InProj.argQ m' c = Cert.Kernel2Ideal.InProj.argQ m c := h3
  have e4 : Cert.Reference2Ideal.InProj.argS m' c = Cert.Kernel2Ideal.InProj.argS m c := h4
  have e5 : Cert.Reference2Ideal.InProj.argV m' c = Cert.Kernel2Ideal.InProj.argV m c := h5
  obtain ⟨r0, r1, r2, r3, hargs⟩ := hr c
  refine ⟨r0.trans ?_, r1.trans ?_, r2.trans ?_, r3.trans ?_, hargs⟩
  · show _ = Cert.Kernel2Ideal.InProj.wholeOf m c
    unfold Cert.Kernel2Ideal.InProj.wholeOf
    rw [← Cert.Kernel2Ideal.InProj.array_eq, e0, e1, e2, e3, e4, e5]
  · show _ = Cert.Kernel2Ideal.InProj.fourth (Cert.Kernel2Ideal.InProj.wholeOf m c)
    unfold Cert.Kernel2Ideal.InProj.wholeOf
    rw [← Cert.Kernel2Ideal.InProj.back2_eq, e0, e1, e2]
  · show _ = Cert.Kernel2Ideal.InProj.fifth (Cert.Kernel2Ideal.InProj.wholeOf m c)
    unfold Cert.Kernel2Ideal.InProj.wholeOf
    rw [← Cert.Kernel2Ideal.InProj.back3_eq, e0, e1, e2, e4]
  · show _ = Cert.Kernel2Ideal.InProj.lastRows (Cert.Kernel2Ideal.InProj.sixth (Cert.Kernel2Ideal.InProj.wholeOf m c))
    unfold Cert.Kernel2Ideal.InProj.wholeOf
    rw [← Cert.Kernel2Ideal.InProj.back4_eq, e0, e1, e2, e5]

/-- The output projection runs, on bits. -/
theorem frame_kernel3 : Cert.quiescent_Kernel3 (hKernel3 := Cert.Kernel3.Gen.facts) := fun m ρ _ =>
  Cert.Kernel3.Gen.frame m ρ trivial

/-- Its idealization runs. -/
theorem frame_ideal3 : Cert.quiescent_Kernel3Ideal (hKernel3Ideal := Cert.Kernel3Ideal.Gen.facts) := fun m ρ _ =>
  Cert.Kernel3Ideal.Gen.frame m ρ trivial

/-- Its reference runs, and it has no semaphore. -/
theorem frame_reference3 : Cert.quiescent_Reference3Ideal (hReference3Ideal := Cert.Reference3Ideal.Gen.facts) := fun m ρ _ =>
  (θ_run Cert.Reference3Ideal.defs _ _).mono (fun r hr => ⟨fun c => (hr c).2, sem_eq_zero_of_no_sems (by decide) r.2⟩)
    (Cert.Reference3Ideal.Value.run (F := Ideal) m ρ)

/-- The idealized output projection ends at the reference's product. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.OutProj.whole m c, Cert.Kernel3Ideal.OutProj.run m ρ, ?_⟩
  refine (θ_run Cert.Reference3Ideal.defs _ _).mono (fun _ hr c => ⟨(hr c).1.trans ?_, (hr c).2⟩) (Cert.Reference3Ideal.Value.run (F := Ideal) m' ρ')
  obtain ⟨h0, h1⟩ := hagree c
  show _ = Cert.Kernel3Ideal.OutProj.whole m c
  rw [← Cert.Kernel3Ideal.OutProj.product_eq, h0, h1]
  rfl

/-- The gated sum of the prompt's rows runs, on bits. -/
theorem frame_kernel4 : Cert.quiescent_Kernel4 (hKernel4 := Cert.Kernel4.Gen.facts) := Cert.Kernel4Ideal.PleGate.frame_bits

/-- Its idealization runs. -/
theorem frame_ideal4 : Cert.quiescent_Kernel4Ideal (hKernel4Ideal := Cert.Kernel4Ideal.Gen.facts) := fun m ρ _ =>
  (θ_run Cert.Kernel4Ideal.defs _ _).mono (fun _ hr => ⟨fun c => (hr.1 c).2, hr.2⟩) (Cert.Kernel4Ideal.PleGate.run_result m ρ)

/-- Its reference runs, and it has no semaphore. -/
theorem frame_reference4 : Cert.quiescent_Reference4Ideal (hReference4Ideal := Cert.Reference4Ideal.Gen.facts) := fun m ρ _ =>
  (θ_run Cert.Reference4Ideal.defs _ _).mono (fun r hr => ⟨fun c => (hr c).2, sem_eq_zero_of_no_sems (by decide) r.2⟩)
    (Cert.Reference4Ideal.Value.run (F := Ideal) m ρ)

/-- The idealized gated sum of the prompt's rows ends at the reference's. -/
theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.PleGate.seqs m c, Cert.Kernel4Ideal.PleGate.run m ρ, ?_⟩
  refine (θ_run Cert.Reference4Ideal.defs _ _).mono (fun _ hr c => ⟨(hr c).1.trans ?_, (hr c).2⟩) (Cert.Reference4Ideal.Value.run (F := Ideal) m' ρ')
  obtain ⟨h0, h1, h2, h3⟩ := hagree c
  show _ = Cert.Kernel4Ideal.PleGate.seqs m c
  rw [← Cert.Kernel4Ideal.PleGate.seqs_eq, h0, h1, h2, h3]
  rfl

/-- The gated sum of the sample's rows runs, on bits. -/
theorem frame_kernel5 : Cert.quiescent_Kernel5 (hKernel5 := Cert.Kernel5.Gen.facts) := fun m ρ _ =>
  Cert.Kernel5.Gen.frame m ρ trivial

/-- Its idealization runs. -/
theorem frame_ideal5 : Cert.quiescent_Kernel5Ideal (hKernel5Ideal := Cert.Kernel5Ideal.Gen.facts) := fun m ρ _ =>
  Cert.Kernel5Ideal.Gen.frame m ρ trivial

/-- Its reference runs, and it has no semaphore. -/
theorem frame_reference5 : Cert.quiescent_Reference5Ideal (hReference5Ideal := Cert.Reference5Ideal.Gen.facts) := fun m ρ _ =>
  (θ_run Cert.Reference5Ideal.defs _ _).mono (fun r hr => ⟨fun c => (hr c).2, sem_eq_zero_of_no_sems (by decide) r.2⟩)
    (Cert.Reference5Ideal.Value.run (F := Ideal) m ρ)

/-- The idealized gated sum of the sample's rows ends at the reference's. -/
theorem algebraic5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.PleGate.tokens m c, Cert.Kernel5Ideal.PleGate.run m ρ, ?_⟩
  refine (θ_run Cert.Reference5Ideal.defs _ _).mono (fun _ hr c => ⟨(hr c).1.trans ?_, (hr c).2⟩) (Cert.Reference5Ideal.Value.run (F := Ideal) m' ρ')
  obtain ⟨h0, h1, h2, h3⟩ := hagree c
  show _ = Cert.Kernel5Ideal.PleGate.tokens m c
  rw [← Cert.Kernel5Ideal.PleGate.tokens_eq, h0, h1, h2, h3]
  rfl

/-- The embedding projection runs, on bits. -/
theorem frame_kernel6 : Cert.quiescent_Kernel6 (hKernel6 := Cert.Kernel6.Gen.facts) := fun m ρ _ =>
  Cert.Kernel6.Gen.frame m ρ trivial

/-- Its idealization runs. -/
theorem frame_ideal6 : Cert.quiescent_Kernel6Ideal (hKernel6Ideal := Cert.Kernel6Ideal.Gen.facts) := fun m ρ _ =>
  Cert.Kernel6Ideal.Gen.frame m ρ trivial

/-- Its reference runs, and it has no semaphore. -/
theorem frame_reference6 : Cert.quiescent_Reference6Ideal (hReference6Ideal := Cert.Reference6Ideal.Gen.facts) := fun m ρ _ =>
  (θ_run Cert.Reference6Ideal.defs _ _).mono (fun r hr => ⟨fun c => (hr c).2, sem_eq_zero_of_no_sems (by decide) r.2⟩)
    (Cert.Reference6Ideal.Value.run (F := Ideal) m ρ)

/-- The idealized embedding projection ends at the reference's. -/
theorem algebraic6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Kernel6Ideal.PleProj.whole m c, Cert.Kernel6Ideal.PleProj.run m ρ, ?_⟩
  refine (θ_run Cert.Reference6Ideal.defs _ _).mono (fun _ hr c => ⟨(hr c).1.trans ?_, (hr c).2⟩) (Cert.Reference6Ideal.Value.run (F := Ideal) m' ρ')
  obtain ⟨h0, h1, h2⟩ := hagree c
  show _ = Cert.Kernel6Ideal.PleProj.whole m c
  rw [← Cert.Kernel6Ideal.PleProj.normed_eq, h0, h1, h2]
  rfl

/-- The sample's input projection runs, on bits. -/
theorem frame_kernel7 : Cert.quiescent_Kernel7 (hKernel7 := Cert.Kernel7.Gen.facts) := Cert.Kernel7Ideal.InSample.frame_bits

/-- Its idealization runs. -/
theorem frame_ideal7 : Cert.quiescent_Kernel7Ideal (hKernel7Ideal := Cert.Kernel7Ideal.Gen.facts) := fun m ρ _ =>
  (θ_run Cert.Kernel7Ideal.defs _ _).mono (fun _ hr => ⟨fun c => (hr.1 c).2.2.2.2, hr.2⟩) (Cert.Kernel7Ideal.InSample.run_result m ρ)

/-- Its reference runs, and it has no semaphore. -/
theorem frame_reference7 : Cert.quiescent_Reference7Ideal (hReference7Ideal := Cert.Reference7Ideal.Gen.facts) := fun m ρ _ =>
  (θ_run Cert.Reference7Ideal.defs _ _).mono (fun r hr => ⟨fun c => (hr c).2.2.2.2, sem_eq_zero_of_no_sems (by decide) r.2⟩)
    (Cert.Reference7Ideal.Value.run (F := Ideal) m ρ)

/-- The idealized input projection of the sample ends at the reference's array and its three parts, where the gains and the weights are finite. -/
theorem algebraic7 : Cert.algebraic_Kernel7Ideal_Reference7Ideal_pre_finite (hKernel7Ideal := Cert.Kernel7Ideal.Gen.facts)
    (hReference7Ideal := Cert.Reference7Ideal.Gen.facts) (hPre_finite := Cert.Pre_finite.Gen.facts) := by
  intro m ρ m' ρ' h hagree
  have hc : ∀ c, Cert.Kernel7Ideal.InSample.Clean (Cert.Kernel7Ideal.InSample.argG m c) (Cert.Kernel7Ideal.InSample.argW m c) := fun c => Cert.Kernel7Ideal.InSample.clean_of_pre _ _ _ _ _ _ _ (h c)
  refine ⟨fun c => Cert.Kernel7Ideal.InSample.mains (Cert.Kernel7Ideal.InSample.wholeOf m c), fun c => Cert.Kernel7Ideal.InSample.fourth (Cert.Kernel7Ideal.InSample.wholeOf m c),
    fun c => Cert.Kernel7Ideal.InSample.fifth (Cert.Kernel7Ideal.InSample.wholeOf m c), fun c => Cert.Kernel7Ideal.InSample.cached (Cert.Kernel7Ideal.InSample.argC m c) (Cert.Kernel7Ideal.InSample.wholeOf m c),
    Cert.Kernel7Ideal.InSample.run m ρ hc, ?_⟩
  refine (θ_run Cert.Reference7Ideal.defs _ _).mono (fun _ hr c => ?_) (Cert.Reference7Ideal.InSample.run m' ρ')
  obtain ⟨h0, h1, h2, h3, h4, h5, h6⟩ := hagree c
  have e0 : Cert.Reference7Ideal.InSample.argX m' c = Cert.Kernel7Ideal.InSample.argX m c := h0
  have e1 : Cert.Reference7Ideal.InSample.argG m' c = Cert.Kernel7Ideal.InSample.argG m c := h1
  have e2 : Cert.Reference7Ideal.InSample.argW m' c = Cert.Kernel7Ideal.InSample.argW m c := h2
  have e3 : Cert.Reference7Ideal.InSample.argQ m' c = Cert.Kernel7Ideal.InSample.argQ m c := h3
  have e4 : Cert.Reference7Ideal.InSample.argS m' c = Cert.Kernel7Ideal.InSample.argS m c := h4
  have e5 : Cert.Reference7Ideal.InSample.argV m' c = Cert.Kernel7Ideal.InSample.argV m c := h5
  have e6 : Cert.Reference7Ideal.InSample.argC m' c = Cert.Kernel7Ideal.InSample.argC m c := h6
  obtain ⟨r0, r1, r2, r3, hargs⟩ := hr c
  refine ⟨r0.trans ?_, r1.trans ?_, r2.trans ?_, r3.trans ?_, hargs⟩
  · show _ = Cert.Kernel7Ideal.InSample.mains (Cert.Kernel7Ideal.InSample.wholeOf m c)
    unfold Cert.Kernel7Ideal.InSample.wholeOf
    rw [← Cert.Kernel7Ideal.InSample.array_eq, e0, e1, e2, e3, e4, e5]
  · show _ = Cert.Kernel7Ideal.InSample.fourth (Cert.Kernel7Ideal.InSample.wholeOf m c)
    unfold Cert.Kernel7Ideal.InSample.wholeOf
    rw [← Cert.Kernel7Ideal.InSample.back2_eq, e0, e1, e2]
  · show _ = Cert.Kernel7Ideal.InSample.fifth (Cert.Kernel7Ideal.InSample.wholeOf m c)
    unfold Cert.Kernel7Ideal.InSample.wholeOf
    rw [← Cert.Kernel7Ideal.InSample.back3_eq, e0, e1, e2, e4]
  · show _ = Cert.Kernel7Ideal.InSample.cached (Cert.Kernel7Ideal.InSample.argC m c) (Cert.Kernel7Ideal.InSample.wholeOf m c)
    unfold Cert.Kernel7Ideal.InSample.wholeOf
    rw [← Cert.Kernel7Ideal.InSample.back4_eq, e0, e1, e2, e5, e6]

/-- The sample's output projection runs, on bits. -/
theorem frame_kernel8 : Cert.quiescent_Kernel8 (hKernel8 := Cert.Kernel8.Gen.facts) := fun m ρ _ =>
  Cert.Kernel8.Gen.frame m ρ trivial

/-- Its idealization runs. -/
theorem frame_ideal8 : Cert.quiescent_Kernel8Ideal (hKernel8Ideal := Cert.Kernel8Ideal.Gen.facts) := fun m ρ _ =>
  Cert.Kernel8Ideal.Gen.frame m ρ trivial

/-- Its reference runs, and it has no semaphore. -/
theorem frame_reference8 : Cert.quiescent_Reference8Ideal (hReference8Ideal := Cert.Reference8Ideal.Gen.facts) := fun m ρ _ =>
  (θ_run Cert.Reference8Ideal.defs _ _).mono (fun r hr => ⟨fun c => (hr c).2, sem_eq_zero_of_no_sems (by decide) r.2⟩)
    (Cert.Reference8Ideal.Value.run (F := Ideal) m ρ)

/-- The idealized output projection of the sample ends at the reference's product, where the rows and the weights are finite. -/
theorem algebraic8 : Cert.algebraic_Kernel8Ideal_Reference8Ideal_pre_finite_both (hKernel8Ideal := Cert.Kernel8Ideal.Gen.facts)
    (hReference8Ideal := Cert.Reference8Ideal.Gen.facts) (hPre_finite_both := Cert.Pre_finite_both.Gen.facts) := by
  intro m ρ m' ρ' h hagree
  have hc : ∀ c, Cert.Kernel8Ideal.OutProj.Clean (Cert.Kernel8Ideal.OutProj.argX m c) (Cert.Kernel8Ideal.OutProj.argW m c) := fun c => Cert.Kernel8Ideal.OutProj.clean_of_pre _ _ (h c)
  refine ⟨fun c => Cert.Kernel8Ideal.OutProj.whole m c, Cert.Kernel8Ideal.OutProj.run m ρ hc, ?_⟩
  refine (θ_run Cert.Reference8Ideal.defs _ _).mono (fun _ hr c => ⟨(hr c).1.trans ?_, (hr c).2⟩) (Cert.Reference8Ideal.Value.run (F := Ideal) m' ρ')
  obtain ⟨h0, h1⟩ := hagree c
  show _ = Cert.Kernel8Ideal.OutProj.whole m c
  rw [← Cert.Kernel8Ideal.OutProj.product_eq, h0, h1]
  rfl

/-- The gates of the prompt run, on bits. -/
theorem frame_kernel9 : Cert.quiescent_Kernel9 (hKernel9 := Cert.Kernel9.Gen.facts) := fun m ρ _ =>
  Cert.Kernel9.Gen.frame m ρ trivial

/-- Their idealization runs. -/
theorem frame_ideal9 : Cert.quiescent_Kernel9Ideal (hKernel9Ideal := Cert.Kernel9Ideal.Gen.facts) := fun m ρ _ =>
  Cert.Kernel9Ideal.Gen.frame m ρ trivial

/-- Their reference runs, and it has no semaphore. -/
theorem frame_reference9 : Cert.quiescent_Reference9Ideal (hReference9Ideal := Cert.Reference9Ideal.Gen.facts) := fun m ρ _ =>
  (θ_run Cert.Reference9Ideal.defs _ _).mono (fun r hr => ⟨fun c => (hr c).2, sem_eq_zero_of_no_sems (by decide) r.2⟩)
    (Cert.Reference9Ideal.Value.run (F := Ideal) m ρ)

/-- The idealized gates of the prompt end at the reference's. -/
theorem algebraic9 : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => Cert.Kernel9Ideal.GateProj.gates m c, Cert.Kernel9Ideal.GateProj.run m ρ, ?_⟩
  refine (θ_run Cert.Reference9Ideal.defs _ _).mono (fun _ hr c => ⟨(hr c).1.trans ?_, (hr c).2⟩) (Cert.Reference9Ideal.Value.run (F := Ideal) m' ρ')
  obtain ⟨h0, h1⟩ := hagree c
  show _ = Cert.Kernel9Ideal.GateProj.gates m c
  rw [← Cert.Kernel9Ideal.GateProj.gates_eq, h0, h1]
  rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_in_range.Gen.facts, Cert.Pre_finite.Gen.facts, Cert.Pre_finite_both.Gen.facts,
    frame_kernel, frame_ideal, frame_reference, fun m ρ _ => frame_reference m ρ trivial, frame_kernel2, frame_ideal2, frame_reference2,
    frame_kernel3, frame_ideal3, frame_reference3, frame_kernel4, frame_ideal4, frame_reference4, frame_kernel5, frame_ideal5, frame_reference5, frame_kernel6, frame_ideal6,
    frame_reference6, frame_kernel7, frame_ideal7, fun m ρ _ => frame_ideal7 m ρ trivial, frame_reference7, fun m ρ _ => frame_reference7 m ρ trivial,
    frame_kernel8, frame_ideal8, fun m ρ _ => frame_ideal8 m ρ trivial, frame_reference8, fun m ρ _ => frame_reference8 m ρ trivial,
    frame_kernel9, frame_ideal9, frame_reference9,
    trivial, algebraic, trivial, algebraic2, trivial, algebraic3, trivial, algebraic4, trivial, algebraic5, trivial, algebraic6,
    trivial, algebraic7, trivial, algebraic8, trivial, algebraic9⟩

end Cert.Proof

end
